-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareRefIdeal (m : (ℓ : Loc Cert.DwSquareRefIdeal.nD Cert.DwSquareRefIdeal.τ Cert.DwSquareRefIdeal.sig) → Buf (Elt Ideal) ℓ) : Prop :=
  True

def Pre_DwEmbed (m : (ℓ : Loc Cert.DwEmbed.nD Cert.DwEmbed.τ Cert.DwEmbed.sig) → Buf (Elt Bits) ℓ) : Prop :=
  True

def Pre_DwEmbedIdeal (m : (ℓ : Loc Cert.DwEmbedIdeal.nD Cert.DwEmbedIdeal.τ Cert.DwEmbedIdeal.sig) → Buf (Elt Ideal) ℓ) : Prop :=
  True

def Pre_DwEmbedRefIdeal (m : (ℓ : Loc Cert.DwEmbedRefIdeal.nD Cert.DwEmbedRefIdeal.τ Cert.DwEmbedRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareRefIdeal [hDwSquareRefIdeal : Cert.DwSquareRefIdeal.Facts] : Prop :=
  ∀ (m : (ℓ : Loc Cert.DwSquareRefIdeal.nD Cert.DwSquareRefIdeal.τ Cert.DwSquareRefIdeal.sig) → Buf (Elt Ideal) ℓ) (g : Dev Cert.DwSquareRefIdeal.nD → PrngReg), Pre_DwSquareRefIdeal m →
    θ_run (Cert.DwSquareRefIdeal.defs (F := Ideal)) (onTc (τ := Cert.DwSquareRefIdeal.τ) (Cert.DwSquareRefIdeal.main (F := Ideal))) ⟨m, fun _ => 0, g⟩ (fun r => (∀ c : Dev Cert.DwSquareRefIdeal.nD,
      r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1))
      ∧ r.2.sem = fun _ => 0)

def quiescent_DwEmbed [hDwEmbed : Cert.DwEmbed.Facts] : Prop :=
  ∀ (m : (ℓ : Loc Cert.DwEmbed.nD Cert.DwEmbed.τ Cert.DwEmbed.sig) → Buf (Elt Bits) ℓ) (g : Dev Cert.DwEmbed.nD → PrngReg), Pre_DwEmbed m →
    θ_run (Cert.DwEmbed.defs (F := Bits)) (onTc (τ := Cert.DwEmbed.τ) (Cert.DwEmbed.main (F := Bits))) ⟨m, fun _ => 0, g⟩ (fun r => (∀ c : Dev Cert.DwEmbed.nD,
      r.2.mem ((c.tc : Thread Cert.DwEmbed.nD Cert.DwEmbed.τ).loc Cert.DwEmbed.main_arg0) = m ((c.tc : Thread Cert.DwEmbed.nD Cert.DwEmbed.τ).loc Cert.DwEmbed.main_arg0)
      ∧ r.2.mem ((c.tc : Thread Cert.DwEmbed.nD Cert.DwEmbed.τ).loc Cert.DwEmbed.main_arg1) = m ((c.tc : Thread Cert.DwEmbed.nD Cert.DwEmbed.τ).loc Cert.DwEmbed.main_arg1))
      ∧ r.2.sem = fun _ => 0)

def quiescent_DwEmbedIdeal [hDwEmbedIdeal : Cert.DwEmbedIdeal.Facts] : Prop :=
  ∀ (m : (ℓ : Loc Cert.DwEmbedIdeal.nD Cert.DwEmbedIdeal.τ Cert.DwEmbedIdeal.sig) → Buf (Elt Ideal) ℓ) (g : Dev Cert.DwEmbedIdeal.nD → PrngReg), Pre_DwEmbedIdeal m →
    θ_run (Cert.DwEmbedIdeal.defs (F := Ideal)) (onTc (τ := Cert.DwEmbedIdeal.τ) (Cert.DwEmbedIdeal.main (F := Ideal))) ⟨m, fun _ => 0, g⟩ (fun r => (∀ c : Dev Cert.DwEmbedIdeal.nD,
      r.2.mem ((c.tc : Thread Cert.DwEmbedIdeal.nD Cert.DwEmbedIdeal.τ).loc Cert.DwEmbedIdeal.main_arg0) = m ((c.tc : Thread Cert.DwEmbedIdeal.nD Cert.DwEmbedIdeal.τ).loc Cert.DwEmbedIdeal.main_arg0)
      ∧ r.2.mem ((c.tc : Thread Cert.DwEmbedIdeal.nD Cert.DwEmbedIdeal.τ).loc Cert.DwEmbedIdeal.main_arg1) = m ((c.tc : Thread Cert.DwEmbedIdeal.nD Cert.DwEmbedIdeal.τ).loc Cert.DwEmbedIdeal.main_arg1))
      ∧ r.2.sem = fun _ => 0)

def quiescent_DwEmbedRefIdeal [hDwEmbedRefIdeal : Cert.DwEmbedRefIdeal.Facts] : Prop :=
  ∀ (m : (ℓ : Loc Cert.DwEmbedRefIdeal.nD Cert.DwEmbedRefIdeal.τ Cert.DwEmbedRefIdeal.sig) → Buf (Elt Ideal) ℓ) (g : Dev Cert.DwEmbedRefIdeal.nD → PrngReg), Pre_DwEmbedRefIdeal m →
    θ_run (Cert.DwEmbedRefIdeal.defs (F := Ideal)) (onTc (τ := Cert.DwEmbedRefIdeal.τ) (Cert.DwEmbedRefIdeal.main (F := Ideal))) ⟨m, fun _ => 0, g⟩ (fun r => (∀ c : Dev Cert.DwEmbedRefIdeal.nD,
      r.2.mem ((c.tc : Thread Cert.DwEmbedRefIdeal.nD Cert.DwEmbedRefIdeal.τ).loc Cert.DwEmbedRefIdeal.main_arg0) = m ((c.tc : Thread Cert.DwEmbedRefIdeal.nD Cert.DwEmbedRefIdeal.τ).loc Cert.DwEmbedRefIdeal.main_arg0)
      ∧ r.2.mem ((c.tc : Thread Cert.DwEmbedRefIdeal.nD Cert.DwEmbedRefIdeal.τ).loc Cert.DwEmbedRefIdeal.main_arg1) = m ((c.tc : Thread Cert.DwEmbedRefIdeal.nD Cert.DwEmbedRefIdeal.τ).loc Cert.DwEmbedRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "exp2_zero" .f32 0xC3160000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v7) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwSquare_DwSquareIdeal : Prop :=
  True

def algebraic_DwSquareIdeal_DwSquareRefIdeal [hDwSquareIdeal : Cert.DwSquareIdeal.Facts] [hDwSquareRefIdeal : Cert.DwSquareRefIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareRefIdeal.nD Cert.DwSquareRefIdeal.τ Cert.DwSquareRefIdeal.sig) → Buf (Elt Ideal) ℓ) (g' : Dev Cert.DwSquareRefIdeal.nD → PrngReg), Pre_DwSquareIdeal m →
    (∀ c : Dev Cert.DwSquareIdeal.nD,
      m' ((c.tc : Thread Cert.DwSquareRefIdeal.nD Cert.DwSquareRefIdeal.τ).loc Cert.DwSquareRefIdeal.main_arg0) = m ((c.tc : Thread Cert.DwSquareIdeal.nD Cert.DwSquareIdeal.τ).loc Cert.DwSquareIdeal.main_arg0)
      ∧ m' ((c.tc : Thread Cert.DwSquareRefIdeal.nD Cert.DwSquareRefIdeal.τ).loc Cert.DwSquareRefIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareRefIdeal.defs (F := Ideal)) (onTc (τ := Cert.DwSquareRefIdeal.τ) (Cert.DwSquareRefIdeal.main (F := Ideal))) ⟨m', fun _ => 0, g'⟩ (fun r => ∀ c : Dev Cert.DwSquareRefIdeal.nD,
          r.2.mem ((c.tc : Thread Cert.DwSquareRefIdeal.nD Cert.DwSquareRefIdeal.τ).loc Cert.DwSquareRefIdeal.main_v7) = v0 c
          ∧ r.2.mem ((c.tc : Thread Cert.DwSquareRefIdeal.nD Cert.DwSquareRefIdeal.τ).loc Cert.DwSquareRefIdeal.main_arg0) = m' ((c.tc : Thread Cert.DwSquareRefIdeal.nD Cert.DwSquareRefIdeal.τ).loc Cert.DwSquareRefIdeal.main_arg0)
          ∧ r.2.mem ((c.tc : Thread Cert.DwSquareRefIdeal.nD Cert.DwSquareRefIdeal.τ).loc Cert.DwSquareRefIdeal.main_arg1) = m' ((c.tc : Thread Cert.DwSquareRefIdeal.nD Cert.DwSquareRefIdeal.τ).loc Cert.DwSquareRefIdeal.main_arg1))

def preserves_DwEmbed_DwEmbedIdeal : Prop :=
  True

def algebraic_DwEmbedIdeal_DwEmbedRefIdeal [hDwEmbedIdeal : Cert.DwEmbedIdeal.Facts] [hDwEmbedRefIdeal : Cert.DwEmbedRefIdeal.Facts] : Prop :=
  ∀ (m : (ℓ : Loc Cert.DwEmbedIdeal.nD Cert.DwEmbedIdeal.τ Cert.DwEmbedIdeal.sig) → Buf (Elt Ideal) ℓ) (g : Dev Cert.DwEmbedIdeal.nD → PrngReg)
    (m' : (ℓ : Loc Cert.DwEmbedRefIdeal.nD Cert.DwEmbedRefIdeal.τ Cert.DwEmbedRefIdeal.sig) → Buf (Elt Ideal) ℓ) (g' : Dev Cert.DwEmbedRefIdeal.nD → PrngReg), Pre_DwEmbedIdeal m →
    (∀ c : Dev Cert.DwEmbedIdeal.nD,
      m' ((c.tc : Thread Cert.DwEmbedRefIdeal.nD Cert.DwEmbedRefIdeal.τ).loc Cert.DwEmbedRefIdeal.main_arg0) = m ((c.tc : Thread Cert.DwEmbedIdeal.nD Cert.DwEmbedIdeal.τ).loc Cert.DwEmbedIdeal.main_arg0)
      ∧ m' ((c.tc : Thread Cert.DwEmbedRefIdeal.nD Cert.DwEmbedRefIdeal.τ).loc Cert.DwEmbedRefIdeal.main_arg1) = m ((c.tc : Thread Cert.DwEmbedIdeal.nD Cert.DwEmbedIdeal.τ).loc Cert.DwEmbedIdeal.main_arg1)) →
    ∃ (v0 : (c : Dev Cert.DwEmbedIdeal.nD) → Buf (Elt Ideal) ((c.tc : Thread Cert.DwEmbedIdeal.nD Cert.DwEmbedIdeal.τ).loc Cert.DwEmbedIdeal.main_v0)),
      θ_run (Cert.DwEmbedIdeal.defs (F := Ideal)) (onTc (τ := Cert.DwEmbedIdeal.τ) (Cert.DwEmbedIdeal.main (F := Ideal))) ⟨m, fun _ => 0, g⟩ (fun r => ∀ c : Dev Cert.DwEmbedIdeal.nD,
          r.2.mem ((c.tc : Thread Cert.DwEmbedIdeal.nD Cert.DwEmbedIdeal.τ).loc Cert.DwEmbedIdeal.main_v0) = v0 c
          ∧ r.2.mem ((c.tc : Thread Cert.DwEmbedIdeal.nD Cert.DwEmbedIdeal.τ).loc Cert.DwEmbedIdeal.main_arg0) = m ((c.tc : Thread Cert.DwEmbedIdeal.nD Cert.DwEmbedIdeal.τ).loc Cert.DwEmbedIdeal.main_arg0)
          ∧ r.2.mem ((c.tc : Thread Cert.DwEmbedIdeal.nD Cert.DwEmbedIdeal.τ).loc Cert.DwEmbedIdeal.main_arg1) = m ((c.tc : Thread Cert.DwEmbedIdeal.nD Cert.DwEmbedIdeal.τ).loc Cert.DwEmbedIdeal.main_arg1))
      ∧ θ_run (Cert.DwEmbedRefIdeal.defs (F := Ideal)) (onTc (τ := Cert.DwEmbedRefIdeal.τ) (Cert.DwEmbedRefIdeal.main (F := Ideal))) ⟨m', fun _ => 0, g'⟩ (fun r => ∀ c : Dev Cert.DwEmbedRefIdeal.nD,
          r.2.mem ((c.tc : Thread Cert.DwEmbedRefIdeal.nD Cert.DwEmbedRefIdeal.τ).loc Cert.DwEmbedRefIdeal.main_v6) = v0 c
          ∧ r.2.mem ((c.tc : Thread Cert.DwEmbedRefIdeal.nD Cert.DwEmbedRefIdeal.τ).loc Cert.DwEmbedRefIdeal.main_arg0) = m' ((c.tc : Thread Cert.DwEmbedRefIdeal.nD Cert.DwEmbedRefIdeal.τ).loc Cert.DwEmbedRefIdeal.main_arg0)
          ∧ r.2.mem ((c.tc : Thread Cert.DwEmbedRefIdeal.nD Cert.DwEmbedRefIdeal.τ).loc Cert.DwEmbedRefIdeal.main_arg1) = m' ((c.tc : Thread Cert.DwEmbedRefIdeal.nD Cert.DwEmbedRefIdeal.τ).loc Cert.DwEmbedRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v39) = v0 c
          ∧ r.2.mem ((c.tc : Thread Cert.InBwdRefIdeal.nD Cert.InBwdRefIdeal.τ).loc Cert.InBwdRefIdeal.main_v22) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)) (v2 : (c : Dev Cert.MlpIdeal.nD) → Buf (Elt Ideal) ((c.tc : Thread Cert.MlpIdeal.nD Cert.MlpIdeal.τ).loc Cert.MlpIdeal.main_v0_2)) (v3 : (c : Dev Cert.MlpIdeal.nD) → Buf (Elt Ideal) ((c.tc : Thread Cert.MlpIdeal.nD Cert.MlpIdeal.τ).loc Cert.MlpIdeal.main_v0_3)) (v4 : (c : Dev Cert.MlpIdeal.nD) → Buf (Elt Ideal) ((c.tc : Thread Cert.MlpIdeal.nD Cert.MlpIdeal.τ).loc Cert.MlpIdeal.main_v0_4)) (v5 : (c : Dev Cert.MlpIdeal.nD) → Buf (Elt Ideal) ((c.tc : Thread Cert.MlpIdeal.nD Cert.MlpIdeal.τ).loc Cert.MlpIdeal.main_v0_5)) (v6 : (c : Dev Cert.MlpIdeal.nD) → Buf (Elt Ideal) ((c.tc : Thread Cert.MlpIdeal.nD Cert.MlpIdeal.τ).loc Cert.MlpIdeal.main_v0_6)) (v7 : (c : Dev Cert.MlpIdeal.nD) → Buf (Elt Ideal) ((c.tc : Thread Cert.MlpIdeal.nD Cert.MlpIdeal.τ).loc Cert.MlpIdeal.main_v0_7)) (v8 : (c : Dev Cert.MlpIdeal.nD) → Buf (Elt Ideal) ((c.tc : Thread Cert.MlpIdeal.nD Cert.MlpIdeal.τ).loc Cert.MlpIdeal.main_v0_8)) (v9 : (c : Dev Cert.MlpIdeal.nD) → Buf (Elt Ideal) ((c.tc : Thread Cert.MlpIdeal.nD Cert.MlpIdeal.τ).loc Cert.MlpIdeal.main_v0_9)) (v10 : (c : Dev Cert.MlpIdeal.nD) → Buf (Elt Ideal) ((c.tc : Thread Cert.MlpIdeal.nD Cert.MlpIdeal.τ).loc Cert.MlpIdeal.main_v0_10)) (v11 : (c : Dev Cert.MlpIdeal.nD) → Buf (Elt Ideal) ((c.tc : Thread Cert.MlpIdeal.nD Cert.MlpIdeal.τ).loc Cert.MlpIdeal.main_v0_11)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_v0_2) = v2 c
          ∧ r.2.mem ((c.tc : Thread Cert.MlpIdeal.nD Cert.MlpIdeal.τ).loc Cert.MlpIdeal.main_v0_3) = v3 c
          ∧ r.2.mem ((c.tc : Thread Cert.MlpIdeal.nD Cert.MlpIdeal.τ).loc Cert.MlpIdeal.main_v0_4) = v4 c
          ∧ r.2.mem ((c.tc : Thread Cert.MlpIdeal.nD Cert.MlpIdeal.τ).loc Cert.MlpIdeal.main_v0_5) = v5 c
          ∧ r.2.mem ((c.tc : Thread Cert.MlpIdeal.nD Cert.MlpIdeal.τ).loc Cert.MlpIdeal.main_v0_6) = v6 c
          ∧ r.2.mem ((c.tc : Thread Cert.MlpIdeal.nD Cert.MlpIdeal.τ).loc Cert.MlpIdeal.main_v0_7) = v7 c
          ∧ r.2.mem ((c.tc : Thread Cert.MlpIdeal.nD Cert.MlpIdeal.τ).loc Cert.MlpIdeal.main_v0_8) = v8 c
          ∧ r.2.mem ((c.tc : Thread Cert.MlpIdeal.nD Cert.MlpIdeal.τ).loc Cert.MlpIdeal.main_v0_9) = v9 c
          ∧ r.2.mem ((c.tc : Thread Cert.MlpIdeal.nD Cert.MlpIdeal.τ).loc Cert.MlpIdeal.main_v0_10) = v10 c
          ∧ r.2.mem ((c.tc : Thread Cert.MlpIdeal.nD Cert.MlpIdeal.τ).loc Cert.MlpIdeal.main_v0_11) = v11 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v162) = v0 c
          ∧ r.2.mem ((c.tc : Thread Cert.MlpRefIdeal.nD Cert.MlpRefIdeal.τ).loc Cert.MlpRefIdeal.main_v163) = v1 c
          ∧ r.2.mem ((c.tc : Thread Cert.MlpRefIdeal.nD Cert.MlpRefIdeal.τ).loc Cert.MlpRefIdeal.main_v164) = v2 c
          ∧ r.2.mem ((c.tc : Thread Cert.MlpRefIdeal.nD Cert.MlpRefIdeal.τ).loc Cert.MlpRefIdeal.main_v165) = v3 c
          ∧ r.2.mem ((c.tc : Thread Cert.MlpRefIdeal.nD Cert.MlpRefIdeal.τ).loc Cert.MlpRefIdeal.main_v166) = v4 c
          ∧ r.2.mem ((c.tc : Thread Cert.MlpRefIdeal.nD Cert.MlpRefIdeal.τ).loc Cert.MlpRefIdeal.main_v167) = v5 c
          ∧ r.2.mem ((c.tc : Thread Cert.MlpRefIdeal.nD Cert.MlpRefIdeal.τ).loc Cert.MlpRefIdeal.main_v168) = v6 c
          ∧ r.2.mem ((c.tc : Thread Cert.MlpRefIdeal.nD Cert.MlpRefIdeal.τ).loc Cert.MlpRefIdeal.main_v169) = v7 c
          ∧ r.2.mem ((c.tc : Thread Cert.MlpRefIdeal.nD Cert.MlpRefIdeal.τ).loc Cert.MlpRefIdeal.main_v170) = v8 c
          ∧ r.2.mem ((c.tc : Thread Cert.MlpRefIdeal.nD Cert.MlpRefIdeal.τ).loc Cert.MlpRefIdeal.main_v145) = v9 c
          ∧ r.2.mem ((c.tc : Thread Cert.MlpRefIdeal.nD Cert.MlpRefIdeal.τ).loc Cert.MlpRefIdeal.main_v121) = v10 c
          ∧ r.2.mem ((c.tc : Thread Cert.MlpRefIdeal.nD Cert.MlpRefIdeal.τ).loc Cert.MlpRefIdeal.main_v101) = v11 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDwSquare : Cert.DwSquare.Facts) (hDwSquareIdeal : Cert.DwSquareIdeal.Facts) (hDwSquareRefIdeal : Cert.DwSquareRefIdeal.Facts) (hDwEmbed : Cert.DwEmbed.Facts) (hDwEmbedIdeal : Cert.DwEmbedIdeal.Facts) (hDwEmbedRefIdeal : Cert.DwEmbedRefIdeal.Facts) (hDwOut : Cert.DwOut.Facts) (hDwOutIdeal : Cert.DwOutIdeal.Facts) (hDwOutRefIdeal : Cert.DwOutRefIdeal.Facts) (hInBwd : Cert.InBwd.Facts) (hInBwdIdeal : Cert.InBwdIdeal.Facts) (hInBwdRefIdeal : Cert.InBwdRefIdeal.Facts) (hMlp : Cert.Mlp.Facts) (hMlpIdeal : Cert.MlpIdeal.Facts) (hMlpRefIdeal : Cert.MlpRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwSquare (hDwSquare := hDwSquare)
    ∧ quiescent_DwSquareIdeal (hDwSquareIdeal := hDwSquareIdeal)
    ∧ quiescent_DwSquareRefIdeal (hDwSquareRefIdeal := hDwSquareRefIdeal)
    ∧ quiescent_DwEmbed (hDwEmbed := hDwEmbed)
    ∧ quiescent_DwEmbedIdeal (hDwEmbedIdeal := hDwEmbedIdeal)
    ∧ quiescent_DwEmbedRefIdeal (hDwEmbedRefIdeal := hDwEmbedRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_Mlp (hMlp := hMlp)
    ∧ quiescent_MlpIdeal (hMlpIdeal := hMlpIdeal)
    ∧ quiescent_MlpRefIdeal (hMlpRefIdeal := hMlpRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_DwSquare_DwSquareIdeal
    ∧ algebraic_DwSquareIdeal_DwSquareRefIdeal (hDwSquareIdeal := hDwSquareIdeal) (hDwSquareRefIdeal := hDwSquareRefIdeal)
    ∧ preserves_DwEmbed_DwEmbedIdeal
    ∧ algebraic_DwEmbedIdeal_DwEmbedRefIdeal (hDwEmbedIdeal := hDwEmbedIdeal) (hDwEmbedRefIdeal := hDwEmbedRefIdeal)
    ∧ preserves_DwOut_DwOutIdeal
    ∧ algebraic_DwOutIdeal_DwOutRefIdeal (hDwOutIdeal := hDwOutIdeal) (hDwOutRefIdeal := hDwOutRefIdeal)
    ∧ preserves_InBwd_InBwdIdeal
    ∧ algebraic_InBwdIdeal_InBwdRefIdeal (hInBwdIdeal := hInBwdIdeal) (hInBwdRefIdeal := hInBwdRefIdeal)
    ∧ preserves_Mlp_MlpIdeal
    ∧ algebraic_MlpIdeal_MlpRefIdeal (hMlpIdeal := hMlpIdeal) (hMlpRefIdeal := hMlpRefIdeal)
-- ==== Pre_finite.lean ====
abbrev S8192x1536 : Shape := ⟨2, ![8192, 1536]⟩
abbrev S8192x512 : Shape := ⟨2, ![8192, 512]⟩
abbrev S8192x2048 : Shape := ⟨2, ![8192, 2048]⟩
abbrev S_ : Shape := ⟨0, ![]⟩

class Facts : Prop where
  concatenates_S8192x1536_S8192x512_S8192x2048_d1 : Shape.Concatenates [S8192x1536, S8192x512] S8192x2048 1
  bitsLt_bf16_f32 : FTy.bits .bf16 < FTy.bits .f32
  bcast_S_S8192x2048 : S_.BroadcastsInDim S8192x2048 (![] : Fin 0 → Fin S8192x2048.rank)

variable [Facts]

def fn {F : FTy → Type} [FloatOps F] (main_arg0 : FVec F S8192x1536 .bf16) (main_arg1 : FVec F S8192x512 .bf16) : IVec S8192x2048 1 :=
  let main_v0 : FVec F S8192x2048 .bf16 := (fun a b => concatenate S8192x2048 1 [⟨S8192x1536, a⟩, ⟨S8192x512, b⟩] concatenates_S8192x1536_S8192x512_S8192x2048_d1) main_arg0 main_arg1
  let main_v1 : FVec F S8192x2048 .f32 := (extf .f32 · bitsLt_bf16_f32) main_v0
  let main_v2 : FVec F S8192x2048 .f32 := subf main_v1 main_v1
  let main_cst : FVec F S_ .f32 := constant S_ .f32 0x00000000#32
  let main_v3 : FVec F S8192x2048 .f32 := broadcastInDim S8192x2048 ![] bcast_S_S8192x2048 main_cst
  let main_v4 : IVec S8192x2048 1 := cmpf .oeq main_v2 main_v3
  main_v4
-- ==== Kernel.lean ====
abbrev S8192x1536 : Shape := ⟨2, ![8192, 1536]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S256x256 : Shape := ⟨2, ![256, 256]⟩
abbrev S256x128 : Shape := ⟨2, ![256, 128]⟩
abbrev S8192x128 : Shape := ⟨2, ![8192, 128]⟩
abbrev S128x256 : Shape := ⟨2, ![128, 256]⟩
abbrev S1x128 : Shape := ⟨2, ![1, 128]⟩
abbrev S128x128 : Shape := ⟨2, ![128, 128]⟩
abbrev S512x128 : Shape := ⟨2, ![512, 128]⟩
abbrev S128 : Shape := ⟨1, ![128]⟩
abbrev S128x1 : Shape := ⟨2, ![128, 1]⟩
abbrev S512x256 : Shape := ⟨2, ![512, 256]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 68
  | .vmem => 21
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x8x64, .bf16⟩
  | .hbm, ⟨6, _⟩ => ⟨S8192x8x64, .f32⟩
  | .hbm, ⟨7, _⟩ => ⟨S8192x8x64, .bf16⟩
  | .hbm, ⟨8, _⟩ => ⟨S8192x8x64, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S_, .f32⟩
  | .hbm, ⟨38, _⟩ => ⟨S8x8192x8192, .i1⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S_, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S_, .f32⟩
  | .hbm, ⟨49, _⟩ => ⟨S8x8192x8192, .i1⟩
  | .hbm, ⟨50, _⟩ => ⟨S8x8192x8192, .f32⟩
  | .hbm, ⟨51, _⟩ => ⟨S8x8192x8192, .f32⟩
  | .hbm, ⟨52, _⟩ => ⟨S8192x8x64, .bf16⟩
  | .hbm, ⟨53, _⟩ => ⟨S8192x8x64, .f32⟩
  | .hbm, ⟨54, _⟩ => ⟨S8x64x8192, .f32⟩
  | .hbm, ⟨55, _⟩ => ⟨S8192x8x64, .f32⟩
  | .hbm, ⟨56, _⟩ => ⟨S8192x512, .f32⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S256x256, .f32⟩
  | .hbm, ⟨61, _⟩ => ⟨S256x256, .i1⟩
  | .hbm, ⟨62, _⟩ => ⟨S256x256, .bf16⟩
  | .hbm, ⟨63, _⟩ => ⟨S256x256, .i1⟩
  | .hbm, ⟨64, _⟩ => ⟨S256x256, .bf16⟩
  | .hbm, ⟨65, _⟩ => ⟨S8192x512, .bf16⟩
  | .hbm, ⟨66, _⟩ => ⟨S8192x512, .bf16⟩
  | .hbm, ⟨67, _⟩ => ⟨S8192x512, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S256x256, .f32⟩
  | .local _ .vmem, ⟨11, _⟩ => ⟨S256x256, .bf16⟩
  | .local _ .vmem, ⟨12, _⟩ => ⟨S256x256, .bf16⟩
  | .local _ .vmem, ⟨13, _⟩ => ⟨S256x128, .bf16⟩
  | .local _ .vmem, ⟨14, _⟩ => ⟨S256x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S8192x128, .f32⟩
  | .local _ .vmem, ⟨20, _⟩ => ⟨S8192x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_call2_cst : Ref sig .tc := ⟨.hbm, 41, rfl⟩
abbrev main_call2_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37_0 : Ref sig .tc := ⟨.hbm, 65, rfl⟩
abbrev main_v37_1 : Ref sig .tc := ⟨.hbm, 66, rfl⟩
abbrev main_v37_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v165 : BitVec 32 := Scalar.muli arg1 c256_i32
  v165
def k0_off1 (i : grid0.Coords) : Fin 2 → Nat :=
  let arg1 : BitVec 32 := BitVec.ofNat 32 (i 1).val
  let c256_i32 : BitVec 32 := 256#32
  let v165 : BitVec 32 := Scalar.muli arg1 c256_i32
  let v166 : BitVec 32 := v165
  let v167 : Index := Scalar.indexCast v166
  let c0_53 : Index := 0#32
  ![v167.toNat, 0]
def k0_mult2 (i : grid0.Coords) (arg15 : BitVec 32) : BitVec 32 :=
  let arg1 : BitVec 32 := BitVec.ofNat 32 (i 1).val
  let c1_i32_136 : BitVec 32 := 1#32
  let v483 : BitVec 32 := Scalar.subi arg1 c1_i32_136
  let v484 : BitVec 32 := Scalar.subi v483 arg15
  let c256_i32_137 : BitVec 32 := 256#32
  let v485 : BitVec 32 := Scalar.muli v484 c256_i32_137
  v485

def k0_off2 (i : grid0.Coords) (arg15 : BitVec 32) : Fin 2 → Nat :=
  let arg1 : BitVec 32 := BitVec.ofNat 32 (i 1).val
  let c1_i32_136 : BitVec 32 := 1#32
  let v483 : BitVec 32 := Scalar.subi arg1 c1_i32_136
  let v484 : BitVec 32 := Scalar.subi v483 arg15
  let c256_i32_137 : BitVec 32 := 256#32
  let v485 : BitVec 32 := Scalar.muli v484 c256_i32_137
  let v486 : BitVec 32 := v485
  let v487 : Index := Scalar.indexCast v486
  let c0_138 : Index := 0#32
  ![v487.toNat, 0]

def k0_chk1 (i : grid0.Coords) (arg15 : BitVec 32) : Prop :=
  (256 ∣ (k0_mult2 i arg15).toNat) ∧
  (∀ a, (k0_off2 i arg15) a + S256x128.size a ≤ S8192x128.size a)
theorem k0_mult2_dvd : ∀ (i : grid0.Coords) (arg15 : BitVec 32) (k0_hw1 : k0_chk1 i arg15), 256 ∣ (k0_mult2 i arg15).toNat := fun i arg15 k0_hw1 => k0_hw1.1
theorem k0_off2_inb : ∀ (i : grid0.Coords) (arg15 : BitVec 32) (k0_hw1 : k0_chk1 i arg15), ∀ a, (k0_off2 i arg15) a + S256x128.size a ≤ S8192x128.size a := fun i arg15 k0_hw1 => k0_hw1.2

def k0_cond2 (i : grid0.Coords) : BitVec 1 :=
  let arg1 : BitVec 32 := BitVec.ofNat 32 (i 1).val
  let c31_i32 : BitVec 32 := 31#32
  let v479 : BitVec 1 := Scalar.cmpi .eq arg1 c31_i32
  let v480 : BitVec 32 := Scalar.extui v479
  let c0_i32_135 : BitVec 32 := 0#32
  let v481 : BitVec 1 := Scalar.cmpi .ne v480 c0_i32_135
  v481

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "exp2_zero" => some ⊥
  | "log2_e" => some (((Real.log 2)⁻¹ : ℝ) : EReal)
  | _ => none
-- ==== ReferenceIdeal.lean ====
abbrev S8192x1536 : Shape := ⟨2, ![8192, 1536]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 130
  | .vmem => 0
  | .smem => 0
  | _ => 0

abbrev hbmTy0_0 (i : Nat) : BufTy := match i % 128 with
  | 0 => ⟨S8192x1536, .bf16⟩
  | 1 => ⟨S8192x512, .bf16⟩
  | 2 => ⟨S8192x512, .bf16⟩
  | 3 => ⟨S8192x512, .bf16⟩
  | 4 => ⟨S8192x512, .bf16⟩
  | 5 => ⟨S8192x8x64, .bf16⟩
  | 6 => ⟨S8192x8x64, .f32⟩
  | 7 => ⟨S8192x8x64, .bf16⟩
  | 8 => ⟨S8192x8x64, .f32⟩
  | 9 => ⟨S8x8192x8192, .f32⟩
  | 10 => ⟨S_, .f32⟩
  | 11 => ⟨S8x8192x8192, .f32⟩
  | 12 => ⟨S8x8192x8192, .f32⟩
  | 13 => ⟨S8192, .i32⟩
  | 14 => ⟨S1x8192, .i32⟩
  | 15 => ⟨S8192x1, .i32⟩
  | 16 => ⟨S8192x8192, .i32⟩
  | 17 => ⟨S8192x8192, .i32⟩
  | 18 => ⟨S8192x8192, .i1⟩
  | 19 => ⟨S8x8192x8192, .f32⟩
  | 20 => ⟨S_, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .i1⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .i1⟩
  | 37 => ⟨S_, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S8x8192x8192, .f32⟩
  | 47 => ⟨S8x8192x8192, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x8192x8192, .f32⟩
  | 56 => ⟨S8x8192x8192, .i1⟩
  | 57 => ⟨S_, .f32⟩
  | 58 => ⟨S8x8192x8192, .f32⟩
  | 59 => ⟨S8x8192x8192, .f32⟩
  | 60 => ⟨S8x8192x8192, .f32⟩
  | 61 => ⟨S8x8192x8192, .f32⟩
  | 62 => ⟨S8x8192x8192, .f32⟩
  | 63 => ⟨S_, .f32⟩
  | 64 => ⟨S8x8192x8192, .f32⟩
  | 65 => ⟨S8x8192x8192, .f32⟩
  | 66 => ⟨S8x8192x8192, .f32⟩
  | 67 => ⟨S8x8192x8192, .f32⟩
  | 68 => ⟨S_, .f32⟩
  | 69 => ⟨S_, .f32⟩
  | 70 => ⟨S8x8192x8192, .i1⟩
  | 71 => ⟨S8x8192x8192, .f32⟩
  | 72 => ⟨S8x8192x8192, .f32⟩
  | 73 => ⟨S_, .f32⟩
  | 74 => ⟨S8x8192x8192, .f32⟩
  | 75 => ⟨S_, .f32⟩
  | 76 => ⟨S_, .f32⟩
  | 77 => ⟨S8x8192x8192, .f32⟩
  | 78 => ⟨S8x8192x8192, .f32⟩
  | 79 => ⟨S8x8192x8192, .f32⟩
  | 80 => ⟨S8x8192x8192, .f32⟩
  | 81 => ⟨S_, .f32⟩
  | 82 => ⟨S_, .f32⟩
  | 83 => ⟨S8x8192x8192, .i1⟩
  | 84 => ⟨S8x8192x8192, .f32⟩
  | 85 => ⟨S8x8192x8192, .f32⟩
  | 86 => ⟨S_, .f32⟩
  | 87 => ⟨S8x8192x8192, .f32⟩
  | 88 => ⟨S8192x8x64, .bf16⟩
  | 89 => ⟨S8192x8x64, .f32⟩
  | 90 => ⟨S8x64x8192, .f32⟩
  | 91 => ⟨S8192x8x64, .f32⟩
  | 92 => ⟨S8192x512, .f32⟩
  | 93 => ⟨S8192x512, .f32⟩
  | 94 => ⟨S8192x8x64, .f32⟩
  | 95 => ⟨S8x64x8192, .f32⟩
  | 96 => ⟨S8x8192x8192, .f32⟩
  | 97 => ⟨S8x64x8192, .f32⟩
  | 98 => ⟨S8192x8x64, .f32⟩
  | 99 => ⟨S8192x8x64, .bf16⟩
  | 100 => ⟨S8192x512, .bf16⟩
  | 101 => ⟨S_, .f32⟩
  | 102 => ⟨S8x8192x8192, .f32⟩
  | 103 => ⟨S8x8192x8192, .f32⟩
  | 104 => ⟨S8x8192x8192, .f32⟩
  | 105 => ⟨S8x8192x8192, .f32⟩
  | 106 => ⟨S_, .f32⟩
  | 107 => ⟨S_, .f32⟩
  | 108 => ⟨S8x8192x8192, .f32⟩
  | 109 => ⟨S8x8192x8192, .f32⟩
  | 110 => ⟨S_, .f32⟩
  | 111 => ⟨S8x8192x8192, .f32⟩
  | 112 => ⟨S8x8192x8192, .f32⟩
  | 113 => ⟨S8x8192x8192, .f32⟩
  | 114 => ⟨S8x8192x8192, .f32⟩
  | 115 => ⟨S8x8192x8192, .f32⟩
  | 116 => ⟨S8x8192x8192, .f32⟩
  | 117 => ⟨S8x8192x8192, .f32⟩
  | 118 => ⟨S8x8192x8192, .f32⟩
  | 119 => ⟨S_, .f32⟩
  | 120 => ⟨S8x8192x8192, .f32⟩
  | 121 => ⟨S8x8192x8192, .f32⟩
  | 122 => ⟨S8x8192x64, .f32⟩
  | 123 => ⟨S8192x8x64, .f32⟩
  | 124 => ⟨S8x8192x64, .f32⟩
  | 125 => ⟨S8192x8x64, .f32⟩
  | 126 => ⟨S8192x8x64, .bf16⟩
  | 127 => ⟨S8192x512, .bf16⟩
  | _ => ⟨S8192x1536, .bf16⟩

abbrev hbmTy0_1 (i : Nat) : BufTy := match i % 128 with
  | 0 => ⟨S8192x8x64, .bf16⟩
  | 1 => ⟨S8192x512, .bf16⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_v17 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_cst_1 : Ref sig .tc := ⟨.hbm, 81, rfl⟩
abbrev main_call3_v0 : Ref sig .tc := ⟨.hbm, 82, rfl⟩
abbrev main_v23_1 : Ref sig .tc := ⟨.hbm, 83, rfl⟩
abbrev main_call3_v2 : Ref sig .tc := ⟨.hbm, 84, rfl⟩
abbrev main_v23_0 : Ref sig .tc := ⟨.hbm, 85, rfl⟩
abbrev main_call3_cst : Ref sig .tc := ⟨.hbm, 86, rfl⟩
abbrev main_v23_2 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_call4_cst : Ref sig .tc := ⟨.hbm, 101, rfl⟩
abbrev main_call4_v0 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_call5_cst : Ref sig .tc := ⟨.hbm, 106, rfl⟩
abbrev main_call5_v0 : Ref sig .tc := ⟨.hbm, 107, rfl⟩
abbrev main_v40 : Ref sig .tc := ⟨.hbm, 108, rfl⟩
abbrev main_v41 : Ref sig .tc := ⟨.hbm, 109, rfl⟩
abbrev main_call6_cst : Ref sig .tc := ⟨.hbm, 110, rfl⟩
abbrev main_call6_v0 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_call7_v0 : Ref sig .tc := ⟨.hbm, 115, rfl⟩
abbrev main_call7_v1 : Ref sig .tc := ⟨.hbm, 116, rfl⟩
abbrev main_v45 : Ref sig .tc := ⟨.hbm, 117, rfl⟩
abbrev main_v46 : Ref sig .tc := ⟨.hbm, 118, rfl⟩
abbrev main_cst_2 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩

abbrev nD : Nat := 1
abbrev τ : Topo := Topo.v7x

variable {F : FTy → Type} [FloatOps F]
-- ==== DwUp.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpIdeal.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .bf16⟩
  | .hbm, ⟨3, _⟩ => ⟨S1024x4096, .bf16⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwDown.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownIdeal.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .bf16⟩
  | .hbm, ⟨3, _⟩ => ⟨S4096x1024, .bf16⟩
  | .hbm, ⟨4, _⟩ => ⟨S8192x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwSquare.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSquareIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSquareRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .bf16⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwEmbed.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwEmbedIdeal.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwEmbedRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .bf16⟩
  | .hbm, ⟨3, _⟩ => ⟨S256x1024, .bf16⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .bf16⟩
  | .hbm, ⟨3, _⟩ => ⟨S512x1024, .bf16⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InBwd.lean ====
abbrev S8192x1024 : Shape := ⟨2, ![8192, 1024]⟩
abbrev S8192x512 : Shape := ⟨2, ![8192, 512]⟩
abbrev S8192x3584 : Shape := ⟨2, ![8192, 3584]⟩
abbrev S1x1024 : Shape := ⟨2, ![1, 1024]⟩
abbrev S1024x5120 : Shape := ⟨2, ![1024, 5120]⟩
abbrev S512x1024 : Shape := ⟨2, ![512, 1024]⟩
abbrev S512x512 : Shape := ⟨2, ![512, 512]⟩
abbrev S512x3584 : Shape := ⟨2, ![512, 3584]⟩
abbrev S1 : Shape := ⟨1, ![1]⟩
abbrev S_ : Shape := ⟨0, ![]⟩
abbrev S1024x512 : Shape := ⟨2, ![1024, 512]⟩
abbrev S1024x3584 : Shape := ⟨2, ![1024, 3584]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x3584, .bf16⟩
  | .hbm, ⟨6, _⟩ => ⟨S1x1024, .f32⟩
  | .hbm, ⟨7, _⟩ => ⟨S1024x5120, .bf16⟩
  | .hbm, ⟨8, _⟩ => ⟨S8192x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x3584, .bf16⟩
  | .local _ .vmem, ⟨11, _⟩ => ⟨S512x3584, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1024x5120, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBwdRefIdeal.lean ====
abbrev S8192x1024 : Shape := ⟨2, ![8192, 1024]⟩
abbrev S8192x512 : Shape := ⟨2, ![8192, 512]⟩
abbrev S8192x3584 : Shape := ⟨2, ![8192, 3584]⟩
abbrev S1x1024 : Shape := ⟨2, ![1, 1024]⟩
abbrev S1024x5120 : Shape := ⟨2, ![1024, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x3584, .bf16⟩
  | .hbm, ⟨6, _⟩ => ⟨S1x1024, .f32⟩
  | .hbm, ⟨7, _⟩ => ⟨S1024x5120, .bf16⟩
  | .hbm, ⟨8, _⟩ => ⟨S8192x5120, .bf16⟩
  | .hbm, ⟨9, _⟩ => ⟨S8192x5120, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024x5120, .f32⟩
  | .hbm, ⟨30, _⟩ => ⟨S8192x5120, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Mlp.lean ====
abbrev S8192x1024 : Shape := ⟨2, ![8192, 1024]⟩
abbrev S8192x256 : Shape := ⟨2, ![8192, 256]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S8192x4096 : Shape := ⟨2, ![8192, 4096]⟩
abbrev S1x1 : Shape := ⟨2, ![1, 1]⟩
abbrev S256x256 : Shape := ⟨2, ![256, 256]⟩
abbrev S256x4096 : Shape := ⟨2, ![256, 4096]⟩
abbrev S4 : Shape := ⟨1, ![4]⟩
abbrev S1 : Shape := ⟨1, ![1]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1024x1024, .bf16⟩
  | .hbm, ⟨9, _⟩ => ⟨S256x1024, .bf16⟩
  | .hbm, ⟨10, _⟩ => ⟨S8192x1024, .f32⟩
  | .hbm, ⟨11, _⟩ => ⟨S8192x1024, .bf16⟩
  | .hbm, ⟨12, _⟩ => ⟨S8192x4096, .bf16⟩
  | .hbm, ⟨13, _⟩ => ⟨S8192x4096, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S1x1, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S1x1, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1024x4096, .bf16⟩
  | .local _ .vmem, ⟨30, _⟩ => ⟨S4096x1024, .bf16⟩
  | .local _ .vmem, ⟨31, _⟩ => ⟨S1024x1024, .bf16⟩
  | .local _ .vmem, ⟨32, _⟩ => ⟨S256x1024, .bf16⟩
  | .local _ .vmem, ⟨33, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MlpRefIdeal.lean ====
abbrev S8192x1024 : Shape := ⟨2, ![8192, 1024]⟩
abbrev S8192x256 : Shape := ⟨2, ![8192, 256]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 226
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1x1024, .f32⟩
  | 4 => ⟨S1x1024, .f32⟩
  | 5 => ⟨S1x1024, .f32⟩
  | 6 => ⟨S1024x4096, .bf16⟩
  | 7 => ⟨S4096x1024, .bf16⟩
  | 8 => ⟨S1024x1024, .bf16⟩
  | 9 => ⟨S256x1024, .bf16⟩
  | 10 => ⟨S_, .f32⟩
  | 11 => ⟨S8192x4096, .f32⟩
  | 12 => ⟨S_, .f32⟩
  | 13 => ⟨S8192x1024, .f32⟩
  | 14 => ⟨S_, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S8192x1024, .f32⟩
  | 36 => ⟨S8192x1024, .f32⟩
  | 37 => ⟨S1024x4096, .f32⟩
  | 38 => ⟨S8192x4096, .f32⟩
  | 39 => ⟨S8192x4096, .f32⟩
  | 40 => ⟨S_, .f32⟩
  | 41 => ⟨S8192x4096, .f32⟩
  | 42 => ⟨S8192x4096, .f32⟩
  | 43 => ⟨S_, .f32⟩
  | 44 => ⟨S8192x4096, .f32⟩
  | 45 => ⟨S8192x4096, .i1⟩
  | 46 => ⟨S_, .f32⟩
  | 47 => ⟨S8192x4096, .f32⟩
  | 48 => ⟨S8192x4096, .f32⟩
  | 49 => ⟨S_, .f32⟩
  | 50 => ⟨S8192x4096, .f32⟩
  | 51 => ⟨S8192x4096, .f32⟩
  | 52 => ⟨S4096x1024, .f32⟩
  | 53 => ⟨S8192x1024, .f32⟩
  | 54 => ⟨S8192x1024, .f32⟩
  | 55 => ⟨S8192x1024, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x1, .f32⟩
  | 86 => ⟨S8192x1, .f32⟩
  | 87 => ⟨S_, .f32⟩
  | 88 => ⟨S8192x1, .f32⟩
  | 89 => ⟨S8192x1, .f32⟩
  | 90 => ⟨S8192x1024, .f32⟩
  | 91 => ⟨S8192x1024, .f32⟩
  | 92 => ⟨S8192x1024, .f32⟩
  | 93 => ⟨S8192x1024, .f32⟩
  | 94 => ⟨S1024x1024, .f32⟩
  | 95 => ⟨S8192x1024, .f32⟩
  | 96 => ⟨S8192x1024, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S8192x1024, .f32⟩
  | 109 => ⟨S256x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S_, .f32⟩
  | 120 => ⟨S8192, .f32⟩
  | 121 => ⟨S_, .f32⟩
  | 122 => ⟨S8192, .f32⟩
  | 123 => ⟨S8192, .f32⟩
  | 124 => ⟨S_, .f32⟩
  | 125 => ⟨S_, .f32⟩
  | 126 => ⟨S_, .f32⟩
  | 127 => ⟨S_, .f32⟩
  | _ => ⟨S8192x1024, .f32⟩

abbrev hbmTy0_1 (i : Nat) : BufTy := match i % 128 with
  | 0 => ⟨S_, .f32⟩
  | 1 => ⟨S_, .f32⟩
  | 2 => ⟨S_, .f32⟩
  | 3 => ⟨S8192, .f32⟩
  | 4 => ⟨S_, .f32⟩
  | 5 => ⟨S8192, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S1024, .f32⟩
  | 16 => ⟨S1x1024, .f32⟩
  | 17 => ⟨S8192x1024, .f32⟩
  | 18 => ⟨S8192x1024, .f32⟩
  | 19 => ⟨S8192x1024, .f32⟩
  | 20 => ⟨S_, .f32⟩
  | 21 => ⟨S8192, .f32⟩
  | 22 => ⟨S8192x1, .f32⟩
  | 23 => ⟨S8192x1024, .f32⟩
  | 24 => ⟨S8192x1024, .f32⟩
  | 25 => ⟨S8192x1024, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S1024, .f32⟩
  | 40 => ⟨S1x1024, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S8192x1024, .f32⟩
  | 48 => ⟨S8192x1024, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x4096, .f32⟩
  | 61 => ⟨S8192x4096, .f32⟩
  | 62 => ⟨S_, .f32⟩
  | 63 => ⟨S8192x4096, .f32⟩
  | 64 => ⟨S8192x4096, .f32⟩
  | 65 => ⟨S8192x1024, .f32⟩
  | 66 => ⟨S8192x1024, .f32⟩
  | 67 => ⟨S_, .f32⟩
  | 68 => ⟨S1024, .f32⟩
  | 69 => ⟨S1x1024, .f32⟩
  | 70 => ⟨S8192x1024, .f32⟩
  | 71 => ⟨S8192x1024, .f32⟩
  | 72 => ⟨S8192x1024, .f32⟩
  | 73 => ⟨S_, .f32⟩
  | 74 => ⟨S8192, .f32⟩
  | 75 => ⟨S8192x1, .f32⟩
  | 76 => ⟨S8192x1024, .f32⟩
  | 77 => ⟨S8192x1024, .f32⟩
  | 78 => ⟨S8192x1024, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .bf16⟩
  | 91 => ⟨S8192x4096, .bf16⟩
  | 92 => ⟨S8192x4096, .bf16⟩
  | 93 => ⟨S8192x1024, .bf16⟩
  | 94 => ⟨S8192x1024, .bf16⟩
  | 95 => ⟨S8192x1024, .bf16⟩
  | 96 => ⟨S8192x1024, .bf16⟩
  | 97 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_v5 : Ref sig .tc := ⟨.hbm, 20, rfl⟩
abbrev main_v6 : Ref sig .tc := ⟨.hbm, 21, rfl⟩
abbrev main_cst_4 : Ref sig .tc := ⟨.hbm, 22, rfl⟩
abbrev main_v7 : Ref sig .tc := ⟨.hbm, 23, rfl⟩
abbrev main_v8 : Ref sig .tc := ⟨.hbm, 24, rfl⟩
abbrev main_cst_5 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_6 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_cst : Ref sig .tc := ⟨.hbm, 40, rfl⟩
abbrev main_call0_v0 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_v50 : Ref sig .tc := ⟨.hbm, 78, rfl⟩
abbrev main_cst_15 : Ref sig .tc := ⟨.hbm, 79, rfl⟩
abbrev main_v51 : Ref sig .tc := ⟨.hbm, 80, rfl⟩
abbrev main_v52 : Ref sig .tc := ⟨.hbm, 81, rfl⟩
abbrev main_cst_16 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_17 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_18 : Ref sig .tc := ⟨.hbm, 99, rfl⟩
abbrev main_v68 : Ref sig .tc := ⟨.hbm, 100, rfl⟩
abbrev main_v69 : Ref sig .tc := ⟨.hbm, 101, rfl⟩
abbrev main_cst_19 : Ref sig .tc := ⟨.hbm, 102, rfl⟩
abbrev main_v70 : Ref sig .tc := ⟨.hbm, 103, rfl⟩
abbrev main_v71 : Ref sig .tc := ⟨.hbm, 104, rfl⟩
abbrev main_cst_20 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_21 : Ref sig .tc := ⟨.hbm, 116, rfl⟩
abbrev main_v82 : Ref sig .tc := ⟨.hbm, 117, rfl⟩
abbrev main_v83 : Ref sig .tc := ⟨.hbm, 118, rfl⟩
abbrev main_cst_22 : Ref sig .tc := ⟨.hbm, 119, rfl⟩
abbrev main_v84 : Ref sig .tc := ⟨.hbm, 120, rfl⟩
abbrev main_cst_23 : Ref sig .tc := ⟨.hbm, 121, rfl⟩
abbrev main_v85 : Ref sig .tc := ⟨.hbm, 122, rfl⟩
abbrev main_v86 : Ref sig .tc := ⟨.hbm, 123, rfl⟩
abbrev main_cst_24 : Ref sig .tc := ⟨.hbm, 124, rfl⟩
abbrev main_v87 : Ref sig .tc := ⟨.hbm, 125, rfl⟩
abbrev main_cst_25 : Ref sig .tc := ⟨.hbm, 126, rfl⟩
abbrev main_v88 : Ref sig .tc := ⟨.hbm, 127, rfl⟩
abbrev main_cst_26 : Ref sig .tc := ⟨.hbm, 128, rfl⟩
abbrev main_cst_27 : Ref sig .tc := ⟨.hbm, 129, rfl⟩
abbrev main_v89 : Ref sig .tc := ⟨.hbm, 130, rfl⟩
abbrev main_v90 : Ref sig .tc := ⟨.hbm, 131, rfl⟩
abbrev main_cst_28 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_29 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_30 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_31 : Ref sig .tc := ⟨.hbm, 155, rfl⟩
abbrev main_v111 : Ref sig .tc := ⟨.hbm, 156, rfl⟩
abbrev main_v112 : Ref sig .tc := ⟨.hbm, 157, rfl⟩
abbrev main_cst_32 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_33 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_34 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_35 : Ref sig .tc := ⟨.hbm, 178, rfl⟩
abbrev main_v130 : Ref sig .tc := ⟨.hbm, 179, rfl⟩
abbrev main_v131 : Ref sig .tc := ⟨.hbm, 180, rfl⟩
abbrev main_cst_36 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_37 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_38 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_39 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_cst_40 : Ref sig .tc := ⟨.hbm, 208, rfl⟩
abbrev main_v155 : Ref sig .tc := ⟨.hbm, 209, rfl⟩
abbrev main_v156 : Ref sig .tc := ⟨.hbm, 210, rfl⟩
abbrev main_cst_41 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩

abbrev nD : Nat := 1
abbrev τ : Topo := Topo.v7x

variable {F : FTy → Type} [FloatOps F]
-- ==== Proof.Rules.lean ====
/- Loads and stores of a memref that is held by the values it reads: a load hands over the window of those values,
   an unmasked store leaves them with the payload put over the window. -/
module

public import Idealize.ShloMosaic.Lib.VecWindow

@[expose] public section

noncomputable section

namespace Cert.Rules

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

local notation "𝕄" => MT nD τ sig Ix Val Name U Lvl

/-- A load at a unit-stride rectangle hands over the window of the values held. -/
theorem wp_load_window {cs : CoreSpace} {m : Memref sig c.2.kind cs s e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  subst hf
  iapply (wp_load_rect 𝒱 c bd E (m := m) (r := Rect.unit off size inb) (S := m.view.set)
    (show (m.access (Rect.unit off size inb)).set ⊆ m.view.set from View.set_slice_subset _ _)) $$ H
  iintro H
  iapply Hk
  iexists f
  isplitr
  · ipureintro; rfl
  iexact H

/-- A load of the memref's own sizes hands over all the values held. -/
theorem wp_load_all {cs : CoreSpace} {m : Memref sig c.2.kind cs s e} {off : Fin s.rank → ℕ} {inb : ∀ a, off a + s.size a ≤ s.size a}
    {hl : m.view.LoadsAt (Rect.unit off s.size inb).toLoadRect}
    {k : ((Rect.unit off s.size inb).toLoadRect.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  have h : (VecWindow.window X off s.size inb : s.Idx → Val e) = X :=
    funext fun y => congrArg X (Rect.emb_unit_full inb y)
  have := wp_load_window (defs := defs) 𝒱 c bd E (Q := Q) (m := m) (off := off) (size := s.size) (inb := inb) (hl := hl) (k := k) (q := q) (X := X)
  rwa [h] at this

/-- An unmasked store at a unit-stride rectangle puts the payload over the window of the values held. -/
theorem wp_store_put {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  iapply (wp_store 𝒱 c bd E (m := m) (r := Rect.unit off size inb) (S := m.view.set)
    (by rw [View.setOn_univ]; exact View.set_slice_subset _ _)) $$ H
  iintro H
  iapply Hk
  iexists _
  isplitr
  swap; · iexact H
  ipureintro
  have := View.read_writes_cons_put m.view f inb w [] rfl
  rw [View.writes_cons, View.writes_nil] at this
  exact this

/-- An unmasked store of the memref's own sizes leaves the payload. -/
theorem wp_store_all {cs : CoreSpace} {m : Memref sig c.2.kind cs s e} {off : Fin s.rank → ℕ} {inb : ∀ a, off a + s.size a ≤ s.size a}
    {w : (Rect.unit off s.size inb).shape.Idx → Val e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare (w : s.Idx → Val e) -∗ wp frame (wpE defs 𝒱 c bd) E (k ⟨⟩) Q)
        -∗ wp frame (wpE defs 𝒱 c bd) E (.op (.store m (Rect.unit off s.size inb) w Finset.univ hx hm) k) Q) := by
  have h : (VecWindow.put X off s.size w : s.Idx → Val e) = w := funext fun y => by
    have hy : ∀ a, off a ≤ (y a).val ∧ (y a).val < off a + s.size a := fun a => by
      have := inb a; have := (y a).isLt; omega
    unfold VecWindow.put
    rw [dif_pos hy]
    exact congrArg w (funext fun a => Fin.ext (by rw [Rect.unitLocal_val]; have := inb a; omega))
  have := wp_store_put (defs := defs) 𝒱 c bd E (Q := Q) (m := m) (off := off) (size := s.size) (inb := inb) (w := w) (hx := hx) (hm := hm) (k := k) (X := X)
  rwa [h] at this

end Cert.Rules

end
-- ==== Proof.KI.Model.lean ====
/- The values `cc0_attn_bwd` computes at one row block, as functions of the blocks held: the constants of the row
   block (`Ctx`), the values the loop over the earlier key blocks carries (`St`), one trip of it (`step`), what a trip leaves in
   the key and value gradient rows of its block (`dkTile`, `dvTile`), the diagonal block the loop starts from
   (`init`, `dkDiag`, `dvDiag`), and the loop itself (`loop`). -/
module

public import proofs.«01_k».proof.Proof.Gen.KernelIdeal.Skeleton
public import Idealize.ShloMosaic.Lib.VecWindow

@[expose] public section

noncomputable section

namespace Cert.KernelIdeal.Hand

open Idealize.ShloMosaic Idealize.SL.Sem
open Cert.KernelIdeal Cert.KernelIdeal.Gen

variable {F : FTy → Type} [FloatOps F] [Named F]

/-- The blocks a grid point reads whole: queries, outputs, output gradients, causal mask, and the two triangles. -/
structure Ins (F : FTy → Type) where
  q : Vec F S256x128 .bf16
  o : Vec F S256x128 .f32
  g : Vec F S256x128 .bf16
  mask : Vec F S256x256 .f32
  after : Vec F S256x256 .bf16
  before : Vec F S256x256 .bf16

/-- What the loop over the earlier key blocks reads and does not change: per chain the scaled queries, the output
    gradients and the row totals, the two triangles, and the four chains' queries and gradients stacked. -/
structure Ctx (F : FTy → Type) where
  q0 : FVec F S128x128 .bf16
  g0 : FVec F S128x128 .bf16
  q1 : FVec F S128x128 .bf16
  g1 : FVec F S128x128 .bf16
  q2 : FVec F S128x128 .bf16
  g2 : FVec F S128x128 .bf16
  q3 : FVec F S128x128 .bf16
  g3 : FVec F S128x128 .bf16
  after : FVec F S256x256 .bf16
  before : FVec F S256x256 .bf16
  t0 : FVec F S128x1 .f32
  t1 : FVec F S128x1 .f32
  t2 : FVec F S128x1 .f32
  t3 : FVec F S128x1 .f32
  qs : FVec F S512x128 .bf16
  gs : FVec F S512x128 .bf16

/-- What the loop carries: per chain the running sum of log-keeps, the running sum of weighted gradients and the
    query gradient. -/
structure St (F : FTy → Type) where
  r0 : FVec F S128x1 .f32
  r1 : FVec F S128x1 .f32
  r2 : FVec F S128x1 .f32
  r3 : FVec F S128x1 .f32
  e0 : FVec F S128x1 .f32
  e1 : FVec F S128x1 .f32
  e2 : FVec F S128x1 .f32
  e3 : FVec F S128x1 .f32
  d0 : FVec F S128x128 .f32
  d1 : FVec F S128x128 .f32
  d2 : FVec F S128x128 .f32
  d3 : FVec F S128x128 .f32

/-- The running sum of log-keeps of chain 0 after one more block. -/
def step_r0 (C : Ctx F) (kb vb : Vec F S256x128 .bf16) (S : St F) : FVec F S128x1 .f32 :=
  let v512 := k0_pay129 C.q0 kb
  k0_pay137 S.r0 v512

/-- The running sum of log-keeps of chain 1 after one more block. -/
def step_r1 (C : Ctx F) (kb vb : Vec F S256x128 .bf16) (S : St F) : FVec F S128x1 .f32 :=
  let v493 := k0_pay122 C.q1 kb
  k0_pay145 S.r1 v493

/-- The running sum of log-keeps of chain 2 after one more block. -/
def step_r2 (C : Ctx F) (kb vb : Vec F S256x128 .bf16) (S : St F) : FVec F S128x1 .f32 :=
  let v495 := k0_pay124 C.q2 kb
  let v562 := k0_pay148 v495
  let v567 := k0_pay149 v495
  k0_pay156 S.r2 v562 v567

/-- The running sum of log-keeps of chain 3 after one more block. -/
def step_r3 (C : Ctx F) (kb vb : Vec F S256x128 .bf16) (S : St F) : FVec F S128x1 .f32 :=
  let v497 := k0_pay126 C.q3 kb
  k0_pay164 S.r3 v497

/-- The running sum of weighted gradients of chain 0 after one more block. -/
def step_e0 (C : Ctx F) (kb vb : Vec F S256x128 .bf16) (S : St F) : FVec F S128x1 .f32 :=
  let cst_153 := constant S128x256 .f32 0x00000000#32
  let v492 := k0_pay121 C.g0 vb
  let v516 := k0_pay133 C.q0 kb
  let v519 := k0_pay134 C.q0 kb
  let v521 := k0_pay135 C.q0 S.r0 kb
  let v524 := k0_pay136 C.after v516 v519 cst_153
  let v615 := k0_pay165 v521 v524
  let v628 := k0_pay168 C.before S.e0 v492 v615
  k0_pay183 v628

/-- The running sum of weighted gradients of chain 1 after one more block. -/
def step_e1 (C : Ctx F) (kb vb : Vec F S256x128 .bf16) (S : St F) : FVec F S128x1 .f32 :=
  let v493 := k0_pay122 C.q1 kb
  let v494 := k0_pay123 C.g1 vb
  let v550 := k0_pay143 S.r1 v493
  let v553 := k0_pay144 C.after v493
  let v642 := k0_pay171 C.before S.e1 v494 v550 v553
  k0_pay186 v642

/-- The running sum of weighted gradients of chain 2 after one more block. -/
def step_e2 (C : Ctx F) (kb vb : Vec F S256x128 .bf16) (S : St F) : FVec F S128x1 .f32 :=
  let v495 := k0_pay124 C.q2 kb
  let v496 := k0_pay125 C.g2 vb
  let v558 := k0_pay146 v495
  let v562 := k0_pay148 v495
  let v567 := k0_pay149 v495
  let v579 := k0_pay154 S.r2 v558 v562 v567
  let v582 := k0_pay155 C.after v562 v567
  let v656 := k0_pay174 C.before S.e2 v496 v579 v582
  k0_pay189 v656

/-- The running sum of weighted gradients of chain 3 after one more block. -/
def step_e3 (C : Ctx F) (kb vb : Vec F S256x128 .bf16) (S : St F) : FVec F S128x1 .f32 :=
  let v497 := k0_pay126 C.q3 kb
  let v498 := k0_pay127 C.g3 vb
  let v608 := k0_pay162 S.r3 v497
  let v611 := k0_pay163 C.after v497
  let v666 := k0_pay178 C.before v498 v608 v611
  let v667 := k0_pay179 C.before v498 v608 v611
  k0_pay192 S.e3 v666 v667

/-- The query gradient of chain 0 after one more block. -/
def step_d0 (C : Ctx F) (kb vb : Vec F S256x128 .bf16) (S : St F) : FVec F S128x128 .f32 :=
  let cst_153 := constant S128x256 .f32 0x00000000#32
  let v492 := k0_pay121 C.g0 vb
  let v514 := k0_pay131 C.q0 kb
  let v515 := k0_pay132 C.q0 kb
  let v516 := k0_pay133 C.q0 kb
  let v519 := k0_pay134 C.q0 kb
  let v521 := k0_pay135 C.q0 S.r0 kb
  let v524 := k0_pay136 C.after v516 v519 cst_153
  let v615 := k0_pay165 v521 v524
  let v619 := k0_pay167 v492 v615
  let v628 := k0_pay168 C.before S.e0 v492 v615
  k0_pay182 C.t0 S.d0 kb v514 v515 v619 v628

/-- The query gradient of chain 1 after one more block. -/
def step_d1 (C : Ctx F) (kb vb : Vec F S256x128 .bf16) (S : St F) : FVec F S128x128 .f32 :=
  let v493 := k0_pay122 C.q1 kb
  let v494 := k0_pay123 C.g1 vb
  let v543 := k0_pay141 v493
  let v544 := k0_pay142 v493
  let v550 := k0_pay143 S.r1 v493
  let v553 := k0_pay144 C.after v493
  let v633 := k0_pay170 v494 v550 v553
  let v642 := k0_pay171 C.before S.e1 v494 v550 v553
  k0_pay185 C.t1 S.d1 kb v543 v544 v633 v642

/-- The query gradient of chain 2 after one more block. -/
def step_d2 (C : Ctx F) (kb vb : Vec F S256x128 .bf16) (S : St F) : FVec F S128x128 .f32 :=
  let v495 := k0_pay124 C.q2 kb
  let v496 := k0_pay125 C.g2 vb
  let v558 := k0_pay146 v495
  let v562 := k0_pay148 v495
  let v567 := k0_pay149 v495
  let v572 := k0_pay152 v558 v562 v567
  let v573 := k0_pay153 v562 v567
  let v579 := k0_pay154 S.r2 v558 v562 v567
  let v582 := k0_pay155 C.after v562 v567
  let v647 := k0_pay173 v496 v579 v582
  let v656 := k0_pay174 C.before S.e2 v496 v579 v582
  k0_pay188 C.t2 S.d2 kb v572 v573 v647 v656

/-- The query gradient of chain 3 after one more block. -/
def step_d3 (C : Ctx F) (kb vb : Vec F S256x128 .bf16) (S : St F) : FVec F S128x128 .f32 :=
  let v497 := k0_pay126 C.q3 kb
  let v498 := k0_pay127 C.g3 vb
  let v601 := k0_pay160 v497
  let v602 := k0_pay161 v497
  let v608 := k0_pay162 S.r3 v497
  let v611 := k0_pay163 C.after v497
  let v661 := k0_pay176 v498 v608 v611
  let v666 := k0_pay178 C.before v498 v608 v611
  let v667 := k0_pay179 C.before v498 v608 v611
  k0_pay191 C.t3 S.e3 S.d3 kb v601 v602 v661 v666 v667

/-- One trip of the loop: the carried values after the block whose keys and values are `kb`, `vb`. -/
def step (C : Ctx F) (kb vb : Vec F S256x128 .bf16) (S : St F) : St F :=
  ⟨step_r0 C kb vb S, step_r1 C kb vb S, step_r2 C kb vb S, step_r3 C kb vb S, step_e0 C kb vb S, step_e1 C kb vb S, step_e2 C kb vb S, step_e3 C kb vb S, step_d0 C kb vb S, step_d1 C kb vb S, step_d2 C kb vb S, step_d3 C kb vb S⟩

/-- The block's key gradients after the trip, `old` before it. -/
def dkTile (C : Ctx F) (kb vb : Vec F S256x128 .bf16) (S : St F) (old : Vec F S256x128 .f32) : FVec F S256x128 .f32 :=
  let cst_153 := constant S128x256 .f32 0x00000000#32
  let v492 := k0_pay121 C.g0 vb
  let v493 := k0_pay122 C.q1 kb
  let v494 := k0_pay123 C.g1 vb
  let v495 := k0_pay124 C.q2 kb
  let v496 := k0_pay125 C.g2 vb
  let v497 := k0_pay126 C.q3 kb
  let v498 := k0_pay127 C.g3 vb
  let v514 := k0_pay131 C.q0 kb
  let v515 := k0_pay132 C.q0 kb
  let v516 := k0_pay133 C.q0 kb
  let v519 := k0_pay134 C.q0 kb
  let v521 := k0_pay135 C.q0 S.r0 kb
  let v524 := k0_pay136 C.after v516 v519 cst_153
  let v543 := k0_pay141 v493
  let v544 := k0_pay142 v493
  let v550 := k0_pay143 S.r1 v493
  let v553 := k0_pay144 C.after v493
  let v558 := k0_pay146 v495
  let v562 := k0_pay148 v495
  let v567 := k0_pay149 v495
  let v572 := k0_pay152 v558 v562 v567
  let v573 := k0_pay153 v562 v567
  let v579 := k0_pay154 S.r2 v558 v562 v567
  let v582 := k0_pay155 C.after v562 v567
  let v601 := k0_pay160 v497
  let v602 := k0_pay161 v497
  let v608 := k0_pay162 S.r3 v497
  let v611 := k0_pay163 C.after v497
  let v615 := k0_pay165 v521 v524
  let v619 := k0_pay167 v492 v615
  let v628 := k0_pay168 C.before S.e0 v492 v615
  let v633 := k0_pay170 v494 v550 v553
  let v642 := k0_pay171 C.before S.e1 v494 v550 v553
  let v647 := k0_pay173 v496 v579 v582
  let v656 := k0_pay174 C.before S.e2 v496 v579 v582
  let v661 := k0_pay176 v498 v608 v611
  let v666 := k0_pay178 C.before v498 v608 v611
  let v667 := k0_pay179 C.before v498 v608 v611
  k0_pay193 C.t0 C.t1 C.t2 C.t3 C.qs S.e3 v514 v515 v543 v544 v572 v573 v601 v602 v619 v628 v633 v642 v647 v656 v661 v666 v667 old

/-- The block's value gradients after the trip, `old` before it. -/
def dvTile (C : Ctx F) (kb vb : Vec F S256x128 .bf16) (S : St F) (old : Vec F S256x128 .f32) : FVec F S256x128 .f32 :=
  let cst_153 := constant S128x256 .f32 0x00000000#32
  let v493 := k0_pay122 C.q1 kb
  let v495 := k0_pay124 C.q2 kb
  let v497 := k0_pay126 C.q3 kb
  let v516 := k0_pay133 C.q0 kb
  let v519 := k0_pay134 C.q0 kb
  let v521 := k0_pay135 C.q0 S.r0 kb
  let v524 := k0_pay136 C.after v516 v519 cst_153
  let v550 := k0_pay143 S.r1 v493
  let v553 := k0_pay144 C.after v493
  let v558 := k0_pay146 v495
  let v562 := k0_pay148 v495
  let v567 := k0_pay149 v495
  let v579 := k0_pay154 S.r2 v558 v562 v567
  let v582 := k0_pay155 C.after v562 v567
  let v608 := k0_pay162 S.r3 v497
  let v611 := k0_pay163 C.after v497
  let v615 := k0_pay165 v521 v524
  let v617 := k0_pay166 v615
  let v631 := k0_pay169 v550 v553
  let v645 := k0_pay172 v579 v582
  let v659 := k0_pay175 v608 v611
  let v718 := k0_pay194 v617 v631 v645 v659
  k0_pay5 C.gs old v718

/-- `Ctx.q0` of the blocks held. -/
def ctx_q0 (x : Ins F) : FVec F S128x128 .bf16 :=
  k0_pay14 x.q

/-- `Ctx.g0` of the blocks held. -/
def ctx_g0 (x : Ins F) : FVec F S128x128 .bf16 :=
  k0_pay21 x.g

/-- `Ctx.q1` of the blocks held. -/
def ctx_q1 (x : Ins F) : FVec F S128x128 .bf16 :=
  let v34 := k0_pay15 x.q
  let v35 := k0_pay16 (F := F)
  let v36 := k0_pay17
  k0_pay18 v34 v35 v36

/-- `Ctx.g1` of the blocks held. -/
def ctx_g1 (x : Ins F) : FVec F S128x128 .bf16 :=
  k0_pay22 x.g

/-- `Ctx.q2` of the blocks held. -/
def ctx_q2 (x : Ins F) : FVec F S128x128 .bf16 :=
  let v15 := k0_pay13 x.q
  k0_pay19 v15

/-- `Ctx.g2` of the blocks held. -/
def ctx_g2 (x : Ins F) : FVec F S128x128 .bf16 :=
  let v83 := iota .tc S1x128 32 [1] iota_S1x128_d1_w32
  let c64_i32_27 := 64#32
  k0_pay23 x.g v83 c64_i32_27

/-- `Ctx.q3` of the blocks held. -/
def ctx_q3 (x : Ins F) : FVec F S128x128 .bf16 :=
  let v15 := k0_pay13 x.q
  k0_pay20 v15

/-- `Ctx.g3` of the blocks held. -/
def ctx_g3 (x : Ins F) : FVec F S128x128 .bf16 :=
  k0_pay24 x.g

/-- `Ctx.after` of the blocks held. -/
def ctx_after (x : Ins F) : FVec F S256x256 .bf16 :=
  k0_pay8 x.after

/-- `Ctx.before` of the blocks held. -/
def ctx_before (x : Ins F) : FVec F S256x256 .bf16 :=
  k0_pay9 x.before

/-- `Ctx.t0` of the blocks held. -/
def ctx_t0 (x : Ins F) : FVec F S128x1 .f32 :=
  let v121 := k0_pay28 x.g x.o
  k0_pay32 v121

/-- `Ctx.t1` of the blocks held. -/
def ctx_t1 (x : Ins F) : FVec F S128x1 .f32 :=
  let v128 := k0_pay29 x.g x.o
  let v129 := k0_pay30 (F := F)
  let v130 := k0_pay31
  k0_pay33 v128 v129 v130

/-- `Ctx.t2` of the blocks held. -/
def ctx_t2 (x : Ins F) : FVec F S128x1 .f32 :=
  let v110 := k0_pay27 x.g x.o
  k0_pay34 v110

/-- `Ctx.t3` of the blocks held. -/
def ctx_t3 (x : Ins F) : FVec F S128x1 .f32 :=
  let v110 := k0_pay27 x.g x.o
  k0_pay35 v110

/-- `Ctx.qs` of the blocks held. -/
def ctx_qs (x : Ins F) : FVec F S512x128 .bf16 :=
  let v15 := k0_pay13 x.q
  let v27 := k0_pay14 x.q
  let v34 := k0_pay15 x.q
  let v35 := k0_pay16 (F := F)
  let v36 := k0_pay17
  let v38 := k0_pay18 v34 v35 v36
  let v49 := k0_pay19 v15
  let v60 := k0_pay20 v15
  k0_pay25 v27 v38 v49 v60

/-- `Ctx.gs` of the blocks held. -/
def ctx_gs (x : Ins F) : FVec F S512x128 .bf16 :=
  let v83 := iota .tc S1x128 32 [1] iota_S1x128_d1_w32
  let v71 := k0_pay21 x.g
  let v82 := k0_pay22 x.g
  let c64_i32_27 := 64#32
  k0_pay26 x.g v71 v82 v83 c64_i32_27

/-- What the loop reads and does not change, of the blocks held. -/
def ctx (x : Ins F) : Ctx F :=
  ⟨ctx_q0 x, ctx_g0 x, ctx_q1 x, ctx_g1 x, ctx_q2 x, ctx_g2 x, ctx_q3 x, ctx_g3 x, ctx_after x, ctx_before x, ctx_t0 x, ctx_t1 x, ctx_t2 x, ctx_t3 x, ctx_qs x, ctx_gs x⟩

/-- Chain 0 after the diagonal block (`r0`). -/
def init_r0 (x : Ins F) (kb vb : Vec F S256x128 .bf16) : FVec F S128x1 .f32 :=
  let v11 := k0_pay11 x.mask
  let v163 := k0_pay36 (F := F)
  let v172 := k0_pay38 (ctx_q0 x) kb
  k0_pay55 v11 v163 v172

/-- Chain 1 after the diagonal block (`r1`). -/
def init_r1 (x : Ins F) (kb vb : Vec F S256x128 .bf16) : FVec F S128x1 .f32 :=
  let v12 := k0_pay12 x.mask
  let v163 := k0_pay36 (F := F)
  let v175 := k0_pay41 (ctx_q1 x) kb
  let v217 := k0_pay56 (F := F)
  k0_pay65 v12 v163 v175 v217

/-- Chain 2 after the diagonal block (`r2`). -/
def init_r2 (x : Ins F) (kb vb : Vec F S256x128 .bf16) : FVec F S128x1 .f32 :=
  let v11 := k0_pay11 x.mask
  let v163 := k0_pay36 (F := F)
  let v178 := k0_pay43 (ctx_q2 x) kb
  let v261 := k0_pay67 v178
  k0_pay74 v11 v163 v261

/-- Chain 3 after the diagonal block (`r3`). -/
def init_r3 (x : Ins F) (kb vb : Vec F S256x128 .bf16) : FVec F S128x1 .f32 :=
  let v12 := k0_pay12 x.mask
  let v163 := k0_pay36 (F := F)
  let v181 := k0_pay45 (ctx_q3 x) kb
  let v311 := k0_pay83 v12 v181
  k0_pay84 v163 v311

/-- Chain 0 after the diagonal block (`e0`). -/
def init_e0 (x : Ins F) (kb vb : Vec F S256x128 .bf16) : FVec F S128x1 .f32 :=
  let v11 := k0_pay11 x.mask
  let cst_56 := constant S128x128 .f32 0x00000000#32
  let v163 := k0_pay36 (F := F)
  let v172 := k0_pay38 (ctx_q0 x) kb
  let v173 := k0_pay39 vb
  let v174 := k0_pay40 (ctx_g0 x) v173 cst_56
  let v208 := k0_pay53 v163 v172
  let v213 := k0_pay54 (ctx_after x) v11 v172
  let v331 := k0_pay87 (ctx_before x) v11 v163 v174 v208 v213
  k0_pay103 v331

/-- Chain 1 after the diagonal block (`e1`). -/
def init_e1 (x : Ins F) (kb vb : Vec F S256x128 .bf16) : FVec F S128x1 .f32 :=
  let v12 := k0_pay12 x.mask
  let v163 := k0_pay36 (F := F)
  let v175 := k0_pay41 (ctx_q1 x) kb
  let v176 := k0_pay42 (ctx_g1 x) vb
  let v217 := k0_pay56 (F := F)
  let v241 := k0_pay63 v163 v175 v217
  let v244 := k0_pay64 (ctx_after x) v12 v175 v217
  let v347 := k0_pay90 (ctx_before x) v12 v163 v176 v241 v244
  k0_pay109 v347

/-- Chain 2 after the diagonal block (`e2`). -/
def init_e2 (x : Ins F) (kb vb : Vec F S256x128 .bf16) : FVec F S128x1 .f32 :=
  let v11 := k0_pay11 x.mask
  let v163 := k0_pay36 (F := F)
  let v178 := k0_pay43 (ctx_q2 x) kb
  let v180 := k0_pay44 (ctx_g2 x) vb
  let v261 := k0_pay67 v178
  let v262 := k0_pay68 v178
  let v273 := k0_pay72 v163 v262
  let v278 := k0_pay73 (ctx_after x) v11 v261
  let cst_107 := constant S128x128 .f32 0x00000000#32
  let v359 := k0_pay94 v11 v180 v273 v278
  let v361 := k0_pay95 (ctx_before x) v11 v180 v273 v278
  let v362 := k0_pay96 (ctx_before x)
  let v366 := k0_pay97 v163 v359 v361 v362 cst_107
  k0_pay113 v366

/-- Chain 3 after the diagonal block (`e3`). -/
def init_e3 (x : Ins F) (kb vb : Vec F S256x128 .bf16) : FVec F S128x1 .f32 :=
  let v12 := k0_pay12 x.mask
  let v163 := k0_pay36 (F := F)
  let v181 := k0_pay45 (ctx_q3 x) kb
  let v182 := k0_pay46 (ctx_g3 x) vb
  let v306 := k0_pay81 v163 v181
  let v309 := k0_pay82 (ctx_after x) v12 v181
  let v382 := k0_pay100 (ctx_before x) v12 v163 v182 v306 v309
  k0_pay117 v382

/-- Chain 0 after the diagonal block (`d0`). -/
def init_d0 (x : Ins F) (kb vb : Vec F S256x128 .bf16) : FVec F S128x128 .f32 :=
  let v11 := k0_pay11 x.mask
  let cst_56 := constant S128x128 .f32 0x00000000#32
  let v163 := k0_pay36 (F := F)
  let v164 := k0_pay37 (F := F)
  let v172 := k0_pay38 (ctx_q0 x) kb
  let v173 := k0_pay39 vb
  let v174 := k0_pay40 (ctx_g0 x) v173 cst_56
  let v198 := k0_pay50 v172
  let v199 := k0_pay51 v172
  let v208 := k0_pay53 v163 v172
  let v213 := k0_pay54 (ctx_after x) v11 v172
  let v320 := k0_pay86 v11 v174 v208 v213
  let v331 := k0_pay87 (ctx_before x) v11 v163 v174 v208 v213
  k0_pay102 v11 (ctx_t0 x) v164 kb v198 v199 v320 v331

/-- Chain 1 after the diagonal block (`d1`). -/
def init_d1 (x : Ins F) (kb vb : Vec F S256x128 .bf16) : FVec F S128x128 .f32 :=
  let v12 := k0_pay12 x.mask
  let v163 := k0_pay36 (F := F)
  let v164 := k0_pay37 (F := F)
  let v175 := k0_pay41 (ctx_q1 x) kb
  let v176 := k0_pay42 (ctx_g1 x) vb
  let v217 := k0_pay56 (F := F)
  let v232 := k0_pay60 v175 v217
  let v233 := k0_pay61 v175 v217
  let v241 := k0_pay63 v163 v175 v217
  let v244 := k0_pay64 (ctx_after x) v12 v175 v217
  let v338 := k0_pay89 v12 v176 v241 v244
  let v347 := k0_pay90 (ctx_before x) v12 v163 v176 v241 v244
  k0_pay108 v12 (ctx_t1 x) v164 kb v232 v233 v338 v347

/-- Chain 2 after the diagonal block (`d2`). -/
def init_d2 (x : Ins F) (kb vb : Vec F S256x128 .bf16) : FVec F S128x128 .f32 :=
  let v11 := k0_pay11 x.mask
  let v163 := k0_pay36 (F := F)
  let v164 := k0_pay37 (F := F)
  let v178 := k0_pay43 (ctx_q2 x) kb
  let v180 := k0_pay44 (ctx_g2 x) vb
  let v261 := k0_pay67 v178
  let v262 := k0_pay68 v178
  let v263 := k0_pay69 v178
  let v264 := k0_pay70 v178
  let v273 := k0_pay72 v163 v262
  let v278 := k0_pay73 (ctx_after x) v11 v261
  let cst_107 := constant S128x128 .f32 0x00000000#32
  let v355 := k0_pay92 v11 v180 v273 v278
  let v359 := k0_pay94 v11 v180 v273 v278
  let v361 := k0_pay95 (ctx_before x) v11 v180 v273 v278
  let v362 := k0_pay96 (ctx_before x)
  let v414 := k0_pay110 (ctx_t2 x) v163 v263 v264 v355 v359 v361 v362 cst_107
  k0_pay112 v11 v164 kb v414

/-- Chain 3 after the diagonal block (`d3`). -/
def init_d3 (x : Ins F) (kb vb : Vec F S256x128 .bf16) : FVec F S128x128 .f32 :=
  let v12 := k0_pay12 x.mask
  let v163 := k0_pay36 (F := F)
  let v164 := k0_pay37 (F := F)
  let v181 := k0_pay45 (ctx_q3 x) kb
  let v182 := k0_pay46 (ctx_g3 x) vb
  let v297 := k0_pay78 v181
  let v298 := k0_pay79 v181
  let v306 := k0_pay81 v163 v181
  let v309 := k0_pay82 (ctx_after x) v12 v181
  let v373 := k0_pay99 v12 v182 v306 v309
  let v382 := k0_pay100 (ctx_before x) v12 v163 v182 v306 v309
  k0_pay116 v12 (ctx_t3 x) v164 kb v297 v298 v373 v382

/-- The carried values after the diagonal block. -/
def init (x : Ins F) (kb vb : Vec F S256x128 .bf16) : St F :=
  ⟨init_r0 x kb vb, init_r1 x kb vb, init_r2 x kb vb, init_r3 x kb vb, init_e0 x kb vb, init_e1 x kb vb, init_e2 x kb vb, init_e3 x kb vb, init_d0 x kb vb, init_d1 x kb vb, init_d2 x kb vb, init_d3 x kb vb⟩

/-- The diagonal block's key gradients, `old` before it. -/
def dkDiag (x : Ins F) (kb vb : Vec F S256x128 .bf16) (old : Vec F S256x128 .f32) : FVec F S256x128 .f32 :=
  let v11 := k0_pay11 x.mask
  let v12 := k0_pay12 x.mask
  let cst_56 := constant S128x128 .f32 0x00000000#32
  let v163 := k0_pay36 (F := F)
  let v172 := k0_pay38 (ctx_q0 x) kb
  let v173 := k0_pay39 vb
  let v174 := k0_pay40 (ctx_g0 x) v173 cst_56
  let v175 := k0_pay41 (ctx_q1 x) kb
  let v176 := k0_pay42 (ctx_g1 x) vb
  let v178 := k0_pay43 (ctx_q2 x) kb
  let v180 := k0_pay44 (ctx_g2 x) vb
  let v181 := k0_pay45 (ctx_q3 x) kb
  let v182 := k0_pay46 (ctx_g3 x) vb
  let v198 := k0_pay50 v172
  let v199 := k0_pay51 v172
  let v208 := k0_pay53 v163 v172
  let v213 := k0_pay54 (ctx_after x) v11 v172
  let v217 := k0_pay56 (F := F)
  let v232 := k0_pay60 v175 v217
  let v233 := k0_pay61 v175 v217
  let v241 := k0_pay63 v163 v175 v217
  let v244 := k0_pay64 (ctx_after x) v12 v175 v217
  let v261 := k0_pay67 v178
  let v262 := k0_pay68 v178
  let v263 := k0_pay69 v178
  let v264 := k0_pay70 v178
  let v273 := k0_pay72 v163 v262
  let v278 := k0_pay73 (ctx_after x) v11 v261
  let v297 := k0_pay78 v181
  let v298 := k0_pay79 v181
  let v306 := k0_pay81 v163 v181
  let v309 := k0_pay82 (ctx_after x) v12 v181
  let cst_107 := constant S128x128 .f32 0x00000000#32
  let v320 := k0_pay86 v11 v174 v208 v213
  let v331 := k0_pay87 (ctx_before x) v11 v163 v174 v208 v213
  let v338 := k0_pay89 v12 v176 v241 v244
  let v347 := k0_pay90 (ctx_before x) v12 v163 v176 v241 v244
  let v355 := k0_pay92 v11 v180 v273 v278
  let v359 := k0_pay94 v11 v180 v273 v278
  let v361 := k0_pay95 (ctx_before x) v11 v180 v273 v278
  let v362 := k0_pay96 (ctx_before x)
  let v373 := k0_pay99 v12 v182 v306 v309
  let v382 := k0_pay100 (ctx_before x) v12 v163 v182 v306 v309
  let v397 := k0_pay105 v11 (ctx_t0 x) v198 v199 v320 v331
  let v406 := k0_pay107 v12 (ctx_t1 x) v232 v233 v338 v347
  let v414 := k0_pay110 (ctx_t2 x) v163 v263 v264 v355 v359 v361 v362 cst_107
  k0_pay118 v11 v12 (ctx_qs x) (ctx_t3 x) v297 v298 v373 v382 v397 v406 v414 old

/-- The diagonal block's value gradients, `old` before it. -/
def dvDiag (x : Ins F) (kb vb : Vec F S256x128 .bf16) (old : Vec F S256x128 .f32) : FVec F S256x128 .f32 :=
  let v11 := k0_pay11 x.mask
  let v12 := k0_pay12 x.mask
  let v163 := k0_pay36 (F := F)
  let v172 := k0_pay38 (ctx_q0 x) kb
  let v175 := k0_pay41 (ctx_q1 x) kb
  let v178 := k0_pay43 (ctx_q2 x) kb
  let v181 := k0_pay45 (ctx_q3 x) kb
  let v208 := k0_pay53 v163 v172
  let v213 := k0_pay54 (ctx_after x) v11 v172
  let v217 := k0_pay56 (F := F)
  let v241 := k0_pay63 v163 v175 v217
  let v244 := k0_pay64 (ctx_after x) v12 v175 v217
  let v261 := k0_pay67 v178
  let v262 := k0_pay68 v178
  let v273 := k0_pay72 v163 v262
  let v278 := k0_pay73 (ctx_after x) v11 v261
  let v306 := k0_pay81 v163 v181
  let v309 := k0_pay82 (ctx_after x) v12 v181
  let v318 := k0_pay85 v11 v208 v213
  let v336 := k0_pay88 v12 v241 v244
  let v353 := k0_pay91 v11 v273 v278
  let v371 := k0_pay98 v12 v306 v309
  let v398 := k0_pay106 v318
  k0_pay119 (ctx_gs x) v336 v353 v371 v398 old

/-- The first row of key block `n`. -/
def off (n : ℕ) : Fin 2 → ℕ := ![256 * (n % 32), 0]

theorem off_inb (n : ℕ) : ∀ a, off n a + S256x128.size a ≤ S8192x128.size a := by
  intro a
  have h : n % 32 < 32 := Nat.mod_lt _ (by decide)
  fin_cases a
  · show 256 * (n % 32) + 256 ≤ 8192
    omega
  · show 0 + 128 ≤ 128
    omega

/-- Key block `n` of 8192 rows. -/
def blk {α : Type} (X : S8192x128.Idx → α) (n : ℕ) : S256x128.Idx → α :=
  VecWindow.window X (off n) S256x128.size (off_inb n)

/-- `X` with key block `n` replaced. -/
def putBlk {α : Type} (X : S8192x128.Idx → α) (n : ℕ) (w : S256x128.Idx → α) : S8192x128.Idx → α :=
  VecWindow.put X (off n) S256x128.size w

/-- The loop's test on the carried values: some row's weight can still be other than zero. -/
def go (S : St F) : Prop := Scalar.cmpf .oge (k0_pay4 S.r0 S.r1 S.r2 S.r3) (Named.named κ "exp2_zero" 0xC3160000#32 : F .f32) = 1#1

instance (S : St F) : Decidable (go S) := inferInstanceAs (Decidable (_ = _))

/-- The loop with `n` key blocks to go, block `n - 1` next: the carried values, the key gradients and the value
    gradients it ends with. -/
def loop (C : Ctx F) (K V : Vec F S8192x128 .bf16) :
    ℕ → St F → Vec F S8192x128 .f32 → Vec F S8192x128 .f32 → St F × Vec F S8192x128 .f32 × Vec F S8192x128 .f32
  | 0, S, dk, dv => (S, dk, dv)
  | n + 1, S, dk, dv =>
    if go S then
      loop C K V n (step C (blk K n) (blk V n) S) (putBlk dk n (dkTile C (blk K n) (blk V n) S (blk dk n)))
        (putBlk dv n (dvTile C (blk K n) (blk V n) S (blk dv n)))
    else (S, dk, dv)

/-- The query gradients stored, of what the loop ends with. -/
def dqOut (S : St F) : FVec F S256x128 .bf16 :=
  k0_pay1 S.d0 S.d1 S.d2 S.d3 (iota .tc S1x128 32 [1] iota_S1x128_d1_w32) k0_pay120 128#32

/-- One row block `n` whole: what the loop ends with, from the gradients accumulated so far. -/
def row (x : Ins F) (K V : Vec F S8192x128 .bf16) (n : ℕ) (dk dv : Vec F S8192x128 .f32) :
    St F × Vec F S8192x128 .f32 × Vec F S8192x128 .f32 :=
  loop (ctx x) K V n (init x (blk K n) (blk V n)) (putBlk dk n (dkDiag x (blk K n) (blk V n) (blk dk n)))
    (putBlk dv n (dvDiag x (blk K n) (blk V n) (blk dv n)))

end Cert.KernelIdeal.Hand

end
-- ==== Proof.KI.While.lean ====
/- The loop over the earlier key blocks of `cc0_attn_bwd`, run: from the carried values `S` with `n` blocks to go it ends with
   what `loop` says, the key and value blocks held as they were and the gradients accumulated in place. -/
module

public import proofs.«01_k».proof.Proof.KI.Model
public import proofs.«01_k».proof.Proof.Rules

@[expose] public section

noncomputable section

namespace Cert.KernelIdeal.Hand

open Idealize.ShloMosaic
open Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA
open Idealize.ShloMosaic.Rounds
open Cert.KernelIdeal Cert.KernelIdeal.Gen Cert.Rules

variable {F : FTy → Type} [FloatOps F] [Named F]

local notation "𝕄" => MT nD τ sig Unit (Elt F) ℕ (UR sig nD τ) ℕ

/-- The loop's variants: the key blocks still to go. -/
abbrev 𝒱₀ : Variants := Variants.nat

/-! ### The loop's words -/

/-- The loop's counter with `n` of `j` blocks to go. -/
def ctr (j n : ℕ) : BitVec 32 := BitVec.ofNat 32 (j - n)

theorem slt_ctr : ∀ j n : Fin 32, n.val ≤ j.val →
    Scalar.cmpi .slt (ctr j n) (BitVec.ofNat 32 j) = if n.val = 0 then 0#1 else 1#1 := by decide +kernel

theorem addi_ctr : ∀ j n : Fin 32, n.val + 1 ≤ j.val → Scalar.addi (ctr j (n.val + 1)) 1#32 = ctr j n := by decide +kernel

theorem off_ctr : ∀ j n : Fin 32, n.val + 1 ≤ j.val →
    (Scalar.indexCast (Scalar.muli (Scalar.subi (Scalar.subi (BitVec.ofNat 32 j) 1#32) (ctr j (n.val + 1))) 256#32)).toNat = 256 * n.val := by
  decide +kernel

theorem mult_ctr : ∀ j n : Fin 32, n.val + 1 ≤ j.val →
    256 ∣ (Scalar.muli (Scalar.subi (Scalar.subi (BitVec.ofNat 32 j) 1#32) (ctr j (n.val + 1))) 256#32).toNat := by
  decide +kernel

theorem row_lt (i : grid0.Coords) : (i 1).val < 32 := (i 1).isLt

theorem off2_eq (i : grid0.Coords) {n : ℕ} (h : n + 1 ≤ (i 1).val) : k0_off2 i (ctr (i 1).val (n + 1)) = off n := by
  have hj := row_lt i
  have e := off_ctr ⟨(i 1).val, hj⟩ ⟨n, by omega⟩ h
  have hn : n % 32 = n := Nat.mod_eq_of_lt (by omega)
  funext a
  fin_cases a
  · show _ = 256 * (n % 32)
    rw [hn]; exact e
  · rfl

theorem off1_eq (i : grid0.Coords) : k0_off1 i = off (i 1).val := by
  rw [k0_off1_eq]; unfold off; rw [Nat.mod_eq_of_lt (row_lt i)]

theorem chk (i : grid0.Coords) {n : ℕ} (h : n + 1 ≤ (i 1).val) : k0_chk1 i (ctr (i 1).val (n + 1)) := by
  have hj := row_lt i
  exact ⟨mult_ctr ⟨(i 1).val, hj⟩ ⟨n, by omega⟩ h, fun a => by rw [off2_eq i h]; exact off_inb n a⟩

/-! ### A block loaded and stored -/

section Blocks
variable {c : Thread nD τ} {bd : Option 𝒱₀.V} {E : Set ℕ} {α : Type} {Q : α → sProp (MT nD τ sig Unit (Elt F) ℕ (UR sig nD τ) ℕ)} {e : EltTy}

theorem wp_load_blk {n : ℕ} {o : Fin 2 → ℕ} (ho : o = off n) {cs : CoreSpace} {m : Memref sig c.2.kind cs S8192x128 e}
    {inb : ∀ a, o a + S256x128.size a ≤ S8192x128.size a} {hl : m.view.LoadsAt (Rect.unit (s := S8192x128) o S256x128.size inb).toLoadRect}
    {k : ((Rect.unit (s := S8192x128) o S256x128.size inb).toLoadRect.shape.Idx → Elt F e) → Prog (TpuEff nD τ sig (Elt F) (Λ₀ F) c.2) α}
    {q : PosShare TreeShare} {X : S8192x128.Idx → Elt F e} :
    (owns c m q X : sProp 𝕄)
      ⊢ iprop((owns c m q X -∗ wp frame (wpE (defs₀ (F := F)) 𝒱₀ c bd) E (k (blk X n)) Q)
        -∗ wp frame (wpE (defs₀ (F := F)) 𝒱₀ c bd) E (.op (.load m (Rect.unit (s := S8192x128) o S256x128.size inb).toLoadRect hl) k) Q) := by
  subst ho
  exact wp_load_window 𝒱₀ c bd E

theorem wp_store_blk {n : ℕ} {o : Fin 2 → ℕ} (ho : o = off n) {cs : CoreSpace} {m : Memref sig c.2.kind cs S8192x128 e}
    {inb : ∀ a, o a + S256x128.size a ≤ S8192x128.size a}
    {w : (Rect.unit (s := S8192x128) o S256x128.size inb).shape.Idx → Elt F e}
    {hx : (m.access (Rect.unit (s := S8192x128) o S256x128.size inb)).Stores Finset.univ}
    {hm : (Finset.univ : Finset (Rect.unit (s := S8192x128) o S256x128.size inb).shape.Idx) = Finset.univ
      ∨ ∀ a, (Rect.unit (s := S8192x128) o S256x128.size inb).stride a = 1}
    {k : PUnit → Prog (TpuEff nD τ sig (Elt F) (Λ₀ F) c.2) α} {X : S8192x128.Idx → Elt F e} :
    (owns c m fullShare X : sProp 𝕄)
      ⊢ iprop((owns c m fullShare (putBlk X n w) -∗ wp frame (wpE (defs₀ (F := F)) 𝒱₀ c bd) E (k ⟨⟩) Q)
        -∗ wp frame (wpE (defs₀ (F := F)) 𝒱₀ c bd) E (.op (.store m (Rect.unit (s := S8192x128) o S256x128.size inb) w Finset.univ hx hm) k) Q) := by
  subst ho
  exact wp_store_put 𝒱₀ c bd E

end Blocks

/-! ### The loop -/

/-- The loop's result at counter `b`. -/
def St.tup (S : St F) (b : BitVec 32) : BitVec 32 × FVec F S128x1 .f32 × FVec F S128x1 .f32 × FVec F S128x1 .f32 × FVec F S128x1 .f32 × FVec F S128x1 .f32 × FVec F S128x1 .f32 × FVec F S128x1 .f32 × FVec F S128x1 .f32 × FVec F S128x128 .f32 × FVec F S128x128 .f32 × FVec F S128x128 .f32 × FVec F S128x128 .f32 :=
  (b, S.r0, S.r1, S.r2, S.r3, S.e0, S.e1, S.e2, S.e3, S.d0, S.d1, S.d2, S.d3)

set_option maxRecDepth 65536 in
set_option maxHeartbeats 4000000 in
/-- The loop with `n` blocks to go ends with what `loop` says. -/
theorem while_sound (c : Dev nD) (E : Set ℕ) (i : grid0.Coords) (arg3 : Memref sig .tc .vmem S8192x128 .bf16) (harg3 : arg3.IsWhole) (arg4 : Memref sig .tc .vmem S8192x128 .bf16) (harg4 : arg4.IsWhole) (arg13 : Memref sig .tc .vmem S8192x128 .f32) (harg13 : arg13.IsWhole) (arg14 : Memref sig .tc .vmem S8192x128 .f32) (harg14 : arg14.IsWhole)
    (C : Ctx F) (K V : Vec F S8192x128 .bf16) (q3 q4 : PosShare TreeShare) :
    ∀ n, n ≤ (i 1).val → ∀ (S : St F) (DK DV : Vec F S8192x128 .f32)
      (Φ : BitVec 32 × FVec F S128x1 .f32 × FVec F S128x1 .f32 × FVec F S128x1 .f32 × FVec F S128x1 .f32 × FVec F S128x1 .f32 × FVec F S128x1 .f32 × FVec F S128x1 .f32 × FVec F S128x1 .f32 × FVec F S128x128 .f32 × FVec F S128x128 .f32 × FVec F S128x128 .f32 × FVec F S128x128 .f32 → sProp 𝕄),
      iprop(owns (c : Thread nD τ) arg3 q3 K ∗ owns (c : Thread nD τ) arg4 q4 V ∗ owns (c : Thread nD τ) arg13 fullShare DK
          ∗ owns (c : Thread nD τ) arg14 fullShare DV
          ∗ (∀ b, (owns (c : Thread nD τ) arg3 q3 K ∗ owns (c : Thread nD τ) arg4 q4 V
              ∗ owns (c : Thread nD τ) arg13 fullShare (loop C K V n S DK DV).2.1
              ∗ owns (c : Thread nD τ) arg14 fullShare (loop C K V n S DK DV).2.2) -∗ Φ ((loop C K V n S DK DV).1.tup b)))
        ⊢ wp frame (wpE (defs₀ (F := F)) 𝒱₀ (c : Thread nD τ) (some n)) E
            (cc0_while1 i arg3 harg3 arg4 harg4 C.q0 C.g0 C.q1 C.g1 C.q2 C.g2 C.q3 C.g3 C.after C.before C.t0 C.t1 C.t2 C.t3 arg13 harg13 C.qs arg14 harg14 C.gs (ctr (i 1).val n) S.r0 S.r1 S.r2 S.r3 S.e0 S.e1 S.e2 S.e3 S.d0 S.d1 S.d2 S.d3) Φ := by
  intro n
  induction n with
  | zero =>
    intro hn S DK DV Φ
    have hs : Scalar.cmpi .slt (ctr (i 1).val 0) (BitVec.ofNat 32 (i 1).val) = 0#1 :=
      slt_ctr ⟨(i 1).val, row_lt i⟩ ⟨0, by decide⟩ (Nat.zero_le _)
    have ha : ∀ b : BitVec 1, ¬ Scalar.andi (0#1) b = 1#1 := by decide
    simp only [cc0_while1_eq_skeleton]; unfold cc0_while1_skel
    simp only [hs, ha, ↓reduceIte, Prog.pure_eq_ret]
    rw [show (ctr (i 1).val 0, S.r0, S.r1, S.r2, S.r3, S.e0, S.e1, S.e2, S.e3, S.d0, S.d1, S.d2, S.d3) = (loop C K V 0 S DK DV).1.tup (ctr (i 1).val 0) from rfl]
    iintro ⟨H3, H4, H13, H14, Hk⟩
    rw [wp_ret]; imodintro
    iapply Hk
    isplitl [H3]; · iexact H3
    isplitl [H4]; · iexact H4
    isplitl [H13]; · iexact H13
    iexact H14
  | succ n ih =>
    intro hn S DK DV Φ
    have hj := row_lt i
    have hs : Scalar.cmpi .slt (ctr (i 1).val (n + 1)) (BitVec.ofNat 32 (i 1).val) = 1#1 :=
      slt_ctr ⟨(i 1).val, hj⟩ ⟨n + 1, by omega⟩ hn
    have hadd : Scalar.addi (ctr (i 1).val (n + 1)) 1#32 = ctr (i 1).val n := addi_ctr ⟨(i 1).val, hj⟩ ⟨n, by omega⟩ hn
    have ho := off2_eq i hn
    have ha : ∀ b : BitVec 1, Scalar.andi (1#1) b = b := by decide
    by_cases hg : go S
    · have hg' : Scalar.cmpf .oge (k0_pay4 S.r0 S.r1 S.r2 S.r3) (Named.named κ "exp2_zero" 0xC3160000#32 : F .f32) = 1#1 := hg
      have hl : loop C K V (n + 1) S DK DV = loop C K V n (step C (blk K n) (blk V n) S) (putBlk DK n (dkTile C (blk K n) (blk V n) S (blk DK n)))
          (putBlk DV n (dvTile C (blk K n) (blk V n) S (blk DV n))) := by rw [loop, if_pos hg]
      rw [hl]
      simp only [cc0_while1_eq_skeleton]; unfold cc0_while1_skel
      simp only [hs, ha, hg', ↓reduceIte, k0_part11_eq_skeleton, k0_part12_eq_skeleton, k0_part13_eq_skeleton, k0_part14_eq_skeleton, k0_part15_eq_skeleton]
      unfold k0_part11_skel k0_part12_skel k0_part13_skel k0_part14_skel k0_part15_skel
      simp only [Prog.lift, Prog.bind_op, Prog.bind_ret, Prog.pure_eq_ret]
      iintro ⟨H3, H4, H13, H14, Hk⟩
      iapply (wp_assume 𝒱₀ (c : Thread nD τ) (some (n + 1)) E (chk i hn))
      iapply (wp_load_blk ho) $$ H3; iintro H3
      iapply (wp_load_blk ho) $$ H4; iintro H4
      iapply (wp_load_blk ho) $$ H13; iintro H13
      iapply (wp_load_blk ho) $$ H13; iintro H13
      iapply (wp_store_blk ho) $$ H13; iintro H13
      iapply (wp_load_blk ho) $$ H14; iintro H14
      iapply (wp_load_blk ho) $$ H14; iintro H14
      iapply (wp_store_blk ho) $$ H14; iintro H14
      iapply (wp_call 𝒱₀ (c : Thread nD τ) (some (n + 1)) E n (fun u hu => by cases hu; exact Nat.lt_succ_self n))
      rw [hadd]
      iapply (ih (by omega) (step C (blk K n) (blk V n) S) (putBlk DK n (dkTile C (blk K n) (blk V n) S (blk DK n)))
          (putBlk DV n (dvTile C (blk K n) (blk V n) S (blk DV n))))
      isplitl [H3]; · iexact H3
      isplitl [H4]; · iexact H4
      isplitl [H13]; · iexact H13
      isplitl [H14]; · iexact H14
      iintro %b H
      rw [wp_ret]; imodintro
      iapply Hk
      iexact H
    · have hg' : ¬ Scalar.cmpf .oge (k0_pay4 S.r0 S.r1 S.r2 S.r3) (Named.named κ "exp2_zero" 0xC3160000#32 : F .f32) = 1#1 := hg
      have hl : loop C K V (n + 1) S DK DV = (S, DK, DV) := by rw [loop, if_neg hg]
      rw [hl]
      simp only [cc0_while1_eq_skeleton]; unfold cc0_while1_skel
      simp only [hs, ha, hg', ↓reduceIte, Prog.pure_eq_ret]
      rw [show (ctr (i 1).val (n + 1), S.r0, S.r1, S.r2, S.r3, S.e0, S.e1, S.e2, S.e3, S.d0, S.d1, S.d2, S.d3) = St.tup S (ctr (i 1).val (n + 1)) from rfl]
      iintro ⟨H3, H4, H13, H14, Hk⟩
      rw [wp_ret]; imodintro
      iapply Hk
      isplitl [H3]; · iexact H3
      isplitl [H4]; · iexact H4
      isplitl [H13]; · iexact H13
      iexact H14

end Cert.KernelIdeal.Hand

end
-- ==== Proof.KI.Body.lean ====
/- The body of `cc0_attn_bwd` at one grid point, run: from the blocks held and the gradients accumulated so far, the query
   gradients of its row block, and the accumulated gradients with the row block's share added (`row`). -/
module

public import proofs.«01_k».proof.Proof.KI.While

@[expose] public section

noncomputable section

namespace Cert.KernelIdeal.Hand

open Idealize.ShloMosaic
open Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA
open Idealize.ShloMosaic.Rounds
open Cert.KernelIdeal Cert.KernelIdeal.Gen Cert.Rules

variable {F : FTy → Type} [FloatOps F] [Named F]

local notation "𝕄" => MT nD τ sig Unit (Elt F) ℕ (UR sig nD τ) ℕ

/-- The accumulated gradients a grid point starts from: zero at the first row block of a pair of heads. -/
def start (n : ℕ) (z D : Vec F S8192x128 .f32) : Vec F S8192x128 .f32 := if n = 0 then z else D

/-- The first row block's test. -/
theorem first_word : ∀ j : Fin 32,
    Scalar.cmpi .ne (Scalar.extui (Scalar.cmpi .eq (BitVec.ofNat 32 j) 0#32) : BitVec 32) 0#32 = if j.val = 0 then 1#1 else 0#1 := by
  decide +kernel

/-- The last row block's test. -/
theorem last_word : ∀ j : Fin 32,
    Scalar.cmpi .ne (Scalar.extui (Scalar.cmpi .eq (BitVec.ofNat 32 j) 31#32) : BitVec 32) 0#32 = if j.val = 31 then 1#1 else 0#1 := by
  decide +kernel

theorem cond2_eq (i : grid0.Coords) : k0_cond2 i = if (i 1).val = 31 then 1#1 else 0#1 := last_word ⟨(i 1).val, row_lt i⟩

/-- What a grid point leaves the accumulated gradients and the query gradients at. -/
def pointOut (x : Ins F) (K V : Vec F S8192x128 .bf16) (n : ℕ) (DK DV : Vec F S8192x128 .f32) :
    St F × Vec F S8192x128 .f32 × Vec F S8192x128 .f32 :=
  row x K V n (start n (k0_pay6 (F := F)) DK) (start n (k0_pay7 (F := F)) DV)

set_option maxRecDepth 65536 in
set_option maxHeartbeats 8000000 in
theorem body_first (c : Dev nD) (E : Set ℕ) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .f32) (harg5 : arg5.IsWhole) (arg6 : Memref sig .tc .vmem S256x128 .bf16) (harg6 : arg6.IsWhole) (arg7 : Memref sig .tc .vmem S256x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S8192x128 .f32) (harg13 : arg13.IsWhole) (arg14 : Memref sig .tc .vmem S8192x128 .f32) (harg14 : arg14.IsWhole) (h0 : (i 1).val = 0) (h31 : ¬ (i 1).val = 31)
    (x : Ins F) (K V : Vec F S8192x128 .bf16) (DK DV : Vec F S8192x128 .f32) (A10 : Vec F S256x128 .bf16) (A11 A12 : Vec F S8192x128 .bf16)
    (q2 q3 q4 q5 q6 q7 q8 q9 : PosShare TreeShare) (Φ : PUnit → sProp 𝕄) :
    iprop(owns (c : Thread nD τ) arg2 q2 x.q ∗ owns (c : Thread nD τ) arg3 q3 K ∗ owns (c : Thread nD τ) arg4 q4 V ∗ owns (c : Thread nD τ) arg5 q5 x.o ∗ owns (c : Thread nD τ) arg6 q6 x.g ∗ owns (c : Thread nD τ) arg7 q7 x.mask ∗ owns (c : Thread nD τ) arg8 q8 x.after ∗ owns (c : Thread nD τ) arg9 q9 x.before
        ∗ owns (c : Thread nD τ) arg10 fullShare A10 ∗ owns (c : Thread nD τ) arg11 fullShare A11 ∗ owns (c : Thread nD τ) arg12 fullShare A12
        ∗ owns (c : Thread nD τ) arg13 fullShare DK ∗ owns (c : Thread nD τ) arg14 fullShare DV
        ∗ ((owns (c : Thread nD τ) arg2 q2 x.q ∗ owns (c : Thread nD τ) arg3 q3 K ∗ owns (c : Thread nD τ) arg4 q4 V ∗ owns (c : Thread nD τ) arg5 q5 x.o ∗ owns (c : Thread nD τ) arg6 q6 x.g ∗ owns (c : Thread nD τ) arg7 q7 x.mask ∗ owns (c : Thread nD τ) arg8 q8 x.after ∗ owns (c : Thread nD τ) arg9 q9 x.before
            ∗ owns (c : Thread nD τ) arg10 fullShare (dqOut (pointOut x K V (i 1).val DK DV).1) ∗ owns (c : Thread nD τ) arg11 fullShare A11 ∗ owns (c : Thread nD τ) arg12 fullShare A12
            ∗ owns (c : Thread nD τ) arg13 fullShare (pointOut x K V (i 1).val DK DV).2.1 ∗ owns (c : Thread nD τ) arg14 fullShare (pointOut x K V (i 1).val DK DV).2.2) -∗ Φ ⟨⟩))
      ⊢ wp frame (wpE (defs₀ (F := F)) 𝒱₀ (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) Φ := by
  have hw : Scalar.cmpi .ne (Scalar.extui (Scalar.cmpi .eq (BitVec.ofNat 32 (i 1).val) 0#32) : BitVec 32) 0#32 = 1#1 := by
    have h := first_word ⟨(i 1).val, row_lt i⟩
    rwa [if_pos h0] at h
  have hc : k0_cond2 i = 0#1 := by rw [cond2_eq, if_neg h31]
  have z1 : ¬ (0#1 : BitVec 1) = 1#1 := by decide
  have ho := off1_eq i
  have hp : pointOut x K V (i 1).val DK DV = row x K V (i 1).val (k0_pay6 (F := F)) (k0_pay7 (F := F)) := by
    unfold pointOut start; rw [if_pos h0, if_pos h0]
  rw [hp]
  unfold row
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [hw, hc, z1, ↓reduceDIte, Prog.lift, Prog.bind_op, Prog.bind_ret, Prog.pure_eq_ret]
  iintro ⟨H2, H3, H4, H5, H6, H7, H8, H9, H10, H11, H12, H13, H14, Hk⟩
  iapply (wp_load_all 𝒱₀ (c : Thread nD τ) none E) $$ H13; iintro H13
  iapply (wp_store_all 𝒱₀ (c : Thread nD τ) none E) $$ H13; iintro H13
  iapply (wp_load_all 𝒱₀ (c : Thread nD τ) none E) $$ H14; iintro H14
  iapply (wp_store_all 𝒱₀ (c : Thread nD τ) none E) $$ H14; iintro H14
  iapply (wp_load_all 𝒱₀ (c : Thread nD τ) none E) $$ H8; iintro H8
  iapply (wp_load_all 𝒱₀ (c : Thread nD τ) none E) $$ H9; iintro H9
  iapply (wp_load_all 𝒱₀ (c : Thread nD τ) none E) $$ H7; iintro H7
  iapply (wp_load_all 𝒱₀ (c : Thread nD τ) none E) $$ H2; iintro H2
  iapply (wp_load_all 𝒱₀ (c : Thread nD τ) none E) $$ H6; iintro H6
  iapply (wp_load_all 𝒱₀ (c : Thread nD τ) none E) $$ H5; iintro H5
  iapply (wp_load_blk ho) $$ H3; iintro H3
  iapply (wp_load_blk ho) $$ H4; iintro H4
  iapply (wp_load_blk ho) $$ H13; iintro H13
  iapply (wp_load_blk ho) $$ H13; iintro H13
  iapply (wp_store_blk ho) $$ H13; iintro H13
  iapply (wp_load_blk ho) $$ H14; iintro H14
  iapply (wp_load_blk ho) $$ H14; iintro H14
  iapply (wp_store_blk ho) $$ H14; iintro H14
  iapply (wp_call 𝒱₀ (c : Thread nD τ) none E (i 1).val (fun u hu => nomatch hu))
  have hloop := (while_sound c E i arg3 harg3 arg4 harg4 arg13 harg13 arg14 harg14 (ctx x) K V q3 q4 (i 1).val le_rfl
    (init x (blk K (i 1).val) (blk V (i 1).val))
    (putBlk (k0_pay6 (F := F)) (i 1).val (dkDiag x (blk K (i 1).val) (blk V (i 1).val) (blk (k0_pay6 (F := F)) (i 1).val)))
    (putBlk (k0_pay7 (F := F)) (i 1).val (dvDiag x (blk K (i 1).val) (blk V (i 1).val) (blk (k0_pay7 (F := F)) (i 1).val))))
  rw [show ctr (i 1).val (i 1).val = 0#32 from by unfold ctr; rw [Nat.sub_self]] at hloop
  iapply (hloop _)
  isplitl [H3]; · iexact H3
  isplitl [H4]; · iexact H4
  isplitl [H13]; · iexact H13
  isplitl [H14]; · iexact H14
  iintro %b ⟨H3, H4, H13, H14⟩
  generalize loop (ctx x) K V (i 1).val (init x (blk K (i 1).val) (blk V (i 1).val))
    (putBlk (k0_pay6 (F := F)) (i 1).val (dkDiag x (blk K (i 1).val) (blk V (i 1).val) (blk (k0_pay6 (F := F)) (i 1).val)))
    (putBlk (k0_pay7 (F := F)) (i 1).val (dvDiag x (blk K (i 1).val) (blk V (i 1).val) (blk (k0_pay7 (F := F)) (i 1).val))) = R
  unfold St.tup
  dsimp only
  iapply (wp_load_all 𝒱₀ (c : Thread nD τ) none E) $$ H10; iintro H10
  iapply (wp_store_all 𝒱₀ (c : Thread nD τ) none E) $$ H10; iintro H10
  rw [wp_ret]; imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxRecDepth 65536 in
set_option maxHeartbeats 8000000 in
theorem body_last (c : Dev nD) (E : Set ℕ) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .f32) (harg5 : arg5.IsWhole) (arg6 : Memref sig .tc .vmem S256x128 .bf16) (harg6 : arg6.IsWhole) (arg7 : Memref sig .tc .vmem S256x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S8192x128 .f32) (harg13 : arg13.IsWhole) (arg14 : Memref sig .tc .vmem S8192x128 .f32) (harg14 : arg14.IsWhole) (h0 : ¬ (i 1).val = 0) (h31 : (i 1).val = 31)
    (x : Ins F) (K V : Vec F S8192x128 .bf16) (DK DV : Vec F S8192x128 .f32) (A10 : Vec F S256x128 .bf16) (A11 A12 : Vec F S8192x128 .bf16)
    (q2 q3 q4 q5 q6 q7 q8 q9 : PosShare TreeShare) (Φ : PUnit → sProp 𝕄) :
    iprop(owns (c : Thread nD τ) arg2 q2 x.q ∗ owns (c : Thread nD τ) arg3 q3 K ∗ owns (c : Thread nD τ) arg4 q4 V ∗ owns (c : Thread nD τ) arg5 q5 x.o ∗ owns (c : Thread nD τ) arg6 q6 x.g ∗ owns (c : Thread nD τ) arg7 q7 x.mask ∗ owns (c : Thread nD τ) arg8 q8 x.after ∗ owns (c : Thread nD τ) arg9 q9 x.before
        ∗ owns (c : Thread nD τ) arg10 fullShare A10 ∗ owns (c : Thread nD τ) arg11 fullShare A11 ∗ owns (c : Thread nD τ) arg12 fullShare A12
        ∗ owns (c : Thread nD τ) arg13 fullShare DK ∗ owns (c : Thread nD τ) arg14 fullShare DV
        ∗ ((owns (c : Thread nD τ) arg2 q2 x.q ∗ owns (c : Thread nD τ) arg3 q3 K ∗ owns (c : Thread nD τ) arg4 q4 V ∗ owns (c : Thread nD τ) arg5 q5 x.o ∗ owns (c : Thread nD τ) arg6 q6 x.g ∗ owns (c : Thread nD τ) arg7 q7 x.mask ∗ owns (c : Thread nD τ) arg8 q8 x.after ∗ owns (c : Thread nD τ) arg9 q9 x.before
            ∗ owns (c : Thread nD τ) arg10 fullShare (dqOut (pointOut x K V (i 1).val DK DV).1) ∗ owns (c : Thread nD τ) arg11 fullShare (k0_pay2 (pointOut x K V (i 1).val DK DV).2.1) ∗ owns (c : Thread nD τ) arg12 fullShare (k0_pay3 (pointOut x K V (i 1).val DK DV).2.2)
            ∗ owns (c : Thread nD τ) arg13 fullShare (pointOut x K V (i 1).val DK DV).2.1 ∗ owns (c : Thread nD τ) arg14 fullShare (pointOut x K V (i 1).val DK DV).2.2) -∗ Φ ⟨⟩))
      ⊢ wp frame (wpE (defs₀ (F := F)) 𝒱₀ (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) Φ := by
  have hw : Scalar.cmpi .ne (Scalar.extui (Scalar.cmpi .eq (BitVec.ofNat 32 (i 1).val) 0#32) : BitVec 32) 0#32 = 0#1 := by
    have h := first_word ⟨(i 1).val, row_lt i⟩
    rwa [if_neg h0] at h
  have hc : k0_cond2 i = 1#1 := by rw [cond2_eq, if_pos h31]
  have z1 : ¬ (0#1 : BitVec 1) = 1#1 := by decide
  have ho := off1_eq i
  have hp : pointOut x K V (i 1).val DK DV = row x K V (i 1).val DK DV := by
    unfold pointOut start; rw [if_neg h0, if_neg h0]
  rw [hp]
  unfold row
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [hw, hc, z1, ↓reduceDIte, Prog.lift, Prog.bind_op, Prog.bind_ret, Prog.pure_eq_ret]
  iintro ⟨H2, H3, H4, H5, H6, H7, H8, H9, H10, H11, H12, H13, H14, Hk⟩
  iapply (wp_load_all 𝒱₀ (c : Thread nD τ) none E) $$ H8; iintro H8
  iapply (wp_load_all 𝒱₀ (c : Thread nD τ) none E) $$ H9; iintro H9
  iapply (wp_load_all 𝒱₀ (c : Thread nD τ) none E) $$ H7; iintro H7
  iapply (wp_load_all 𝒱₀ (c : Thread nD τ) none E) $$ H2; iintro H2
  iapply (wp_load_all 𝒱₀ (c : Thread nD τ) none E) $$ H6; iintro H6
  iapply (wp_load_all 𝒱₀ (c : Thread nD τ) none E) $$ H5; iintro H5
  iapply (wp_load_blk ho) $$ H3; iintro H3
  iapply (wp_load_blk ho) $$ H4; iintro H4
  iapply (wp_load_blk ho) $$ H13; iintro H13
  iapply (wp_load_blk ho) $$ H13; iintro H13
  iapply (wp_store_blk ho) $$ H13; iintro H13
  iapply (wp_load_blk ho) $$ H14; iintro H14
  iapply (wp_load_blk ho) $$ H14; iintro H14
  iapply (wp_store_blk ho) $$ H14; iintro H14
  iapply (wp_call 𝒱₀ (c : Thread nD τ) none E (i 1).val (fun u hu => nomatch hu))
  have hloop := (while_sound c E i arg3 harg3 arg4 harg4 arg13 harg13 arg14 harg14 (ctx x) K V q3 q4 (i 1).val le_rfl
    (init x (blk K (i 1).val) (blk V (i 1).val))
    (putBlk DK (i 1).val (dkDiag x (blk K (i 1).val) (blk V (i 1).val) (blk DK (i 1).val)))
    (putBlk DV (i 1).val (dvDiag x (blk K (i 1).val) (blk V (i 1).val) (blk DV (i 1).val))))
  rw [show ctr (i 1).val (i 1).val = 0#32 from by unfold ctr; rw [Nat.sub_self]] at hloop
  iapply (hloop _)
  isplitl [H3]; · iexact H3
  isplitl [H4]; · iexact H4
  isplitl [H13]; · iexact H13
  isplitl [H14]; · iexact H14
  iintro %b ⟨H3, H4, H13, H14⟩
  generalize loop (ctx x) K V (i 1).val (init x (blk K (i 1).val) (blk V (i 1).val))
    (putBlk DK (i 1).val (dkDiag x (blk K (i 1).val) (blk V (i 1).val) (blk DK (i 1).val)))
    (putBlk DV (i 1).val (dvDiag x (blk K (i 1).val) (blk V (i 1).val) (blk DV (i 1).val))) = R
  unfold St.tup
  dsimp only
  iapply (wp_load_all 𝒱₀ (c : Thread nD τ) none E) $$ H10; iintro H10
  iapply (wp_store_all 𝒱₀ (c : Thread nD τ) none E) $$ H10; iintro H10
  iapply (wp_load_all 𝒱₀ (c : Thread nD τ) none E) $$ H13; iintro H13
  iapply (wp_load_all 𝒱₀ (c : Thread nD τ) none E) $$ H11; iintro H11
  iapply (wp_store_all 𝒱₀ (c : Thread nD τ) none E) $$ H11; iintro H11
  iapply (wp_load_all 𝒱₀ (c : Thread nD τ) none E) $$ H14; iintro H14
  iapply (wp_load_all 𝒱₀ (c : Thread nD τ) none E) $$ H12; iintro H12
  iapply (wp_store_all 𝒱₀ (c : Thread nD τ) none E) $$ H12; iintro H12
  rw [wp_ret]; imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxRecDepth 65536 in
set_option maxHeartbeats 8000000 in
theorem body_mid (c : Dev nD) (E : Set ℕ) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .f32) (harg5 : arg5.IsWhole) (arg6 : Memref sig .tc .vmem S256x128 .bf16) (harg6 : arg6.IsWhole) (arg7 : Memref sig .tc .vmem S256x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S8192x128 .f32) (harg13 : arg13.IsWhole) (arg14 : Memref sig .tc .vmem S8192x128 .f32) (harg14 : arg14.IsWhole) (h0 : ¬ (i 1).val = 0) (h31 : ¬ (i 1).val = 31)
    (x : Ins F) (K V : Vec F S8192x128 .bf16) (DK DV : Vec F S8192x128 .f32) (A10 : Vec F S256x128 .bf16) (A11 A12 : Vec F S8192x128 .bf16)
    (q2 q3 q4 q5 q6 q7 q8 q9 : PosShare TreeShare) (Φ : PUnit → sProp 𝕄) :
    iprop(owns (c : Thread nD τ) arg2 q2 x.q ∗ owns (c : Thread nD τ) arg3 q3 K ∗ owns (c : Thread nD τ) arg4 q4 V ∗ owns (c : Thread nD τ) arg5 q5 x.o ∗ owns (c : Thread nD τ) arg6 q6 x.g ∗ owns (c : Thread nD τ) arg7 q7 x.mask ∗ owns (c : Thread nD τ) arg8 q8 x.after ∗ owns (c : Thread nD τ) arg9 q9 x.before
        ∗ owns (c : Thread nD τ) arg10 fullShare A10 ∗ owns (c : Thread nD τ) arg11 fullShare A11 ∗ owns (c : Thread nD τ) arg12 fullShare A12
        ∗ owns (c : Thread nD τ) arg13 fullShare DK ∗ owns (c : Thread nD τ) arg14 fullShare DV
        ∗ ((owns (c : Thread nD τ) arg2 q2 x.q ∗ owns (c : Thread nD τ) arg3 q3 K ∗ owns (c : Thread nD τ) arg4 q4 V ∗ owns (c : Thread nD τ) arg5 q5 x.o ∗ owns (c : Thread nD τ) arg6 q6 x.g ∗ owns (c : Thread nD τ) arg7 q7 x.mask ∗ owns (c : Thread nD τ) arg8 q8 x.after ∗ owns (c : Thread nD τ) arg9 q9 x.before
            ∗ owns (c : Thread nD τ) arg10 fullShare (dqOut (pointOut x K V (i 1).val DK DV).1) ∗ owns (c : Thread nD τ) arg11 fullShare A11 ∗ owns (c : Thread nD τ) arg12 fullShare A12
            ∗ owns (c : Thread nD τ) arg13 fullShare (pointOut x K V (i 1).val DK DV).2.1 ∗ owns (c : Thread nD τ) arg14 fullShare (pointOut x K V (i 1).val DK DV).2.2) -∗ Φ ⟨⟩))
      ⊢ wp frame (wpE (defs₀ (F := F)) 𝒱₀ (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) Φ := by
  have hw : Scalar.cmpi .ne (Scalar.extui (Scalar.cmpi .eq (BitVec.ofNat 32 (i 1).val) 0#32) : BitVec 32) 0#32 = 0#1 := by
    have h := first_word ⟨(i 1).val, row_lt i⟩
    rwa [if_neg h0] at h
  have hc : k0_cond2 i = 0#1 := by rw [cond2_eq, if_neg h31]
  have z1 : ¬ (0#1 : BitVec 1) = 1#1 := by decide
  have ho := off1_eq i
  have hp : pointOut x K V (i 1).val DK DV = row x K V (i 1).val DK DV := by
    unfold pointOut start; rw [if_neg h0, if_neg h0]
  rw [hp]
  unfold row
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [hw, hc, z1, ↓reduceDIte, Prog.lift, Prog.bind_op, Prog.bind_ret, Prog.pure_eq_ret]
  iintro ⟨H2, H3, H4, H5, H6, H7, H8, H9, H10, H11, H12, H13, H14, Hk⟩
  iapply (wp_load_all 𝒱₀ (c : Thread nD τ) none E) $$ H8; iintro H8
  iapply (wp_load_all 𝒱₀ (c : Thread nD τ) none E) $$ H9; iintro H9
  iapply (wp_load_all 𝒱₀ (c : Thread nD τ) none E) $$ H7; iintro H7
  iapply (wp_load_all 𝒱₀ (c : Thread nD τ) none E) $$ H2; iintro H2
  iapply (wp_load_all 𝒱₀ (c : Thread nD τ) none E) $$ H6; iintro H6
  iapply (wp_load_all 𝒱₀ (c : Thread nD τ) none E) $$ H5; iintro H5
  iapply (wp_load_blk ho) $$ H3; iintro H3
  iapply (wp_load_blk ho) $$ H4; iintro H4
  iapply (wp_load_blk ho) $$ H13; iintro H13
  iapply (wp_load_blk ho) $$ H13; iintro H13
  iapply (wp_store_blk ho) $$ H13; iintro H13
  iapply (wp_load_blk ho) $$ H14; iintro H14
  iapply (wp_load_blk ho) $$ H14; iintro H14
  iapply (wp_store_blk ho) $$ H14; iintro H14
  iapply (wp_call 𝒱₀ (c : Thread nD τ) none E (i 1).val (fun u hu => nomatch hu))
  have hloop := (while_sound c E i arg3 harg3 arg4 harg4 arg13 harg13 arg14 harg14 (ctx x) K V q3 q4 (i 1).val le_rfl
    (init x (blk K (i 1).val) (blk V (i 1).val))
    (putBlk DK (i 1).val (dkDiag x (blk K (i 1).val) (blk V (i 1).val) (blk DK (i 1).val)))
    (putBlk DV (i 1).val (dvDiag x (blk K (i 1).val) (blk V (i 1).val) (blk DV (i 1).val))))
  rw [show ctr (i 1).val (i 1).val = 0#32 from by unfold ctr; rw [Nat.sub_self]] at hloop
  iapply (hloop _)
  isplitl [H3]; · iexact H3
  isplitl [H4]; · iexact H4
  isplitl [H13]; · iexact H13
  isplitl [H14]; · iexact H14
  iintro %b ⟨H3, H4, H13, H14⟩
  generalize loop (ctx x) K V (i 1).val (init x (blk K (i 1).val) (blk V (i 1).val))
    (putBlk DK (i 1).val (dkDiag x (blk K (i 1).val) (blk V (i 1).val) (blk DK (i 1).val)))
    (putBlk DV (i 1).val (dvDiag x (blk K (i 1).val) (blk V (i 1).val) (blk DV (i 1).val))) = R
  unfold St.tup
  dsimp only
  iapply (wp_load_all 𝒱₀ (c : Thread nD τ) none E) $$ H10; iintro H10
  iapply (wp_store_all 𝒱₀ (c : Thread nD τ) none E) $$ H10; iintro H10
  rw [wp_ret]; imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.KernelIdeal.Hand

end
-- ==== Proof.KI.Run.lean ====
/- The run of `cc0_attn_bwd` whole: the blocks each grid point reads, the gradients accumulated point by point (`acc`), the proof data of
   the pipeline, the launch, and the frame. -/
module

public import proofs.«01_k».proof.Proof.KI.Body
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.Claim

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The program up to the kernel -/

/-- Core `c`'s buffers when the kernel is entered: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor

set_option maxHeartbeats 800000 in
theorem hmain (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main [hostOps0, hostOps0_1, hostOps0_2, hostOps0_3, hostOps0_4, hostOps0_5, hostOps0_6, hostOps0_7] (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ### What each grid point reads -/

/-- Window `w`'s block at point `t`, of its array as the kernel finds it. -/
def iblk (c : Dev nD) (w : Fin 11) (t : Fin grid0.N) : ((win0 w).xblock (grid0.coords t)).Idx → Elt F (win0 w).elt :=
  ((win0 w).blk t).view.read (Elt F) (V m c (Pipeline.arrRef spec0 w))

theorem held0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin grid0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1 {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin grid0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2 {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin grid0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3 {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin grid0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4 {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin grid0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held5 {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin grid0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem held6 {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin grid0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem held7 {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin grid0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The blocks point `t` reads whole. -/
def ins (c : Dev nD) (t : Fin grid0.N) : Ins F where
  q := iblk m c 0 t
  o := iblk m c 3 t
  g := iblk m c 4 t
  mask := iblk m c 5 t
  after := iblk m c 6 t
  before := iblk m c 7 t

/-- The keys and the values point `t` reads. -/
def keys (c : Dev nD) (t : Fin grid0.N) : Vec F S8192x128 .bf16 := iblk m c 1 t
def vals (c : Dev nD) (t : Fin grid0.N) : Vec F S8192x128 .bf16 := iblk m c 2 t

/-- What point `t` leaves, from the accumulated gradients `D`. -/
def ptOut (c : Dev nD) (t : Fin grid0.N) (D : Vec F S8192x128 .f32 × Vec F S8192x128 .f32) :
    St F × Vec F S8192x128 .f32 × Vec F S8192x128 .f32 :=
  pointOut (ins m c t) (keys m c t) (vals m c t) (grid0.coords t 1).val D.1 D.2

/-- The accumulated gradients before point `n`. -/
def acc (c : Dev nD) : ℕ → Vec F S8192x128 .f32 × Vec F S8192x128 .f32
  | 0 => (k0_pay6, k0_pay7)
  | n + 1 => if h : n < grid0.N then (ptOut m c ⟨n, h⟩ (acc c n)).2 else acc c n

theorem acc_succ (c : Dev nD) (t : Fin grid0.N) : acc m c (t.val + 1) = (ptOut m c t (acc m c t.val)).2 := by
  rw [acc, dif_pos t.isLt]

theorem coord1 (t : Fin grid0.N) : (grid0.coords t 1).val = t.val % 32 := by
  have e : (grid0.coords t 1).val = t.val / 1 % 32 := Pipeline.Grid.coords_val t 1 (by decide) rfl
  rwa [Nat.div_one] at e

theorem coord0 (t : Fin grid0.N) : (grid0.coords t 0).val = t.val / 32 := by
  have ht : t.val < 128 := Nat.lt_of_lt_of_eq t.isLt N_0
  have e : (grid0.coords t 0).val = t.val / 32 % 4 := Pipeline.Grid.coords_val t 0 (by decide) rfl
  rw [e]; omega

/-- At the first row block of a pair of heads what was accumulated before does not matter. -/
theorem ptOut_first (c : Dev nD) (t : Fin grid0.N) (h : (grid0.coords t 1).val = 0) (D D' : Vec F S8192x128 .f32 × Vec F S8192x128 .f32) :
    ptOut m c t D = ptOut m c t D' := by
  unfold ptOut pointOut start; simp only [h, ↓reduceIte]

/-! ### Where the accumulated outputs are stored -/

theorem idle9_at : ∀ t : Fin grid0.N, ¬ t.val % 32 = 31 → idle0 9 (grid0.coords t) = true := by decide +kernel
theorem idle9 (t : Fin grid0.N) (h : ¬ t.val % 32 = 31) : (cfg0 (F := F)).idle 9 ((cfg0 (F := F)).grid.coords t) = true := idle9_at t h
theorem noFlush9_at : ∀ t : Fin grid0.N, ¬ t.val % 32 = 31 → win0_9.flush t = false := by decide +kernel
theorem noFlush9 (t : Fin grid0.N) (h : ¬ t.val % 32 = 31) : ((cfg0 (F := F)).win 9).flush t = false := noFlush9_at t h
theorem live9_at : ∀ t : Fin grid0.N, t.val % 32 = 31 → idle0 9 (grid0.coords t) = false := by decide +kernel
theorem live9 (t : Fin grid0.N) (h : t.val % 32 = 31) : (cfg0 (F := F)).idle 9 ((cfg0 (F := F)).grid.coords t) = false := live9_at t h
theorem idle10_at : ∀ t : Fin grid0.N, ¬ t.val % 32 = 31 → idle0 10 (grid0.coords t) = true := by decide +kernel
theorem idle10 (t : Fin grid0.N) (h : ¬ t.val % 32 = 31) : (cfg0 (F := F)).idle 10 ((cfg0 (F := F)).grid.coords t) = true := idle10_at t h
theorem noFlush10_at : ∀ t : Fin grid0.N, ¬ t.val % 32 = 31 → win0_10.flush t = false := by decide +kernel
theorem noFlush10 (t : Fin grid0.N) (h : ¬ t.val % 32 = 31) : ((cfg0 (F := F)).win 10).flush t = false := noFlush10_at t h
theorem live10_at : ∀ t : Fin grid0.N, t.val % 32 = 31 → idle0 10 (grid0.coords t) = false := by decide +kernel
theorem live10 (t : Fin grid0.N) (h : t.val % 32 = 31) : (cfg0 (F := F)).idle 10 ((cfg0 (F := F)).grid.coords t) = false := live10_at t h

/-! ### The proof data -/

abbrev sc0 : Memref sig .tc .vmem S8192x128 .f32 := Memref.whole cc0_scratch0
abbrev sc1 : Memref sig .tc .vmem S8192x128 .f32 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Before point `n` the scratch holds what is accumulated so far, anything before the first. -/
def PhiS (c : Dev nD) : (n : ℕ) → n ≤ grid0.N → sProp 𝕄
  | 0, _ => Pipeline.ΦA spec0 c
  | n + 1, _ => iprop(iprop(owns (c : Thread nD τ) sc0 fullShare (acc m c (n + 1)).1
      ∗ owns (c : Thread nD τ) sc1 fullShare (acc m c (n + 1)).2) ∗ (∃ r, prngReg c r))

theorem PhiS_succ (c : Dev nD) (n : ℕ) (hn : n < grid0.N) :
    PhiS m c (n + 1) hn = iprop(iprop(owns (c : Thread nD τ) sc0 fullShare (acc m c (n + 1)).1
      ∗ owns (c : Thread nD τ) sc1 fullShare (acc m c (n + 1)).2) ∗ (∃ r, prngReg c r)) := rfl

/-- Before any point the scratch holds something, from which the point leaves the same. -/
theorem PhiS_some (c : Dev nD) (t : Fin grid0.N) :
    PhiS m c t.val (Nat.le_of_lt t.isLt)
      ⊢ iprop(∃ D : Vec F S8192x128 .f32 × Vec F S8192x128 .f32, ⌜ptOut m c t D = ptOut m c t (acc m c t.val)⌝
          ∗ owns (c : Thread nD τ) sc0 fullShare D.1 ∗ owns (c : Thread nD τ) sc1 fullShare D.2 ∗ (∃ r, prngReg c r)) := by
  obtain ⟨n, hn⟩ := t
  cases n with
  | zero =>
    rw [show PhiS m c (⟨0, hn⟩ : Fin grid0.N).val (Nat.le_of_lt hn) = Pipeline.ΦA spec0 c from rfl, PhiA_eq]
    iintro ⟨⟨⟨%d0, H0⟩, ⟨%d1, H1⟩⟩, Hg⟩
    iexists (d0, d1)
    isplitr
    · ipureintro
      exact ptOut_first m c _ (by rw [coord1]; rfl) _ _
    isplitl [H0]; · iexact H0
    isplitl [H1]; · iexact H1
    iexact Hg
  | succ n =>
    rw [show PhiS m c (⟨n + 1, hn⟩ : Fin grid0.N).val (Nat.le_of_lt hn) = PhiS m c (n + 1) (Nat.le_of_lt hn) from rfl, PhiS_succ]
    iintro ⟨⟨H0, H1⟩, Hg⟩
    iexists (acc m c (n + 1))
    isplitr
    · ipureintro; rfl
    isplitl [H0]; · iexact H0
    isplitl [H1]; · iexact H1
    iexact Hg

/-- The pipeline's proof data on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOut (ptOut m c t (acc m c t.val)).1
    | ⟨9, _⟩ => k0_pay2 (acc m c (t.val + 1)).1
    | ⟨10, _⟩ => k0_pay3 (acc m c (t.val + 1)).2
  Φ t := PhiS m c t.val (Nat.le_of_lt_succ t.isLt)
  q w := Pipeline.shareOf spec0 w
  owed _ := 0

theorem A_eq (c : Dev nD) (w : Fin 11) : (dats m 0 c).A w = V m c (Pipeline.arrRef spec0 w) := by
  dsimp only [dats]

theorem Phi_castSucc (c : Dev nD) (t : Fin grid0.N) : (dats m 0 c).Φ t.castSucc = PhiS m c t.val (Nat.le_of_lt t.isLt) := by
  dsimp only [dats]; exact Pipeline.Dat.Φ_castSucc (PhiS m c) t

theorem after0 (c : Dev nD) (t : Fin grid0.N) : (dats m 0 c).after 0 t = iblk m c 0 t := by dsimp only [dats]; try rfl
theorem after1 (c : Dev nD) (t : Fin grid0.N) : (dats m 0 c).after 1 t = iblk m c 1 t := by dsimp only [dats]; try rfl
theorem after2 (c : Dev nD) (t : Fin grid0.N) : (dats m 0 c).after 2 t = iblk m c 2 t := by dsimp only [dats]; try rfl
theorem after3 (c : Dev nD) (t : Fin grid0.N) : (dats m 0 c).after 3 t = iblk m c 3 t := by dsimp only [dats]; try rfl
theorem after4 (c : Dev nD) (t : Fin grid0.N) : (dats m 0 c).after 4 t = iblk m c 4 t := by dsimp only [dats]; try rfl
theorem after5 (c : Dev nD) (t : Fin grid0.N) : (dats m 0 c).after 5 t = iblk m c 5 t := by dsimp only [dats]; try rfl
theorem after6 (c : Dev nD) (t : Fin grid0.N) : (dats m 0 c).after 6 t = iblk m c 6 t := by dsimp only [dats]; try rfl
theorem after7 (c : Dev nD) (t : Fin grid0.N) : (dats m 0 c).after 7 t = iblk m c 7 t := by dsimp only [dats]; try rfl
theorem after8 (c : Dev nD) (t : Fin grid0.N) : (dats m 0 c).after 8 t = dqOut (ptOut m c t (acc m c t.val)).1 := by dsimp only [dats]; try rfl
theorem after9 (c : Dev nD) (t : Fin grid0.N) : (dats m 0 c).after 9 t = k0_pay2 (acc m c (t.val + 1)).1 := by dsimp only [dats]; try rfl
theorem after10 (c : Dev nD) (t : Fin grid0.N) : (dats m 0 c).after 10 t = k0_pay3 (acc m c (t.val + 1)).2 := by dsimp only [dats]; try rfl
theorem before0 (c : Dev nD) (t : Fin grid0.N) (d) : (dats m 0 c).before 0 t d = iblk m c 0 t :=
  held0 m (dats m 0 c) (A_eq m c 0) (after0 m c) t d
theorem before1 (c : Dev nD) (t : Fin grid0.N) (d) : (dats m 0 c).before 1 t d = iblk m c 1 t :=
  held1 m (dats m 0 c) (A_eq m c 1) (after1 m c) t d
theorem before2 (c : Dev nD) (t : Fin grid0.N) (d) : (dats m 0 c).before 2 t d = iblk m c 2 t :=
  held2 m (dats m 0 c) (A_eq m c 2) (after2 m c) t d
theorem before3 (c : Dev nD) (t : Fin grid0.N) (d) : (dats m 0 c).before 3 t d = iblk m c 3 t :=
  held3 m (dats m 0 c) (A_eq m c 3) (after3 m c) t d
theorem before4 (c : Dev nD) (t : Fin grid0.N) (d) : (dats m 0 c).before 4 t d = iblk m c 4 t :=
  held4 m (dats m 0 c) (A_eq m c 4) (after4 m c) t d
theorem before5 (c : Dev nD) (t : Fin grid0.N) (d) : (dats m 0 c).before 5 t d = iblk m c 5 t :=
  held5 m (dats m 0 c) (A_eq m c 5) (after5 m c) t d
theorem before6 (c : Dev nD) (t : Fin grid0.N) (d) : (dats m 0 c).before 6 t d = iblk m c 6 t :=
  held6 m (dats m 0 c) (A_eq m c 6) (after6 m c) t d
theorem before7 (c : Dev nD) (t : Fin grid0.N) (d) : (dats m 0 c).before 7 t d = iblk m c 7 t :=
  held7 m (dats m 0 c) (A_eq m c 7) (after7 m c) t d

/-! ### The body at any point -/

abbrev ms0 (t : Fin grid0.N) : Memref sig .tc .vmem S256x128 .bf16 := win0_0.stage ((cfg0 (F := F)).slots t 0)
abbrev ms1 (t : Fin grid0.N) : Memref sig .tc .vmem S8192x128 .bf16 := win0_1.stage ((cfg0 (F := F)).slots t 1)
abbrev ms2 (t : Fin grid0.N) : Memref sig .tc .vmem S8192x128 .bf16 := win0_2.stage ((cfg0 (F := F)).slots t 2)
abbrev ms3 (t : Fin grid0.N) : Memref sig .tc .vmem S256x128 .f32 := win0_3.stage ((cfg0 (F := F)).slots t 3)
abbrev ms4 (t : Fin grid0.N) : Memref sig .tc .vmem S256x128 .bf16 := win0_4.stage ((cfg0 (F := F)).slots t 4)
abbrev ms5 (t : Fin grid0.N) : Memref sig .tc .vmem S256x256 .f32 := win0_5.stage ((cfg0 (F := F)).slots t 5)
abbrev ms6 (t : Fin grid0.N) : Memref sig .tc .vmem S256x256 .bf16 := win0_6.stage ((cfg0 (F := F)).slots t 6)
abbrev ms7 (t : Fin grid0.N) : Memref sig .tc .vmem S256x256 .bf16 := win0_7.stage ((cfg0 (F := F)).slots t 7)
abbrev ms8 (t : Fin grid0.N) : Memref sig .tc .vmem S256x128 .bf16 := win0_8.stage ((cfg0 (F := F)).slots t 8)
abbrev ms9 (t : Fin grid0.N) : Memref sig .tc .vmem S8192x128 .bf16 := win0_9.stage ((cfg0 (F := F)).slots t 9)
abbrev ms10 (t : Fin grid0.N) : Memref sig .tc .vmem S8192x128 .bf16 := win0_10.stage ((cfg0 (F := F)).slots t 10)

def bodyPre (c : Dev nD) (t : Fin grid0.N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d))
    ∗ (∃ d, owns (c : Thread nD τ) (ms3 (F := F) t) fullShare ((dats m 0 c).before 3 t d))
    ∗ (∃ d, owns (c : Thread nD τ) (ms4 (F := F) t) fullShare ((dats m 0 c).before 4 t d))
    ∗ (∃ d, owns (c : Thread nD τ) (ms5 (F := F) t) fullShare ((dats m 0 c).before 5 t d))
    ∗ (∃ d, owns (c : Thread nD τ) (ms6 (F := F) t) fullShare ((dats m 0 c).before 6 t d))
    ∗ (∃ d, owns (c : Thread nD τ) (ms7 (F := F) t) fullShare ((dats m 0 c).before 7 t d))
    ∗ (∃ d, owns (c : Thread nD τ) (ms8 (F := F) t) fullShare ((dats m 0 c).before 8 t d))
    ∗ (∃ d, owns (c : Thread nD τ) (ms9 (F := F) t) fullShare ((dats m 0 c).before 9 t d))
    ∗ (∃ d, owns (c : Thread nD τ) (ms10 (F := F) t) fullShare ((dats m 0 c).before 10 t d)))

def bodyPost (c : Dev nD) (t : Fin grid0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
theorem sound_body (c : Dev nD) (t : Fin grid0.N) :
    bodyPre m c t ⊢ wp frame (wpE (defs₀ (F := F)) 𝒱₀ c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ, Phi_castSucc m c t, acc_succ]
  rw [show (dats m 0 c).leavesExact 0 t = owns (c : Thread nD τ) (ms0 (F := F) t) fullShare ((dats m 0 c).after 0 t) from by
      unfold Dat.leavesExact; rw [show (cfg0 (F := F)).idle 0 ((cfg0 (F := F)).grid.coords t) = false from rfl]; try rfl, after0]
  rw [show (dats m 0 c).leavesExact 1 t = owns (c : Thread nD τ) (ms1 (F := F) t) fullShare ((dats m 0 c).after 1 t) from by
      unfold Dat.leavesExact; rw [show (cfg0 (F := F)).idle 1 ((cfg0 (F := F)).grid.coords t) = false from rfl]; try rfl, after1]
  rw [show (dats m 0 c).leavesExact 2 t = owns (c : Thread nD τ) (ms2 (F := F) t) fullShare ((dats m 0 c).after 2 t) from by
      unfold Dat.leavesExact; rw [show (cfg0 (F := F)).idle 2 ((cfg0 (F := F)).grid.coords t) = false from rfl]; try rfl, after2]
  rw [show (dats m 0 c).leavesExact 3 t = owns (c : Thread nD τ) (ms3 (F := F) t) fullShare ((dats m 0 c).after 3 t) from by
      unfold Dat.leavesExact; rw [show (cfg0 (F := F)).idle 3 ((cfg0 (F := F)).grid.coords t) = false from rfl]; try rfl, after3]
  rw [show (dats m 0 c).leavesExact 4 t = owns (c : Thread nD τ) (ms4 (F := F) t) fullShare ((dats m 0 c).after 4 t) from by
      unfold Dat.leavesExact; rw [show (cfg0 (F := F)).idle 4 ((cfg0 (F := F)).grid.coords t) = false from rfl]; try rfl, after4]
  rw [show (dats m 0 c).leavesExact 5 t = owns (c : Thread nD τ) (ms5 (F := F) t) fullShare ((dats m 0 c).after 5 t) from by
      unfold Dat.leavesExact; rw [show (cfg0 (F := F)).idle 5 ((cfg0 (F := F)).grid.coords t) = false from rfl]; try rfl, after5]
  rw [show (dats m 0 c).leavesExact 6 t = owns (c : Thread nD τ) (ms6 (F := F) t) fullShare ((dats m 0 c).after 6 t) from by
      unfold Dat.leavesExact; rw [show (cfg0 (F := F)).idle 6 ((cfg0 (F := F)).grid.coords t) = false from rfl]; try rfl, after6]
  rw [show (dats m 0 c).leavesExact 7 t = owns (c : Thread nD τ) (ms7 (F := F) t) fullShare ((dats m 0 c).after 7 t) from by
      unfold Dat.leavesExact; rw [show (cfg0 (F := F)).idle 7 ((cfg0 (F := F)).grid.coords t) = false from rfl]; try rfl, after7]
  rw [show (dats m 0 c).leavesExact 8 t = owns (c : Thread nD τ) (ms8 (F := F) t) fullShare ((dats m 0 c).after 8 t) from by
      unfold Dat.leavesExact; rw [show (cfg0 (F := F)).idle 8 ((cfg0 (F := F)).grid.coords t) = false from rfl]; try rfl, after8]
  by_cases h31 : t.val % 32 = 31
  · rw [show (dats m 0 c).leavesExact 9 t = owns (c : Thread nD τ) (ms9 (F := F) t) fullShare ((dats m 0 c).after 9 t) from by
          unfold Dat.leavesExact; rw [live9 t h31]; try rfl, after9]
    rw [show (dats m 0 c).leavesExact 10 t = owns (c : Thread nD τ) (ms10 (F := F) t) fullShare ((dats m 0 c).after 10 t) from by
          unfold Dat.leavesExact; rw [live10 t h31]; try rfl, after10]
    rw [acc_succ]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HΦ := (PhiS_some m c t) $$ HΦ
    icases HΦ with ⟨%D, %hD, HS0, HS1, Hg⟩
    rw [← hD]
    iapply (body_last c Set.univ (grid0.coords t) _ _ _ _ _ _ _ _ _ _ _ _ _ _ _ _ _ _ _ _ _ _ _ _ _ _ (by rw [coord1]; omega) (by rw [coord1]; omega) (ins m c t) (keys m c t) (vals m c t) D.1 D.2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dats m 0 c) 9 t (idle9 t h31) (noFlush9 t h31)]
    rw [Dat.leavesExact_idle (dats m 0 c) 10 t (idle10 t h31) (noFlush10 t h31)]
    by_cases h0 : t.val % 32 = 0
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      ihave HΦ := (PhiS_some m c t) $$ HΦ
      icases HΦ with ⟨%D, %hD, HS0, HS1, Hg⟩
      rw [← hD]
      iapply (body_first c Set.univ (grid0.coords t) _ _ _ _ _ _ _ _ _ _ _ _ _ _ _ _ _ _ _ _ _ _ _ _ _ _ (by rw [coord1]; omega) (by rw [coord1]; omega) (ins m c t) (keys m c t) (vals m c t) D.1 D.2)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      ihave HΦ := (PhiS_some m c t) $$ HΦ
      icases HΦ with ⟨%D, %hD, HS0, HS1, Hg⟩
      rw [← hD]
      iapply (body_mid c Set.univ (grid0.coords t) _ _ _ _ _ _ _ _ _ _ _ _ _ _ _ _ _ _ _ _ _ _ _ _ _ _ (by rw [coord1]; omega) (by rw [coord1]; omega) (ins m c t) (keys m c t) (vals m c t) D.1 D.2)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem defs₀_row (t : Fin (cfg0 (F := F)).N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last grid0.N) ⊢ Pipeline.ΦA spec0 c := by
  have hN : grid0.N = 127 + 1 := N_0
  have e : (dats m 0 c).Φ (Fin.last grid0.N) = PhiS m c (127 + 1) (by rw [hN]) := by
    show PhiS m c (Fin.last grid0.N).val (Nat.le_of_lt_succ (Fin.last grid0.N).isLt) = _
    congr 1
  rw [e, PhiS_succ m c 127 (by rw [hN]; decide), PhiA_eq]
  iintro ⟨⟨HS0, HS1⟩, Hg⟩
  isplitl [HS0 HS1]
  · isplitl [HS0]
    · iexists _; iexact HS0
    iexists _; iexact HS1
  iexact Hg

/-! ### The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (((dats m 0 c).arrAt_in 2 rfl _).trans ((A_eq m c 2).trans (V_main_arg0 m c))),
      ((h c).1 4).trans (((dats m 0 c).arrAt_in 4 rfl _).trans ((A_eq m c 4).trans (V_main_arg1 m c)))⟩) (run m ρ)

/-- The frame: the program terminates, its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_quiescent m ρ))

end Cert.KernelIdeal.Hand

end
-- ==== Proof.Spec.lean ====
/- The gradient of one head of stick-breaking attention, as a function of the real matrices of the logits and of the
   products of output gradients and values: the weights, their gradients, and the gradients of the logits. -/
module

public import Mathlib.Analysis.SpecialFunctions.Log.Basic
public import Mathlib.Analysis.SpecialFunctions.Pow.Real
public import Mathlib.Algebra.BigOperators.Intervals

@[expose] public section

noncomputable section

namespace Cert.Stick

open Finset

variable (z u : ℕ → ℕ → ℝ)

/-- The logarithm of the share that key `s` leaves to the keys before it. -/
def keep (r s : ℕ) : ℝ := -Real.log (1 + Real.exp (z r s))

/-- The logarithm of the share the keys between `s` and `r` leave. -/
def left (r s : ℕ) : ℝ := ∑ j ∈ Ico (s + 1) r, keep z r j

/-- The attention weight of key `s` at query `r`. -/
def wt (r s : ℕ) : ℝ := if s < r then Real.exp (z r s + keep z r s + left z r s) else 0

/-- A weight times its gradient. -/
def wg (r s : ℕ) : ℝ := wt z r s * u r s

/-- The sum of the weighted gradients of the keys before `s`. -/
def pre (r s : ℕ) : ℝ := ∑ j ∈ range s, wg z u r j

/-- The sum of the weighted gradients of a row. -/
def tot (r : ℕ) : ℝ := ∑ j ∈ range r, wg z u r j

/-- The gradient of the logit of key `s` at query `r`. -/
def dz (r s : ℕ) : ℝ :=
  if s < r then wg z u r s * Real.exp (keep z r s) - pre z u r s * Real.exp (z r s + keep z r s) else 0

theorem wt_of_le {r s : ℕ} (h : r ≤ s) : wt z r s = 0 := if_neg (by omega)

theorem wg_of_le {r s : ℕ} (h : r ≤ s) : wg z u r s = 0 := by rw [wg, wt_of_le z h, zero_mul]

theorem dz_of_le {r s : ℕ} (h : r ≤ s) : dz z u r s = 0 := if_neg (by omega)

/-- The sum over one block of `n` keys from `b`, of the terms from a bound on. -/
theorem sum_block (f : ℕ → ℝ) (b n r : ℕ) (P : ℕ → Prop) [DecidablePred P] (lo : ℕ) (hb : b ≤ lo) (hr : r ≤ b + n)
    (h : ∀ j < n, P j ↔ (lo ≤ b + j ∧ b + j < r)) : ∑ j ∈ range n, (if P j then f (b + j) else 0) = ∑ j ∈ Ico lo r, f j := by
  rw [← sum_filter]
  refine sum_bij (fun j _ => b + j) ?_ ?_ ?_ ?_
  · intro j hj
    rw [mem_filter, mem_range] at hj
    exact mem_Ico.2 ((h j hj.1).1 hj.2)
  · intro x _ y _ e
    exact Nat.add_left_cancel e
  · intro j hj
    rw [mem_Ico] at hj
    refine ⟨j - b, ?_, by omega⟩
    rw [mem_filter, mem_range]
    have e : b + (j - b) = j := by omega
    exact ⟨by omega, (h _ (by omega)).2 (by omega)⟩
  · intro _ _
    rfl

theorem sum_Ico_split (f : ℕ → ℝ) {a b c : ℕ} (h1 : a ≤ b) (h2 : b ≤ c) : ∑ j ∈ Ico a c, f j = ∑ j ∈ Ico a b, f j + ∑ j ∈ Ico b c, f j :=
  (sum_Ico_consecutive f h1 h2).symm

theorem sum_range_split (f : ℕ → ℝ) {a b : ℕ} (h : a ≤ b) : ∑ j ∈ range b, f j = ∑ j ∈ range a, f j + ∑ j ∈ Ico a b, f j :=
  (sum_range_add_sum_Ico f h).symm

/-- What the keys before `s` give is the row total less what the keys from `s` on give. -/
theorem pre_eq {r s : ℕ} (h : s ≤ r) : tot z u r - ∑ j ∈ Ico s r, wg z u r j = pre z u r s := by
  rw [tot, sum_range_split _ h, add_sub_cancel_right]
  rfl

/-- The logarithm to base two of the kept share, in the form that does not overflow. -/
theorem gate (x : ℝ) :
    min (0 - x * (Real.log 2)⁻¹) 0 - Real.log (1 + Real.rpow 2 (min (x * (Real.log 2)⁻¹) (0 - x * (Real.log 2)⁻¹))) * (Real.log 2)⁻¹
      = -Real.log (1 + Real.exp x) * (Real.log 2)⁻¹ := by
  have h2 : 0 < Real.log 2 := Real.log_pos (by norm_num)
  have hi : 0 < (Real.log 2)⁻¹ := inv_pos.2 h2
  have hp : ∀ y : ℝ, Real.rpow 2 (y * (Real.log 2)⁻¹) = Real.exp y := by
    intro y
    show (2 : ℝ) ^ (y * (Real.log 2)⁻¹) = _
    rw [Real.rpow_def_of_pos (by norm_num)]
    congr 1
    field_simp
  have hneg : (0 : ℝ) - x * (Real.log 2)⁻¹ = (-x) * (Real.log 2)⁻¹ := by ring
  rw [hneg]
  rcases le_total 0 x with hx | hx
  · have h1 : -x * (Real.log 2)⁻¹ ≤ 0 := mul_nonpos_of_nonpos_of_nonneg (by linarith) hi.le
    have h3 : -x * (Real.log 2)⁻¹ ≤ x * (Real.log 2)⁻¹ := by nlinarith
    rw [min_eq_left h1, min_eq_right h3, hp]
    have : Real.log (1 + Real.exp x) = x + Real.log (1 + Real.exp (-x)) := by
      have e : 1 + Real.exp x = Real.exp x * (1 + Real.exp (-x)) := by
        rw [mul_add, ← Real.exp_add]
        simp [add_comm]
      rw [e, Real.log_mul (Real.exp_pos _).ne' (by positivity), Real.log_exp]
    rw [this]
    ring
  · have h1 : 0 ≤ -x * (Real.log 2)⁻¹ := mul_nonneg (by linarith) hi.le
    have h3 : x * (Real.log 2)⁻¹ ≤ -x * (Real.log 2)⁻¹ := by nlinarith
    rw [min_eq_right h1, min_eq_left h3, hp]
    ring

theorem two_rpow (y : ℝ) : Real.rpow 2 (y * (Real.log 2)⁻¹) = Real.exp y := by
  have h2 : 0 < Real.log 2 := Real.log_pos (by norm_num)
  show (2 : ℝ) ^ (y * (Real.log 2)⁻¹) = _
  rw [Real.rpow_def_of_pos (by norm_num)]
  congr 1
  field_simp

end Cert.Stick

end
-- ==== Proof.KI.Ops.lean ====
/- Matrices of extended reals whose entries are real, and what the vector operations of `cc0_attn_bwd` do to them: one
   chain of one key block, and one chain of the diagonal block. -/
module

public import proofs.«01_k».proof.Proof.KI.Model
public import proofs.«01_k».proof.Proof.Spec
public import Idealize.ShloMosaic.Lib.Pointwise

@[expose] public section

set_option maxRecDepth 16384

noncomputable section

namespace Cert.KernelIdeal.Hand

open Idealize.ShloMosaic Idealize.SL.Sem
open Cert.KernelIdeal Cert.KernelIdeal.Gen

/-- Every entry of the matrix `x` is the real number `f` has there. -/
def Re {m n : ℕ} (x : (⟨2, ![m, n]⟩ : Shape).Idx → EReal) (f : ℕ → ℕ → ℝ) : Prop :=
  ∀ (a : Fin m) (j : Fin n), x (ix2 a j) = ((f a j : ℝ) : EReal)

/-- Every entry of the column `x` is the real number `f` has there. -/
def Co {m : ℕ} (x : (⟨2, ![m, 1]⟩ : Shape).Idx → EReal) (f : ℕ → ℝ) : Prop :=
  ∀ (a : Fin m) (j : Fin 1), x (ix2 a j) = ((f a : ℝ) : EReal)

/-- The bits of `x` say where `P` holds. -/
def Ms {m n : ℕ} (x : (⟨2, ![m, n]⟩ : Shape).Idx → BitVec 1) (P : ℕ → ℕ → Prop) [∀ a j, Decidable (P a j)] : Prop :=
  ∀ (a : Fin m) (j : Fin n), x (ix2 a j) = if P a j then 1#1 else 0#1

theorem Re.congr {m n : ℕ} {x : (⟨2, ![m, n]⟩ : Shape).Idx → EReal} {f g : ℕ → ℕ → ℝ} (h : Re x f)
    (e : ∀ a < m, ∀ j < n, f a j = g a j) : Re x g := fun a j => by rw [h a j, e a a.2 j j.2]

theorem Co.congr {m : ℕ} {x : (⟨2, ![m, 1]⟩ : Shape).Idx → EReal} {f g : ℕ → ℝ} (h : Co x f)
    (e : ∀ a < m, f a = g a) : Co x g := fun a j => by rw [h a j, e a a.2]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_min (x y : ℝ) : min (x : EReal) (y : EReal) = ((min x y : ℝ) : EReal) :=
  (EReal.coe_strictMono.monotone.map_min).symm

/-- The conversion of base two logarithms, at the extended reals. -/
theorem log2e : Named.named (F := Ideal) κ "log2_e" (φ := .f32) 0x3FB8AA3B#32 = (((Real.log 2)⁻¹ : ℝ) : EReal) := by
  show (κ "log2_e").getD _ = _
  rfl

theorem gateE (x : ℝ) :
    min (0 - (x : EReal) * (((Real.log 2)⁻¹ : ℝ) : EReal)) 0
        - Ideal.log (1 + FloatOps.exp2 (F := Ideal) (φ := .f32) (min ((x : EReal) * (((Real.log 2)⁻¹ : ℝ) : EReal)) (0 - (x : EReal) * (((Real.log 2)⁻¹ : ℝ) : EReal))))
          * (((Real.log 2)⁻¹ : ℝ) : EReal)
      = ((-Real.log (1 + Real.exp x) * (Real.log 2)⁻¹ : ℝ) : EReal) := by
  rw [← Stick.gate x]
  have h0 : (0 : EReal) = ((0 : ℝ) : EReal) := rfl
  have h1 : (1 : EReal) = ((1 : ℝ) : EReal) := rfl
  rw [h0, h1, ← EReal.coe_mul, ← EReal.coe_sub, coe_min, coe_min]
  show _ - Ideal.log (_ + Ideal.exp2 _) * _ = _
  rw [Ideal.exp2_coe, ← EReal.coe_add, Ideal.log_coe, if_neg, ← EReal.coe_mul, ← EReal.coe_sub]
  have : 0 < Real.rpow 2 (min (x * (Real.log 2)⁻¹) (0 - x * (Real.log 2)⁻¹)) := Real.rpow_pos_of_pos (by norm_num) _
  linarith

theorem exp2E (x : ℝ) : FloatOps.exp2 (F := Ideal) (φ := .f32) (x : EReal) = ((Real.rpow 2 x : ℝ) : EReal) := rfl

theorem sub_self_coe (x : ℝ) : (x : EReal) - (x : EReal) = ((0 : ℝ) : EReal) := by rw [← EReal.coe_sub, sub_self]

/-! ## One chain of one key block -/

theorem dot_zz {q : FVec Ideal S128x128 .bf16} {k : FVec Ideal S256x128 .bf16} {f g : ℕ → ℕ → ℝ} (hq : Re q f) (hk : Re k g) :
    Re (k0_pay122 (F := Ideal) q k) (fun a j => ∑ d ∈ Finset.range 128, f a d * g j d) := by
  intro a j
  pointwise [k0_pay122]
  simp only [hq _ _, hk _ _, ← EReal.coe_mul, ← coe_sum, Finset.sum_range]

/-- The products of a block's queries and keys, as the gates read them. -/
def zF (q : FVec Ideal S128x128 .bf16) (k : FVec Ideal S256x128 .bf16) : FVec Ideal S128x256 .f32 := k0_pay122 (F := Ideal) q k

theorem keep_zz {q : FVec Ideal S128x128 .bf16} {k : FVec Ideal S256x128 .bf16} {z : ℕ → ℕ → ℝ} (hz : Re (zF q k) z) :
    Re (k0_pay129 (F := Ideal) q k) (fun a j => Stick.keep z a j * (Real.log 2)⁻¹) := by
  intro a j
  have h := hz a j
  pointwise [zF, k0_pay122] at h
  pointwise [k0_pay129, k0_pay128]
  rw [h, log2e, gateE]
  rfl

theorem both_zz {q : FVec Ideal S128x128 .bf16} {k : FVec Ideal S256x128 .bf16} {z : ℕ → ℕ → ℝ} (hz : Re (zF q k) z) :
    Re (k0_pay130 (F := Ideal) q k) (fun a j => (z a j + Stick.keep z a j) * (Real.log 2)⁻¹) := by
  intro a j
  have h := hz a j
  pointwise [zF, k0_pay122] at h
  have hk := keep_zz hz a j
  show k0_pay129 (F := Ideal) q k (ix2 a j) + k0_pay128 (F := Ideal) q k (ix2 a j) = _
  rw [hk]
  pointwise [k0_pay128]
  rw [h, log2e, ← EReal.coe_mul, ← EReal.coe_add]
  congr 1
  ring

/-- The base two exponent of the weights of a block. -/
def xF (A : FVec Ideal S256x256 .bf16) (q : FVec Ideal S128x128 .bf16) (r : FVec Ideal S128x1 .f32) (k : FVec Ideal S256x128 .bf16) : FVec Ideal S128x256 .f32 :=
  k0_pay165 (F := Ideal) (k0_pay135 q r k) (k0_pay136 A (k0_pay133 q k) (k0_pay134 q k) (constant S128x256 .f32 0x00000000#32))

theorem sum_zz {A : FVec Ideal S256x256 .bf16} {x : FVec Ideal S128x256 .f32} {f g : ℕ → ℕ → ℝ} (hx : Re x f) (hA : Re A g) :
    Re (k0_pay136 (F := Ideal) A (truncf .bf16 x bitsLt_bf16_f32) (truncf .bf16 (subf x (extf .f32 (truncf .bf16 x bitsLt_bf16_f32) bitsLt_bf16_f32)) bitsLt_bf16_f32) (constant S128x256 .f32 0x00000000#32))
      (fun a c => ∑ j ∈ Finset.range 256, f a j * g j c) := by
  intro a j
  pointwise [k0_pay136]
  simp only [hx _ _, hA _ _, sub_self_coe, ← EReal.coe_mul, ← EReal.coe_add, ← coe_sum, Finset.sum_range, zero_mul, Finset.sum_const_zero, add_zero]

theorem exp_zz {A : FVec Ideal S256x256 .bf16} {q : FVec Ideal S128x128 .bf16} {r : FVec Ideal S128x1 .f32} {k : FVec Ideal S256x128 .bf16}
    {z g : ℕ → ℕ → ℝ} {f : ℕ → ℝ} (hz : Re (zF q k) z) (hr : Co r (fun a => f a * (Real.log 2)⁻¹)) (hA : Re A g) :
    Re (xF A q r k) (fun a c => (z a c + Stick.keep z a c + f a + ∑ j ∈ Finset.range 256, Stick.keep z a j * g j c) * (Real.log 2)⁻¹) := by
  intro a c
  have h1 := both_zz hz a c
  have h2 := hr a 0
  have h3 := sum_zz (keep_zz hz) hA a c
  show (k0_pay130 (F := Ideal) q k (ix2 a c) + broadcastTo S128x256 r broadcasts_S128x1_S128x256 (ix2 a c)) + k0_pay136 (F := Ideal) A _ _ _ (ix2 a c) = _
  rw [h1]
  refine (congrArg (fun t => _ + t) h3).trans ?_
  pointwise
  rw [h2, ← EReal.coe_add, ← EReal.coe_add]
  congr 1
  rw [add_mul _ (Finset.sum _ _), Finset.sum_mul]
  congr 1
  · ring
  · exact Finset.sum_congr rfl fun j _ => by ring

theorem row_zz {r : FVec Ideal S128x1 .f32} {x : FVec Ideal S128x256 .f32} {f : ℕ → ℝ} {g : ℕ → ℕ → ℝ} (hr : Co r f) (hx : Re x g) :
    Co (k0_pay137 (F := Ideal) r x) (fun a => f a + ∑ d ∈ Finset.range 256, g a d) := by
  intro a j
  pointwise [k0_pay137]
  simp only [hr _ _, hx _ _, ← EReal.coe_add, ← coe_sum, Finset.sum_range]

theorem wt_zz {x : FVec Ideal S128x256 .f32} {f : ℕ → ℕ → ℝ} (hx : Re x (fun a j => f a j * (Real.log 2)⁻¹)) :
    Re (k0_pay166 (F := Ideal) x) (fun a j => Real.exp (f a j)) := by
  intro a j
  pointwise [k0_pay166]
  rw [hx a j, exp2E, Stick.two_rpow]

theorem wg_zz {u x : FVec Ideal S128x256 .f32} {f g : ℕ → ℕ → ℝ} (hu : Re u g) (hx : Re x (fun a j => f a j * (Real.log 2)⁻¹)) :
    Re (k0_pay167 (F := Ideal) u x) (fun a j => g a j * Real.exp (f a j)) := by
  intro a j
  pointwise [k0_pay167, k0_pay166]
  rw [hx a j, exp2E, Stick.two_rpow, hu a j, ← EReal.coe_mul]

theorem suf_zz {B : FVec Ideal S256x256 .bf16} {e : FVec Ideal S128x1 .f32} {u x : FVec Ideal S128x256 .f32} {f g b : ℕ → ℕ → ℝ} {t : ℕ → ℝ}
    (hB : Re B b) (he : Co e t) (hu : Re u g) (hx : Re x (fun a j => f a j * (Real.log 2)⁻¹)) :
    Re (k0_pay168 (F := Ideal) B e u x) (fun a c => (∑ j ∈ Finset.range 256, (g a j * Real.exp (f a j)) * b j c) + t a) := by
  intro a c
  have h3 := sum_zz (wg_zz hu hx) hB a c
  have h2 := he a 0
  show k0_pay136 (F := Ideal) B _ _ _ (ix2 a c) + broadcastTo S128x256 e broadcasts_S128x1_S128x256 (ix2 a c) = _
  refine (congrArg (fun t => t + _) h3).trans ?_
  pointwise
  rw [h2, ← EReal.coe_add]

theorem dz_zz {t : FVec Ideal S128x1 .f32} {q : FVec Ideal S128x128 .bf16} {k : FVec Ideal S256x128 .bf16} {e s : FVec Ideal S128x256 .f32}
    {z f g : ℕ → ℕ → ℝ} {h : ℕ → ℝ} (ht : Co t h) (hz : Re (zF q k) z) (he : Re e f) (hs : Re s g) :
    Re (k0_pay181 (F := Ideal) t (k0_pay131 q k) (k0_pay132 q k) e s)
      (fun a j => f a j * Real.exp (Stick.keep z a j) - (h a - g a j) * Real.exp (z a j + Stick.keep z a j)) := by
  intro a j
  have h1 : k0_pay131 (F := Ideal) q k (ix2 a j) = _ := (congrArg (FloatOps.exp2 (F := Ideal) (φ := .f32)) (both_zz hz a j)).trans (exp2E _)
  have h2 : k0_pay132 (F := Ideal) q k (ix2 a j) = _ := (congrArg (FloatOps.exp2 (F := Ideal) (φ := .f32)) (keep_zz hz a j)).trans (exp2E _)
  rw [Stick.two_rpow] at h1 h2
  pointwise [k0_pay181]
  rw [h1, h2, ht, he a j, hs a j]
  simp only [← EReal.coe_sub, ← EReal.coe_mul]

theorem dq_zz {x : FVec Ideal S128x256 .bf16} {k : FVec Ideal S256x128 .bf16} {d : FVec Ideal S128x128 .f32} {f g h : ℕ → ℕ → ℝ}
    (hx : Re x f) (hk : Re k g) (hd : Re d h) :
    Re (addf (F := Ideal) d (matmul dot_S128x256_S256x128_S128x128_1_0_0_1_n_n none x k (constant S128x128 .f32 0x00000000#32)))
      (fun a c => h a c + ∑ j ∈ Finset.range 256, f a j * g j c) := by
  intro a j
  pointwise
  simp only [hx _ _, hk _ _, hd _ _, ← EReal.coe_mul, ← EReal.coe_add, ← coe_sum, Finset.sum_range]

theorem head_zz {x : FVec Ideal S128x256 .f32} {f : ℕ → ℕ → ℝ} (hx : Re x f) : Co (k0_pay183 (F := Ideal) x) (fun a => f a 0) := by
  intro a j
  pointwise [k0_pay183]
  exact hx a 0

theorem rows_zz {x y z w : FVec Ideal S128x256 .bf16} {q : FVec Ideal S512x128 .bf16} {o : FVec Ideal S256x128 .f32} {f0 f1 f2 f3 g h : ℕ → ℕ → ℝ}
    (hx : Re x f0) (hy : Re y f1) (hz : Re z f2) (hw : Re w f3) (hq : Re q g) (ho : Re o h) :
    Re (k0_pay5 (F := Ideal) q o (k0_pay194 x y z w)) (fun s d => h s d + (((∑ a ∈ Finset.range 128, f0 a s * g a d) + ∑ a ∈ Finset.range 128, f1 a s * g (128 + a) d)
      + ((∑ a ∈ Finset.range 128, f2 a s * g (256 + a) d) + ∑ a ∈ Finset.range 128, f3 a s * g (384 + a) d))) := by
  intro s d
  pointwise [k0_pay5, k0_pay194]
  rw [Fin.sum_univ_two_halves 256 256 rfl, Fin.sum_univ_two_halves 128 128 rfl, Fin.sum_univ_two_halves 128 128 rfl, ho s d]
  rw [EReal.coe_add, EReal.coe_add, EReal.coe_add, EReal.coe_add]
  simp only [coe_sum, Finset.sum_range, EReal.coe_mul, hx _ _, hy _ _, hz _ _, hw _ _, hq _ _]
  refine congrArg (_ + ·) (congrArg₂ (· + ·) (congrArg₂ (· + ·) ?_ ?_) (congrArg₂ (· + ·) ?_ ?_)) <;> refine Finset.sum_congr rfl fun i _ => ?_ <;> have hi := i.2
  · rw [dif_pos (by omega)]
  · rw [dif_neg (by omega), dif_pos (by omega), show 128 + (i : ℕ) - 128 = i by omega]
  · rw [dif_neg (by omega), dif_neg (by omega), dif_pos (by omega), show 256 + (i : ℕ) - 128 - 128 = i by omega]
  · rw [dif_neg (by omega), dif_neg (by omega), dif_neg (by omega), show 256 + (128 + (i : ℕ)) - 128 - 128 - 128 = i by omega, show 256 + (128 + (i : ℕ)) = 384 + i by omega]

/-! ## One chain of the diagonal block: the earlier half of the rows -/

/-- The products of queries and keys. -/
def zD0 (q : FVec Ideal S128x128 .bf16) (k : FVec Ideal S256x128 .bf16) : FVec Ideal S128x128 .f32 := k0_pay38 (F := Ideal) q k

/-- The products of output gradients and values. -/
def uD0 (g : FVec Ideal S128x128 .bf16) (v : FVec Ideal S256x128 .bf16) : FVec Ideal S128x128 .f32 := k0_pay40 (F := Ideal) g (k0_pay39 v) (constant S128x128 .f32 0x00000000#32)

theorem z_d0 {q : FVec Ideal S128x128 .bf16} {k : FVec Ideal S256x128 .bf16} {f g : ℕ → ℕ → ℝ} (hq : Re q f) (hk : Re k g) :
    Re (zD0 q k) (fun a j => ∑ d ∈ Finset.range 128, f a d * g j d) := by
  intro a j
  pointwise [zD0, k0_pay38]
  simp only [hq _ _, hk _ _, ← EReal.coe_mul, ← coe_sum, Finset.sum_range]

theorem u_d0 {q : FVec Ideal S128x128 .bf16} {k : FVec Ideal S256x128 .bf16} {f g : ℕ → ℕ → ℝ} (hq : Re q f) (hk : Re k g) :
    Re (uD0 q k) (fun a j => ∑ d ∈ Finset.range 128, f a d * g j d) := by
  intro a j
  pointwise [uD0, k0_pay40, k0_pay39]
  simp only [hq _ _, hk _ _, ← EReal.coe_mul, ← coe_sum, Finset.sum_range]

theorem keep_d0 {x : FVec Ideal S128x128 .f32} {z : ℕ → ℕ → ℝ} (hz : Re x z) :
    Re (k0_pay48 (F := Ideal) x) (fun a j => Stick.keep z a j * (Real.log 2)⁻¹) := by
  intro a j
  pointwise [k0_pay48, k0_pay47]
  rw [hz a j, log2e, gateE]
  rfl

theorem both_d0 {x : FVec Ideal S128x128 .f32} {z : ℕ → ℕ → ℝ} (hz : Re x z) :
    Re (k0_pay49 (F := Ideal) x) (fun a j => (z a j + Stick.keep z a j) * (Real.log 2)⁻¹) := by
  intro a j
  have hk := keep_d0 hz a j
  show k0_pay48 (F := Ideal) x (ix2 a j) + k0_pay47 (F := Ideal) x (ix2 a j) = _
  rw [hk]
  pointwise [k0_pay47]
  rw [hz a j, log2e, ← EReal.coe_mul, ← EReal.coe_add]
  congr 1
  ring

/-- The keeps of the keys before the query. -/
def mD0 (m : IVec S128x256 1) (x : FVec Ideal S128x128 .f32) : FVec Ideal S128x128 .f32 := k0_pay52 (F := Ideal) m x

theorem mask_d0 {m : IVec S128x256 1} {P : ℕ → ℕ → Prop} [∀ a j, Decidable (P a j)] {x : FVec Ideal S128x128 .f32} {z : ℕ → ℕ → ℝ} (hm : Ms m P) (hz : Re x z) :
    Re (mD0 m x) (fun a j => (if P a j then Stick.keep z a j else 0) * (Real.log 2)⁻¹) := by
  intro a j
  have hk := keep_d0 hz a j
  have hm' := hm a ⟨j, by omega⟩
  show Scalar.select (extractStridedSlice S128x128 ![0, 0] m slices_S128x256_o0_0_S128x128 (ix2 a j)) (k0_pay48 (F := Ideal) x (ix2 a j)) (Scalar.ofBits (F := Ideal) .f32 0x00000000#32) = _
  rw [hk]
  pointwise
  rw [hm']
  by_cases h : P a j
  · simp only [if_pos h]
    rfl
  · simp only [if_neg h, zero_mul]
    rfl

theorem sum_d0 {A : FVec Ideal S256x256 .bf16} {x : FVec Ideal S128x128 .f32} {f g : ℕ → ℕ → ℝ} (hx : Re x f) (hA : Re A g) :
    Re (addf (F := Ideal) (matmul dot_S128x128_S128x128_S128x128_1_0_0_1_n_n none (truncf .bf16 x bitsLt_bf16_f32) (extractStridedSlice S128x128 ![0, 0] A slices_S256x256_o0_0_S128x128) (constant S128x128 .f32 0x00000000#32)) (matmul dot_S128x128_S128x128_S128x128_1_0_0_1_n_n none (truncf .bf16 (subf x (extf .f32 (truncf .bf16 x bitsLt_bf16_f32) bitsLt_bf16_f32)) bitsLt_bf16_f32) (extractStridedSlice S128x128 ![0, 0] A slices_S256x256_o0_0_S128x128) (constant S128x128 .f32 0x00000000#32)))
      (fun a c => ∑ j ∈ Finset.range 128, f a j * g j c) := by
  intro a j
  pointwise
  simp only [hx _ _, hA _ _, sub_self_coe, ← EReal.coe_mul, ← EReal.coe_add, ← coe_sum, Finset.sum_range, zero_mul, Finset.sum_const_zero, add_zero]

/-- The base two exponent of the weights. -/
def xD0 (A : FVec Ideal S256x256 .bf16) (m : IVec S128x256 1) (x : FVec Ideal S128x128 .f32) : FVec Ideal S128x128 .f32 :=
  addf (F := Ideal) (k0_pay53 (k0_pay36 (F := Ideal)) x) (k0_pay54 (F := Ideal) A m x)

theorem exp_d0 {A : FVec Ideal S256x256 .bf16} {m : IVec S128x256 1} {P : ℕ → ℕ → Prop} [∀ a j, Decidable (P a j)] {x : FVec Ideal S128x128 .f32}
    {z g : ℕ → ℕ → ℝ} (hz : Re x z) (hm : Ms m P) (hA : Re A g) :
    Re (xD0 A m x) (fun a c => (z a c + Stick.keep z a c + ∑ j ∈ Finset.range 128, (if P a j then Stick.keep z a j else 0) * g j c) * (Real.log 2)⁻¹) := by
  intro a c
  have h1 := both_d0 hz a c
  have h3 := sum_d0 (mask_d0 hm hz) hA a c
  show (k0_pay49 (F := Ideal) x (ix2 a c) + broadcastTo S128x128 (k0_pay36 (F := Ideal)) broadcasts_S128x1_S128x128 (ix2 a c)) + k0_pay54 (F := Ideal) A m x (ix2 a c) = _
  rw [h1]
  refine (congrArg (fun t => _ + t) h3).trans ?_
  pointwise [k0_pay36]
  rw [← EReal.coe_add]
  congr 1
  rw [add_mul _ (Finset.sum _ _), Finset.sum_mul]
  congr 1
  exact Finset.sum_congr rfl fun j _ => by ring

theorem row_d0 {m : IVec S128x256 1} {x : FVec Ideal S128x128 .f32} {f : ℕ → ℕ → ℝ} (hx : Re (mD0 m x) f) :
    Co (k0_pay55 (F := Ideal) m (k0_pay36 (F := Ideal)) x) (fun a => ∑ d ∈ Finset.range 128, f a d) := by
  intro a j
  have h : ∀ j, mD0 m x (ix2 a j) = _ := hx a
  have e : k0_pay55 (F := Ideal) m (k0_pay36 (F := Ideal)) x (ix2 a j) = k0_pay36 (F := Ideal) (ix2 a j) + shapeCast S128x1 (multiReduction (F := Ideal) .add [1] S128 (mD0 m x) 0x00000000#32 reduces_S128x128_S128 (.inl rfl) rfl) shapeCasts_S128_S128x1 (ix2 a j) := rfl
  rw [e]
  generalize hw : mD0 m x = w at h ⊢
  pointwise [k0_pay36]
  simp only [h, ← coe_sum, Finset.sum_range]

theorem wt_d0 {m : IVec S128x256 1} {P : ℕ → ℕ → Prop} [∀ a j, Decidable (P a j)] {y y' : FVec Ideal S128x128 .f32} {f : ℕ → ℕ → ℝ} (hm : Ms m P)
    (hx : Re (addf (F := Ideal) y y') (fun a j => f a j * (Real.log 2)⁻¹)) :
    Re (k0_pay85 (F := Ideal) m y y') (fun a j => if P a j then Real.exp (f a j) else 0) := by
  intro a j
  have h := hx a j
  have hm' := hm a ⟨j, by omega⟩
  pointwise at h
  pointwise [k0_pay85]
  rw [h, exp2E, Stick.two_rpow, hm']
  by_cases h : P a j
  · simp only [if_pos h]
    rfl
  · simp only [if_neg h]
    rfl

theorem wg_d0 {m : IVec S128x256 1} {u y y' : FVec Ideal S128x128 .f32} {f g : ℕ → ℕ → ℝ} (hu : Re u g)
    (hw : Re (k0_pay85 (F := Ideal) m y y') f) :
    Re (k0_pay86 (F := Ideal) m u y y') (fun a j => g a j * f a j) := by
  intro a j
  show u (ix2 a j) * k0_pay85 (F := Ideal) m y y' (ix2 a j) = _
  rw [hu a j, hw a j, ← EReal.coe_mul]

theorem suf_d0 {B : FVec Ideal S256x256 .bf16} {m : IVec S128x256 1} {u y y' : FVec Ideal S128x128 .f32} {f b : ℕ → ℕ → ℝ}
    (hB : Re B b) (he : Re (k0_pay86 (F := Ideal) m u y y') f) :
    Re (k0_pay87 (F := Ideal) B m (k0_pay36 (F := Ideal)) u y y') (fun a c => ∑ j ∈ Finset.range 128, f a j * b j c) := by
  intro a c
  have h3 := sum_d0 he hB a c
  refine (show _ = _ + broadcastTo S128x128 (k0_pay36 (F := Ideal)) broadcasts_S128x1_S128x128 (ix2 a c) from rfl).trans ?_
  refine (congrArg (fun t => t + _) h3).trans ?_
  pointwise [k0_pay36]

theorem dz_d0 {m : IVec S128x256 1} {P : ℕ → ℕ → Prop} [∀ a j, Decidable (P a j)] {t : FVec Ideal S128x1 .f32} {x e s : FVec Ideal S128x128 .f32}
    {z f g : ℕ → ℕ → ℝ} {h : ℕ → ℝ} (hm : Ms m P) (ht : Co t h) (hz : Re x z) (he : Re e f) (hs : Re s g) :
    Re (k0_pay101 (F := Ideal) m t (k0_pay50 x) (k0_pay51 x) e s)
      (fun a j => if P a j then f a j * Real.exp (Stick.keep z a j) - (h a - g a j) * Real.exp (z a j + Stick.keep z a j) else 0) := by
  intro a j
  have h1 : k0_pay50 (F := Ideal) x (ix2 a j) = _ := (congrArg (FloatOps.exp2 (F := Ideal) (φ := .f32)) (both_d0 hz a j)).trans (exp2E _)
  have h2 : k0_pay51 (F := Ideal) x (ix2 a j) = _ := (congrArg (FloatOps.exp2 (F := Ideal) (φ := .f32)) (keep_d0 hz a j)).trans (exp2E _)
  have hm' := hm a ⟨j, by omega⟩
  rw [Stick.two_rpow] at h1 h2
  pointwise [k0_pay101]
  rw [h1, h2, ht, he a j, hs a j, hm']
  by_cases h : P a j
  · simp only [if_pos h, ← EReal.coe_sub, ← EReal.coe_mul]
    rfl
  · simp only [if_neg h]
    rfl

theorem head_d0 {x : FVec Ideal S128x128 .f32} {f : ℕ → ℕ → ℝ} (hx : Re x f) : Co (k0_pay103 (F := Ideal) x) (fun a => f a 0) := by
  intro a j
  pointwise [k0_pay103]
  exact hx a 0

theorem dq_d0 {x : FVec Ideal S128x128 .bf16} {k : FVec Ideal S256x128 .bf16} {f g : ℕ → ℕ → ℝ}
    (hx : Re x f) (hk : Re k g) :
    Re (addf (F := Ideal) (k0_pay37 (F := Ideal)) (matmul dot_S128x128_S128x128_S128x128_1_0_0_1_n_n none x (extractStridedSlice S128x128 ![0, 0] k slices_S256x128_o0_0_S128x128) (constant S128x128 .f32 0x00000000#32)))
      (fun a c => ∑ j ∈ Finset.range 128, f a j * g j c) := by
  intro a j
  pointwise [k0_pay37]
  simp only [hx _ _, hk _ _, ← EReal.coe_mul, ← EReal.coe_add, ← coe_sum, Finset.sum_range]

/-! ## One chain of the diagonal block: the later half of the rows -/

/-- The products of queries and keys. -/
def zD1 (q : FVec Ideal S128x128 .bf16) (k : FVec Ideal S256x128 .bf16) : FVec Ideal S128x256 .f32 := k0_pay41 (F := Ideal) q k

/-- The products of output gradients and values. -/
def uD1 (g : FVec Ideal S128x128 .bf16) (v : FVec Ideal S256x128 .bf16) : FVec Ideal S128x256 .f32 := k0_pay42 (F := Ideal) g v

theorem z_d1 {q : FVec Ideal S128x128 .bf16} {k : FVec Ideal S256x128 .bf16} {f g : ℕ → ℕ → ℝ} (hq : Re q f) (hk : Re k g) :
    Re (zD1 q k) (fun a j => ∑ d ∈ Finset.range 128, f a d * g j d) := by
  intro a j
  pointwise [zD1, k0_pay41]
  simp only [hq _ _, hk _ _, ← EReal.coe_mul, ← coe_sum, Finset.sum_range]

theorem u_d1 {q : FVec Ideal S128x128 .bf16} {k : FVec Ideal S256x128 .bf16} {f g : ℕ → ℕ → ℝ} (hq : Re q f) (hk : Re k g) :
    Re (uD1 q k) (fun a j => ∑ d ∈ Finset.range 128, f a d * g j d) := by
  intro a j
  pointwise [uD1, k0_pay42]
  simp only [hq _ _, hk _ _, ← EReal.coe_mul, ← coe_sum, Finset.sum_range]

theorem keep_d1 {x : FVec Ideal S128x256 .f32} {z : ℕ → ℕ → ℝ} (hz : Re x z) :
    Re (k0_pay58 (F := Ideal) x k0_pay56) (fun a j => Stick.keep z a j * (Real.log 2)⁻¹) := by
  intro a j
  pointwise [k0_pay58, k0_pay57, k0_pay56]
  rw [hz a j, log2e, gateE]
  rfl

theorem both_d1 {x : FVec Ideal S128x256 .f32} {z : ℕ → ℕ → ℝ} (hz : Re x z) :
    Re (k0_pay59 (F := Ideal) x k0_pay56) (fun a j => (z a j + Stick.keep z a j) * (Real.log 2)⁻¹) := by
  intro a j
  have hk := keep_d1 hz a j
  show k0_pay58 (F := Ideal) x k0_pay56 (ix2 a j) + k0_pay57 (F := Ideal) x k0_pay56 (ix2 a j) = _
  rw [hk]
  pointwise [k0_pay57, k0_pay56]
  rw [hz a j, log2e, ← EReal.coe_mul, ← EReal.coe_add]
  congr 1
  ring

/-- The keeps of the keys before the query. -/
def mD1 (m : IVec S128x256 1) (x : FVec Ideal S128x256 .f32) : FVec Ideal S128x256 .f32 := k0_pay62 (F := Ideal) m x k0_pay56

theorem mask_d1 {m : IVec S128x256 1} {P : ℕ → ℕ → Prop} [∀ a j, Decidable (P a j)] {x : FVec Ideal S128x256 .f32} {z : ℕ → ℕ → ℝ} (hm : Ms m P) (hz : Re x z) :
    Re (mD1 m x) (fun a j => (if P a j then Stick.keep z a j else 0) * (Real.log 2)⁻¹) := by
  intro a j
  have hk := keep_d1 hz a j
  have hm' := hm a j
  show Scalar.select (m (ix2 a j)) (k0_pay58 (F := Ideal) x k0_pay56 (ix2 a j)) (Scalar.ofBits (F := Ideal) .f32 0x00000000#32) = _
  rw [hk]
  pointwise
  rw [hm']
  by_cases h : P a j
  · simp only [if_pos h]
    rfl
  · simp only [if_neg h, zero_mul]
    rfl

theorem sum_d1 {A : FVec Ideal S256x256 .bf16} {x : FVec Ideal S128x256 .f32} {f g : ℕ → ℕ → ℝ} (hx : Re x f) (hA : Re A g) :
    Re (addf (F := Ideal) (matmul dot_S128x256_S256x256_S128x256_1_0_0_1_n_n none (truncf .bf16 x bitsLt_bf16_f32) A (constant S128x256 .f32 0x00000000#32)) (matmul dot_S128x256_S256x256_S128x256_1_0_0_1_n_n none (truncf .bf16 (subf x (extf .f32 (truncf .bf16 x bitsLt_bf16_f32) bitsLt_bf16_f32)) bitsLt_bf16_f32) A (constant S128x256 .f32 0x00000000#32)))
      (fun a c => ∑ j ∈ Finset.range 256, f a j * g j c) := by
  intro a j
  pointwise
  simp only [hx _ _, hA _ _, sub_self_coe, ← EReal.coe_mul, ← EReal.coe_add, ← coe_sum, Finset.sum_range, zero_mul, Finset.sum_const_zero, add_zero]

/-- The base two exponent of the weights. -/
def xD1 (A : FVec Ideal S256x256 .bf16) (m : IVec S128x256 1) (x : FVec Ideal S128x256 .f32) : FVec Ideal S128x256 .f32 :=
  addf (F := Ideal) (k0_pay63 (k0_pay36 (F := Ideal)) x k0_pay56) (k0_pay64 (F := Ideal) A m x k0_pay56)

theorem exp_d1 {A : FVec Ideal S256x256 .bf16} {m : IVec S128x256 1} {P : ℕ → ℕ → Prop} [∀ a j, Decidable (P a j)] {x : FVec Ideal S128x256 .f32}
    {z g : ℕ → ℕ → ℝ} (hz : Re x z) (hm : Ms m P) (hA : Re A g) :
    Re (xD1 A m x) (fun a c => (z a c + Stick.keep z a c + ∑ j ∈ Finset.range 256, (if P a j then Stick.keep z a j else 0) * g j c) * (Real.log 2)⁻¹) := by
  intro a c
  have h1 := both_d1 hz a c
  have h3 := sum_d1 (mask_d1 hm hz) hA a c
  show (k0_pay59 (F := Ideal) x k0_pay56 (ix2 a c) + broadcastTo S128x256 (k0_pay36 (F := Ideal)) broadcasts_S128x1_S128x256 (ix2 a c)) + k0_pay64 (F := Ideal) A m x k0_pay56 (ix2 a c) = _
  rw [h1]
  refine (congrArg (fun t => _ + t) h3).trans ?_
  pointwise [k0_pay36]
  rw [← EReal.coe_add]
  congr 1
  rw [add_mul _ (Finset.sum _ _), Finset.sum_mul]
  congr 1
  exact Finset.sum_congr rfl fun j _ => by ring

theorem row_d1 {m : IVec S128x256 1} {x : FVec Ideal S128x256 .f32} {f : ℕ → ℕ → ℝ} (hx : Re (mD1 m x) f) :
    Co (k0_pay65 (F := Ideal) m (k0_pay36 (F := Ideal)) x k0_pay56) (fun a => ∑ d ∈ Finset.range 256, f a d) := by
  intro a j
  have h : ∀ j, mD1 m x (ix2 a j) = _ := hx a
  have e : k0_pay65 (F := Ideal) m (k0_pay36 (F := Ideal)) x k0_pay56 (ix2 a j) = k0_pay36 (F := Ideal) (ix2 a j) + shapeCast S128x1 (multiReduction (F := Ideal) .add [1] S128 (mD1 m x) 0x00000000#32 reduces_S128x256_S128 (.inl rfl) rfl) shapeCasts_S128_S128x1 (ix2 a j) := rfl
  rw [e]
  generalize hw : mD1 m x = w at h ⊢
  pointwise [k0_pay36]
  simp only [h, ← coe_sum, Finset.sum_range]

theorem wt_d1 {m : IVec S128x256 1} {P : ℕ → ℕ → Prop} [∀ a j, Decidable (P a j)] {y y' : FVec Ideal S128x256 .f32} {f : ℕ → ℕ → ℝ} (hm : Ms m P)
    (hx : Re (addf (F := Ideal) y y') (fun a j => f a j * (Real.log 2)⁻¹)) :
    Re (k0_pay88 (F := Ideal) m y y') (fun a j => if P a j then Real.exp (f a j) else 0) := by
  intro a j
  have h := hx a j
  have hm' := hm a j
  pointwise at h
  pointwise [k0_pay88]
  rw [h, exp2E, Stick.two_rpow, hm']
  by_cases h : P a j
  · simp only [if_pos h]
    rfl
  · simp only [if_neg h]
    rfl

theorem wg_d1 {m : IVec S128x256 1} {u y y' : FVec Ideal S128x256 .f32} {f g : ℕ → ℕ → ℝ} (hu : Re u g)
    (hw : Re (k0_pay88 (F := Ideal) m y y') f) :
    Re (k0_pay89 (F := Ideal) m u y y') (fun a j => g a j * f a j) := by
  intro a j
  show u (ix2 a j) * k0_pay88 (F := Ideal) m y y' (ix2 a j) = _
  rw [hu a j, hw a j, ← EReal.coe_mul]

theorem suf_d1 {B : FVec Ideal S256x256 .bf16} {m : IVec S128x256 1} {u y y' : FVec Ideal S128x256 .f32} {f b : ℕ → ℕ → ℝ}
    (hB : Re B b) (he : Re (k0_pay89 (F := Ideal) m u y y') f) :
    Re (k0_pay90 (F := Ideal) B m (k0_pay36 (F := Ideal)) u y y') (fun a c => ∑ j ∈ Finset.range 256, f a j * b j c) := by
  intro a c
  have h3 := sum_d1 he hB a c
  refine (show _ = _ + broadcastTo S128x256 (k0_pay36 (F := Ideal)) broadcasts_S128x1_S128x256 (ix2 a c) from rfl).trans ?_
  refine (congrArg (fun t => t + _) h3).trans ?_
  pointwise [k0_pay36]

theorem dz_d1 {m : IVec S128x256 1} {P : ℕ → ℕ → Prop} [∀ a j, Decidable (P a j)] {t : FVec Ideal S128x1 .f32} {x e s : FVec Ideal S128x256 .f32}
    {z f g : ℕ → ℕ → ℝ} {h : ℕ → ℝ} (hm : Ms m P) (ht : Co t h) (hz : Re x z) (he : Re e f) (hs : Re s g) :
    Re (k0_pay107 (F := Ideal) m t (k0_pay60 x k0_pay56) (k0_pay61 x k0_pay56) e s)
      (fun a j => if P a j then f a j * Real.exp (Stick.keep z a j) - (h a - g a j) * Real.exp (z a j + Stick.keep z a j) else 0) := by
  intro a j
  have h1 : k0_pay60 (F := Ideal) x k0_pay56 (ix2 a j) = _ := (congrArg (FloatOps.exp2 (F := Ideal) (φ := .f32)) (both_d1 hz a j)).trans (exp2E _)
  have h2 : k0_pay61 (F := Ideal) x k0_pay56 (ix2 a j) = _ := (congrArg (FloatOps.exp2 (F := Ideal) (φ := .f32)) (keep_d1 hz a j)).trans (exp2E _)
  have hm' := hm a j
  rw [Stick.two_rpow] at h1 h2
  pointwise [k0_pay107]
  rw [h1, h2, ht, he a j, hs a j, hm']
  by_cases h : P a j
  · simp only [if_pos h, ← EReal.coe_sub, ← EReal.coe_mul]
    rfl
  · simp only [if_neg h]
    rfl

theorem head_d1 {x : FVec Ideal S128x256 .f32} {f : ℕ → ℕ → ℝ} (hx : Re x f) : Co (k0_pay109 (F := Ideal) x) (fun a => f a 0) := by
  intro a j
  pointwise [k0_pay109]
  exact hx a 0

theorem dq_d1 {x : FVec Ideal S128x256 .bf16} {k : FVec Ideal S256x128 .bf16} {f g : ℕ → ℕ → ℝ}
    (hx : Re x f) (hk : Re k g) :
    Re (addf (F := Ideal) (k0_pay37 (F := Ideal)) (matmul dot_S128x256_S256x128_S128x128_1_0_0_1_n_n none x k (constant S128x128 .f32 0x00000000#32)))
      (fun a c => ∑ j ∈ Finset.range 256, f a j * g j c) := by
  intro a j
  pointwise [k0_pay37]
  simp only [hx _ _, hk _ _, ← EReal.coe_mul, ← EReal.coe_add, ← coe_sum, Finset.sum_range]

theorem pad_d0 {x : FVec Ideal S128x128 .bf16} {f : ℕ → ℕ → ℝ} (hx : Re x f) (h0 : ∀ a < 128, ∀ j, 128 ≤ j → f a j = 0) : Re (k0_pay106 (F := Ideal) x) f := by
  intro a j
  pointwise [k0_pay106, k0_pay104]
  split
  · exact hx _ _
  · rw [h0 a a.2 j (by omega)]
    rfl

end Cert.KernelIdeal.Hand

end
-- ==== Proof.KI.Chain.lean ====
/- One chain of one key block and of the diagonal block, read as the gradient of stick-breaking attention. -/
module

public import proofs.«01_k».proof.Proof.KI.Ops

@[expose] public section

set_option maxRecDepth 16384

noncomputable section

namespace Cert.KernelIdeal.Hand

open Idealize.ShloMosaic Idealize.SL.Sem Finset
open Cert.KernelIdeal Cert.KernelIdeal.Gen

/-- The triangle above a row: the keys after. -/
def triA (a j : ℕ) : ℝ := if j < a then 1 else 0

/-- The triangle with its diagonal: the keys from one on. -/
def triB (a j : ℕ) : ℝ := if j ≤ a then 1 else 0

/-- The rows from `R` and the keys before block `b`: what one chain holds. -/
structure ChInv (z u K : ℕ → ℕ → ℝ) (R b : ℕ) (r e : FVec Ideal S128x1 .f32) (d : FVec Ideal S128x128 .f32) : Prop where
  run : Co r (fun a => (∑ j ∈ Ico b (R + a), Stick.keep z (R + a) j) * (Real.log 2)⁻¹)
  sum : Co e (fun a => ∑ j ∈ Ico b (R + a), Stick.wg z u (R + a) j)
  dq : Re d (fun a c => ∑ j ∈ Ico b (R + a), Stick.dz z u (R + a) j * K j c)

theorem sumA (f : ℕ → ℝ) (b c : ℕ) (hc : c < 256) : ∑ j ∈ range 256, f (b + j) * triA j c = ∑ j ∈ Ico (b + c + 1) (b + 256), f j := by
  rw [← Stick.sum_block f b 256 (b + 256) (fun j => c < j) (b + c + 1) (by omega) le_rfl (by intro j _; omega)]
  exact sum_congr rfl fun j _ => by rw [triA, mul_ite, mul_one, mul_zero]

theorem sumB (f : ℕ → ℝ) (b c : ℕ) (hc : c < 256) : ∑ j ∈ range 256, f (b + j) * triB j c = ∑ j ∈ Ico (b + c) (b + 256), f j := by
  rw [← Stick.sum_block f b 256 (b + 256) (fun j => c ≤ j) (b + c) (by omega) le_rfl (by intro j _; omega)]
  exact sum_congr rfl fun j _ => by rw [triB, mul_ite, mul_one, mul_zero]

theorem sum_all (f : ℕ → ℝ) (b : ℕ) : ∑ j ∈ range 256, f (b + j) = ∑ j ∈ Ico b (b + 256), f j := by
  rw [← Stick.sum_block f b 256 (b + 256) (fun _ => True) b le_rfl le_rfl (fun j _ => ⟨fun _ => ⟨by omega, by omega⟩, fun _ => trivial⟩)]
  exact sum_congr rfl fun j _ => by rw [if_pos trivial]

section Full

variable {z u Kf : ℕ → ℕ → ℝ} {R b : ℕ} {A B : FVec Ideal S256x256 .bf16} {q g : FVec Ideal S128x128 .bf16} {k v : FVec Ideal S256x128 .bf16}
  {r e t : FVec Ideal S128x1 .f32} {d : FVec Ideal S128x128 .f32}
  (hz : Re (zF q k) (fun a j => z (R + a) (b + j))) (hu : Re (k0_pay121 (F := Ideal) g v) (fun a j => u (R + a) (b + j)))
  (hA : Re A triA) (hB : Re B triB) (hk : Re k (fun a j => Kf (b + a) j)) (ht : Co t (fun a => Stick.tot z u (R + a)))
  (hb : b + 256 ≤ R) (H : ChInv z u Kf R (b + 256) r e d)

include hz hA hb H

theorem x_full : Re (xF A q r k) (fun a c => (z (R + a) (b + c) + Stick.keep z (R + a) (b + c) + Stick.left z (R + a) (b + c)) * (Real.log 2)⁻¹) := by
  refine (exp_zz hz H.run hA).congr ?_
  intro a ha c hc
  have e1 := sumA (Stick.keep z (R + a)) b c hc
  rw [show (∑ j ∈ range 256, Stick.keep (fun a j => z (R + a) (b + j)) a j * triA j c) = _ from e1]
  rw [Stick.left, Stick.sum_Ico_split (Stick.keep z (R + a)) (show b + c + 1 ≤ b + 256 by omega) (show b + 256 ≤ R + a by omega)]
  show (z (R + a) (b + c) + Stick.keep z (R + a) (b + c) + _ + _) * _ = _
  ring

theorem wt_full : Re (k0_pay166 (F := Ideal) (xF A q r k)) (fun a c => Stick.wt z (R + a) (b + c)) := by
  refine (wt_zz (x_full hz hA hb H)).congr ?_
  intro a ha c hc
  rw [Stick.wt, if_pos (by omega)]

include hu

theorem wg_full : Re (k0_pay167 (F := Ideal) (k0_pay121 g v) (xF A q r k)) (fun a c => Stick.wg z u (R + a) (b + c)) := by
  refine (wg_zz hu (x_full hz hA hb H)).congr ?_
  intro a ha c hc
  rw [Stick.wg, Stick.wt, if_pos (by omega), mul_comm]

include hB

theorem suf_full : Re (k0_pay168 (F := Ideal) B e (k0_pay121 g v) (xF A q r k)) (fun a c => ∑ j ∈ Ico (b + c) (R + a), Stick.wg z u (R + a) j) := by
  refine (suf_zz hB H.sum hu (x_full hz hA hb H)).congr ?_
  intro a ha c hc
  rw [Stick.sum_Ico_split (Stick.wg z u (R + a)) (show b + c ≤ b + 256 by omega) (show b + 256 ≤ R + a by omega), ← sumB _ b c hc]
  congr 1
  refine sum_congr rfl fun j hj => ?_
  rw [mem_range] at hj
  rw [Stick.wg, Stick.wt, if_pos (by omega), mul_comm (u _ _)]

include ht

/-- The gradients of the logits, of the blocks. -/
theorem dz_full : Re (k0_pay181 (F := Ideal) t (k0_pay131 q k) (k0_pay132 q k) (k0_pay167 (k0_pay121 g v) (xF A q r k)) (k0_pay168 B e (k0_pay121 g v) (xF A q r k)))
    (fun a c => Stick.dz z u (R + a) (b + c)) := by
  refine (dz_zz ht hz (wg_full hz hu hA hb H) (suf_full hz hu hA hB hb H)).congr ?_
  intro a ha c hc
  rw [Stick.dz, if_pos (by omega), Stick.pre_eq z u (by omega)]
  rfl

include hk

theorem step_full : ChInv z u Kf R b (k0_pay137 (F := Ideal) r (k0_pay129 q k)) (k0_pay183 (F := Ideal) (k0_pay168 B e (k0_pay121 g v) (xF A q r k)))
    (k0_pay182 (F := Ideal) t d k (k0_pay131 q k) (k0_pay132 q k) (k0_pay167 (k0_pay121 g v) (xF A q r k)) (k0_pay168 B e (k0_pay121 g v) (xF A q r k))) := by
  refine ⟨?_, ?_, ?_⟩
  · refine (row_zz H.run (keep_zz hz)).congr ?_
    intro a ha
    rw [Stick.sum_Ico_split (Stick.keep z (R + a)) (show b ≤ b + 256 by omega) (show b + 256 ≤ R + a by omega), add_mul, add_comm, ← sum_all, sum_mul, sum_mul]
    rfl
  · exact head_zz (suf_full hz hu hA hB hb H)
  · refine (dq_zz (dz_full hz hu hA hB ht hb H) hk H.dq).congr ?_
    intro a ha c hc
    rw [Stick.sum_Ico_split (fun j => Stick.dz z u (R + a) j * Kf j c) (show b ≤ b + 256 by omega) (show b + 256 ≤ R + a by omega), add_comm,
      ← sum_all (fun j => Stick.dz z u (R + a) j * Kf j c)]

end Full

section Diag0

variable {z u Kf : ℕ → ℕ → ℝ} {b : ℕ} {A B : FVec Ideal S256x256 .bf16} {q g : FVec Ideal S128x128 .bf16} {k v : FVec Ideal S256x128 .bf16}
  {m : IVec S128x256 1} {t : FVec Ideal S128x1 .f32}
  (hz : Re (zD0 q k) (fun a j => z (b + a) (b + j))) (hu : Re (uD0 g v) (fun a j => u (b + a) (b + j)))
  (hA : Re A triA) (hB : Re B triB) (hm : Ms m (fun a j => j < a)) (hk : Re k (fun a j => Kf (b + a) j)) (ht : Co t (fun a => Stick.tot z u (b + a)))

include hz hA hm

theorem x_diag0 : Re (xD0 A m (zD0 q k)) (fun a c => (z (b + a) (b + c) + Stick.keep z (b + a) (b + c) + Stick.left z (b + a) (b + c)) * (Real.log 2)⁻¹) := by
  refine (exp_d0 hz hm hA).congr ?_
  intro a ha c hc
  rw [Stick.left, ← Stick.sum_block (Stick.keep z (b + a)) b 128 (b + a) (fun j => c < j ∧ j < a) (b + c + 1) (by omega) (by omega) (by intro j _; omega)]
  congr 2
  refine sum_congr rfl fun j _ => ?_
  by_cases h1 : j < a <;> by_cases h2 : c < j <;> simp [h1, h2, triA] <;> rfl

theorem wt_diag0 : Re (k0_pay85 (F := Ideal) m (k0_pay53 (k0_pay36 (F := Ideal)) (zD0 q k)) (k0_pay54 A m (zD0 q k))) (fun a c => Stick.wt z (b + a) (b + c)) := by
  refine (wt_d0 hm (x_diag0 hz hA hm)).congr ?_
  intro a ha c hc
  rw [Stick.wt]
  exact if_congr (by omega) rfl rfl

include hu

theorem wg_diag0 : Re (k0_pay86 (F := Ideal) m (uD0 g v) (k0_pay53 (k0_pay36 (F := Ideal)) (zD0 q k)) (k0_pay54 A m (zD0 q k))) (fun a c => Stick.wg z u (b + a) (b + c)) := by
  refine (wg_d0 hu (wt_diag0 hz hA hm)).congr ?_
  intro a ha c hc
  rw [Stick.wg, mul_comm]

include hB

theorem suf_diag0 : Re (k0_pay87 (F := Ideal) B m (k0_pay36 (F := Ideal)) (uD0 g v) (k0_pay53 (k0_pay36 (F := Ideal)) (zD0 q k)) (k0_pay54 A m (zD0 q k))) (fun a c => ∑ j ∈ Ico (b + c) (b + a), Stick.wg z u (b + a) j) := by
  refine (suf_d0 hB (wg_diag0 hz hu hA hm)).congr ?_
  intro a ha c hc
  rw [← Stick.sum_block (Stick.wg z u (b + a)) b 128 (b + a) (fun j => c ≤ j ∧ j < a) (b + c) (by omega) (by omega) (by intro j _; omega)]
  refine sum_congr rfl fun j _ => ?_
  by_cases h2 : c ≤ j
  · by_cases h1 : j < a
    · simp [h1, h2, triB]
    · simp [h1, h2, triB]
      exact Stick.wg_of_le z u (by omega)
  · simp [h2, triB]

include ht

theorem dz_diag0 : Re (k0_pay101 (F := Ideal) m t (k0_pay50 (zD0 q k)) (k0_pay51 (zD0 q k)) (k0_pay86 (F := Ideal) m (uD0 g v) (k0_pay53 (k0_pay36 (F := Ideal)) (zD0 q k)) (k0_pay54 A m (zD0 q k))) (k0_pay87 (F := Ideal) B m (k0_pay36 (F := Ideal)) (uD0 g v) (k0_pay53 (k0_pay36 (F := Ideal)) (zD0 q k)) (k0_pay54 A m (zD0 q k)))) (fun a c => Stick.dz z u (b + a) (b + c)) := by
  refine (dz_d0 hm ht hz (wg_diag0 hz hu hA hm) (suf_diag0 hz hu hA hB hm)).congr ?_
  intro a ha c hc
  rw [Stick.dz]
  by_cases h : c < a
  · rw [if_pos h, if_pos (by omega), Stick.pre_eq z u (by omega)]
    rfl
  · rw [if_neg h, if_neg (by omega)]

include hk

theorem init_diag0 : ChInv z u Kf (b) b (k0_pay55 (F := Ideal) m (k0_pay36 (F := Ideal)) (zD0 q k)) (k0_pay103 (F := Ideal) (k0_pay87 (F := Ideal) B m (k0_pay36 (F := Ideal)) (uD0 g v) (k0_pay53 (k0_pay36 (F := Ideal)) (zD0 q k)) (k0_pay54 A m (zD0 q k)))) (k0_pay102 (F := Ideal) m t k0_pay37 k (k0_pay50 (zD0 q k)) (k0_pay51 (zD0 q k)) (k0_pay86 (F := Ideal) m (uD0 g v) (k0_pay53 (k0_pay36 (F := Ideal)) (zD0 q k)) (k0_pay54 A m (zD0 q k))) (k0_pay87 (F := Ideal) B m (k0_pay36 (F := Ideal)) (uD0 g v) (k0_pay53 (k0_pay36 (F := Ideal)) (zD0 q k)) (k0_pay54 A m (zD0 q k)))) := by
  refine ⟨?_, ?_, ?_⟩
  · refine (row_d0 (mask_d0 hm hz)).congr ?_
    intro a ha
    rw [← Stick.sum_block (Stick.keep z (b + a)) b 128 (b + a) (fun j => j < a) b le_rfl (by omega) (by intro j _; omega), sum_mul]
    rfl
  · exact head_d0 (suf_diag0 hz hu hA hB hm)
  · refine (dq_d0 (dz_diag0 hz hu hA hB hm ht) hk).congr ?_
    intro a ha c hc
    rw [← Stick.sum_block (fun j => Stick.dz z u (b + a) j * Kf j c) b 128 (b + a) (fun j => j < a) b le_rfl (by omega) (by intro j _; omega)]
    refine sum_congr rfl fun j _ => ?_
    by_cases h : j < a
    · rw [if_pos h]
    · rw [if_neg h, Stick.dz_of_le z u (by omega), zero_mul]

end Diag0

section Diag1

variable {z u Kf : ℕ → ℕ → ℝ} {b : ℕ} {A B : FVec Ideal S256x256 .bf16} {q g : FVec Ideal S128x128 .bf16} {k v : FVec Ideal S256x128 .bf16}
  {m : IVec S128x256 1} {t : FVec Ideal S128x1 .f32}
  (hz : Re (zD1 q k) (fun a j => z (b + 128 + a) (b + j))) (hu : Re (uD1 g v) (fun a j => u (b + 128 + a) (b + j)))
  (hA : Re A triA) (hB : Re B triB) (hm : Ms m (fun a j => j < 128 + a)) (hk : Re k (fun a j => Kf (b + a) j)) (ht : Co t (fun a => Stick.tot z u (b + 128 + a)))

include hz hA hm

theorem x_diag1 : Re (xD1 A m (zD1 q k)) (fun a c => (z (b + 128 + a) (b + c) + Stick.keep z (b + 128 + a) (b + c) + Stick.left z (b + 128 + a) (b + c)) * (Real.log 2)⁻¹) := by
  refine (exp_d1 hz hm hA).congr ?_
  intro a ha c hc
  rw [Stick.left, ← Stick.sum_block (Stick.keep z (b + 128 + a)) b 256 (b + 128 + a) (fun j => c < j ∧ j < 128 + a) (b + c + 1) (by omega) (by omega) (by intro j _; omega)]
  congr 2
  refine sum_congr rfl fun j _ => ?_
  by_cases h1 : j < 128 + a <;> by_cases h2 : c < j <;> simp [h1, h2, triA] <;> rfl

theorem wt_diag1 : Re (k0_pay88 (F := Ideal) m (k0_pay63 (k0_pay36 (F := Ideal)) (zD1 q k) (k0_pay56 (F := Ideal))) (k0_pay64 A m (zD1 q k) (k0_pay56 (F := Ideal)))) (fun a c => Stick.wt z (b + 128 + a) (b + c)) := by
  refine (wt_d1 hm (x_diag1 hz hA hm)).congr ?_
  intro a ha c hc
  rw [Stick.wt]
  exact if_congr (by omega) rfl rfl

include hu

theorem wg_diag1 : Re (k0_pay89 (F := Ideal) m (uD1 g v) (k0_pay63 (k0_pay36 (F := Ideal)) (zD1 q k) (k0_pay56 (F := Ideal))) (k0_pay64 A m (zD1 q k) (k0_pay56 (F := Ideal)))) (fun a c => Stick.wg z u (b + 128 + a) (b + c)) := by
  refine (wg_d1 hu (wt_diag1 hz hA hm)).congr ?_
  intro a ha c hc
  rw [Stick.wg, mul_comm]

include hB

theorem suf_diag1 : Re (k0_pay90 (F := Ideal) B m (k0_pay36 (F := Ideal)) (uD1 g v) (k0_pay63 (k0_pay36 (F := Ideal)) (zD1 q k) (k0_pay56 (F := Ideal))) (k0_pay64 A m (zD1 q k) (k0_pay56 (F := Ideal)))) (fun a c => ∑ j ∈ Ico (b + c) (b + 128 + a), Stick.wg z u (b + 128 + a) j) := by
  refine (suf_d1 hB (wg_diag1 hz hu hA hm)).congr ?_
  intro a ha c hc
  rw [← Stick.sum_block (Stick.wg z u (b + 128 + a)) b 256 (b + 128 + a) (fun j => c ≤ j ∧ j < 128 + a) (b + c) (by omega) (by omega) (by intro j _; omega)]
  refine sum_congr rfl fun j _ => ?_
  by_cases h2 : c ≤ j
  · by_cases h1 : j < 128 + a
    · simp [h1, h2, triB]
    · simp [h1, h2, triB]
      exact Stick.wg_of_le z u (by omega)
  · simp [h2, triB]

include ht

theorem dz_diag1 : Re (k0_pay107 (F := Ideal) m t (k0_pay60 (zD1 q k) (k0_pay56 (F := Ideal))) (k0_pay61 (zD1 q k) (k0_pay56 (F := Ideal))) (k0_pay89 (F := Ideal) m (uD1 g v) (k0_pay63 (k0_pay36 (F := Ideal)) (zD1 q k) (k0_pay56 (F := Ideal))) (k0_pay64 A m (zD1 q k) (k0_pay56 (F := Ideal)))) (k0_pay90 (F := Ideal) B m (k0_pay36 (F := Ideal)) (uD1 g v) (k0_pay63 (k0_pay36 (F := Ideal)) (zD1 q k) (k0_pay56 (F := Ideal))) (k0_pay64 A m (zD1 q k) (k0_pay56 (F := Ideal))))) (fun a c => Stick.dz z u (b + 128 + a) (b + c)) := by
  refine (dz_d1 hm ht hz (wg_diag1 hz hu hA hm) (suf_diag1 hz hu hA hB hm)).congr ?_
  intro a ha c hc
  rw [Stick.dz]
  by_cases h : c < 128 + a
  · rw [if_pos h, if_pos (by omega), Stick.pre_eq z u (by omega)]
    rfl
  · rw [if_neg h, if_neg (by omega)]

include hk

theorem init_diag1 : ChInv z u Kf (b + 128) b (k0_pay65 (F := Ideal) m (k0_pay36 (F := Ideal)) (zD1 q k) (k0_pay56 (F := Ideal))) (k0_pay109 (F := Ideal) (k0_pay90 (F := Ideal) B m (k0_pay36 (F := Ideal)) (uD1 g v) (k0_pay63 (k0_pay36 (F := Ideal)) (zD1 q k) (k0_pay56 (F := Ideal))) (k0_pay64 A m (zD1 q k) (k0_pay56 (F := Ideal))))) (k0_pay108 (F := Ideal) m t k0_pay37 k (k0_pay60 (zD1 q k) (k0_pay56 (F := Ideal))) (k0_pay61 (zD1 q k) (k0_pay56 (F := Ideal))) (k0_pay89 (F := Ideal) m (uD1 g v) (k0_pay63 (k0_pay36 (F := Ideal)) (zD1 q k) (k0_pay56 (F := Ideal))) (k0_pay64 A m (zD1 q k) (k0_pay56 (F := Ideal)))) (k0_pay90 (F := Ideal) B m (k0_pay36 (F := Ideal)) (uD1 g v) (k0_pay63 (k0_pay36 (F := Ideal)) (zD1 q k) (k0_pay56 (F := Ideal))) (k0_pay64 A m (zD1 q k) (k0_pay56 (F := Ideal))))) := by
  refine ⟨?_, ?_, ?_⟩
  · refine (row_d1 (mask_d1 hm hz)).congr ?_
    intro a ha
    rw [← Stick.sum_block (Stick.keep z (b + 128 + a)) b 256 (b + 128 + a) (fun j => j < 128 + a) b le_rfl (by omega) (by intro j _; omega), sum_mul]
    rfl
  · exact head_d1 (suf_diag1 hz hu hA hB hm)
  · refine (dq_d1 (dz_diag1 hz hu hA hB hm ht) hk).congr ?_
    intro a ha c hc
    rw [← Stick.sum_block (fun j => Stick.dz z u (b + 128 + a) j * Kf j c) b 256 (b + 128 + a) (fun j => j < 128 + a) b le_rfl (by omega) (by intro j _; omega)]
    refine sum_congr rfl fun j _ => ?_
    by_cases h : j < 128 + a
    · rw [if_pos h]
    · rw [if_neg h, Stick.dz_of_le z u (by omega), zero_mul]

end Diag1

end Cert.KernelIdeal.Hand

end
-- ==== Proof.KI.Row.lean ====
/- One row block of `cc0_attn_bwd`: the diagonal block, then the loop over the earlier key blocks, and the gradients they
   leave. -/
module

public import proofs.«01_k».proof.Proof.KI.Chain

@[expose] public section

set_option maxRecDepth 16384

noncomputable section

namespace Cert.KernelIdeal.Hand

open Idealize.ShloMosaic Idealize.SL.Sem Finset
open Cert.KernelIdeal Cert.KernelIdeal.Gen

theorem blk_re {φ : FTy} {X : FVec Ideal S8192x128 φ} {f : ℕ → ℕ → ℝ} (n : ℕ) (hn : n < 32) (h : Re X f) :
    Re (blk X n) (fun a j => f (256 * n + a) j) := by
  intro a j
  have e : n % 32 = n := Nat.mod_eq_of_lt hn
  have e2 : blk X n (ix2 a j) = X (ix2 (⟨256 * n + a, by omega⟩ : Fin 8192) j) := by
    refine congrArg X (funext fun x => ?_)
    refine Fin.ext ?_
    match x with
    | ⟨0, _⟩ =>
      show 256 * (n % 32) + 1 * a.val = 256 * n + a
      omega
    | ⟨1, _⟩ =>
      show 0 + 1 * j.val = j
      omega
  rw [e2, h]

theorem put_re {φ : FTy} {X : FVec Ideal S8192x128 φ} {w : FVec Ideal S256x128 φ} {f h g : ℕ → ℕ → ℝ} (n : ℕ) (hn : n < 32) (hX : Re X f) (hw : Re w h)
    (h1 : ∀ a < 256, ∀ j, g (256 * n + a) j = h a j) (h2 : ∀ s j, s < 256 * n ∨ 256 * n + 256 ≤ s → g s j = f s j) :
    Re (putBlk X n w) g := by
  intro s j
  have e : n % 32 = n := Nat.mod_eq_of_lt hn
  by_cases hs : 256 * n ≤ s.val ∧ s.val < 256 * n + 256
  · have e2 : putBlk X n w (ix2 s j) = w (ix2 (⟨s - 256 * n, by omega⟩ : Fin 256) j) := by
      have hh : ∀ a, off n a ≤ ((ix2 s j : S8192x128.Idx) a).val ∧ ((ix2 s j : S8192x128.Idx) a).val < off n a + S256x128.size a := by
        intro a
        match a with
        | ⟨0, _⟩ =>
          show 256 * (n % 32) ≤ s.val ∧ s.val < 256 * (n % 32) + 256
          omega
        | ⟨1, _⟩ =>
          show 0 ≤ j.val ∧ j.val < 0 + 128
          omega
      refine (dif_pos hh).trans ?_
      refine congrArg w (funext fun x => ?_)
      refine Fin.ext ?_
      match x with
      | ⟨0, _⟩ =>
        show s.val - 256 * (n % 32) = s - 256 * n
        omega
      | ⟨1, _⟩ =>
        show j.val - 0 = j
        omega
    have h3 := h1 (s - 256 * n) (by omega) j
    rw [show 256 * n + (s.val - 256 * n) = s by omega] at h3
    rw [e2, hw, h3]
  · have e2 : putBlk X n w (ix2 s j) = X (ix2 s j) := by
      refine dif_neg fun hh => hs ?_
      have := hh ⟨0, by decide⟩
      have e3 : 256 * (n % 32) ≤ s.val ∧ s.val < 256 * (n % 32) + 256 := this
      omega
    rw [e2, hX, h2 s j (by omega)]

/-- At the extended reals the loop's test holds: the bound it tests against is the least value. -/
theorem go_true (S : St Ideal) : go S := by
  have e : (Named.named κ "exp2_zero" 0xC3160000#32 : Ideal .f32) = (⊥ : EReal) := rfl
  show Scalar.cmpf .oge _ _ = 1#1
  rw [e]
  generalize k0_pay4 (F := Ideal) S.r0 S.r1 S.r2 S.r3 = y
  show BitVec.ofBool (decide ((⊥ : EReal) ≤ (y : EReal))) = 1#1
  rw [decide_eq_true bot_le]
  rfl

section Pair

variable (qs gs : ℕ → ℕ → ℕ → ℝ) (K V : ℕ → ℕ → ℝ)

/-- The logits of one of the two heads of a pair. -/
def zz (h r s : ℕ) : ℝ := ∑ d ∈ range 128, qs h r d * K s d

/-- The four chains' rows, stacked. -/
def stk (F : ℕ → ℕ → ℕ → ℝ) (i a d : ℕ) : ℝ :=
  if a < 128 then F 0 (256 * i + a) d else if a < 256 then F 0 (256 * i + 128 + (a - 128)) d
  else if a < 384 then F 1 (256 * i + (a - 256)) d else F 1 (256 * i + 128 + (a - 384)) d

/-- What row block `i` adds to the gradients of the keys or the values. -/
def ck (X F : ℕ → ℕ → ℕ → ℝ) (i s d : ℕ) : ℝ :=
  ((∑ a ∈ range 128, X 0 (256 * i + a) s * F 0 (256 * i + a) d) + ∑ a ∈ range 128, X 0 (256 * i + 128 + a) s * F 0 (256 * i + 128 + a) d)
    + ((∑ a ∈ range 128, X 1 (256 * i + a) s * F 1 (256 * i + a) d) + ∑ a ∈ range 128, X 1 (256 * i + 128 + a) s * F 1 (256 * i + 128 + a) d)

/-- The gradients of the logits of one of the two heads. -/
def dzz (h : ℕ) : ℕ → ℕ → ℝ := Stick.dz (zz qs K h) (zz gs V h)

/-- The weights of one of the two heads. -/
def wtz (h : ℕ) : ℕ → ℕ → ℝ := Stick.wt (zz qs K h)

/-- The blocks one row block `i` reads hold the matrices `qs`, `gs`, scaled and masked, and the row totals. -/
structure CtxOk (C : Ctx Ideal) (i : ℕ) : Prop where
  q0 : Re C.q0 (fun a d => qs 0 (256 * i + a) d)
  g0 : Re C.g0 (fun a d => gs 0 (256 * i + a) d)
  q1 : Re C.q1 (fun a d => qs 0 (256 * i + 128 + a) d)
  g1 : Re C.g1 (fun a d => gs 0 (256 * i + 128 + a) d)
  q2 : Re C.q2 (fun a d => qs 1 (256 * i + a) d)
  g2 : Re C.g2 (fun a d => gs 1 (256 * i + a) d)
  q3 : Re C.q3 (fun a d => qs 1 (256 * i + 128 + a) d)
  g3 : Re C.g3 (fun a d => gs 1 (256 * i + 128 + a) d)
  after : Re C.after triA
  before : Re C.before triB
  t0 : Co C.t0 (fun a => Stick.tot (zz qs K 0) (zz gs V 0) (256 * i + a))
  t1 : Co C.t1 (fun a => Stick.tot (zz qs K 0) (zz gs V 0) (256 * i + 128 + a))
  t2 : Co C.t2 (fun a => Stick.tot (zz qs K 1) (zz gs V 1) (256 * i + a))
  t3 : Co C.t3 (fun a => Stick.tot (zz qs K 1) (zz gs V 1) (256 * i + 128 + a))
  qs : Re C.qs (stk qs i)
  gs : Re C.gs (stk gs i)

/-- The carried values of row block `i`, the keys before `b` to go. -/
structure Inv (S : St Ideal) (i b : ℕ) : Prop where
  c0 : ChInv (zz qs K 0) (zz gs V 0) K (256 * i) b S.r0 S.e0 S.d0
  c1 : ChInv (zz qs K 0) (zz gs V 0) K (256 * i + 128) b S.r1 S.e1 S.d1
  c2 : ChInv (zz qs K 1) (zz gs V 1) K (256 * i) b S.r2 S.e2 S.d2
  c3 : ChInv (zz qs K 1) (zz gs V 1) K (256 * i + 128) b S.r3 S.e3 S.d3

variable {qs gs K V} {C : Ctx Ideal} {i : ℕ} {kb vb : FVec Ideal S256x128 .bf16} {S : St Ideal} {b : ℕ}

theorem zz_full {h R : ℕ} {q : FVec Ideal S128x128 .bf16} (hq : Re q (fun a d => qs h (R + a) d)) (hk : Re kb (fun a d => K (b + a) d)) :
    Re (zF q kb) (fun a j => zz qs K h (R + a) (b + j)) := dot_zz hq hk

theorem uu_full {h R : ℕ} {g : FVec Ideal S128x128 .bf16} (hg : Re g (fun a d => gs h (R + a) d)) (hv : Re vb (fun a d => V (b + a) d)) :
    Re (k0_pay121 (F := Ideal) g vb) (fun a j => zz gs V h (R + a) (b + j)) := dot_zz hg hv

theorem zz_d0 {h : ℕ} {q : FVec Ideal S128x128 .bf16} (hq : Re q (fun a d => qs h (b + a) d)) (hk : Re kb (fun a d => K (b + a) d)) :
    Re (zD0 q kb) (fun a j => zz qs K h (b + a) (b + j)) := z_d0 hq hk

theorem uu_d0 {h : ℕ} {g : FVec Ideal S128x128 .bf16} (hg : Re g (fun a d => gs h (b + a) d)) (hv : Re vb (fun a d => V (b + a) d)) :
    Re (uD0 g vb) (fun a j => zz gs V h (b + a) (b + j)) := u_d0 hg hv

theorem zz_d1 {h : ℕ} {q : FVec Ideal S128x128 .bf16} (hq : Re q (fun a d => qs h (b + 128 + a) d)) (hk : Re kb (fun a d => K (b + a) d)) :
    Re (zD1 q kb) (fun a j => zz qs K h (b + 128 + a) (b + j)) := z_d1 hq hk

theorem uu_d1 {h : ℕ} {g : FVec Ideal S128x128 .bf16} (hg : Re g (fun a d => gs h (b + 128 + a) d)) (hv : Re vb (fun a d => V (b + a) d)) :
    Re (uD1 g vb) (fun a j => zz gs V h (b + 128 + a) (b + j)) := u_d1 hg hv

theorem step_inv (hC : CtxOk qs gs K V C i) (hk : Re kb (fun a d => K (b + a) d)) (hv : Re vb (fun a d => V (b + a) d)) (hb : b + 256 ≤ 256 * i)
    (H : Inv qs gs K V S i (b + 256)) : Inv qs gs K V (step C kb vb S) i b :=
  ⟨step_full (zz_full hC.q0 hk) (uu_full hC.g0 hv) hC.after hC.before hk hC.t0 hb H.c0,
   step_full (zz_full hC.q1 hk) (uu_full hC.g1 hv) hC.after hC.before hk hC.t1 (by omega) H.c1,
   step_full (zz_full hC.q2 hk) (uu_full hC.g2 hv) hC.after hC.before hk hC.t2 hb H.c2,
   step_full (zz_full hC.q3 hk) (uu_full hC.g3 hv) hC.after hC.before hk hC.t3 (by omega) H.c3⟩

theorem stk_sum (X F : ℕ → ℕ → ℕ → ℝ) (i s d : ℕ) (f0 f1 f2 f3 : ℕ → ℝ) (h0 : ∀ a < 128, f0 a = X 0 (256 * i + a) s) (h1 : ∀ a < 128, f1 a = X 0 (256 * i + 128 + a) s)
    (h2 : ∀ a < 128, f2 a = X 1 (256 * i + a) s) (h3 : ∀ a < 128, f3 a = X 1 (256 * i + 128 + a) s) :
    (((∑ a ∈ range 128, f0 a * stk F i a d) + ∑ a ∈ range 128, f1 a * stk F i (128 + a) d)
      + ((∑ a ∈ range 128, f2 a * stk F i (256 + a) d) + ∑ a ∈ range 128, f3 a * stk F i (384 + a) d)) = ck X F i s d := by
  unfold ck stk
  refine congrArg₂ (· + ·) (congrArg₂ (· + ·) ?_ ?_) (congrArg₂ (· + ·) ?_ ?_) <;> refine sum_congr rfl fun a ha => ?_ <;> rw [mem_range] at ha
  · rw [h0 a ha, if_pos (by omega)]
  · rw [h1 a ha, if_neg (by omega), if_pos (by omega), show 128 + a - 128 = a by omega]
  · rw [h2 a ha, if_neg (by omega), if_neg (by omega), if_pos (by omega), show 256 + a - 256 = a by omega]
  · rw [h3 a ha, if_neg (by omega), if_neg (by omega), if_neg (by omega), show 384 + a - 384 = a by omega]

theorem dkTile_re {old : FVec Ideal S256x128 .f32} {f : ℕ → ℕ → ℝ} (hC : CtxOk qs gs K V C i) (hk : Re kb (fun a d => K (b + a) d)) (hv : Re vb (fun a d => V (b + a) d)) (hb : b + 256 ≤ 256 * i)
    (H : Inv qs gs K V S i (b + 256)) (ho : Re old f) : Re (dkTile C kb vb S old) (fun s d => f s d + ck (dzz qs gs K V) qs i (b + s) d) := by
  have h := rows_zz (dz_full (zz_full hC.q0 hk) (uu_full hC.g0 hv) hC.after hC.before hC.t0 hb H.c0)
    (dz_full (zz_full hC.q1 hk) (uu_full hC.g1 hv) hC.after hC.before hC.t1 (by omega) H.c1)
    (dz_full (zz_full hC.q2 hk) (uu_full hC.g2 hv) hC.after hC.before hC.t2 hb H.c2)
    (dz_full (zz_full hC.q3 hk) (uu_full hC.g3 hv) hC.after hC.before hC.t3 (by omega) H.c3) hC.qs ho
  refine Re.congr (x := dkTile C kb vb S old) h ?_
  intro s _ d _
  exact congrArg (f s d + ·) (stk_sum (dzz qs gs K V) qs i (b + s) d _ _ _ _ (fun _ _ => rfl) (fun _ _ => rfl) (fun _ _ => rfl) (fun _ _ => rfl))

theorem dvTile_re {old : FVec Ideal S256x128 .f32} {f : ℕ → ℕ → ℝ} (hC : CtxOk qs gs K V C i) (hk : Re kb (fun a d => K (b + a) d)) (hb : b + 256 ≤ 256 * i)
    (H : Inv qs gs K V S i (b + 256)) (ho : Re old f) : Re (dvTile C kb vb S old) (fun s d => f s d + ck (wtz qs K) gs i (b + s) d) := by
  have h := rows_zz (wt_full (zz_full hC.q0 hk) hC.after hb H.c0) (wt_full (zz_full hC.q1 hk) hC.after (by omega) H.c1)
    (wt_full (zz_full hC.q2 hk) hC.after hb H.c2) (wt_full (zz_full hC.q3 hk) hC.after (by omega) H.c3) hC.gs ho
  refine Re.congr (x := dvTile C kb vb S old) h ?_
  intro s _ d _
  exact congrArg (f s d + ·) (stk_sum (wtz qs K) gs i (b + s) d _ _ _ _ (fun _ _ => rfl) (fun _ _ => rfl) (fun _ _ => rfl) (fun _ _ => rfl))

/-- The loop over the earlier key blocks. -/
theorem loop_re {Kx Vx : FVec Ideal S8192x128 .bf16} (hC : CtxOk qs gs K V C i) (hi : i < 32) (hK : Re Kx K) (hV : Re Vx V) (n : ℕ) :
    ∀ (S : St Ideal) (dk dv : FVec Ideal S8192x128 .f32) (f g : ℕ → ℕ → ℝ), n ≤ i → Inv qs gs K V S i (256 * n) → Re dk f → Re dv g →
      Inv qs gs K V (loop C Kx Vx n S dk dv).1 i 0
      ∧ Re (loop C Kx Vx n S dk dv).2.1 (fun s d => if s < 256 * n then f s d + ck (dzz qs gs K V) qs i s d else f s d)
      ∧ Re (loop C Kx Vx n S dk dv).2.2 (fun s d => if s < 256 * n then g s d + ck (wtz qs K) gs i s d else g s d) := by
  induction n with
  | zero =>
    intro S dk dv f g _ H hf hg
    refine ⟨H, hf.congr ?_, hg.congr ?_⟩ <;> intro s _ d _ <;> rw [if_neg (by omega)]
  | succ n ih =>
    intro S dk dv f g hn H hf hg
    have hk := blk_re n (by omega) hK
    have hv := blk_re n (by omega) hV
    have hb : 256 * n + 256 ≤ 256 * i := by omega
    have H' : Inv qs gs K V S i (256 * n + 256) := H
    rw [loop, if_pos (go_true S)]
    have h1 := put_re (g := fun s d => if 256 * n ≤ s ∧ s < 256 * n + 256 then f s d + ck (dzz qs gs K V) qs i s d else f s d) n (by omega) hf
      (dkTile_re hC hk hv hb H' (blk_re n (by omega) hf))
      (fun a ha j => by rw [if_pos (by omega)]) (fun s j h => by rw [if_neg (by omega)])
    have h2 := put_re (g := fun s d => if 256 * n ≤ s ∧ s < 256 * n + 256 then g s d + ck (wtz qs K) gs i s d else g s d) n (by omega) hg
      (dvTile_re (vb := blk Vx n) hC hk hb H' (blk_re n (by omega) hg))
      (fun a ha j => by rw [if_pos (by omega)]) (fun s j h => by rw [if_neg (by omega)])
    obtain ⟨a1, a2, a3⟩ := ih _ _ _ _ _ (by omega) (step_inv hC hk hv hb H') h1 h2
    refine ⟨a1, a2.congr ?_, a3.congr ?_⟩ <;> intro s _ d _ <;> try dsimp only
    all_goals
      by_cases c1 : s < 256 * n
      · rw [if_pos c1, if_neg (by omega), if_pos (by omega)]
      · rw [if_neg c1]
        exact if_congr (by omega) rfl rfl

section Diag

variable {x : Ins Ideal} (hC : CtxOk qs gs K V (ctx x) i) (hm0 : Ms (k0_pay11 (F := Ideal) x.mask) (fun a j => j < a))
  (hm1 : Ms (k0_pay12 (F := Ideal) x.mask) (fun a j => j < 128 + a))
  (hk : Re kb (fun a d => K (256 * i + a) d)) (hv : Re vb (fun a d => V (256 * i + a) d))

include hC hm0 hm1 hk hv

theorem init_inv : Inv qs gs K V (init x kb vb) i (256 * i) :=
  ⟨init_diag0 (zz_d0 hC.q0 hk) (uu_d0 hC.g0 hv) hC.after hC.before hm0 hk hC.t0,
   init_diag1 (zz_d1 hC.q1 hk) (uu_d1 hC.g1 hv) hC.after hC.before hm1 hk hC.t1,
   init_diag0 (zz_d0 hC.q2 hk) (uu_d0 hC.g2 hv) hC.after hC.before hm0 hk hC.t2,
   init_diag1 (zz_d1 hC.q3 hk) (uu_d1 hC.g3 hv) hC.after hC.before hm1 hk hC.t3⟩

theorem dkDiag_re {old : FVec Ideal S256x128 .f32} {f : ℕ → ℕ → ℝ} (ho : Re old f) :
    Re (dkDiag x kb vb old) (fun s d => f s d + ck (dzz qs gs K V) qs i (256 * i + s) d) := by
  have p0 := pad_d0 (dz_diag0 (zz_d0 hC.q0 hk) (uu_d0 hC.g0 hv) hC.after hC.before hm0 hC.t0) (fun a _ j _ => Stick.dz_of_le _ _ (by omega))
  have p2 := pad_d0 (dz_diag0 (zz_d0 hC.q2 hk) (uu_d0 hC.g2 hv) hC.after hC.before hm0 hC.t2) (fun a _ j _ => Stick.dz_of_le _ _ (by omega))
  have h := rows_zz p0 (dz_diag1 (zz_d1 hC.q1 hk) (uu_d1 hC.g1 hv) hC.after hC.before hm1 hC.t1) p2
    (dz_diag1 (zz_d1 hC.q3 hk) (uu_d1 hC.g3 hv) hC.after hC.before hm1 hC.t3) hC.qs ho
  refine Re.congr (x := dkDiag x kb vb old) h ?_
  intro s _ d _
  exact congrArg (f s d + ·) (stk_sum (dzz qs gs K V) qs i (256 * i + s) d _ _ _ _ (fun _ _ => rfl) (fun _ _ => rfl) (fun _ _ => rfl) (fun _ _ => rfl))

theorem dvDiag_re {old : FVec Ideal S256x128 .f32} {f : ℕ → ℕ → ℝ} (ho : Re old f) :
    Re (dvDiag x kb vb old) (fun s d => f s d + ck (wtz qs K) gs i (256 * i + s) d) := by
  have p0 := pad_d0 (wt_diag0 (zz_d0 hC.q0 hk) hC.after hm0) (fun a _ j _ => Stick.wt_of_le _ (by omega))
  have p2 := pad_d0 (wt_diag0 (zz_d0 hC.q2 hk) hC.after hm0) (fun a _ j _ => Stick.wt_of_le _ (by omega))
  have h := rows_zz p0 (wt_diag1 (zz_d1 hC.q1 hk) hC.after hm1) p2 (wt_diag1 (zz_d1 hC.q3 hk) hC.after hm1) hC.gs ho
  refine Re.congr (x := dvDiag x kb vb old) h ?_
  intro s _ d _
  exact congrArg (f s d + ·) (stk_sum (wtz qs K) gs i (256 * i + s) d _ _ _ _ (fun _ _ => rfl) (fun _ _ => rfl) (fun _ _ => rfl) (fun _ _ => rfl))

end Diag

theorem ck_zero (X F : ℕ → ℕ → ℕ → ℝ) (h : ∀ h r s, r ≤ s → X h r s = 0) (i s d : ℕ) (hs : 256 * i + 256 ≤ s) : ck X F i s d = 0 := by
  unfold ck
  rw [sum_eq_zero, sum_eq_zero, sum_eq_zero, sum_eq_zero] <;> try simp
  all_goals
    intro a ha
    left
    exact h _ _ _ (by omega)

/-- One row block whole. -/
theorem row_re {x : Ins Ideal} {Kx Vx : FVec Ideal S8192x128 .bf16} {dk dv : FVec Ideal S8192x128 .f32} {f g : ℕ → ℕ → ℝ}
    (hC : CtxOk qs gs K V (ctx x) i) (hm0 : Ms (k0_pay11 (F := Ideal) x.mask) (fun a j => j < a))
    (hm1 : Ms (k0_pay12 (F := Ideal) x.mask) (fun a j => j < 128 + a)) (hi : i < 32) (hK : Re Kx K) (hV : Re Vx V) (hf : Re dk f) (hg : Re dv g) :
    Inv qs gs K V (row x Kx Vx i dk dv).1 i 0
    ∧ Re (row x Kx Vx i dk dv).2.1 (fun s d => f s d + ck (dzz qs gs K V) qs i s d)
    ∧ Re (row x Kx Vx i dk dv).2.2 (fun s d => g s d + ck (wtz qs K) gs i s d) := by
  have hk := blk_re i hi hK
  have hv := blk_re i hi hV
  have h1 := put_re (g := fun s d => if 256 * i ≤ s ∧ s < 256 * i + 256 then f s d + ck (dzz qs gs K V) qs i s d else f s d) i hi hf
    (dkDiag_re hC hm0 hm1 hk hv (blk_re i hi hf))
    (fun a ha j => by rw [if_pos (by omega)]) (fun s j h => by rw [if_neg (by omega)])
  have h2 := put_re (g := fun s d => if 256 * i ≤ s ∧ s < 256 * i + 256 then g s d + ck (wtz qs K) gs i s d else g s d) i hi hg
    (dvDiag_re hC hm0 hm1 hk hv (blk_re i hi hg))
    (fun a ha j => by rw [if_pos (by omega)]) (fun s j h => by rw [if_neg (by omega)])
  obtain ⟨a1, a2, a3⟩ := loop_re hC hi hK hV i _ _ _ _ _ le_rfl (init_inv hC hm0 hm1 hk hv) h1 h2
  refine ⟨a1, Re.congr (x := (row x Kx Vx i dk dv).2.1) a2 ?_, Re.congr (x := (row x Kx Vx i dk dv).2.2) a3 ?_⟩ <;> intro s _ d _ <;> try dsimp only
  · by_cases c1 : s < 256 * i
    · rw [if_pos c1, if_neg (by omega)]
    · rw [if_neg c1]
      by_cases c2 : s < 256 * i + 256
      · rw [if_pos (by omega)]
      · rw [if_neg (by omega), ck_zero (dzz qs gs K V) qs (fun _ _ _ h => Stick.dz_of_le _ _ h) i s d (by omega), add_zero]
  · by_cases c1 : s < 256 * i
    · rw [if_pos c1, if_neg (by omega)]
    · rw [if_neg c1]
      by_cases c2 : s < 256 * i + 256
      · rw [if_pos (by omega)]
      · rw [if_neg (by omega), ck_zero (wtz qs K) gs (fun _ _ _ h => Stick.wt_of_le _ h) i s d (by omega), add_zero]

end Pair

end Cert.KernelIdeal.Hand

end
-- ==== Proof.KI.Ctx.lean ====
/- What one row block reads of the blocks held: the masked and scaled queries, the masked output gradients, the row
   totals, the triangles; and the query gradients it stores. -/
module

public import proofs.«01_k».proof.Proof.KI.Row

@[expose] public section

set_option maxRecDepth 16384

noncomputable section

namespace Cert.KernelIdeal.Hand

open Idealize.ShloMosaic Idealize.SL.Sem Finset
open Cert.KernelIdeal Cert.KernelIdeal.Gen

/-- The queries of one of the two heads of a pair, scaled; zero in the other head's lanes. -/
def mq (Q : ℕ → ℕ → ℝ) (h r d : ℕ) : ℝ := if d / 64 = h then Q r d * (1 / 8) else 0

/-- The output gradients of one of the two heads of a pair; zero in the other head's lanes. -/
def mg (G : ℕ → ℕ → ℝ) (h r d : ℕ) : ℝ := if d / 64 = h then G r d else 0

/-- The causal mask. -/
def triC (a j : ℕ) : ℝ := if j < a then 1 else 0

/-- The blocks held at row block `i` of a pair of heads. -/
structure InsOk (x : Ins Ideal) (i : ℕ) (Q G O : ℕ → ℕ → ℝ) : Prop where
  q : Re x.q (fun a d => Q (256 * i + a) d)
  g : Re x.g (fun a d => G (256 * i + a) d)
  o : Re x.o (fun a d => O (256 * i + a) d)
  mask : Re x.mask triC
  after : Re x.after triA
  before : Re x.before triB

theorem eighth16 : Ideal.ofBits .bf16 0x3E00#16 = (((1 : ℝ) / 8 : ℝ) : EReal) := by
  simp [Ideal.ofBits, Ideal.ieee, -EReal.coe_mul]; norm_num

theorem eighth32 : Ideal.ofBits .f32 0x3E000000#32 = (((1 : ℝ) / 8 : ℝ) : EReal) := by
  simp [Ideal.ofBits, Ideal.ieee, -EReal.coe_mul]; norm_num

theorem half32 : Ideal.ofBits .f32 0x3F000000#32 = (((1 : ℝ) / 2 : ℝ) : EReal) := by
  simp [Ideal.ofBits, Ideal.ieee, -EReal.coe_mul]; norm_num

theorem lane0 (d : Fin 128) : IntOp.andi (IntOp.cmpi .sge (BitVec.ofNat 32 d) 0#32) (IntOp.cmpi .slt (BitVec.ofNat 32 d) 64#32) = if d.val / 64 = 0 then 1#1 else 0#1 := by
  revert d
  decide

theorem lane1 (d : Fin 128) : IntOp.andi (IntOp.cmpi .sge (BitVec.ofNat 32 d) 64#32) (IntOp.cmpi .slt (BitVec.ofNat 32 d) 128#32) = if d.val / 64 = 1 then 1#1 else 0#1 := by
  revert d
  decide

theorem sel {α : Type} (P : Prop) [Decidable P] (x y : α) : Scalar.select (if P then 1#1 else 0#1) x y = if P then x else y := by
  by_cases h : P
  · rw [if_pos h, if_pos h]
    rfl
  · rw [if_neg h, if_neg h]
    rfl

theorem ite_coe (P : Prop) [Decidable P] (x : ℝ) : (if P then (x : EReal) else 0) = (((if P then x else 0) : ℝ) : EReal) := by
  by_cases h : P
  · rw [if_pos h, if_pos h]
  · rw [if_neg h, if_neg h]
    rfl

theorem stack_re {x0 x1 x2 x3 : FVec Ideal S128x128 .bf16} {F : ℕ → ℕ → ℕ → ℝ} {i : ℕ} (h0 : Re x0 (fun a d => F 0 (256 * i + a) d)) (h1 : Re x1 (fun a d => F 0 (256 * i + 128 + a) d))
    (h2 : Re x2 (fun a d => F 1 (256 * i + a) d)) (h3 : Re x3 (fun a d => F 1 (256 * i + 128 + a) d)) : Re (k0_pay25 (F := Ideal) x0 x1 x2 x3) (stk F i) := by
  intro a d
  pointwise [k0_pay25]
  unfold stk
  by_cases c0 : a.val < 128
  · rw [dif_pos c0, if_pos c0, h0]
  · rw [dif_neg c0, if_neg c0]
    by_cases c1 : a.val < 256
    · rw [dif_pos (by omega), if_pos c1, h1]
    · rw [dif_neg (by omega), if_neg c1]
      by_cases c2 : a.val < 384
      · rw [dif_pos (by omega), if_pos c2, h2]
        simp only [show a.val - 128 - 128 = a.val - 256 by omega]
      · rw [dif_neg (by omega), if_neg c2, h3]
        simp only [show a.val - 128 - 128 - 128 = a.val - 384 by omega]

section

variable {x : Ins Ideal} {i : ℕ} {Q G O K V : ℕ → ℕ → ℝ} (h : InsOk x i Q G O)

include h

theorem q0_re : Re (ctx_q0 x) (fun a d => mq Q 0 (256 * i + a) d) := by
  intro a d
  pointwise [ctx_q0, k0_pay14, k0_pay13]
  rw [lane0, sel, h.q, eighth16, ← EReal.coe_mul, ite_coe]
  rfl

theorem g0_re : Re (ctx_g0 x) (fun a d => mg G 0 (256 * i + a) d) := by
  intro a d
  pointwise [ctx_g0, k0_pay21]
  rw [lane0, sel, h.g, ite_coe]
  rfl

theorem t0_re : Co (ctx_t0 x) (fun a => ∑ d ∈ range 128, mg G 0 (256 * i + a) d * O (256 * i + a) d) := by
  intro a j
  pointwise [ctx_t0, k0_pay28, k0_pay32, k0_pay27]
  simp only [lane0, sel, h.g _ _, h.o _ _, ← EReal.coe_mul, ite_coe, ← coe_sum, sum_range, mg, Nat.add_assoc, ite_mul, zero_mul]

theorem q1_re : Re (ctx_q1 x) (fun a d => mq Q 0 (256 * i + 128 + a) d) := by
  intro a d
  pointwise [ctx_q1, k0_pay13, k0_pay15, k0_pay16, k0_pay17, k0_pay18]
  rw [lane0, sel, h.q, eighth16, ← EReal.coe_mul, ite_coe]
  rw [Nat.add_assoc]
  rfl

theorem g1_re : Re (ctx_g1 x) (fun a d => mg G 0 (256 * i + 128 + a) d) := by
  intro a d
  pointwise [ctx_g1, k0_pay22]
  rw [lane0, sel, h.g, ite_coe]
  rw [Nat.add_assoc]
  rfl

theorem t1_re : Co (ctx_t1 x) (fun a => ∑ d ∈ range 128, mg G 0 (256 * i + 128 + a) d * O (256 * i + 128 + a) d) := by
  intro a j
  pointwise [ctx_t1, k0_pay29, k0_pay30, k0_pay31, k0_pay33, k0_pay27]
  simp only [lane0, sel, h.g _ _, h.o _ _, ← EReal.coe_mul, ite_coe, ← coe_sum, sum_range, mg, Nat.add_assoc, ite_mul, zero_mul]

theorem q2_re : Re (ctx_q2 x) (fun a d => mq Q 1 (256 * i + a) d) := by
  intro a d
  pointwise [ctx_q2, k0_pay19, k0_pay13]
  rw [lane1, sel, h.q, eighth16, ← EReal.coe_mul, ite_coe]
  rfl

theorem g2_re : Re (ctx_g2 x) (fun a d => mg G 1 (256 * i + a) d) := by
  intro a d
  pointwise [ctx_g2, k0_pay23]
  rw [lane1, sel, h.g, ite_coe]
  rfl

theorem t2_re : Co (ctx_t2 x) (fun a => ∑ d ∈ range 128, mg G 1 (256 * i + a) d * O (256 * i + a) d) := by
  intro a j
  pointwise [ctx_t2, k0_pay34, k0_pay27]
  simp only [lane1, sel, h.g _ _, h.o _ _, ← EReal.coe_mul, ite_coe, ← coe_sum, sum_range, mg, Nat.add_assoc, ite_mul, zero_mul]

theorem q3_re : Re (ctx_q3 x) (fun a d => mq Q 1 (256 * i + 128 + a) d) := by
  intro a d
  pointwise [ctx_q3, k0_pay20, k0_pay13]
  rw [lane1, sel, h.q, eighth16, ← EReal.coe_mul, ite_coe]
  rw [Nat.add_assoc]
  rfl

theorem g3_re : Re (ctx_g3 x) (fun a d => mg G 1 (256 * i + 128 + a) d) := by
  intro a d
  pointwise [ctx_g3, k0_pay24]
  rw [lane1, sel, h.g, ite_coe]
  rw [Nat.add_assoc]
  rfl

theorem t3_re : Co (ctx_t3 x) (fun a => ∑ d ∈ range 128, mg G 1 (256 * i + 128 + a) d * O (256 * i + 128 + a) d) := by
  intro a j
  pointwise [ctx_t3, k0_pay35, k0_pay27]
  simp only [lane1, sel, h.g _ _, h.o _ _, ← EReal.coe_mul, ite_coe, ← coe_sum, sum_range, mg, Nat.add_assoc, ite_mul, zero_mul]

theorem qs_re : Re (ctx_qs x) (stk (mq Q) i) := stack_re (q0_re h) (q1_re h) (q2_re h) (q3_re h)

theorem gs_re : Re (ctx_gs x) (stk (mg G) i) := stack_re (g0_re h) (g1_re h) (g2_re h) (g3_re h)

theorem after_re : Re (ctx_after x) triA := by
  intro a d
  pointwise [ctx_after, k0_pay8]
  exact h.after a d

theorem before_re : Re (ctx_before x) triB := by
  intro a d
  pointwise [ctx_before, k0_pay9]
  exact h.before a d

theorem mask_lt (a j : ℕ) : BitVec.ofBool (decide ((((1 : ℝ) / 2 : ℝ) : EReal) < ((triC a j : ℝ) : EReal))) = if j < a then 1#1 else 0#1 := by
  rw [triC]
  by_cases c : j < a
  · rw [if_pos c, if_pos c, decide_eq_true (EReal.coe_lt_coe_iff.2 (by norm_num))]
    rfl
  · rw [if_neg c, if_neg c, decide_eq_false (fun hh => absurd (EReal.coe_lt_coe_iff.1 hh) (by norm_num))]
    rfl

theorem mask0_ms : Ms (k0_pay11 (F := Ideal) x.mask) (fun a j => j < a) := by
  intro a j
  pointwise [k0_pay11, k0_pay10]
  rw [half32, h.mask, mask_lt h]

theorem mask1_ms : Ms (k0_pay12 (F := Ideal) x.mask) (fun a j => j < 128 + a) := by
  intro a j
  pointwise [k0_pay12, k0_pay10]
  rw [half32, h.mask, mask_lt h]

/-- What the loop reads, of the blocks held, where the outputs' products with their gradients are the row totals. -/
theorem ctx_ok (hT : ∀ c r, ∑ d ∈ range 128, mg G c r d * O r d = Stick.tot (zz (mq Q) K c) (zz (mg G) V c) r) : CtxOk (mq Q) (mg G) K V (ctx x) i where
  q0 := q0_re h
  g0 := g0_re h
  q1 := q1_re h
  g1 := g1_re h
  q2 := q2_re h
  g2 := g2_re h
  q3 := q3_re h
  g3 := g3_re h
  after := after_re h
  before := before_re h
  t0 := (t0_re h).congr fun _ _ => hT _ _
  t1 := (t1_re h).congr fun _ _ => hT _ _
  t2 := (t2_re h).congr fun _ _ => hT _ _
  t3 := (t3_re h).congr fun _ _ => hT _ _
  qs := qs_re h
  gs := gs_re h

end

/-- The query gradients stored: each lane those of its own head, scaled. -/
theorem dqOut_re {qs gs : ℕ → ℕ → ℕ → ℝ} {K V : ℕ → ℕ → ℝ} {S : St Ideal} {i : ℕ} (H : Inv qs gs K V S i 0) :
    Re (dqOut S) (fun a d => (∑ j ∈ range (256 * i + a), dzz qs gs K V (d / 64) (256 * i + a) j * K j d) * (1 / 8)) := by
  intro a d
  have hd : d.val / 64 = 0 ∨ d.val / 64 = 1 := by omega
  pointwise [dqOut, k0_pay1, k0_pay120]
  rw [lane1, eighth32, EReal.coe_mul]
  refine congrArg (· * _) ?_
  rw [range_eq_Ico]
  split
  next c =>
    rw [sel, H.c2.dq, H.c0.dq]
    rcases hd with e | e
    · rw [e, if_neg (by omega)]
      rfl
    · rw [e, if_pos rfl]
      rfl
  next c =>
    rw [sel, H.c3.dq, H.c1.dq]
    simp only [show 256 * i + 128 + (a.val - 128) = 256 * i + a by omega]
    rcases hd with e | e
    · rw [e, if_neg (by omega)]
      rfl
    · rw [e, if_pos rfl]
      rfl

end Cert.KernelIdeal.Hand

end
-- ==== Proof.RI.Window.lean ====
/- The running sums of a host program along the last axis of a box of real numbers, from the front and from the back. -/
module

public import proofs.«01_k».proof.Proof.KI.Ctx

@[expose] public section

noncomputable section

namespace Cert.Window

open Idealize.ShloMosaic Finset
open Cert.KernelIdeal.Hand (coe_sum)

/-- Every entry of the box `x` is the real number `f` has there. -/
def Re3 {a b n : ℕ} (x : (⟨3, ![a, b, n]⟩ : Shape).Idx → EReal) (f : ℕ → ℕ → ℕ → ℝ) : Prop :=
  ∀ (i : Fin a) (j : Fin b) (k : Fin n), x (ix3 i j k) = ((f i j k : ℝ) : EReal)

theorem numel_row (N : ℕ) : (⟨3, ![1, 1, N]⟩ : Shape).numel = N := by
  show ∏ a : Fin 3, (![1, 1, N] : Fin 3 → ℕ) a = N
  rw [Fin.prod_univ_three]
  show 1 * 1 * N = N
  omega

theorem pos_row {N : ℕ} (n : Fin (⟨3, ![1, 1, N]⟩ : Shape).numel) :
    (⟨3, ![1, 1, N]⟩ : Shape).rowMajor.symm n = ix3 (0 : Fin 1) (0 : Fin 1) (n.cast (numel_row N)) :=
  ((⟨3, ![1, 1, N]⟩ : Shape).rowMajor.symm_apply_eq).2 (Fin.ext (by
    rw [rowMajor_val3 _ (1 * N) N rfl rfl]
    show n.val = 0 * (1 * N) + 0 * N + n.val
    omega))

theorem foldl_add (M : ℕ) (e : Fin M → EReal) (g : ℕ → ℝ) (h : ∀ n : Fin M, e n = ((g n : ℝ) : EReal)) :
    (List.finRange M).foldl (fun r n => r + e n) 0 = ((∑ n ∈ range M, g n : ℝ) : EReal) := by
  have key : ∀ (l : List (Fin M)) (r : EReal), l.foldl (fun r n => r + e n) r = r + (l.map e).sum := by
    intro l
    induction l with
    | nil => intro r; simp
    | cons a l ih => intro r; rw [List.foldl_cons, ih, List.map_cons, List.sum_cons, add_assoc]
  rw [key, zero_add, coe_sum, Finset.sum_range, ← List.sum_ofFn, List.ofFn_eq_map]
  exact congrArg List.sum (List.map_congr_left fun n _ => h n)

/-- A window of the whole last axis over a box padded at its end: entry `k` of the result sums the entries from `k` on. -/
theorem sum_from {a b N M : ℕ} (hN : M + 1 = N) (x : (⟨3, ![a, b, N]⟩ : Shape).Idx → EReal) (f : ℕ → ℕ → ℕ → ℝ) (hx : Re3 x f) {u : Shape}
    (v : u.Idx → EReal) (hv : ∀ i, v i = 0)
    (h : (⟨3, ![a, b, N]⟩ : Shape).ReduceWindows (![1, 1, N] : Fin 3 → ℕ) ![1, 1, 1] ![0, 0, 0] ![0, 0, M] ⟨3, ![a, b, N]⟩) (hu : 0 < u.numel) :
    Re3 (Host.reduceWindowAdd (F := Ideal) (φ := .f32) (s := ⟨3, ![a, b, N]⟩) (t := ⟨3, ![a, b, N]⟩) ![1, 1, N] ![1, 1, 1] ![0, 0, 0] ![0, 0, M] x v h hu)
      (fun i j k => ∑ l ∈ Ico k N, f i j l) := by
  intro i j k
  subst hN
  have hk := k.isLt
  unfold Host.reduceWindowAdd
  rw [Ideal.hostReduceWindowAdd_def]
  unfold Ideal.hostReduceWindowAdd Host.reduceWindow
  dsimp only
  rw [hv]
  refine (foldl_add _ _ (fun n => if k.val + n < M + 1 then f i j (k.val + n) else 0) fun n => ?_).trans ?_
  · have h0 : ((⟨3, ![1, 1, M + 1]⟩ : Shape).rowMajor.symm n 0).val = 0 := by rw [pos_row]; rfl
    have h1 : ((⟨3, ![1, 1, M + 1]⟩ : Shape).rowMajor.symm n 1).val = 0 := by rw [pos_row]; rfl
    have h2 : ((⟨3, ![1, 1, M + 1]⟩ : Shape).rowMajor.symm n 2).val = n.val := by rw [pos_row]; rfl
    have hi := i.isLt
    have hj := j.isLt
    split
    · next hin =>
      have g := hin 2
      change 0 ≤ k.val * 1 + ((⟨3, ![1, 1, M + 1]⟩ : Shape).rowMajor.symm n 2).val
        ∧ k.val * 1 + ((⟨3, ![1, 1, M + 1]⟩ : Shape).rowMajor.symm n 2).val - 0 < M + 1 at g
      rw [h2] at g
      rw [if_pos (by omega)]
      refine (congrArg x (funext fun c => Fin.ext ?_)).trans (hx i j ⟨k.val + n.val, by omega⟩)
      match c with
      | ⟨0, _⟩ =>
        show i.val * 1 + ((⟨3, ![1, 1, M + 1]⟩ : Shape).rowMajor.symm n 0).val - 0 = i.val
        rw [h0]; omega
      | ⟨1, _⟩ =>
        show j.val * 1 + ((⟨3, ![1, 1, M + 1]⟩ : Shape).rowMajor.symm n 1).val - 0 = j.val
        rw [h1]; omega
      | ⟨2, _⟩ =>
        show k.val * 1 + ((⟨3, ![1, 1, M + 1]⟩ : Shape).rowMajor.symm n 2).val - 0 = k.val + n.val
        rw [h2]; omega
    · next hin =>
      rw [if_neg fun hle => hin fun c => by
        match c with
        | ⟨0, _⟩ =>
          show 0 ≤ i.val * 1 + ((⟨3, ![1, 1, M + 1]⟩ : Shape).rowMajor.symm n 0).val
            ∧ i.val * 1 + ((⟨3, ![1, 1, M + 1]⟩ : Shape).rowMajor.symm n 0).val - 0 < a
          rw [h0]; omega
        | ⟨1, _⟩ =>
          show 0 ≤ j.val * 1 + ((⟨3, ![1, 1, M + 1]⟩ : Shape).rowMajor.symm n 1).val
            ∧ j.val * 1 + ((⟨3, ![1, 1, M + 1]⟩ : Shape).rowMajor.symm n 1).val - 0 < b
          rw [h1]; omega
        | ⟨2, _⟩ =>
          show 0 ≤ k.val * 1 + ((⟨3, ![1, 1, M + 1]⟩ : Shape).rowMajor.symm n 2).val
            ∧ k.val * 1 + ((⟨3, ![1, 1, M + 1]⟩ : Shape).rowMajor.symm n 2).val - 0 < M + 1
          rw [h2]; omega]
      rfl
  · refine congrArg _ ((congrArg (fun K => ∑ n ∈ range K, (if k.val + n < M + 1 then f i j (k.val + n) else 0)) (numel_row (M + 1))).trans ?_)
    rw [← Stick.sum_block (f i j) k.val (M + 1) (M + 1) (fun n => k.val + n < M + 1) k.val (le_refl _) (by omega) (fun n _ => by omega)]

/-- A window of the whole last axis over a box padded at its front: entry `k` of the result sums the entries up to `k`. -/
theorem sum_upto {a b N M : ℕ} (hN : M + 1 = N) (x : (⟨3, ![a, b, N]⟩ : Shape).Idx → EReal) (f : ℕ → ℕ → ℕ → ℝ) (hx : Re3 x f) {u : Shape}
    (v : u.Idx → EReal) (hv : ∀ i, v i = 0)
    (h : (⟨3, ![a, b, N]⟩ : Shape).ReduceWindows (![1, 1, N] : Fin 3 → ℕ) ![1, 1, 1] ![0, 0, M] ![0, 0, 0] ⟨3, ![a, b, N]⟩) (hu : 0 < u.numel) :
    Re3 (Host.reduceWindowAdd (F := Ideal) (φ := .f32) (s := ⟨3, ![a, b, N]⟩) (t := ⟨3, ![a, b, N]⟩) ![1, 1, N] ![1, 1, 1] ![0, 0, M] ![0, 0, 0] x v h hu)
      (fun i j k => ∑ l ∈ range (k + 1), f i j l) := by
  intro i j k
  subst hN
  have hk := k.isLt
  unfold Host.reduceWindowAdd
  rw [Ideal.hostReduceWindowAdd_def]
  unfold Ideal.hostReduceWindowAdd Host.reduceWindow
  dsimp only
  rw [hv]
  refine (foldl_add _ _ (fun n => if M ≤ k.val + n then f i j (k.val + n - M) else 0) fun n => ?_).trans ?_
  · have h0 : ((⟨3, ![1, 1, M + 1]⟩ : Shape).rowMajor.symm n 0).val = 0 := by rw [pos_row]; rfl
    have h1 : ((⟨3, ![1, 1, M + 1]⟩ : Shape).rowMajor.symm n 1).val = 0 := by rw [pos_row]; rfl
    have h2 : ((⟨3, ![1, 1, M + 1]⟩ : Shape).rowMajor.symm n 2).val = n.val := by rw [pos_row]; rfl
    have hn : n.val < M + 1 := (n.cast (numel_row _)).isLt
    have hi := i.isLt
    have hj := j.isLt
    split
    · next hin =>
      have g := hin 2
      change M ≤ k.val * 1 + ((⟨3, ![1, 1, M + 1]⟩ : Shape).rowMajor.symm n 2).val
        ∧ k.val * 1 + ((⟨3, ![1, 1, M + 1]⟩ : Shape).rowMajor.symm n 2).val - M < M + 1 at g
      rw [h2] at g
      rw [if_pos (by omega)]
      refine (congrArg x (funext fun c => Fin.ext ?_)).trans (hx i j ⟨k.val + n.val - M, by omega⟩)
      match c with
      | ⟨0, _⟩ =>
        show i.val * 1 + ((⟨3, ![1, 1, M + 1]⟩ : Shape).rowMajor.symm n 0).val - 0 = i.val
        rw [h0]; omega
      | ⟨1, _⟩ =>
        show j.val * 1 + ((⟨3, ![1, 1, M + 1]⟩ : Shape).rowMajor.symm n 1).val - 0 = j.val
        rw [h1]; omega
      | ⟨2, _⟩ =>
        show k.val * 1 + ((⟨3, ![1, 1, M + 1]⟩ : Shape).rowMajor.symm n 2).val - M = k.val + n.val - M
        rw [h2]; omega
    · next hin =>
      rw [if_neg fun hle => hin fun c => by
        match c with
        | ⟨0, _⟩ =>
          show 0 ≤ i.val * 1 + ((⟨3, ![1, 1, M + 1]⟩ : Shape).rowMajor.symm n 0).val
            ∧ i.val * 1 + ((⟨3, ![1, 1, M + 1]⟩ : Shape).rowMajor.symm n 0).val - 0 < a
          rw [h0]; omega
        | ⟨1, _⟩ =>
          show 0 ≤ j.val * 1 + ((⟨3, ![1, 1, M + 1]⟩ : Shape).rowMajor.symm n 1).val
            ∧ j.val * 1 + ((⟨3, ![1, 1, M + 1]⟩ : Shape).rowMajor.symm n 1).val - 0 < b
          rw [h1]; omega
        | ⟨2, _⟩ =>
          show M ≤ k.val * 1 + ((⟨3, ![1, 1, M + 1]⟩ : Shape).rowMajor.symm n 2).val
            ∧ k.val * 1 + ((⟨3, ![1, 1, M + 1]⟩ : Shape).rowMajor.symm n 2).val - M < M + 1
          rw [h2]; omega]
      rfl
  · refine congrArg _ ((congrArg (fun K => ∑ n ∈ range K, (if M ≤ k.val + n then f i j (k.val + n - M) else 0)) (numel_row (M + 1))).trans ?_)
    rw [← sum_filter]
    refine sum_bij (fun n _ => k.val + n - M) ?_ ?_ ?_ ?_
    · intro n hn
      rw [mem_filter, mem_range] at hn
      exact mem_range.2 (by omega)
    · intro x hx y hy e
      rw [mem_filter, mem_range] at hx hy
      omega
    · intro n hn
      rw [mem_range] at hn
      exact ⟨M - k.val + n, mem_filter.2 ⟨mem_range.2 (by omega), by omega⟩, by omega⟩
    · intro _ _
      rfl

end Cert.Window
-- ==== Proof.RI.Fwd.lean ====
/- The lines of the reference's forward pass, one vector at a time, and what real numbers they hold: the logits, their
   log-sigmoids, the logarithms of the shares left, the weights and the output. -/
module

public import proofs.«01_k».proof.Proof.RI.Window
public import proofs.«01_k».proof.Proof.Gen.ReferenceIdeal

@[expose] public section

set_option maxRecDepth 16384

noncomputable section

namespace Cert.ReferenceIdeal.Hand

open Idealize.ShloMosaic Finset
open Cert.ReferenceIdeal Cert.ReferenceIdeal.Gen
open Cert.KernelIdeal.Hand (Re coe_sum eighth32 sel ite_coe)
open Cert.Window

abbrev Box := FVec Ideal S8x8192x8192 .f32
abbrev Heads := FVec Ideal S8192x8x64 .f32

/-! ### The lines -/

/-- One value everywhere. -/
def fill (w : BitVec 32) : Box := broadcastInDim S8x8192x8192 ![] bcast_S_S8x8192x8192 (constant (F := Ideal) S_ .f32 w)

/-- The queries, by head. -/
def rq (x : FVec Ideal S8192x1536 .bf16) : Heads :=
  extf .f32 (shapeCast S8192x8x64 (extractStridedSlice S8192x512 ![0, 0] x slices_S8192x1536_S8192x512_0_0) shapeCasts_S8192x512_S8192x8x64) bitsLt_bf16_f32

/-- The keys, by head. -/
def rk (x : FVec Ideal S8192x1536 .bf16) : Heads :=
  extf .f32 (shapeCast S8192x8x64 (extractStridedSlice S8192x512 ![0, 512] x slices_S8192x1536_S8192x512_0_512) shapeCasts_S8192x512_S8192x8x64) bitsLt_bf16_f32

/-- The values, by head. -/
def rv (x : FVec Ideal S8192x1536 .bf16) : Heads :=
  extf .f32 (shapeCast S8192x8x64 (extractStridedSlice S8192x512 ![0, 1024] x slices_S8192x1536_S8192x512_0_1024) shapeCasts_S8192x512_S8192x8x64) bitsLt_bf16_f32

/-- The logits. -/
def rz (x : FVec Ideal S8192x1536 .bf16) : Box :=
  mulf (Host.dotGeneral dot_S8192x8x64_S8192x8x64_S8x8192x8192_2_2_0_0_1_1 none (rq x) (rk x)) (fill 0x3E000000#32)

/-- Which keys come before a query, -/
def rc : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- and for every head. -/
def rc3 : IVec S8x8192x8192 1 := broadcastInDim S8x8192x8192 ![1, 2] bcast_S8192x8192_S8x8192x8192_1_2 rc

/-- `log (1 + exp n)`, as `log_sigmoid` takes it. -/
def rsp (n : Box) : Box :=
  select (cmpf .une (subf n (fill 0x00000000#32)) (subf n (fill 0x00000000#32))) (addf n (fill 0x00000000#32))
    (addf (maximumf n (fill 0x00000000#32)) (Host.log1p (Host.exp (Host.negf (Host.absf (subf n (fill 0x00000000#32)))))))

/-- The log-sigmoids. -/
def rls (z : Box) : Box := Host.negf (rsp (Host.negf z))

/-- Zero where a key does not come before the query. -/
def rsel (x : Box) : Box := select rc3 x (fill 0x00000000#32)

/-- The logarithms of the shares the keys leave. -/
def rkeep (z : Box) : Box := rsel (subf (rls z) z)

/-- A zero. -/
def zer : FVec Ideal S_ .f32 := broadcastInDim S_ ![] bcast_S_S_ (constant (F := Ideal) S_ .f32 0x00000000#32)

/-- The logarithms of the shares that the keys from one on leave. -/
def rcum (z : Box) : Box :=
  Host.reduceWindowAdd ![1, 1, 8192] ![1, 1, 1] ![0, 0, 0] ![0, 0, 8191] (rkeep z) zer
    reduceWindows_S8x8192x8192_S8x8192x8192_w1s1p0_0_w1s1p0_0_w8192s1p0_8191 h_S_

/-- The weights, before the causal mask, -/
def ra (z : Box) : Box := Host.exp (addf (rls z) (subf (rcum z) (rkeep z)))

/-- and after it. -/
def rw_ (z : Box) : Box := rsel (ra z)

/-- The output. -/
def ro (x : FVec Ideal S8192x1536 .bf16) : FVec Ideal S8192x512 .f32 :=
  shapeCast S8192x512 (transpose S8192x8x64 [2, 0, 1] (Host.dotGeneral dot_S8192x8x64_S8x8192x8192_S8x64x8192_0_2_2_1_1_0 none (rv x) (rw_ (rz x)))
    transposes_S8x64x8192_S8192x8x64_2_0_1) shapeCasts_S8192x8x64_S8192x512

/-! ### What they hold -/

/-- The logits of one head. -/
def gz (X : ℕ → ℕ → ℝ) (h r s : ℕ) : ℝ := (∑ d ∈ range 64, X r (h * 64 + d) * X s (512 + (h * 64 + d))) * (1 / 8)

/-- The output of one head. -/
def go (X : ℕ → ℕ → ℝ) (r l : ℕ) : ℝ := ∑ s ∈ range 8192, X s (1024 + l) * Stick.wt (gz X (l / 64)) r s

theorem fill0 (i : Fin 8) (j k : Fin 8192) : fill 0x00000000#32 (ix3 i j k) = 0 := by
  pointwise [fill]

theorem fill8 (i : Fin 8) (j k : Fin 8192) : fill 0x3E000000#32 (ix3 i j k) = (((1 : ℝ) / 8 : ℝ) : EReal) := by
  pointwise [fill]
  exact eighth32

theorem heads_re {x : FVec Ideal S8192x1536 .bf16} {X : ℕ → ℕ → ℝ} (hx : Re x X) : Re3 (rq x) (fun r h d => X r (h * 64 + d)) := by
  intro r h d
  pointwise [rq]
  rw [hx]

theorem rk_re {x : FVec Ideal S8192x1536 .bf16} {X : ℕ → ℕ → ℝ} (hx : Re x X) : Re3 (rk x) (fun r h d => X r (512 + (h * 64 + d))) := by
  intro r h d
  pointwise [rk]
  rw [hx]

theorem rv_re {x : FVec Ideal S8192x1536 .bf16} {X : ℕ → ℕ → ℝ} (hx : Re x X) : Re3 (rv x) (fun r h d => X r (1024 + (h * 64 + d))) := by
  intro r h d
  pointwise [rv]
  rw [hx]

theorem rz_re {x : FVec Ideal S8192x1536 .bf16} {X : ℕ → ℕ → ℝ} (hx : Re x X) : Re3 (rz x) (gz X) := by
  intro h r s
  pointwise [rz]
  rw [fill8]
  simp only [heads_re hx _ _ _, rk_re hx _ _ _, ← EReal.coe_mul, ← coe_sum]
  unfold gz
  rw [Finset.sum_range]

theorem slt_word {a b : ℕ} (ha : a < 8192) (hb : b < 8192) : IntOp.cmpi .slt (BitVec.ofNat 32 a) (BitVec.ofNat 32 b) = if a < b then 1#1 else 0#1 := by
  have e : (BitVec.ofNat 32 a).slt (BitVec.ofNat 32 b) = decide (a < b) := by
    rw [BitVec.slt_eq_ult, show (BitVec.ofNat 32 a).msb = false by rw [BitVec.msb_eq_decide, BitVec.toNat_ofNat]; simp; omega,
      show (BitVec.ofNat 32 b).msb = false by rw [BitVec.msb_eq_decide, BitVec.toNat_ofNat]; simp; omega, BitVec.ult, BitVec.toNat_ofNat, BitVec.toNat_ofNat,
      Nat.mod_eq_of_lt (by omega), Nat.mod_eq_of_lt (by omega)]
    simp
  show BitVec.ofBool ((BitVec.ofNat 32 a).slt (BitVec.ofNat 32 b)) = _
  rw [e]
  by_cases h : a < b
  · rw [if_pos h, decide_eq_true h]
    rfl
  · rw [if_neg h, decide_eq_false h]
    rfl

theorem rc3_at (h : Fin 8) (r s : Fin 8192) : rc3 (ix3 h r s) = if s.val < r.val then 1#1 else 0#1 := by
  pointwise [rc3, rc]
  exact slt_word s.2 r.2

theorem rsel_re {x : Box} {f : ℕ → ℕ → ℕ → ℝ} (hx : Re3 x f) : Re3 (rsel x) (fun h r s => if s < r then f h r s else 0) := by
  intro h r s
  pointwise [rsel]
  rw [rc3_at, fill0, hx, sel, ite_coe]

theorem softplus (n : ℝ) : max n 0 + Real.log (1 + Real.exp (-|n|)) = Real.log (1 + Real.exp n) := by
  have h1 : (0:ℝ) < 1 + Real.exp (-|n|) := by positivity
  have h2 : max n 0 = Real.log (Real.exp (max n 0)) := (Real.log_exp _).symm
  rw [h2, ← Real.log_mul (Real.exp_pos _).ne' h1.ne']
  congr 1
  rw [mul_add, mul_one, ← Real.exp_add]
  rcases le_total n 0 with h | h
  · rw [max_eq_right h, abs_of_nonpos h, Real.exp_zero]
    ring_nf
  · rw [max_eq_left h, abs_of_nonneg h, add_neg_cancel, Real.exp_zero, add_comm]

theorem coe_max (x y : ℝ) : max (x : EReal) (y : EReal) = ((max x y : ℝ) : EReal) :=
  (EReal.coe_strictMono.monotone.map_max).symm

theorem softplusE (n : ℝ) : max (n : EReal) 0 + Ideal.log1p (Ideal.exp (-FloatOps.absf (F := Ideal) (φ := .f32) (n : EReal))) = ((Real.log (1 + Real.exp n) : ℝ) : EReal) := by
  have h1 : ¬ (1 + Real.exp (-|n|) ≤ 0) := not_le.2 (by positivity)
  show max (n : EReal) ((0 : ℝ) : EReal) + Ideal.log (((1 : ℝ) : EReal) + Ideal.exp (-max (n : EReal) (-(n : EReal)))) = _
  rw [← EReal.coe_neg, coe_max, coe_max, ← EReal.coe_neg, Ideal.exp_coe, ← EReal.coe_add, show max n (-n) = |n| from rfl, Ideal.log_coe, if_neg h1,
    ← EReal.coe_add, softplus]

theorem rsp_re {n : Box} {f : ℕ → ℕ → ℕ → ℝ} (hn : Re3 n f) : Re3 (rsp n) (fun h r s => Real.log (1 + Real.exp (f h r s))) := by
  intro h r s
  pointwise [rsp]
  rw [fill0, hn, if_neg (fun h => h rfl), sub_zero, softplusE]

theorem logsig (z : ℝ) : -Real.log (1 + Real.exp (-z)) = z - Real.log (1 + Real.exp z) := by
  have e : 1 + Real.exp z = Real.exp z * (1 + Real.exp (-z)) := by
    rw [mul_add, mul_one, ← Real.exp_add, add_neg_cancel, Real.exp_zero, add_comm]
  rw [e, Real.log_mul (Real.exp_pos _).ne' (by positivity), Real.log_exp]
  ring

theorem neg_re {x : Box} {f : ℕ → ℕ → ℕ → ℝ} (hx : Re3 x f) : Re3 (Host.negf x) (fun h r s => -f h r s) := by
  intro h r s
  pointwise
  rw [hx, EReal.coe_neg]

theorem rls_re {z : Box} {Z : ℕ → ℕ → ℕ → ℝ} (hz : Re3 z Z) : Re3 (rls z) (fun h r s => Z h r s + Stick.keep (Z h) r s) := by
  intro h r s
  rw [rls, neg_re (rsp_re (neg_re hz)) h r s]
  dsimp only
  rw [logsig, Stick.keep, sub_eq_add_neg]

theorem rkeep_re {z : Box} {Z : ℕ → ℕ → ℕ → ℝ} (hz : Re3 z Z) : Re3 (rkeep z) (fun h r s => if s < r then Stick.keep (Z h) r s else 0) := by
  refine rsel_re fun h r s => ?_
  pointwise
  rw [rls_re hz, hz, ← EReal.coe_sub, add_sub_cancel_left]

theorem zer_at (i : S_.Idx) : zer i = 0 := by
  pointwise [zer]

theorem rcum_re {z : Box} {Z : ℕ → ℕ → ℕ → ℝ} (hz : Re3 z Z) : Re3 (rcum z) (fun h r s => ∑ j ∈ Ico s 8192, if j < r then Stick.keep (Z h) r j else 0) :=
  sum_from (N := 8192) (M := 8191) rfl _ _ (rkeep_re hz) _ zer_at _ _

theorem left_eq (z : ℕ → ℕ → ℝ) {r s : ℕ} (hr : r < 8192) (hs : s < 8192) :
    (∑ j ∈ Ico s 8192, if j < r then Stick.keep z r j else 0) - (if s < r then Stick.keep z r s else 0) = Stick.left z r s := by
  rw [Finset.sum_eq_sum_Ico_succ_bot hs, add_sub_cancel_left, Stick.left, ← sum_filter]
  congr 1
  ext j
  rw [mem_filter, mem_Ico, mem_Ico]
  omega

theorem ra_re {z : Box} {Z : ℕ → ℕ → ℕ → ℝ} (hz : Re3 z Z) :
    Re3 (ra z) (fun h r s => Real.exp (Z h r s + Stick.keep (Z h) r s + Stick.left (Z h) r s)) := by
  intro h r s
  pointwise [ra]
  rw [rls_re hz, rcum_re hz, rkeep_re hz, ← EReal.coe_sub, left_eq _ r.2 s.2, ← EReal.coe_add, Ideal.exp_coe]

theorem rw_re {z : Box} {Z : ℕ → ℕ → ℕ → ℝ} (hz : Re3 z Z) : Re3 (rw_ z) (fun h r s => Stick.wt (Z h) r s) := rsel_re (ra_re hz)

theorem ro_re {x : FVec Ideal S8192x1536 .bf16} {X : ℕ → ℕ → ℝ} (hx : Re x X) : Re (ro x) (go X) := by
  intro r l
  pointwise [ro]
  simp only [rv_re hx _ _ _, rw_re (rz_re hx) _ _ _, ← EReal.coe_mul, ← coe_sum]
  unfold go
  rw [Finset.sum_range, show 1024 + l.val = 1024 + (l.val / 64 * 64 + l.val % 64) by omega]

end Cert.ReferenceIdeal.Hand
-- ==== Proof.KI.Host.lean ====
/- What the host lines before `cc0_attn_bwd` hold: the outputs by the reference's lines, and the triangles. -/
module

public import proofs.«01_k».proof.Proof.KI.Run
public import proofs.«01_k».proof.Proof.RI.Fwd
public import Idealize.ShloMosaic.Lib.StableHlo.RunRead

@[expose] public section

set_option maxRecDepth 16384

noncomputable section

namespace Cert.KernelIdeal.Hand

open Idealize.ShloMosaic Idealize.ShloMosaic.TcCoe Idealize.SL.Sem Finset Idealize.ShloMosaic.StableHlo
open Cert.KernelIdeal Cert.KernelIdeal.Gen

variable (m : (ℓ : Loc nD τ sig) → Buf (Elt Ideal) ℓ) (c : Dev nD)

/-- The outputs are those of the reference's forward lines. -/
theorem V_o : V m c main_v28 = Cert.ReferenceIdeal.Hand.ro (m ((c.tc : Thread nD τ).loc main_arg0)) := by
  unfold V
  simp only [hostOps0, hostOps0_1, hostOps0_2, hostOps0_3, hostOps0_4, hostOps0_5, hostOps0_6, hostOps0_7, List.flatten_cons, List.flatten_nil, List.append_nil, List.cons_append,
      List.nil_append]
  simp only [TRef.binary, TRef.nullary, TRef.ternary, TRef.unary, TRef.toBuf, TRef.ofBuf, cast_eq]
  after_results_simp <;> rfl

/-- A bit as a number. -/
theorem bitE (φ : FTy) (P : Prop) [Decidable P] (b : BitVec 1) (h : b = if P then 1#1 else 0#1) : FloatOps.uitofp (F := Ideal) φ b = (((if P then 1 else 0 : ℝ)) : EReal) := by
  subst h
  by_cases c : P
  · rw [if_pos c, if_pos c]
    show (((1#1 : BitVec 1).toNat : ℝ) : EReal) = _
    simp
  · rw [if_neg c, if_neg c]
    show (((0#1 : BitVec 1).toNat : ℝ) : EReal) = _
    simp

theorem sle_word {a b : ℕ} (ha : a < 8192) (hb : b < 8192) : IntOp.cmpi .sge (BitVec.ofNat 32 b) (BitVec.ofNat 32 a) = if a ≤ b then 1#1 else 0#1 := by
  have e : (BitVec.ofNat 32 a).sle (BitVec.ofNat 32 b) = decide (a ≤ b) := by
    rw [BitVec.sle_eq_ule, show (BitVec.ofNat 32 a).msb = false by rw [BitVec.msb_eq_decide, BitVec.toNat_ofNat]; simp; omega,
      show (BitVec.ofNat 32 b).msb = false by rw [BitVec.msb_eq_decide, BitVec.toNat_ofNat]; simp; omega, BitVec.ule, BitVec.toNat_ofNat, BitVec.toNat_ofNat,
      Nat.mod_eq_of_lt (by omega), Nat.mod_eq_of_lt (by omega)]
    simp
  show BitVec.ofBool ((BitVec.ofNat 32 a).sle (BitVec.ofNat 32 b)) = _
  rw [e]
  by_cases h : a ≤ b
  · rw [if_pos h, decide_eq_true h]
    rfl
  · rw [if_neg h, decide_eq_false h]
    rfl

theorem V_mask : Re (m := 256) (n := 256) (V m c main_v32) triC := by
  intro a j
  unfold V
  simp only [hostOps0, hostOps0_1, hostOps0_2, hostOps0_3, hostOps0_4, hostOps0_5, hostOps0_6, hostOps0_7, List.flatten_cons, List.flatten_nil, List.append_nil, List.cons_append,
      List.nil_append]
  after_results_simp
  pointwise
  exact bitE _ (j.val < a.val) _ (Cert.ReferenceIdeal.Hand.slt_word (by omega) (by omega))

theorem V_after : Re (m := 256) (n := 256) (V m c main_v34) triA := by
  intro a j
  unfold V
  simp only [hostOps0, hostOps0_1, hostOps0_2, hostOps0_3, hostOps0_4, hostOps0_5, hostOps0_6, hostOps0_7, List.flatten_cons, List.flatten_nil, List.append_nil, List.cons_append,
      List.nil_append]
  after_results_simp
  pointwise
  exact bitE _ (j.val < a.val) _ (Cert.ReferenceIdeal.Hand.slt_word (by omega) (by omega))

theorem V_before : Re (m := 256) (n := 256) (V m c main_v36) triB := by
  intro a j
  unfold V
  simp only [hostOps0, hostOps0_1, hostOps0_2, hostOps0_3, hostOps0_4, hostOps0_5, hostOps0_6, hostOps0_7, List.flatten_cons, List.flatten_nil, List.append_nil, List.cons_append,
      List.nil_append]
  after_results_simp
  pointwise
  exact bitE _ (j.val ≤ a.val) _ (sle_word (by omega) (by omega))

end Cert.KernelIdeal.Hand
-- ==== Proof.KI.Blocks.lean ====
/- The blocks `cc0_attn_bwd` reads at a grid point, as real matrices. -/
module

public import proofs.«01_k».proof.Proof.KI.Host
public import Idealize.ShloMosaic.Lib.Pipeline.ValueKit

@[expose] public section

set_option maxRecDepth 16384

noncomputable section

namespace Cert.KernelIdeal.Hand

open Idealize.ShloMosaic Idealize.ShloMosaic.TcCoe Idealize.SL.Sem Finset Idealize.ShloMosaic.StableHlo
open Cert.KernelIdeal Cert.KernelIdeal.Gen

variable (m : (ℓ : Loc nD τ sig) → Buf (Elt Ideal) ℓ) (c : Dev nD)

theorem idx0 : ∀ t : Fin grid0.N, win0_0.index t = ![t.val % 32, t.val / 32] := by decide +kernel
theorem idx1 : ∀ t : Fin grid0.N, win0_1.index t = ![0, 4 + t.val / 32] := by decide +kernel
theorem idx2 : ∀ t : Fin grid0.N, win0_2.index t = ![0, 8 + t.val / 32] := by decide +kernel
theorem idx3 : ∀ t : Fin grid0.N, win0_3.index t = ![t.val % 32, t.val / 32] := by decide +kernel
theorem idx4 : ∀ t : Fin grid0.N, win0_4.index t = ![t.val % 32, t.val / 32] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val % 32, t.val / 32] := by decide +kernel
theorem idx9 : ∀ t : Fin grid0.N, win0_9.index t = ![0, t.val / 32] := by decide +kernel
theorem idx10 : ∀ t : Fin grid0.N, win0_10.index t = ![0, t.val / 32] := by decide +kernel

theorem lt128 (t : Fin grid0.N) : t.val < 128 := Nat.lt_of_lt_of_eq t.isLt N_0

variable {m c} {X Y : ℕ → ℕ → ℝ}

theorem q_re (hx : Re (m := 8192) (n := 1536) (m ((c.tc : Thread nD τ).loc main_arg0)) X) (t : Fin grid0.N) :
    Re (m := 256) (n := 128) (iblk m c 0 t) (fun a d => X (256 * (t.val % 32) + a) (128 * (t.val / 32) + d)) := by
  intro a d
  have ht := lt128 t
  have e : iblk m c 0 t (ix2 a d) = m ((c.tc : Thread nD τ).loc main_arg0)
      (ix2 (⟨256 * (t.val % 32) + a.val, by omega⟩ : Fin 8192) (⟨128 * (t.val / 32) + d.val, by omega⟩ : Fin 1536)) := by
    refine Eq.trans ?_ (congrFun (V_main_arg0 m c) _)
    blk_ext [iblk, idx0 t]
  rw [e]
  exact hx _ _

theorem k_re (hx : Re (m := 8192) (n := 1536) (m ((c.tc : Thread nD τ).loc main_arg0)) X) (t : Fin grid0.N) :
    Re (m := 8192) (n := 128) (iblk m c 1 t) (fun a d => X a (512 + (128 * (t.val / 32) + d))) := by
  intro a d
  have ht := lt128 t
  have e : iblk m c 1 t (ix2 a d) = m ((c.tc : Thread nD τ).loc main_arg0)
      (ix2 (⟨a.val, by omega⟩ : Fin 8192) (⟨512 + (128 * (t.val / 32) + d.val), by omega⟩ : Fin 1536)) := by
    refine Eq.trans ?_ (congrFun (V_main_arg0 m c) _)
    blk_ext [iblk, idx1 t]
  rw [e]
  exact hx _ _

theorem v_re (hx : Re (m := 8192) (n := 1536) (m ((c.tc : Thread nD τ).loc main_arg0)) X) (t : Fin grid0.N) :
    Re (m := 8192) (n := 128) (iblk m c 2 t) (fun a d => X a (1024 + (128 * (t.val / 32) + d))) := by
  intro a d
  have ht := lt128 t
  have e : iblk m c 2 t (ix2 a d) = m ((c.tc : Thread nD τ).loc main_arg0)
      (ix2 (⟨a.val, by omega⟩ : Fin 8192) (⟨1024 + (128 * (t.val / 32) + d.val), by omega⟩ : Fin 1536)) := by
    refine Eq.trans ?_ (congrFun (V_main_arg0 m c) _)
    blk_ext [iblk, idx2 t]
  rw [e]
  exact hx _ _

theorem g_re (hx : Re (m := 8192) (n := 512) (m ((c.tc : Thread nD τ).loc main_arg1)) Y) (t : Fin grid0.N) :
    Re (m := 256) (n := 128) (iblk m c 4 t) (fun a d => Y (256 * (t.val % 32) + a) (128 * (t.val / 32) + d)) := by
  intro a d
  have ht := lt128 t
  have e : iblk m c 4 t (ix2 a d) = m ((c.tc : Thread nD τ).loc main_arg1)
      (ix2 (⟨256 * (t.val % 32) + a.val, by omega⟩ : Fin 8192) (⟨128 * (t.val / 32) + d.val, by omega⟩ : Fin 512)) := by
    refine Eq.trans ?_ (congrFun (V_main_arg1 m c) _)
    blk_ext [iblk, idx4 t]
  rw [e]
  exact hx _ _

theorem o_re (hx : Re (m := 8192) (n := 1536) (m ((c.tc : Thread nD τ).loc main_arg0)) X) (t : Fin grid0.N) :
    Re (m := 256) (n := 128) (iblk m c 3 t) (fun a d => Cert.ReferenceIdeal.Hand.go X (256 * (t.val % 32) + a) (128 * (t.val / 32) + d)) := by
  intro a d
  have ht := lt128 t
  have e : iblk m c 3 t (ix2 a d) = Cert.ReferenceIdeal.Hand.ro (m ((c.tc : Thread nD τ).loc main_arg0))
      (ix2 (⟨256 * (t.val % 32) + a.val, by omega⟩ : Fin 8192) (⟨128 * (t.val / 32) + d.val, by omega⟩ : Fin 512)) := by
    refine Eq.trans ?_ (congrFun (V_o m c) _)
    blk_ext [iblk, idx3 t]
  rw [e]
  exact Cert.ReferenceIdeal.Hand.ro_re hx _ _

theorem mask_blk (t : Fin grid0.N) :
    Re (m := 256) (n := 256) (iblk m c 5 t) (fun a d => triC a d) := by
  intro a d
  have e : iblk m c 5 t (ix2 a d) = V m c main_v32
      (ix2 (⟨a.val, by omega⟩ : Fin 256) (⟨d.val, by omega⟩ : Fin 256)) := by
    blk_ext [iblk, idx5 t]
  rw [e]
  exact V_mask m c _ _

theorem after_blk (t : Fin grid0.N) :
    Re (m := 256) (n := 256) (iblk m c 6 t) (fun a d => triA a d) := by
  intro a d
  have e : iblk m c 6 t (ix2 a d) = V m c main_v34
      (ix2 (⟨a.val, by omega⟩ : Fin 256) (⟨d.val, by omega⟩ : Fin 256)) := by
    blk_ext [iblk, idx6 t]
  rw [e]
  exact V_after m c _ _

theorem before_blk (t : Fin grid0.N) :
    Re (m := 256) (n := 256) (iblk m c 7 t) (fun a d => triB a d) := by
  intro a d
  have e : iblk m c 7 t (ix2 a d) = V m c main_v36
      (ix2 (⟨a.val, by omega⟩ : Fin 256) (⟨d.val, by omega⟩ : Fin 256)) := by
    blk_ext [iblk, idx7 t]
  rw [e]
  exact V_before m c _ _

end Cert.KernelIdeal.Hand
-- ==== Proof.RI.Bwd.lean ====
/- The lines of the reference's backward pass, one vector at a time, and what real numbers they hold. -/
module

public import proofs.«01_k».proof.Proof.RI.Fwd
public import proofs.«01_k».proof.Proof.Gen.ReferenceIdeal.Run

@[expose] public section

set_option maxRecDepth 16384

noncomputable section

namespace Cert.ReferenceIdeal.Hand

open Idealize.ShloMosaic Idealize.ShloMosaic.TcCoe Idealize.SL.Sem Finset
open Cert.ReferenceIdeal Cert.ReferenceIdeal.Gen
open Cert.KernelIdeal.Hand (Re coe_sum eighth32 sel ite_coe)
open Cert.Window

/-! ### The lines -/

/-- The output gradients, by head. -/
def rdo (y : FVec Ideal S8192x512 .bf16) : FVec Ideal S8x64x8192 .f32 :=
  transpose S8x64x8192 [1, 2, 0] (shapeCast S8192x8x64 (extf .f32 y bitsLt_bf16_f32) shapeCasts_S8192x512_S8192x8x64) transposes_S8192x8x64_S8x64x8192_1_2_0

/-- The gradients of the weights. -/
def ru (x : FVec Ideal S8192x1536 .bf16) (y : FVec Ideal S8192x512 .bf16) : Box :=
  Host.dotGeneral dot_S8x64x8192_S8192x8x64_S8x8192x8192_1_2_2_0_0_1 none (rdo y) (rv x)

/-- The value gradients. -/
def rdv (x : FVec Ideal S8192x1536 .bf16) (y : FVec Ideal S8192x512 .bf16) : FVec Ideal S8192x512 .bf16 :=
  shapeCast S8192x512 (truncf .bf16 (transpose S8192x8x64 [2, 0, 1] (Host.dotGeneral dot_S8x64x8192_S8x8192x8192_S8x64x8192_2_1_1_2_0_0 none (rdo y) (rw_ (rz x)))
    transposes_S8x64x8192_S8192x8x64_2_0_1) bitsLt_bf16_f32) shapeCasts_S8192x8x64_S8192x512

/-- The weighted gradients. -/
def rg (z u : Box) : Box := mulf (rsel u) (ra z)

/-- Their running sums. -/
def rgc (z u : Box) : Box :=
  Host.reduceWindowAdd ![1, 1, 8192] ![1, 1, 1] ![0, 0, 8191] ![0, 0, 0] (rg z u) zer
    reduceWindows_S8x8192x8192_S8x8192x8192_w1s1p0_0_w1s1p0_0_w8192s1p8191_0 h_S_

/-- The sums of those before a key. -/
def rp (z u : Box) : Box := rsel (addf (Host.negf (rg z u)) (rgc z u))

/-- `x`, or zero where `y` is infinite. -/
def guard (y x : Box) : Box := select (cmpf .oeq y (fill 0x7F800000#32)) (fill 0x00000000#32) x

/-- The slope of `log (1 + exp n)`. -/
def rslope (n : Box) : Box := Host.exp (subf (guard n n) (guard (rsp n) (rsp n)))

/-- The gradients of the logits, scaled. -/
def rdz (z u : Box) : Box :=
  mulf (addf (Host.negf (rp z u)) (Host.negf (mulf (Host.negf (addf (rg z u) (rp z u))) (rslope (Host.negf z))))) (fill 0x3E000000#32)

/-- The key gradients. -/
def rdk (x : FVec Ideal S8192x1536 .bf16) (y : FVec Ideal S8192x512 .bf16) : FVec Ideal S8192x512 .bf16 :=
  shapeCast S8192x512 (truncf .bf16 (transpose S8192x8x64 [1, 0, 2] (Host.dotGeneral dot_S8x8192x8192_S8192x8x64_S8x8192x64_1_0_2_2_0_1 none (rdz (rz x) (ru x y)) (rq x))
    transposes_S8x8192x64_S8192x8x64_1_0_2) bitsLt_bf16_f32) shapeCasts_S8192x8x64_S8192x512

/-- The query gradients. -/
def rdq (x : FVec Ideal S8192x1536 .bf16) (y : FVec Ideal S8192x512 .bf16) : FVec Ideal S8192x512 .bf16 :=
  shapeCast S8192x512 (truncf .bf16 (transpose S8192x8x64 [1, 0, 2] (Host.dotGeneral dot_S8x8192x8192_S8192x8x64_S8x8192x64_2_0_1_2_0_1 none (rdz (rz x) (ru x y)) (rk x))
    transposes_S8x8192x64_S8192x8x64_1_0_2) bitsLt_bf16_f32) shapeCasts_S8192x8x64_S8192x512

/-! ### The results are these -/

variable (m : (ℓ : Loc nD τ sig) → Buf (Elt Ideal) ℓ) (c : Dev nD)

theorem res_dv : Value.res_main_v36 (F := Ideal) m c = rdv (m ((c.tc : Thread nD τ).loc main_arg0)) (m ((c.tc : Thread nD τ).loc main_arg1)) := by
  unfold Value.res_main_v36
  rfl

theorem res_dk : Value.res_main_v54 (F := Ideal) m c = rdk (m ((c.tc : Thread nD τ).loc main_arg0)) (m ((c.tc : Thread nD τ).loc main_arg1)) := by
  unfold Value.res_main_v54
  rfl

theorem res_dq : Value.res_main_v56 (F := Ideal) m c = rdq (m ((c.tc : Thread nD τ).loc main_arg0)) (m ((c.tc : Thread nD τ).loc main_arg1)) := by
  unfold Value.res_main_v56
  rfl

/-! ### What they hold -/

/-- The gradients of one head's weights. -/
def gu (X Y : ℕ → ℕ → ℝ) (h r s : ℕ) : ℝ := ∑ d ∈ range 64, Y r (h * 64 + d) * X s (1024 + (h * 64 + d))

/-- The gradients of one head's logits. -/
def gd (X Y : ℕ → ℕ → ℝ) (h : ℕ) : ℕ → ℕ → ℝ := Stick.dz (gz X h) (gu X Y h)

/-- The gradients of queries, keys and values. -/
def gdq (X Y : ℕ → ℕ → ℝ) (r l : ℕ) : ℝ := ∑ s ∈ range 8192, gd X Y (l / 64) r s * (1 / 8) * X s (512 + l)
def gdk (X Y : ℕ → ℕ → ℝ) (s l : ℕ) : ℝ := ∑ r ∈ range 8192, gd X Y (l / 64) r s * (1 / 8) * X r l
def gdv (X Y : ℕ → ℕ → ℝ) (s l : ℕ) : ℝ := ∑ r ∈ range 8192, Y r l * Stick.wt (gz X (l / 64)) r s

variable {x : FVec Ideal S8192x1536 .bf16} {y : FVec Ideal S8192x512 .bf16} {X Y : ℕ → ℕ → ℝ}

theorem rdo_re (hy : Re y Y) : Re3 (rdo y) (fun h d r => Y r (h * 64 + d)) := by
  intro h d r
  pointwise [rdo]
  rw [hy]

theorem ru_re (hx : Re x X) (hy : Re y Y) : Re3 (ru x y) (gu X Y) := by
  intro h r s
  pointwise [ru]
  simp only [rdo_re hy _ _ _, rv_re hx _ _ _, ← EReal.coe_mul, ← coe_sum]
  unfold gu
  rw [Finset.sum_range]

theorem rdv_re (hx : Re x X) (hy : Re y Y) : Re (rdv x y) (gdv X Y) := by
  intro s l
  pointwise [rdv]
  simp only [rdo_re hy _ _ _, rw_re (rz_re hx) _ _ _, ← EReal.coe_mul, ← coe_sum]
  unfold gdv
  rw [Finset.sum_range]
  simp only [show l.val / 64 * 64 + l.val % 64 = l.val by omega]

variable {z u : Box} {Z U : ℕ → ℕ → ℕ → ℝ}

theorem rg_re (hz : Re3 z Z) (hu : Re3 u U) : Re3 (rg z u) (fun h r s => Stick.wg (Z h) (U h) r s) := by
  intro h r s
  pointwise [rg]
  rw [rsel_re hu, ra_re hz, ← EReal.coe_mul, Stick.wg, Stick.wt]
  congr 1
  dsimp only
  by_cases c : s.val < r.val
  · rw [if_pos c, if_pos c, mul_comm]
  · rw [if_neg c, if_neg c, zero_mul, zero_mul]

theorem rgc_re (hz : Re3 z Z) (hu : Re3 u U) : Re3 (rgc z u) (fun h r s => ∑ j ∈ range (s + 1), Stick.wg (Z h) (U h) r j) :=
  sum_upto (N := 8192) (M := 8191) rfl _ _ (rg_re hz hu) _ zer_at _ _

theorem rp_re (hz : Re3 z Z) (hu : Re3 u U) : Re3 (rp z u) (fun h r s => if s < r then Stick.pre (Z h) (U h) r s else 0) := by
  refine rsel_re fun h r s => ?_
  pointwise
  rw [rg_re hz hu, rgc_re hz hu, ← EReal.coe_neg, ← EReal.coe_add]
  congr 1
  dsimp only
  rw [Finset.sum_range_succ, Stick.pre]
  ring

theorem guard_at {y x : Box} {f : ℕ → ℕ → ℕ → ℝ} (hy : Re3 y f) (i : Fin 8) (j k : Fin 8192) : guard y x (ix3 i j k) = x (ix3 i j k) := by
  have e : fill 0x7F800000#32 (ix3 i j k) = ⊤ := by
    pointwise [fill]
    simp [Ideal.ofBits, Ideal.ieee]
  pointwise [guard]
  rw [hy, e, if_neg (EReal.coe_ne_top _)]

theorem rslope_re {n : Box} {f : ℕ → ℕ → ℕ → ℝ} (hn : Re3 n f) : Re3 (rslope n) (fun h r s => Real.exp (f h r s - Real.log (1 + Real.exp (f h r s)))) := by
  intro h r s
  pointwise [rslope]
  rw [guard_at hn, guard_at (rsp_re hn), hn, rsp_re hn, ← EReal.coe_sub, Ideal.exp_coe]

theorem share (a : ℝ) : Real.exp (a - Real.log (1 + Real.exp a)) + Real.exp (-Real.log (1 + Real.exp a)) = 1 := by
  have h : (0 : ℝ) < 1 + Real.exp a := by positivity
  rw [Real.exp_sub, Real.exp_neg, Real.exp_log h]
  field_simp
  ring

theorem rdz_re (hz : Re3 z Z) (hu : Re3 u U) : Re3 (rdz z u) (fun h r s => Stick.dz (Z h) (U h) r s * (1 / 8)) := by
  intro h r s
  pointwise [rdz]
  rw [fill8, rp_re hz hu, rg_re hz hu, rslope_re (neg_re hz)]
  simp only [← EReal.coe_neg, ← EReal.coe_add, ← EReal.coe_mul]
  congr 2
  have e : -Z h r s - Real.log (1 + Real.exp (-Z h r s)) = Stick.keep (Z h) r s := by
    rw [sub_eq_add_neg, logsig, Stick.keep]; ring
  have e1 := share (Z h r s)
  rw [e, Stick.dz]
  have e2 : Real.exp (Z h r s + Stick.keep (Z h) r s) = 1 - Real.exp (Stick.keep (Z h) r s) := by
    rw [Stick.keep, ← sub_eq_add_neg]; linarith
  by_cases c : s.val < r.val
  · rw [if_pos c, if_pos c, e2]
    ring
  · rw [if_neg c, if_neg c, Stick.wg_of_le _ _ (by omega)]
    ring

theorem rdk_re (hx : Re x X) (hy : Re y Y) : Re (rdk x y) (gdk X Y) := by
  intro s l
  pointwise [rdk]
  simp only [rdz_re (rz_re hx) (ru_re hx hy) _ _ _, heads_re hx _ _ _, ← EReal.coe_mul, ← coe_sum]
  unfold gdk
  rw [Finset.sum_range]
  simp only [show l.val / 64 * 64 + l.val % 64 = l.val by omega]
  rfl

theorem rdq_re (hx : Re x X) (hy : Re y Y) : Re (rdq x y) (gdq X Y) := by
  intro s l
  pointwise [rdq]
  simp only [rdz_re (rz_re hx) (ru_re hx hy) _ _ _, rk_re hx _ _ _, ← EReal.coe_mul, ← coe_sum]
  unfold gdq
  rw [Finset.sum_range]
  simp only [show l.val / 64 * 64 + l.val % 64 = l.val by omega]
  rfl

end Cert.ReferenceIdeal.Hand
-- ==== Proof.KI.Acc.lean ====
/- The gradients `cc0_attn_bwd` leaves in its arrays: what a grid point leaves, the sums over the row blocks of a pair of
   heads, and the arrays whole. -/
module

public import proofs.«01_k».proof.Proof.KI.Blocks
public import proofs.«01_k».proof.Proof.RI.Bwd

@[expose] public section

set_option maxRecDepth 16384

noncomputable section

namespace Cert.KernelIdeal.Hand

open Idealize.ShloMosaic Idealize.ShloMosaic.TcCoe Idealize.SL.Sem Finset Idealize.ShloMosaic.StableHlo
open Cert.KernelIdeal Cert.KernelIdeal.Gen
open Cert.ReferenceIdeal.Hand (gz gu gd gdq gdk gdv)

/-! ### The matrices of a pair of heads -/

section Pair

variable (X Y : ℕ → ℕ → ℝ) (g : ℕ)

/-- Queries, keys, values and output gradients of pair `g`, -/
def pQ (r d : ℕ) : ℝ := X r (128 * g + d)
def pK (s d : ℕ) : ℝ := X s (512 + (128 * g + d))
def pV (s d : ℕ) : ℝ := X s (1024 + (128 * g + d))
def pG (r d : ℕ) : ℝ := Y r (128 * g + d)
/-- and the outputs, each row the sum over the keys before it. -/
def pO (r d : ℕ) : ℝ := ∑ s ∈ range r, pV X g s d * Stick.wt (gz X (2 * g + d / 64)) r s

theorem pO_eq (r d : ℕ) (hr : r < 8192) (hd : d < 128) : Cert.ReferenceIdeal.Hand.go X r (128 * g + d) = pO X g r d := by
  unfold Cert.ReferenceIdeal.Hand.go pO pV
  rw [show (128 * g + d) / 64 = 2 * g + d / 64 by omega, Stick.sum_range_split _ (show r ≤ 8192 by omega), add_eq_left]
  refine sum_eq_zero fun s hs => ?_
  rw [Stick.wt_of_le _ (mem_Ico.1 hs).1, mul_zero]

theorem half_sum (f : ℕ → ℝ) (h : ℕ) (hh : h < 2) : ∑ d ∈ range 128, (if d / 64 = h then f d else 0) = ∑ d ∈ range 64, f (h * 64 + d) := by
  rw [show 128 = 64 + 64 from rfl, sum_range_add]
  have c : h = 0 ∨ h = 1 := by omega
  rcases c with rfl | rfl
  · rw [sum_congr rfl (fun d hd => if_pos (show d / 64 = 0 by have := mem_range.1 hd; omega)),
      sum_congr rfl (fun d hd => if_neg (show ¬ (64 + d) / 64 = 0 by omega)), sum_const_zero, add_zero]
    simp only [zero_mul, zero_add]
  · rw [sum_congr rfl (fun d hd => if_neg (show ¬ d / 64 = 1 by have := mem_range.1 hd; omega)),
      sum_congr rfl (fun d hd => if_pos (show (64 + d) / 64 = 1 by have := mem_range.1 hd; omega)), sum_const_zero, zero_add]

theorem no_half (f : ℕ → ℝ) (h : ℕ) (hh : ¬ h < 2) : ∑ d ∈ range 128, (if d / 64 = h then f d else 0) = 0 :=
  sum_eq_zero fun d hd => if_neg (by have := mem_range.1 hd; omega)

theorem zz_q (h : ℕ) (hh : h < 2) : zz (mq (pQ X g)) (pK X g) h = gz X (2 * g + h) := by
  funext r s
  unfold zz mq
  simp only [ite_mul, zero_mul]
  rw [half_sum _ h hh]
  unfold gz pQ pK
  rw [Finset.sum_mul]
  refine sum_congr rfl fun d _ => ?_
  rw [show 128 * g + (h * 64 + d) = (2 * g + h) * 64 + d by ring]
  ring

theorem zz_g (h : ℕ) (hh : h < 2) : zz (mg (pG Y g)) (pV X g) h = gu X Y (2 * g + h) := by
  funext r s
  unfold zz mg
  simp only [ite_mul, zero_mul]
  rw [half_sum _ h hh]
  unfold gu pG pV
  refine sum_congr rfl fun d _ => ?_
  rw [show 128 * g + (h * 64 + d) = (2 * g + h) * 64 + d by ring]

/-- The outputs' products with their gradients are the row totals. -/
theorem totals (h r : ℕ) : ∑ d ∈ range 128, mg (pG Y g) h r d * pO X g r d = Stick.tot (zz (mq (pQ X g)) (pK X g) h) (zz (mg (pG Y g)) (pV X g) h) r := by
  unfold mg
  simp only [ite_mul, zero_mul]
  by_cases hh : h < 2
  · rw [half_sum _ h hh, zz_q X g h hh]
    have e := zz_g X Y g h hh
    unfold mg at e
    rw [e]
    unfold Stick.tot Stick.wg gu pO
    simp only [mul_sum]
    rw [sum_comm]
    refine sum_congr rfl fun s _ => sum_congr rfl fun d hd => ?_
    have := mem_range.1 hd
    rw [show (h * 64 + d) / 64 = h by omega]
    unfold pG pV
    rw [show 128 * g + (h * 64 + d) = (2 * g + h) * 64 + d by ring]
    ring
  · rw [no_half _ h hh]
    symm
    unfold Stick.tot Stick.wg
    refine sum_eq_zero fun s _ => ?_
    unfold zz
    simp only [ite_mul, zero_mul]
    rw [no_half _ h hh, mul_zero]

/-- The sums over all the row blocks are sums over the rows. -/
theorem ck_sum (D F : ℕ → ℕ → ℕ → ℝ) (n s d : ℕ) :
    ∑ i ∈ range n, ck D F i s d = (∑ r ∈ range (256 * n), D 0 r s * F 0 r d) + ∑ r ∈ range (256 * n), D 1 r s * F 1 r d := by
  induction n with
  | zero => simp
  | succ n ih =>
    rw [sum_range_succ, ih, show 256 * (n + 1) = 256 * n + 128 + 128 by ring]
    simp only [sum_range_add _ (256 * n + 128) 128, sum_range_add _ (256 * n) 128]
    unfold ck
    ring

end Pair

theorem two_halves (f : ℕ → ℕ → ℝ) (d n : ℕ) (hd : d < 128) (F : ℕ → ℕ → ℕ → ℝ) (hF : ∀ h r, F h r d = if d / 64 = h then f (d / 64) r else 0) :
    (∑ r ∈ range n, F 0 r d) + ∑ r ∈ range n, F 1 r d = ∑ r ∈ range n, f (d / 64) r := by
  have c : d / 64 = 0 ∨ d / 64 = 1 := by omega
  simp only [hF]
  rcases c with c | c <;> simp [c]

/-! ### What the grid points leave -/

section Points

variable {m : (ℓ : Loc nD τ sig) → Buf (Elt Ideal) ℓ} {c : Dev nD} {X Y : ℕ → ℕ → ℝ}

theorem ins_o (hx : Re (m := 8192) (n := 1536) (m ((c.tc : Thread nD τ).loc main_arg0)) X) (t : Fin grid0.N) :
    Re (m := 256) (n := 128) (iblk m c 3 t) (fun a d => pO X (t.val / 32) (256 * (t.val % 32) + a) d) := by
  have h := o_re hx t
  have hr : t.val % 32 < 32 := Nat.mod_lt _ (by norm_num)
  generalize t.val % 32 = i at h hr ⊢
  generalize t.val / 32 = g at h ⊢
  intro a d
  rw [h a d]
  dsimp only
  rw [pO_eq X g (256 * i + a) d (by omega) d.2]

theorem ins_ok (hx : Re (m := 8192) (n := 1536) (m ((c.tc : Thread nD τ).loc main_arg0)) X) (hy : Re (m := 8192) (n := 512) (m ((c.tc : Thread nD τ).loc main_arg1)) Y)
    (t : Fin grid0.N) : InsOk (ins m c t) (t.val % 32) (pQ X (t.val / 32)) (pG Y (t.val / 32)) (pO X (t.val / 32)) := by
  have hq := q_re hx t
  have hg := g_re hy t
  have ho := ins_o hx t
  have h5 := mask_blk (m := m) (c := c) t
  have h6 := after_blk (m := m) (c := c) t
  have h7 := before_blk (m := m) (c := c) t
  unfold ins
  generalize iblk m c 0 t = b0 at hq ⊢
  generalize iblk m c 3 t = b3 at ho ⊢
  generalize iblk m c 4 t = b4 at hg ⊢
  generalize iblk m c 5 t = b5 at h5 ⊢
  generalize iblk m c 6 t = b6 at h6 ⊢
  generalize iblk m c 7 t = b7 at h7 ⊢
  exact ⟨hq, hg, ho, h5, h6, h7⟩

/-- The terms of a pair's gradients of keys and of values. -/
def tK (X Y : ℕ → ℕ → ℝ) (g i s d : ℕ) : ℝ := ck (dzz (mq (pQ X g)) (mg (pG Y g)) (pK X g) (pV X g)) (mq (pQ X g)) i s d
def tV (X Y : ℕ → ℕ → ℝ) (g i s d : ℕ) : ℝ := ck (wtz (mq (pQ X g)) (pK X g)) (mg (pG Y g)) i s d

/-- One grid point, from the sums so far. -/
theorem point_re (hx : Re (m := 8192) (n := 1536) (m ((c.tc : Thread nD τ).loc main_arg0)) X) (hy : Re (m := 8192) (n := 512) (m ((c.tc : Thread nD τ).loc main_arg1)) Y)
    (t : Fin grid0.N) (D : FVec Ideal S8192x128 .f32 × FVec Ideal S8192x128 .f32)
    (h1 : ¬ t.val % 32 = 0 → Re D.1 (fun s d => ∑ i ∈ range (t.val % 32), tK X Y (t.val / 32) i s d))
    (h2 : ¬ t.val % 32 = 0 → Re D.2 (fun s d => ∑ i ∈ range (t.val % 32), tV X Y (t.val / 32) i s d)) :
    Inv (mq (pQ X (t.val / 32))) (mg (pG Y (t.val / 32))) (pK X (t.val / 32)) (pV X (t.val / 32)) (ptOut m c t D).1 (t.val % 32) 0
    ∧ Re (ptOut m c t D).2.1 (fun s d => ∑ i ∈ range (t.val % 32 + 1), tK X Y (t.val / 32) i s d)
    ∧ Re (ptOut m c t D).2.2 (fun s d => ∑ i ∈ range (t.val % 32 + 1), tV X Y (t.val / 32) i s d) := by
  have hI := ins_ok hx hy t
  have s1 : Re (m := 8192) (n := 128) (start (F := Ideal) (t.val % 32) (k0_pay6 (F := Ideal)) D.1) (fun s d => ∑ i ∈ range (t.val % 32), tK X Y (t.val / 32) i s d) := by
    by_cases z : t.val % 32 = 0
    · unfold start
      rw [if_pos z, z]
      intro a d
      pointwise [k0_pay6]
      simp [Ideal.ofBits, Ideal.ieee]
    · unfold start
      rw [if_neg z]
      exact h1 z
  have s2 : Re (m := 8192) (n := 128) (start (F := Ideal) (t.val % 32) (k0_pay7 (F := Ideal)) D.2) (fun s d => ∑ i ∈ range (t.val % 32), tV X Y (t.val / 32) i s d) := by
    by_cases z : t.val % 32 = 0
    · unfold start
      rw [if_pos z, z]
      intro a d
      pointwise [k0_pay7]
      simp [Ideal.ofBits, Ideal.ieee]
    · unfold start
      rw [if_neg z]
      exact h2 z
  have r := row_re (ctx_ok hI (totals X Y (t.val / 32))) (mask0_ms hI) (mask1_ms hI) (Nat.mod_lt _ (by norm_num)) (k_re hx t) (v_re hx t) s1 s2
  unfold ptOut pointOut
  rw [coord1]
  refine ⟨r.1, Re.congr r.2.1 fun s _ d _ => ?_, Re.congr r.2.2 fun s _ d _ => ?_⟩
  · rw [sum_range_succ]
    rfl
  · rw [sum_range_succ]
    rfl

theorem acc_re (hx : Re (m := 8192) (n := 1536) (m ((c.tc : Thread nD τ).loc main_arg0)) X) (hy : Re (m := 8192) (n := 512) (m ((c.tc : Thread nD τ).loc main_arg1)) Y) (n : ℕ) (hn : n ≤ grid0.N) :
    (¬ n % 32 = 0 → Re (acc m c n).1 (fun s d => ∑ i ∈ range (n % 32), tK X Y (n / 32) i s d))
    ∧ (¬ n % 32 = 0 → Re (acc m c n).2 (fun s d => ∑ i ∈ range (n % 32), tV X Y (n / 32) i s d)) := by
  induction n with
  | zero => exact ⟨fun h => absurd rfl h, fun h => absurd rfl h⟩
  | succ n ih =>
    obtain ⟨i1, i2⟩ := ih (Nat.le_of_succ_le hn)
    have p := point_re hx hy ⟨n, hn⟩ (acc m c n) i1 i2
    rw [show acc m c (n + 1) = (ptOut m c ⟨n, hn⟩ (acc m c n)).2 from acc_succ m c ⟨n, hn⟩]
    have e : ¬ (n + 1) % 32 = 0 → (n + 1) % 32 = n % 32 + 1 ∧ (n + 1) / 32 = n / 32 := fun h => by omega
    refine ⟨fun h => ?_, fun h => ?_⟩
    · rw [(e h).1, (e h).2]
      exact p.2.1
    · rw [(e h).1, (e h).2]
      exact p.2.2

variable (hx : Re (m := 8192) (n := 1536) (m ((c.tc : Thread nD τ).loc main_arg0)) X) (hy : Re (m := 8192) (n := 512) (m ((c.tc : Thread nD τ).loc main_arg1)) Y) (t : Fin grid0.N)

include hx hy

theorem at_point :
    Inv (mq (pQ X (t.val / 32))) (mg (pG Y (t.val / 32))) (pK X (t.val / 32)) (pV X (t.val / 32)) (ptOut m c t (acc m c t.val)).1 (t.val % 32) 0
    ∧ Re (acc m c (t.val + 1)).1 (fun s d => ∑ i ∈ range (t.val % 32 + 1), tK X Y (t.val / 32) i s d)
    ∧ Re (acc m c (t.val + 1)).2 (fun s d => ∑ i ∈ range (t.val % 32 + 1), tV X Y (t.val / 32) i s d) := by
  have a := acc_re hx hy t.val (Nat.le_of_lt t.isLt)
  rw [acc_succ]
  exact point_re hx hy t _ a.1 a.2

/-- The query gradients a point stores, -/
theorem dq_re : Re (dqOut (ptOut m c t (acc m c t.val)).1) (fun a d => gdq X Y (256 * (t.val % 32) + a) (128 * (t.val / 32) + d)) := by
  refine Re.congr (dqOut_re (at_point hx hy t).1) fun a ha d hd => ?_
  have ht := lt128 t
  unfold dzz
  rw [zz_q X _ _ (by omega), zz_g X Y _ _ (by omega)]
  unfold gdq gd pK
  rw [show (128 * (t.val / 32) + d) / 64 = 2 * (t.val / 32) + d / 64 by omega, Stick.sum_range_split _ (show 256 * (t.val % 32) + a ≤ 8192 by omega), sum_eq_zero (s := Ico _ _), add_zero, sum_mul]
  · refine sum_congr rfl fun j _ => ?_
    ring
  · intro j hj
    rw [Stick.dz_of_le _ _ (mem_Ico.1 hj).1, zero_mul, zero_mul]

/-- and the key and value gradients after the last row block. -/
theorem dk_re (hl : t.val % 32 = 31) : Re (k0_pay2 (acc m c (t.val + 1)).1) (fun s d => gdk X Y s (128 * (t.val / 32) + d)) := by
  have h := (at_point hx hy t).2.1
  intro s d
  pointwise [k0_pay2]
  rw [h]
  congr 1
  have ht := lt128 t
  unfold tK
  dsimp only
  rw [ck_sum, hl, two_halves (fun h r => gd X Y (2 * (t.val / 32) + h) r s * (1 / 8) * X r (128 * (t.val / 32) + d)) d _ d.2
    (fun h r d => dzz (mq (pQ X (t.val / 32))) (mg (pG Y (t.val / 32))) (pK X (t.val / 32)) (pV X (t.val / 32)) h r s * mq (pQ X (t.val / 32)) h r d)]
  · unfold gdk
    rw [show (128 * (t.val / 32) + d.val) / 64 = 2 * (t.val / 32) + d.val / 64 by omega]
  · intro h r
    by_cases e : d.val / 64 = h
    · unfold dzz
      rw [if_pos e, e, zz_q X _ h (by omega), zz_g X Y _ h (by omega)]
      unfold gd mq pQ
      rw [if_pos e]
      ring
    · unfold mq
      rw [if_neg e, if_neg e, mul_zero]

theorem dv_re (hl : t.val % 32 = 31) : Re (k0_pay3 (acc m c (t.val + 1)).2) (fun s d => gdv X Y s (128 * (t.val / 32) + d)) := by
  have h := (at_point hx hy t).2.2
  intro s d
  pointwise [k0_pay3]
  rw [h]
  congr 1
  have ht := lt128 t
  unfold tV
  dsimp only
  rw [ck_sum, hl, two_halves (fun h r => Y r (128 * (t.val / 32) + d) * Stick.wt (gz X (2 * (t.val / 32) + h)) r s) d _ d.2
    (fun h r d => wtz (mq (pQ X (t.val / 32))) (pK X (t.val / 32)) h r s * mg (pG Y (t.val / 32)) h r d)]
  · unfold gdv
    rw [show (128 * (t.val / 32) + d.val) / 64 = 2 * (t.val / 32) + d.val / 64 by omega]
  · intro h r
    by_cases e : d.val / 64 = h
    · unfold wtz
      rw [if_pos e, e, zz_q X _ h (by omega)]
      unfold mg pG
      rw [if_pos e]
      ring
    · unfold mg
      rw [if_neg e, if_neg e, mul_zero]

end Points

end Cert.KernelIdeal.Hand
-- ==== Proof.KI.Out.lean ====
/- The arrays the kernel leaves: the gradients of queries, keys and values, as the reference writes them. -/
module

public import proofs.«01_k».proof.Proof.KI.Acc

@[expose] public section

set_option maxRecDepth 16384

noncomputable section

namespace Cert.KernelIdeal.Hand

open Idealize.ShloMosaic Idealize.ShloMosaic.TcCoe Idealize.SL.Sem Finset Idealize.ShloMosaic.StableHlo
open Cert.KernelIdeal Cert.KernelIdeal.Gen
open Cert.ReferenceIdeal.Hand (gdq gdk gdv rdq rdk rdv rdq_re rdk_re rdv_re)

variable {m : (ℓ : Loc nD τ sig) → Buf (Elt Ideal) ℓ} {c : Dev nD} {X Y : ℕ → ℕ → ℝ}

/-- Equal matrices of real numbers read alike at equal places. -/
theorem Re.at_eq {m n m' n' : ℕ} {x : (⟨2, ![m, n]⟩ : Shape).Idx → EReal} {y : (⟨2, ![m', n']⟩ : Shape).Idx → EReal} {f g : ℕ → ℕ → ℝ} (hx : Re x f) (hy : Re y g)
    (a : Fin m) (b : Fin n) (a' : Fin m') (b' : Fin n') (e : f a b = g a' b') : x (ix2 a b) = y (ix2 a' b') := by
  rw [hx, hy, e]

variable (hx : Re (m := 8192) (n := 1536) (m ((c.tc : Thread nD τ).loc main_arg0)) X) (hy : Re (m := 8192) (n := 512) (m ((c.tc : Thread nD τ).loc main_arg1)) Y)

include hx hy

theorem arr8 : (dats m 0 c).arrAt 8 (cfg0 (F := Ideal)).N = rdq (m ((c.tc : Thread nD τ).loc main_arg0)) (m ((c.tc : Thread nD τ).loc main_arg1)) := by
  refine (dats m 0 c).arrAt_eq_of_covers 8 _ (by decide +kernel) fun t hf y => ?_
  blk_simp
  rw [after8]
  have ht := lt128 t
  have h := dq_re hx hy t
  have r := rdq_re hx hy
  idx_vars y
  have e : (win0_8.blk t).view.emb (ix2 y0 y1) = ix2 (⟨256 * (t.val % 32) + y0.val, by omega⟩ : Fin 8192) (⟨128 * (t.val / 32) + y1.val, by omega⟩ : Fin 512) := by
    blk_ext [idx8 t]
  rw [e]
  exact Re.at_eq h r _ _ _ _ rfl

theorem arr9 : (dats m 0 c).arrAt 9 (cfg0 (F := Ideal)).N = rdk (m ((c.tc : Thread nD τ).loc main_arg0)) (m ((c.tc : Thread nD τ).loc main_arg1)) := by
  refine (dats m 0 c).arrAt_eq_of_covers 9 _ (by decide +kernel) fun t hf y => ?_
  have hl : t.val % 32 = 31 := by
    by_contra n
    rw [noFlush9 t n] at hf
    exact Bool.noConfusion hf
  blk_simp
  rw [after9]
  have ht := lt128 t
  have h := dk_re hx hy t hl
  have r := rdk_re hx hy
  idx_vars y
  have e : (win0_9.blk t).view.emb (ix2 y0 y1) = ix2 (⟨y0.val, by omega⟩ : Fin 8192) (⟨128 * (t.val / 32) + y1.val, by omega⟩ : Fin 512) := by
    blk_ext [idx9 t]
  rw [e]
  exact Re.at_eq h r _ _ _ _ rfl

theorem arr10 : (dats m 0 c).arrAt 10 (cfg0 (F := Ideal)).N = rdv (m ((c.tc : Thread nD τ).loc main_arg0)) (m ((c.tc : Thread nD τ).loc main_arg1)) := by
  refine (dats m 0 c).arrAt_eq_of_covers 10 _ (by decide +kernel) fun t hf y => ?_
  have hl : t.val % 32 = 31 := by
    by_contra n
    rw [noFlush10 t n] at hf
    exact Bool.noConfusion hf
  blk_simp
  rw [after10]
  have ht := lt128 t
  have h := dv_re hx hy t hl
  have r := rdv_re hx hy
  idx_vars y
  have e : (win0_10.blk t).view.emb (ix2 y0 y1) = ix2 (⟨y0.val, by omega⟩ : Fin 8192) (⟨128 * (t.val / 32) + y1.val, by omega⟩ : Fin 512) := by
    blk_ext [idx10 t]
  rw [e]
  exact Re.at_eq h r _ _ _ _ rfl

end Cert.KernelIdeal.Hand
-- ==== Proof.Finite.lean ====
/- The precondition read: where it holds, both arguments are matrices of real numbers. -/
module

public import proofs.«01_k».proof.Proof.Gen.Pre_finite
public import proofs.«01_k».proof.Proof.KI.Ops

@[expose] public section

set_option maxRecDepth 16384

noncomputable section

namespace Cert.Finite

open Idealize.ShloMosaic
open Cert.KernelIdeal.Hand (Re)

/-- A number whose difference with itself is zero is real. -/
theorem real_of_sub {x : EReal} (h : x - x = 0) : x = ((x.toReal : ℝ) : EReal) := by
  induction x with
  | bot => exact absurd h (by simp)
  | top => exact absurd h (by simp)
  | coe r => rfl

/-- The real entries of a matrix of real numbers. -/
def toMat {m n : ℕ} (x : (⟨2, ![m, n]⟩ : Shape).Idx → EReal) (r l : ℕ) : ℝ :=
  if h : r < m ∧ l < n then (x (ix2 (⟨r, h.1⟩ : Fin m) (⟨l, h.2⟩ : Fin n))).toReal else 0

theorem toMat_re {m n : ℕ} {x : (⟨2, ![m, n]⟩ : Shape).Idx → EReal} (h : ∀ a b, x (ix2 a b) - x (ix2 a b) = 0) : Re x (toMat x) := by
  intro a b
  unfold toMat
  rw [dif_pos ⟨a.2, b.2⟩]
  exact real_of_sub (h a b)

theorem eq_of_word {x y : EReal} (h : BitVec.ofBool (decide (x = y)) = 1#1) : x = y := by
  by_contra n
  rw [decide_eq_false n] at h
  exact absurd h (by decide)

variable {x : FVec Ideal Pre_finite.S8192x1536 .bf16} {y : FVec Ideal Pre_finite.S8192x512 .bf16}

theorem first (h : Pre_finite.fn (F := Ideal) x y = fun _ => 1#1) (a : Fin 8192) (b : Fin 1536) : x (ix2 a b) - x (ix2 a b) = 0 := by
  have e := congrFun h (ix2 a (⟨b.val, by omega⟩ : Fin 2048))
  revert e
  pointwise [Pre_finite.fn]
  intro e
  exact eq_of_word e

theorem second (h : Pre_finite.fn (F := Ideal) x y = fun _ => 1#1) (a : Fin 8192) (b : Fin 512) : y (ix2 a b) - y (ix2 a b) = 0 := by
  have e := congrFun h (ix2 a (⟨1536 + b.val, by omega⟩ : Fin 2048))
  revert e
  pointwise [Pre_finite.fn]
  intro e
  exact eq_of_word e

theorem reals (h : Pre_finite.fn (F := Ideal) x y = fun _ => 1#1) : Re x (toMat x) ∧ Re y (toMat y) := ⟨toMat_re (first h), toMat_re (second h)⟩

end Cert.Finite
-- ==== Proof.Dw.Up.lean ====
/- The weight gradient `dw_up`: the accumulator over the tokens' blocks, the array it leaves, and the reference's. -/
module

public import proofs.«01_k».proof.Proof.Gen.DwUp.Frame
public import proofs.«01_k».proof.Proof.Gen.DwUpIdeal.Value
public import proofs.«01_k».proof.Proof.Gen.DwUpRefIdeal.Run
public import Idealize.ShloMosaic.Lib.ValueIdx
public import Idealize.ShloMosaic.Lib.Pipeline.ValueKit
public import Idealize.ShloMosaic.Lib.Pointwise
public import Idealize.ShloMosaic.Adequacy
public import Idealize.ShloMosaic.Init

@[expose] public section

noncomputable section

namespace Cert.DwUpIdeal.Hand

open Idealize.ShloMosaic Idealize.ShloMosaic.TcCoe Idealize.SL.Sem Finset Idealize.ShloMosaic.StableHlo
open Cert.DwUpIdeal Cert.DwUpIdeal.Gen

variable (m : (ℓ : Loc nD τ sig) → Buf (Elt Ideal) ℓ) (c : Dev nD)

theorem idx0 : ∀ t : Fin grid0.N, win0_0.index t = ![t.val % 4, 0] := by decide +kernel
theorem idx1 : ∀ t : Fin grid0.N, win0_1.index t = ![t.val % 4, t.val / 4] := by decide +kernel
theorem idx2 : ∀ t : Fin grid0.N, win0_2.index t = ![0, t.val / 4] := by decide +kernel

theorem zero_block (i : S1024x1024.Idx) : k0_pay1 (F := Ideal) i = 0 := by
  idx_vars i
  pointwise [k0_pay1]

/-- What a point adds to the accumulator. -/
def part (x : Vec Ideal S2048x1024 .bf16) (y : Vec Ideal S2048x1024 .bf16) (i : S1024x1024.Idx) : EReal := ∑ l : Fin 2048, x (ix2 l (i 0)) * y (ix2 l (i 1))

theorem step (acc : Vec Ideal S1024x1024 .f32) (x : Vec Ideal S2048x1024 .bf16) (y : Vec Ideal S2048x1024 .bf16) (i : S1024x1024.Idx) :
    k0_pay2 acc x y i = acc i + part x y i := by
  idx_vars i
  pointwise [k0_pay2]
  rfl

/-- At the last point of a tile's run the accumulator holds the run's four parts. -/
theorem acc_eq (t : Fin cfg0.N) (i : S1024x1024.Idx) (hf : t.val % 4 = 3) : (outsAt0 m c t.val t.isLt).2 i =
    0 + ∑ s : Fin 4, part (iblk m c 0 ⟨4 * (t.val / 4) + s, by have := t.isLt; have := Nat.div_add_mod t.val 4; omega⟩)
      (iblk m c 1 ⟨4 * (t.val / 4) + s, by have := t.isLt; have := Nat.div_add_mod t.val 4; omega⟩) i :=
  Pipeline.eq_sum_fin_of_reset_step_apply_of_flush (fun n h => (outsAt0 m c n h).2) 4 (fun _ => 0) (fun t => part (iblk m c 0 t) (iblk m c 1 t))
    (fun t h i => by
      beta_reduce
      rw [outsAt0_A m c t h (by omega)]; frame_out; rw [step, zero_block])
    (fun t h i => by
      beta_reduce
      by_cases h1 : t.val % 4 = 3
      · rw [outsAt0_C m c t h h1]; frame_out; rw [step]; congr 1; exact congrFun (Memref.IsWhole.read_unread _ _) i
      · rw [outsAt0_B m c t h h1]; frame_out; rw [step]; congr 1; exact congrFun (Memref.IsWhole.read_unread _ _) i) t hf i

theorem out_eq (t : Fin cfg0.N) (h1 : t.val % 4 = 3) (i : S1024x1024.Idx) : (outsAt0 m c t.val t.isLt).1 i = (outsAt0 m c t.val t.isLt).2 i := by
  rw [outsAt0_C m c t (by omega) h1]
  frame_out
  idx_vars i
  pointwise [k0_pay3]

/-- The product as a sum over all the tokens. -/
def grad (A : Vec Ideal S8192x1024 .bf16) (B : Vec Ideal S8192x4096 .bf16) : Vec Ideal S1024x4096 .bf16 := fun i =>
  ∑ l : Fin 8192, A (ix2 l (i 0)) * B (ix2 l (i 1))

theorem arr : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), acc_eq m c t _ ((flush0_2 t).mp hf), zero_add]
  have hf' := (flush0_2 t).mp hf
  have hN : t.val < 16 := t.isLt
  refine Fin.sum_mul_add_congr (fun s k hl => ?_)
  congr 1
  · blk_ext [iblk, idx0 (⟨4 * (t.val / 4) + s.val, by have := s.isLt; show _ < 16; omega⟩ : Fin grid0.N), idx2 t]
  · blk_ext [iblk, idx1 (⟨4 * (t.val / 4) + s.val, by have := s.isLt; show _ < 16; omega⟩ : Fin grid0.N), idx2 t]

theorem ref (m : (ℓ : Loc Cert.DwUpRefIdeal.nD Cert.DwUpRefIdeal.τ Cert.DwUpRefIdeal.sig) → Buf (Elt Ideal) ℓ) (ρ : Dev Cert.DwUpRefIdeal.nD → PrngReg) :
    θ_run Cert.DwUpRefIdeal.defs (onTc (τ := Cert.DwUpRefIdeal.τ) (Cert.DwUpRefIdeal.main (F := Ideal))) ⟨m, fun _ => 0, ρ⟩ fun r => ∀ c : Dev Cert.DwUpRefIdeal.nD,
      r.2.mem ((c.tc : Thread Cert.DwUpRefIdeal.nD Cert.DwUpRefIdeal.τ).loc Cert.DwUpRefIdeal.main_v7) = grad (m ((c.tc : Thread Cert.DwUpRefIdeal.nD Cert.DwUpRefIdeal.τ).loc Cert.DwUpRefIdeal.main_arg0)) (m ((c.tc : Thread Cert.DwUpRefIdeal.nD Cert.DwUpRefIdeal.τ).loc Cert.DwUpRefIdeal.main_arg1))
      ∧ r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1) := by
  refine (θ_run _ _ _).mono (fun r h c => ?_) (Cert.DwUpRefIdeal.Value.run (F := Ideal) m ρ)
  refine ⟨(h c).1.trans ?_, (h c).2⟩
  funext i
  idx_vars i
  pointwise
  exact Finset.sum_congr rfl fun l _ => mul_comm _ _

end Cert.DwUpIdeal.Hand
-- ==== Proof.Dw.Down.lean ====
/- The weight gradient `dw_down`: the accumulator over the tokens' blocks, the array it leaves, and the reference's. -/
module

public import proofs.«01_k».proof.Proof.Gen.DwDown.Frame
public import proofs.«01_k».proof.Proof.Gen.DwDownIdeal.Value
public import proofs.«01_k».proof.Proof.Gen.DwDownRefIdeal.Run
public import Idealize.ShloMosaic.Lib.ValueIdx
public import Idealize.ShloMosaic.Lib.Pipeline.ValueKit
public import Idealize.ShloMosaic.Lib.Pointwise
public import Idealize.ShloMosaic.Adequacy
public import Idealize.ShloMosaic.Init

@[expose] public section

noncomputable section

namespace Cert.DwDownIdeal.Hand

open Idealize.ShloMosaic Idealize.ShloMosaic.TcCoe Idealize.SL.Sem Finset Idealize.ShloMosaic.StableHlo
open Cert.DwDownIdeal Cert.DwDownIdeal.Gen

variable (m : (ℓ : Loc nD τ sig) → Buf (Elt Ideal) ℓ) (c : Dev nD)

theorem idx0 : ∀ t : Fin grid0.N, win0_0.index t = ![t.val % 4, t.val / 4] := by decide +kernel
theorem idx1 : ∀ t : Fin grid0.N, win0_1.index t = ![t.val % 4, 0] := by decide +kernel
theorem idx2 : ∀ t : Fin grid0.N, win0_2.index t = ![t.val / 4, 0] := by decide +kernel

theorem zero_block (i : S1024x1024.Idx) : k0_pay1 (F := Ideal) i = 0 := by
  idx_vars i
  pointwise [k0_pay1]

/-- What a point adds to the accumulator. -/
def part (x : Vec Ideal S2048x1024 .bf16) (y : Vec Ideal S2048x1024 .bf16) (i : S1024x1024.Idx) : EReal := ∑ l : Fin 2048, x (ix2 l (i 0)) * y (ix2 l (i 1))

theorem step (acc : Vec Ideal S1024x1024 .f32) (x : Vec Ideal S2048x1024 .bf16) (y : Vec Ideal S2048x1024 .bf16) (i : S1024x1024.Idx) :
    k0_pay2 acc x y i = acc i + part x y i := by
  idx_vars i
  pointwise [k0_pay2]
  rfl

/-- At the last point of a tile's run the accumulator holds the run's four parts. -/
theorem acc_eq (t : Fin cfg0.N) (i : S1024x1024.Idx) (hf : t.val % 4 = 3) : (outsAt0 m c t.val t.isLt).2 i =
    0 + ∑ s : Fin 4, part (iblk m c 0 ⟨4 * (t.val / 4) + s, by have := t.isLt; have := Nat.div_add_mod t.val 4; omega⟩)
      (iblk m c 1 ⟨4 * (t.val / 4) + s, by have := t.isLt; have := Nat.div_add_mod t.val 4; omega⟩) i :=
  Pipeline.eq_sum_fin_of_reset_step_apply_of_flush (fun n h => (outsAt0 m c n h).2) 4 (fun _ => 0) (fun t => part (iblk m c 0 t) (iblk m c 1 t))
    (fun t h i => by
      beta_reduce
      rw [outsAt0_A m c t h (by omega)]; frame_out; rw [step, zero_block])
    (fun t h i => by
      beta_reduce
      by_cases h1 : t.val % 4 = 3
      · rw [outsAt0_C m c t h h1]; frame_out; rw [step]; congr 1; exact congrFun (Memref.IsWhole.read_unread _ _) i
      · rw [outsAt0_B m c t h h1]; frame_out; rw [step]; congr 1; exact congrFun (Memref.IsWhole.read_unread _ _) i) t hf i

theorem out_eq (t : Fin cfg0.N) (h1 : t.val % 4 = 3) (i : S1024x1024.Idx) : (outsAt0 m c t.val t.isLt).1 i = (outsAt0 m c t.val t.isLt).2 i := by
  rw [outsAt0_C m c t (by omega) h1]
  frame_out
  idx_vars i
  pointwise [k0_pay3]

/-- The product as a sum over all the tokens. -/
def grad (A : Vec Ideal S8192x4096 .bf16) (B : Vec Ideal S8192x1024 .bf16) : Vec Ideal S4096x1024 .bf16 := fun i =>
  ∑ l : Fin 8192, A (ix2 l (i 0)) * B (ix2 l (i 1))

theorem arr : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), acc_eq m c t _ ((flush0_2 t).mp hf), zero_add]
  have hf' := (flush0_2 t).mp hf
  have hN : t.val < 16 := t.isLt
  refine Fin.sum_mul_add_congr (fun s k hl => ?_)
  congr 1
  · blk_ext [iblk, idx0 (⟨4 * (t.val / 4) + s.val, by have := s.isLt; show _ < 16; omega⟩ : Fin grid0.N), idx2 t]
  · blk_ext [iblk, idx1 (⟨4 * (t.val / 4) + s.val, by have := s.isLt; show _ < 16; omega⟩ : Fin grid0.N), idx2 t]

theorem ref (m : (ℓ : Loc Cert.DwDownRefIdeal.nD Cert.DwDownRefIdeal.τ Cert.DwDownRefIdeal.sig) → Buf (Elt Ideal) ℓ) (ρ : Dev Cert.DwDownRefIdeal.nD → PrngReg) :
    θ_run Cert.DwDownRefIdeal.defs (onTc (τ := Cert.DwDownRefIdeal.τ) (Cert.DwDownRefIdeal.main (F := Ideal))) ⟨m, fun _ => 0, ρ⟩ fun r => ∀ c : Dev Cert.DwDownRefIdeal.nD,
      r.2.mem ((c.tc : Thread Cert.DwDownRefIdeal.nD Cert.DwDownRefIdeal.τ).loc Cert.DwDownRefIdeal.main_v7) = grad (m ((c.tc : Thread Cert.DwDownRefIdeal.nD Cert.DwDownRefIdeal.τ).loc Cert.DwDownRefIdeal.main_arg0)) (m ((c.tc : Thread Cert.DwDownRefIdeal.nD Cert.DwDownRefIdeal.τ).loc Cert.DwDownRefIdeal.main_arg1))
      ∧ r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1) := by
  refine (θ_run _ _ _).mono (fun r h c => ?_) (Cert.DwDownRefIdeal.Value.run (F := Ideal) m ρ)
  refine ⟨(h c).1.trans ?_, (h c).2⟩
  funext i
  idx_vars i
  pointwise
  exact Finset.sum_congr rfl fun l _ => mul_comm _ _

end Cert.DwDownIdeal.Hand
-- ==== Proof.Dw.Square.lean ====
/- The weight gradient `dw_o`: the accumulator over the tokens' blocks, the array it leaves, and the reference's. -/
module

public import proofs.«01_k».proof.Proof.Gen.DwSquare.Frame
public import proofs.«01_k».proof.Proof.Gen.DwSquareIdeal.Value
public import proofs.«01_k».proof.Proof.Gen.DwSquareRefIdeal.Run
public import Idealize.ShloMosaic.Lib.ValueIdx
public import Idealize.ShloMosaic.Lib.Pipeline.ValueKit
public import Idealize.ShloMosaic.Lib.Pointwise
public import Idealize.ShloMosaic.Adequacy
public import Idealize.ShloMosaic.Init

@[expose] public section

noncomputable section

namespace Cert.DwSquareIdeal.Hand

open Idealize.ShloMosaic Idealize.ShloMosaic.TcCoe Idealize.SL.Sem Finset Idealize.ShloMosaic.StableHlo
open Cert.DwSquareIdeal Cert.DwSquareIdeal.Gen

variable (m : (ℓ : Loc nD τ sig) → Buf (Elt Ideal) ℓ) (c : Dev nD)

theorem idx0 : ∀ t : Fin grid0.N, win0_0.index t = ![t.val % 4, 0] := by decide +kernel
theorem idx1 : ∀ t : Fin grid0.N, win0_1.index t = ![t.val % 4, 0] := by decide +kernel
theorem idx2 : ∀ t : Fin grid0.N, win0_2.index t = ![0, 0] := by decide +kernel

theorem zero_block (i : S1024x1024.Idx) : k0_pay1 (F := Ideal) i = 0 := by
  idx_vars i
  pointwise [k0_pay1]

/-- What a point adds to the accumulator. -/
def part (x : Vec Ideal S2048x1024 .bf16) (y : Vec Ideal S2048x1024 .bf16) (i : S1024x1024.Idx) : EReal := ∑ l : Fin 2048, x (ix2 l (i 0)) * y (ix2 l (i 1))

theorem step (acc : Vec Ideal S1024x1024 .f32) (x : Vec Ideal S2048x1024 .bf16) (y : Vec Ideal S2048x1024 .bf16) (i : S1024x1024.Idx) :
    k0_pay2 acc x y i = acc i + part x y i := by
  idx_vars i
  pointwise [k0_pay2]
  rfl

/-- At the last point of a tile's run the accumulator holds the run's four parts. -/
theorem acc_eq (t : Fin cfg0.N) (i : S1024x1024.Idx) (hf : t.val % 4 = 3) : (outsAt0 m c t.val t.isLt).2 i =
    0 + ∑ s : Fin 4, part (iblk m c 0 ⟨4 * (t.val / 4) + s, by have := t.isLt; have := Nat.div_add_mod t.val 4; omega⟩)
      (iblk m c 1 ⟨4 * (t.val / 4) + s, by have := t.isLt; have := Nat.div_add_mod t.val 4; omega⟩) i :=
  Pipeline.eq_sum_fin_of_reset_step_apply_of_flush (fun n h => (outsAt0 m c n h).2) 4 (fun _ => 0) (fun t => part (iblk m c 0 t) (iblk m c 1 t))
    (fun t h i => by
      beta_reduce
      rw [outsAt0_A m c t h (by omega)]; frame_out; rw [step, zero_block])
    (fun t h i => by
      beta_reduce
      by_cases h1 : t.val % 4 = 3
      · rw [outsAt0_C m c t h h1]; frame_out; rw [step]; congr 1; exact congrFun (Memref.IsWhole.read_unread _ _) i
      · rw [outsAt0_B m c t h h1]; frame_out; rw [step]; congr 1; exact congrFun (Memref.IsWhole.read_unread _ _) i) t hf i

theorem out_eq (t : Fin cfg0.N) (h1 : t.val % 4 = 3) (i : S1024x1024.Idx) : (outsAt0 m c t.val t.isLt).1 i = (outsAt0 m c t.val t.isLt).2 i := by
  rw [outsAt0_C m c t (by omega) h1]
  frame_out
  idx_vars i
  pointwise [k0_pay3]

/-- The product as a sum over all the tokens. -/
def grad (A : Vec Ideal S8192x1024 .bf16) (B : Vec Ideal S8192x1024 .bf16) : Vec Ideal S1024x1024 .bf16 := fun i =>
  ∑ l : Fin 8192, A (ix2 l (i 0)) * B (ix2 l (i 1))

theorem arr : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), acc_eq m c t _ ((flush0_2 t).mp hf), zero_add]
  have hf' := (flush0_2 t).mp hf
  have hN : t.val < 4 := t.isLt
  refine Fin.sum_mul_add_congr (fun s k hl => ?_)
  congr 1
  · blk_ext [iblk, idx0 (⟨4 * (t.val / 4) + s.val, by have := s.isLt; show _ < 4; omega⟩ : Fin grid0.N), idx2 t]
  · blk_ext [iblk, idx1 (⟨4 * (t.val / 4) + s.val, by have := s.isLt; show _ < 4; omega⟩ : Fin grid0.N), idx2 t]

theorem ref (m : (ℓ : Loc Cert.DwSquareRefIdeal.nD Cert.DwSquareRefIdeal.τ Cert.DwSquareRefIdeal.sig) → Buf (Elt Ideal) ℓ) (ρ : Dev Cert.DwSquareRefIdeal.nD → PrngReg) :
    θ_run Cert.DwSquareRefIdeal.defs (onTc (τ := Cert.DwSquareRefIdeal.τ) (Cert.DwSquareRefIdeal.main (F := Ideal))) ⟨m, fun _ => 0, ρ⟩ fun r => ∀ c : Dev Cert.DwSquareRefIdeal.nD,
      r.2.mem ((c.tc : Thread Cert.DwSquareRefIdeal.nD Cert.DwSquareRefIdeal.τ).loc Cert.DwSquareRefIdeal.main_v7) = grad (m ((c.tc : Thread Cert.DwSquareRefIdeal.nD Cert.DwSquareRefIdeal.τ).loc Cert.DwSquareRefIdeal.main_arg0)) (m ((c.tc : Thread Cert.DwSquareRefIdeal.nD Cert.DwSquareRefIdeal.τ).loc Cert.DwSquareRefIdeal.main_arg1))
      ∧ r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1) := by
  refine (θ_run _ _ _).mono (fun r h c => ?_) (Cert.DwSquareRefIdeal.Value.run (F := Ideal) m ρ)
  refine ⟨(h c).1.trans ?_, (h c).2⟩
  funext i
  idx_vars i
  pointwise
  exact Finset.sum_congr rfl fun l _ => mul_comm _ _

end Cert.DwSquareIdeal.Hand
-- ==== Proof.Dw.Embed.lean ====
/- The weight gradient `dw_ple_proj`: the accumulator over the tokens' blocks, the array it leaves, and the reference's. -/
module

public import proofs.«01_k».proof.Proof.Gen.DwEmbed.Frame
public import proofs.«01_k».proof.Proof.Gen.DwEmbedIdeal.Value
public import proofs.«01_k».proof.Proof.Gen.DwEmbedRefIdeal.Run
public import Idealize.ShloMosaic.Lib.ValueIdx
public import Idealize.ShloMosaic.Lib.Pipeline.ValueKit
public import Idealize.ShloMosaic.Lib.Pointwise
public import Idealize.ShloMosaic.Adequacy
public import Idealize.ShloMosaic.Init

@[expose] public section

noncomputable section

namespace Cert.DwEmbedIdeal.Hand

open Idealize.ShloMosaic Idealize.ShloMosaic.TcCoe Idealize.SL.Sem Finset Idealize.ShloMosaic.StableHlo
open Cert.DwEmbedIdeal Cert.DwEmbedIdeal.Gen

variable (m : (ℓ : Loc nD τ sig) → Buf (Elt Ideal) ℓ) (c : Dev nD)

theorem idx0 : ∀ t : Fin grid0.N, win0_0.index t = ![t.val % 4, 0] := by decide +kernel
theorem idx1 : ∀ t : Fin grid0.N, win0_1.index t = ![t.val % 4, 0] := by decide +kernel
theorem idx2 : ∀ t : Fin grid0.N, win0_2.index t = ![0, 0] := by decide +kernel

theorem zero_block (i : S256x1024.Idx) : k0_pay1 (F := Ideal) i = 0 := by
  idx_vars i
  pointwise [k0_pay1]

/-- What a point adds to the accumulator. -/
def part (x : Vec Ideal S2048x256 .f32) (y : Vec Ideal S2048x1024 .bf16) (i : S256x1024.Idx) : EReal := ∑ l : Fin 2048, x (ix2 l (i 0)) * y (ix2 l (i 1))

theorem step (acc : Vec Ideal S256x1024 .f32) (x : Vec Ideal S2048x256 .f32) (y : Vec Ideal S2048x1024 .bf16) (i : S256x1024.Idx) :
    k0_pay2 acc x y i = acc i + part x y i := by
  idx_vars i
  pointwise [k0_pay2]
  rfl

/-- At the last point of a tile's run the accumulator holds the run's four parts. -/
theorem acc_eq (t : Fin cfg0.N) (i : S256x1024.Idx) (hf : t.val % 4 = 3) : (outsAt0 m c t.val t.isLt).2 i =
    0 + ∑ s : Fin 4, part (iblk m c 0 ⟨4 * (t.val / 4) + s, by have := t.isLt; have := Nat.div_add_mod t.val 4; omega⟩)
      (iblk m c 1 ⟨4 * (t.val / 4) + s, by have := t.isLt; have := Nat.div_add_mod t.val 4; omega⟩) i :=
  Pipeline.eq_sum_fin_of_reset_step_apply_of_flush (fun n h => (outsAt0 m c n h).2) 4 (fun _ => 0) (fun t => part (iblk m c 0 t) (iblk m c 1 t))
    (fun t h i => by
      beta_reduce
      rw [outsAt0_A m c t h (by omega)]; frame_out; rw [step, zero_block])
    (fun t h i => by
      beta_reduce
      by_cases h1 : t.val % 4 = 3
      · rw [outsAt0_C m c t h h1]; frame_out; rw [step]; congr 1; exact congrFun (Memref.IsWhole.read_unread _ _) i
      · rw [outsAt0_B m c t h h1]; frame_out; rw [step]; congr 1; exact congrFun (Memref.IsWhole.read_unread _ _) i) t hf i

theorem out_eq (t : Fin cfg0.N) (h1 : t.val % 4 = 3) (i : S256x1024.Idx) : (outsAt0 m c t.val t.isLt).1 i = (outsAt0 m c t.val t.isLt).2 i := by
  rw [outsAt0_C m c t (by omega) h1]
  frame_out
  idx_vars i
  pointwise [k0_pay3]

/-- The product as a sum over all the tokens. -/
def grad (A : Vec Ideal S8192x256 .f32) (B : Vec Ideal S8192x1024 .bf16) : Vec Ideal S256x1024 .bf16 := fun i =>
  ∑ l : Fin 8192, A (ix2 l (i 0)) * B (ix2 l (i 1))

theorem arr : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), acc_eq m c t _ ((flush0_2 t).mp hf), zero_add]
  have hf' := (flush0_2 t).mp hf
  have hN : t.val < 4 := t.isLt
  refine Fin.sum_mul_add_congr (fun s k hl => ?_)
  congr 1
  · blk_ext [iblk, idx0 (⟨4 * (t.val / 4) + s.val, by have := s.isLt; show _ < 4; omega⟩ : Fin grid0.N), idx2 t]
  · blk_ext [iblk, idx1 (⟨4 * (t.val / 4) + s.val, by have := s.isLt; show _ < 4; omega⟩ : Fin grid0.N), idx2 t]

theorem ref (m : (ℓ : Loc Cert.DwEmbedRefIdeal.nD Cert.DwEmbedRefIdeal.τ Cert.DwEmbedRefIdeal.sig) → Buf (Elt Ideal) ℓ) (ρ : Dev Cert.DwEmbedRefIdeal.nD → PrngReg) :
    θ_run Cert.DwEmbedRefIdeal.defs (onTc (τ := Cert.DwEmbedRefIdeal.τ) (Cert.DwEmbedRefIdeal.main (F := Ideal))) ⟨m, fun _ => 0, ρ⟩ fun r => ∀ c : Dev Cert.DwEmbedRefIdeal.nD,
      r.2.mem ((c.tc : Thread Cert.DwEmbedRefIdeal.nD Cert.DwEmbedRefIdeal.τ).loc Cert.DwEmbedRefIdeal.main_v6) = grad (m ((c.tc : Thread Cert.DwEmbedRefIdeal.nD Cert.DwEmbedRefIdeal.τ).loc Cert.DwEmbedRefIdeal.main_arg0)) (m ((c.tc : Thread Cert.DwEmbedRefIdeal.nD Cert.DwEmbedRefIdeal.τ).loc Cert.DwEmbedRefIdeal.main_arg1))
      ∧ r.2.mem ((c.tc : Thread Cert.DwEmbedRefIdeal.nD Cert.DwEmbedRefIdeal.τ).loc Cert.DwEmbedRefIdeal.main_arg0) = m ((c.tc : Thread Cert.DwEmbedRefIdeal.nD Cert.DwEmbedRefIdeal.τ).loc Cert.DwEmbedRefIdeal.main_arg0)
      ∧ r.2.mem ((c.tc : Thread Cert.DwEmbedRefIdeal.nD Cert.DwEmbedRefIdeal.τ).loc Cert.DwEmbedRefIdeal.main_arg1) = m ((c.tc : Thread Cert.DwEmbedRefIdeal.nD Cert.DwEmbedRefIdeal.τ).loc Cert.DwEmbedRefIdeal.main_arg1) := by
  refine (θ_run _ _ _).mono (fun r h c => ?_) (Cert.DwEmbedRefIdeal.Value.run (F := Ideal) m ρ)
  refine ⟨(h c).1.trans ?_, (h c).2⟩
  funext i
  idx_vars i
  pointwise
  exact Finset.sum_congr rfl fun l _ => mul_comm _ _

end Cert.DwEmbedIdeal.Hand
-- ==== Proof.Dw.Out.lean ====
/- The weight gradient `dw_attn_out`: the accumulator over the tokens' blocks, the array it leaves, and the reference's. -/
module

public import proofs.«01_k».proof.Proof.Gen.DwOut.Frame
public import proofs.«01_k».proof.Proof.Gen.DwOutIdeal.Value
public import proofs.«01_k».proof.Proof.Gen.DwOutRefIdeal.Run
public import Idealize.ShloMosaic.Lib.ValueIdx
public import Idealize.ShloMosaic.Lib.Pipeline.ValueKit
public import Idealize.ShloMosaic.Lib.Pointwise
public import Idealize.ShloMosaic.Adequacy
public import Idealize.ShloMosaic.Init

@[expose] public section

noncomputable section

namespace Cert.DwOutIdeal.Hand

open Idealize.ShloMosaic Idealize.ShloMosaic.TcCoe Idealize.SL.Sem Finset Idealize.ShloMosaic.StableHlo
open Cert.DwOutIdeal Cert.DwOutIdeal.Gen

variable (m : (ℓ : Loc nD τ sig) → Buf (Elt Ideal) ℓ) (c : Dev nD)

theorem idx0 : ∀ t : Fin grid0.N, win0_0.index t = ![t.val % 4, 0] := by decide +kernel
theorem idx1 : ∀ t : Fin grid0.N, win0_1.index t = ![t.val % 4, 0] := by decide +kernel
theorem idx2 : ∀ t : Fin grid0.N, win0_2.index t = ![0, 0] := by decide +kernel

theorem zero_block (i : S512x1024.Idx) : k0_pay1 (F := Ideal) i = 0 := by
  idx_vars i
  pointwise [k0_pay1]

/-- What a point adds to the accumulator. -/
def part (x : Vec Ideal S2048x512 .bf16) (y : Vec Ideal S2048x1024 .bf16) (i : S512x1024.Idx) : EReal := ∑ l : Fin 2048, x (ix2 l (i 0)) * y (ix2 l (i 1))

theorem step (acc : Vec Ideal S512x1024 .f32) (x : Vec Ideal S2048x512 .bf16) (y : Vec Ideal S2048x1024 .bf16) (i : S512x1024.Idx) :
    k0_pay2 acc x y i = acc i + part x y i := by
  idx_vars i
  pointwise [k0_pay2]
  rfl

/-- At the last point of a tile's run the accumulator holds the run's four parts. -/
theorem acc_eq (t : Fin cfg0.N) (i : S512x1024.Idx) (hf : t.val % 4 = 3) : (outsAt0 m c t.val t.isLt).2 i =
    0 + ∑ s : Fin 4, part (iblk m c 0 ⟨4 * (t.val / 4) + s, by have := t.isLt; have := Nat.div_add_mod t.val 4; omega⟩)
      (iblk m c 1 ⟨4 * (t.val / 4) + s, by have := t.isLt; have := Nat.div_add_mod t.val 4; omega⟩) i :=
  Pipeline.eq_sum_fin_of_reset_step_apply_of_flush (fun n h => (outsAt0 m c n h).2) 4 (fun _ => 0) (fun t => part (iblk m c 0 t) (iblk m c 1 t))
    (fun t h i => by
      beta_reduce
      rw [outsAt0_A m c t h (by omega)]; frame_out; rw [step, zero_block])
    (fun t h i => by
      beta_reduce
      by_cases h1 : t.val % 4 = 3
      · rw [outsAt0_C m c t h h1]; frame_out; rw [step]; congr 1; exact congrFun (Memref.IsWhole.read_unread _ _) i
      · rw [outsAt0_B m c t h h1]; frame_out; rw [step]; congr 1; exact congrFun (Memref.IsWhole.read_unread _ _) i) t hf i

theorem out_eq (t : Fin cfg0.N) (h1 : t.val % 4 = 3) (i : S512x1024.Idx) : (outsAt0 m c t.val t.isLt).1 i = (outsAt0 m c t.val t.isLt).2 i := by
  rw [outsAt0_C m c t (by omega) h1]
  frame_out
  idx_vars i
  pointwise [k0_pay3]

/-- The product as a sum over all the tokens. -/
def grad (A : Vec Ideal S8192x512 .bf16) (B : Vec Ideal S8192x1024 .bf16) : Vec Ideal S512x1024 .bf16 := fun i =>
  ∑ l : Fin 8192, A (ix2 l (i 0)) * B (ix2 l (i 1))

theorem arr : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), acc_eq m c t _ ((flush0_2 t).mp hf), zero_add]
  have hf' := (flush0_2 t).mp hf
  have hN : t.val < 4 := t.isLt
  refine Fin.sum_mul_add_congr (fun s k hl => ?_)
  congr 1
  · blk_ext [iblk, idx0 (⟨4 * (t.val / 4) + s.val, by have := s.isLt; show _ < 4; omega⟩ : Fin grid0.N), idx2 t]
  · blk_ext [iblk, idx1 (⟨4 * (t.val / 4) + s.val, by have := s.isLt; show _ < 4; omega⟩ : Fin grid0.N), idx2 t]

theorem ref (m : (ℓ : Loc Cert.DwOutRefIdeal.nD Cert.DwOutRefIdeal.τ Cert.DwOutRefIdeal.sig) → Buf (Elt Ideal) ℓ) (ρ : Dev Cert.DwOutRefIdeal.nD → PrngReg) :
    θ_run Cert.DwOutRefIdeal.defs (onTc (τ := Cert.DwOutRefIdeal.τ) (Cert.DwOutRefIdeal.main (F := Ideal))) ⟨m, fun _ => 0, ρ⟩ fun r => ∀ c : Dev Cert.DwOutRefIdeal.nD,
      r.2.mem ((c.tc : Thread Cert.DwOutRefIdeal.nD Cert.DwOutRefIdeal.τ).loc Cert.DwOutRefIdeal.main_v7) = grad (m ((c.tc : Thread Cert.DwOutRefIdeal.nD Cert.DwOutRefIdeal.τ).loc Cert.DwOutRefIdeal.main_arg0)) (m ((c.tc : Thread Cert.DwOutRefIdeal.nD Cert.DwOutRefIdeal.τ).loc Cert.DwOutRefIdeal.main_arg1))
      ∧ r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1) := by
  refine (θ_run _ _ _).mono (fun r h c => ?_) (Cert.DwOutRefIdeal.Value.run (F := Ideal) m ρ)
  refine ⟨(h c).1.trans ?_, (h c).2⟩
  funext i
  idx_vars i
  pointwise
  exact Finset.sum_congr rfl fun l _ => mul_comm _ _

end Cert.DwOutIdeal.Hand
-- ==== Proof.Dw.Claims.lean ====
/- The weight gradients' claims. -/
module

public import proofs.«01_k».proof.Defs
public import proofs.«01_k».proof.Proof.Dw.Up
public import proofs.«01_k».proof.Proof.Dw.Down
public import proofs.«01_k».proof.Proof.Dw.Square
public import proofs.«01_k».proof.Proof.Dw.Embed
public import proofs.«01_k».proof.Proof.Dw.Out
public import Idealize.ShloMosaic.Adequacy
public import Idealize.ShloMosaic.Init

@[expose] public section

noncomputable section

namespace Cert.Proof

open Idealize.ShloMosaic Idealize.SL.Sem

theorem frame_DwUp : Cert.quiescent_DwUp (hDwUp := Cert.DwUp.Gen.facts) := fun m ρ _ => Cert.DwUp.Gen.frame m ρ

theorem frame_DwUpIdeal : Cert.quiescent_DwUpIdeal (hDwUpIdeal := Cert.DwUpIdeal.Gen.facts) := fun m ρ _ => Cert.DwUpIdeal.Gen.frame m ρ

theorem frame_DwUpRefIdeal : Cert.quiescent_DwUpRefIdeal (hDwUpRefIdeal := Cert.DwUpRefIdeal.Gen.facts) :=
  fun m ρ _ => (θ_run Cert.DwUpRefIdeal.defs _ _).mono
    (fun r h => ⟨fun c => (h c).2, Idealize.ShloMosaic.sem_eq_zero_of_no_sems (by decide) r.2⟩)
    (Cert.DwUpRefIdeal.Value.run (F := Ideal) m ρ)

theorem value_DwUp : Cert.algebraic_DwUpIdeal_DwUpRefIdeal (hDwUpIdeal := Cert.DwUpIdeal.Gen.facts) (hDwUpRefIdeal := Cert.DwUpRefIdeal.Gen.facts) := by
  intro m g m' g' _ hA
  refine ⟨fun c => Cert.DwUpIdeal.Hand.grad (m ((c.tc : Thread Cert.DwUpIdeal.nD Cert.DwUpIdeal.τ).loc Cert.DwUpIdeal.main_arg0)) (m ((c.tc : Thread Cert.DwUpIdeal.nD Cert.DwUpIdeal.τ).loc Cert.DwUpIdeal.main_arg1)), ?_, ?_⟩
  · refine (θ_run Cert.DwUpIdeal.defs _ _).mono (fun r h c => ?_) (Cert.DwUpIdeal.Value.run_blocks (F := Ideal) m g)
    exact ⟨(h c).1.trans (Cert.DwUpIdeal.Hand.arr m c), (h c).2⟩
  · refine (θ_run Cert.DwUpRefIdeal.defs _ _).mono (fun r h c => ?_) (Cert.DwUpIdeal.Hand.ref m' g')
    refine ⟨(h c).1.trans ?_, (h c).2⟩
    rw [(hA c).1, (hA c).2]

theorem frame_DwDown : Cert.quiescent_DwDown (hDwDown := Cert.DwDown.Gen.facts) := fun m ρ _ => Cert.DwDown.Gen.frame m ρ

theorem frame_DwDownIdeal : Cert.quiescent_DwDownIdeal (hDwDownIdeal := Cert.DwDownIdeal.Gen.facts) := fun m ρ _ => Cert.DwDownIdeal.Gen.frame m ρ

theorem frame_DwDownRefIdeal : Cert.quiescent_DwDownRefIdeal (hDwDownRefIdeal := Cert.DwDownRefIdeal.Gen.facts) :=
  fun m ρ _ => (θ_run Cert.DwDownRefIdeal.defs _ _).mono
    (fun r h => ⟨fun c => (h c).2, Idealize.ShloMosaic.sem_eq_zero_of_no_sems (by decide) r.2⟩)
    (Cert.DwDownRefIdeal.Value.run (F := Ideal) m ρ)

theorem value_DwDown : Cert.algebraic_DwDownIdeal_DwDownRefIdeal (hDwDownIdeal := Cert.DwDownIdeal.Gen.facts) (hDwDownRefIdeal := Cert.DwDownRefIdeal.Gen.facts) := by
  intro m g m' g' _ hA
  refine ⟨fun c => Cert.DwDownIdeal.Hand.grad (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1)), ?_, ?_⟩
  · refine (θ_run Cert.DwDownIdeal.defs _ _).mono (fun r h c => ?_) (Cert.DwDownIdeal.Value.run_blocks (F := Ideal) m g)
    exact ⟨(h c).1.trans (Cert.DwDownIdeal.Hand.arr m c), (h c).2⟩
  · refine (θ_run Cert.DwDownRefIdeal.defs _ _).mono (fun r h c => ?_) (Cert.DwDownIdeal.Hand.ref m' g')
    refine ⟨(h c).1.trans ?_, (h c).2⟩
    rw [(hA c).1, (hA c).2]

theorem frame_DwSquare : Cert.quiescent_DwSquare (hDwSquare := Cert.DwSquare.Gen.facts) := fun m ρ _ => Cert.DwSquare.Gen.frame m ρ

theorem frame_DwSquareIdeal : Cert.quiescent_DwSquareIdeal (hDwSquareIdeal := Cert.DwSquareIdeal.Gen.facts) := fun m ρ _ => Cert.DwSquareIdeal.Gen.frame m ρ

theorem frame_DwSquareRefIdeal : Cert.quiescent_DwSquareRefIdeal (hDwSquareRefIdeal := Cert.DwSquareRefIdeal.Gen.facts) :=
  fun m ρ _ => (θ_run Cert.DwSquareRefIdeal.defs _ _).mono
    (fun r h => ⟨fun c => (h c).2, Idealize.ShloMosaic.sem_eq_zero_of_no_sems (by decide) r.2⟩)
    (Cert.DwSquareRefIdeal.Value.run (F := Ideal) m ρ)

theorem value_DwSquare : Cert.algebraic_DwSquareIdeal_DwSquareRefIdeal (hDwSquareIdeal := Cert.DwSquareIdeal.Gen.facts) (hDwSquareRefIdeal := Cert.DwSquareRefIdeal.Gen.facts) := by
  intro m g m' g' _ hA
  refine ⟨fun c => Cert.DwSquareIdeal.Hand.grad (m ((c.tc : Thread Cert.DwSquareIdeal.nD Cert.DwSquareIdeal.τ).loc Cert.DwSquareIdeal.main_arg0)) (m ((c.tc : Thread Cert.DwSquareIdeal.nD Cert.DwSquareIdeal.τ).loc Cert.DwSquareIdeal.main_arg1)), ?_, ?_⟩
  · refine (θ_run Cert.DwSquareIdeal.defs _ _).mono (fun r h c => ?_) (Cert.DwSquareIdeal.Value.run_blocks (F := Ideal) m g)
    exact ⟨(h c).1.trans (Cert.DwSquareIdeal.Hand.arr m c), (h c).2⟩
  · refine (θ_run Cert.DwSquareRefIdeal.defs _ _).mono (fun r h c => ?_) (Cert.DwSquareIdeal.Hand.ref m' g')
    refine ⟨(h c).1.trans ?_, (h c).2⟩
    rw [(hA c).1, (hA c).2]

theorem frame_DwEmbed : Cert.quiescent_DwEmbed (hDwEmbed := Cert.DwEmbed.Gen.facts) := fun m ρ _ => Cert.DwEmbed.Gen.frame m ρ

theorem frame_DwEmbedIdeal : Cert.quiescent_DwEmbedIdeal (hDwEmbedIdeal := Cert.DwEmbedIdeal.Gen.facts) := fun m ρ _ => Cert.DwEmbedIdeal.Gen.frame m ρ

theorem frame_DwEmbedRefIdeal : Cert.quiescent_DwEmbedRefIdeal (hDwEmbedRefIdeal := Cert.DwEmbedRefIdeal.Gen.facts) :=
  fun m ρ _ => (θ_run Cert.DwEmbedRefIdeal.defs _ _).mono
    (fun r h => ⟨fun c => (h c).2, Idealize.ShloMosaic.sem_eq_zero_of_no_sems (by decide) r.2⟩)
    (Cert.DwEmbedRefIdeal.Value.run (F := Ideal) m ρ)

theorem value_DwEmbed : Cert.algebraic_DwEmbedIdeal_DwEmbedRefIdeal (hDwEmbedIdeal := Cert.DwEmbedIdeal.Gen.facts) (hDwEmbedRefIdeal := Cert.DwEmbedRefIdeal.Gen.facts) := by
  intro m g m' g' _ hA
  refine ⟨fun c => Cert.DwEmbedIdeal.Hand.grad (m ((c.tc : Thread Cert.DwEmbedIdeal.nD Cert.DwEmbedIdeal.τ).loc Cert.DwEmbedIdeal.main_arg0)) (m ((c.tc : Thread Cert.DwEmbedIdeal.nD Cert.DwEmbedIdeal.τ).loc Cert.DwEmbedIdeal.main_arg1)), ?_, ?_⟩
  · refine (θ_run Cert.DwEmbedIdeal.defs _ _).mono (fun r h c => ?_) (Cert.DwEmbedIdeal.Value.run_blocks (F := Ideal) m g)
    exact ⟨(h c).1.trans (Cert.DwEmbedIdeal.Hand.arr m c), (h c).2⟩
  · refine (θ_run Cert.DwEmbedRefIdeal.defs _ _).mono (fun r h c => ?_) (Cert.DwEmbedIdeal.Hand.ref m' g')
    refine ⟨(h c).1.trans ?_, (h c).2⟩
    rw [(hA c).1, (hA c).2]

theorem frame_DwOut : Cert.quiescent_DwOut (hDwOut := Cert.DwOut.Gen.facts) := fun m ρ _ => Cert.DwOut.Gen.frame m ρ

theorem frame_DwOutIdeal : Cert.quiescent_DwOutIdeal (hDwOutIdeal := Cert.DwOutIdeal.Gen.facts) := fun m ρ _ => Cert.DwOutIdeal.Gen.frame m ρ

theorem frame_DwOutRefIdeal : Cert.quiescent_DwOutRefIdeal (hDwOutRefIdeal := Cert.DwOutRefIdeal.Gen.facts) :=
  fun m ρ _ => (θ_run Cert.DwOutRefIdeal.defs _ _).mono
    (fun r h => ⟨fun c => (h c).2, Idealize.ShloMosaic.sem_eq_zero_of_no_sems (by decide) r.2⟩)
    (Cert.DwOutRefIdeal.Value.run (F := Ideal) m ρ)

theorem value_DwOut : Cert.algebraic_DwOutIdeal_DwOutRefIdeal (hDwOutIdeal := Cert.DwOutIdeal.Gen.facts) (hDwOutRefIdeal := Cert.DwOutRefIdeal.Gen.facts) := by
  intro m g m' g' _ hA
  refine ⟨fun c => Cert.DwOutIdeal.Hand.grad (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)), ?_, ?_⟩
  · refine (θ_run Cert.DwOutIdeal.defs _ _).mono (fun r h c => ?_) (Cert.DwOutIdeal.Value.run_blocks (F := Ideal) m g)
    exact ⟨(h c).1.trans (Cert.DwOutIdeal.Hand.arr m c), (h c).2⟩
  · refine (θ_run Cert.DwOutRefIdeal.defs _ _).mono (fun r h c => ?_) (Cert.DwOutIdeal.Hand.ref m' g')
    refine ⟨(h c).1.trans ?_, (h c).2⟩
    rw [(hA c).1, (hA c).2]

end Cert.Proof

end
-- ==== Proof.Rms.lean ====
/- Root-mean-square normalisation of a row of 1024 and its transpose, at the extended reals: the transpose as the
   fused form writes it is the one differentiation writes, whatever the row holds. -/
module

public import Idealize.ShloMosaic.Lib.Pointwise

@[expose] public section

noncomputable section

namespace Cert.Rms

open Idealize.ShloMosaic

theorem n_eq : Ideal.ofBits .f32 0x44800000#32 = ((1024 : ℝ) : EReal) := by
  simp [Ideal.ofBits, Ideal.ieee, -EReal.coe_mul]; norm_num

theorem half_eq : Ideal.ofBits .f32 0xBF000000#32 = ((-1 / 2 : ℝ) : EReal) := by
  simp [Ideal.ofBits, Ideal.ieee, -EReal.coe_mul]; norm_num

theorem eps_eq : ∃ e : ℝ, 0 < e ∧ Ideal.ofBits .f32 0x358637BD#32 = (e : EReal) := by
  refine ⟨8796093 * (2 ^ 43)⁻¹, by norm_num, ?_⟩
  simp [Ideal.ofBits, Ideal.ieee, -EReal.coe_mul]

theorem div_n (x : EReal) : Ideal.div x (Ideal.ofBits .f32 0x44800000#32) = x * ((1 / 1024 : ℝ) : EReal) := by
  rw [n_eq, Ideal.div, if_neg (by norm_cast), ← EReal.coe_inv]; norm_num

/-- A row's mean. -/
def mean (f : Fin 1024 → EReal) : EReal := Ideal.div (∑ j, f j) (Ideal.ofBits .f32 0x44800000#32)

/-- A row's mean square, off zero. -/
def ms (x : Fin 1024 → EReal) : EReal := mean (fun j => x j * x j) + Ideal.ofBits .f32 0x358637BD#32

/-- The reciprocal of a row's root mean square. -/
def rr (x : Fin 1024 → EReal) : EReal := Ideal.rsqrt (ms x)

/-- The transpose at a row, as the fused form writes it. -/
def bwd (x gd : Fin 1024 → EReal) (i : Fin 1024) : EReal :=
  rr x * (gd i - x i * rr x * mean (fun j => gd j * (x j * rr x)))

/-- What the mean square's own derivative adds. -/
def corr (x gd : Fin 1024 → EReal) : EReal :=
  Ideal.div ((∑ j, x j * gd j) * (Ideal.ofBits .f32 0xBF000000#32 * Ideal.div (rr x) (ms x))) (Ideal.ofBits .f32 0x44800000#32)

theorem mul_self_nonneg (x : EReal) : 0 ≤ x * x := by
  induction x with
  | bot => simp
  | top => simp
  | coe r => norm_cast; exact _root_.mul_self_nonneg r

theorem sum_mul_real {ι : Type} (s : Finset ι) (f : ι → EReal) (r : ℝ) (hr : 0 ≤ r) : ∑ j ∈ s, f j * (r : EReal) = (∑ j ∈ s, f j) * (r : EReal) := by
  classical
  induction s using Finset.induction_on with
  | empty => simp
  | insert a s ha ih =>
      rw [Finset.sum_insert ha, Finset.sum_insert ha, ih, EReal.right_distrib_of_nonneg_of_ne_top (by exact_mod_cast hr) (EReal.coe_ne_top r)]

theorem ms_cases (x : Fin 1024 → EReal) : ms x = ⊤ ∨ ∃ v : ℝ, 0 < v ∧ ms x = (v : EReal) := by
  obtain ⟨e, he, h⟩ := eps_eq
  have h0 : 0 ≤ mean (fun j => x j * x j) := by
    rw [mean, div_n]
    exact mul_nonneg (Finset.sum_nonneg fun j _ => mul_self_nonneg _) (by norm_cast; norm_num)
  rw [ms, h]
  generalize mean (fun j => x j * x j) = w at h0
  induction w with
  | bot => simp at h0
  | top => left; simp
  | coe r => right; refine ⟨r + e, ?_, by norm_cast⟩; have : (0 : ℝ) ≤ r := by exact_mod_cast h0
             linarith

theorem bwd_eq (x gd : Fin 1024 → EReal) (i : Fin 1024) : bwd x gd i = gd i * rr x + x i * corr x gd + corr x gd * x i := by
  rcases ms_cases x with h | ⟨v, hv, h⟩
  · have hr : rr x = 0 := by rw [rr, h]; rfl
    have hc : corr x gd = 0 := by
      rw [corr, hr, h, div_n]; simp [Ideal.div]
    simp [bwd, hr, hc]
  · have hr : rr x = (((Real.sqrt v)⁻¹ : ℝ) : EReal) := by
      rw [rr, h]; show (if v < 0 then _ else if v = 0 then _ else _) = _
      rw [if_neg (by linarith), if_neg (by linarith)]
    set r : ℝ := (Real.sqrt v)⁻¹ with hrd
    have hr0 : 0 ≤ r := by rw [hrd]; positivity
    have hv3 : r * v⁻¹ = r * r * r := by
      have : v⁻¹ = r * r := by rw [hrd, ← mul_inv, Real.mul_self_sqrt hv.le]
      rw [this]; ring
    set S : EReal := ∑ j, x j * gd j with hS
    have hM : mean (fun j => gd j * (x j * rr x)) = S * ((r / 1024 : ℝ) : EReal) := by
      rw [mean, div_n, hr]
      have : ∀ j, gd j * (x j * (r : EReal)) = x j * gd j * (r : EReal) := fun j => by rw [← mul_assoc, mul_comm (gd j)]
      simp only [this]
      rw [sum_mul_real _ _ r hr0, mul_assoc, ← EReal.coe_mul]; congr 2; ring
    have hc : corr x gd = S * ((-(r * r * r / 2048) : ℝ) : EReal) := by
      rw [corr, hr, h, div_n, half_eq, Ideal.div, if_neg (by norm_cast; linarith), ← EReal.coe_inv, ← EReal.coe_mul, hv3, ← EReal.coe_mul, mul_assoc, ← EReal.coe_mul]
      congr 2; ring
    have hk : (0 : ℝ) ≤ r * r * r / 2048 := by positivity
    rw [bwd, hM, hc, hr, sub_eq_add_neg, EReal.left_distrib_of_nonneg_of_ne_top (by exact_mod_cast hr0) (EReal.coe_ne_top r), mul_comm (r : EReal) (gd i), add_assoc]
    congr 1
    have e1 : x i * (S * ((-(r * r * r / 2048) : ℝ) : EReal)) = -(x i * S * ((r * r * r / 2048 : ℝ) : EReal)) := by
      rw [EReal.coe_neg, mul_neg, mul_neg, ← mul_assoc]
    have e2 : S * ((-(r * r * r / 2048) : ℝ) : EReal) * x i = -(x i * S * ((r * r * r / 2048 : ℝ) : EReal)) := by
      rw [mul_comm, e1]
    rw [e1, e2, mul_neg]
    have e3 : (r : EReal) * (x i * r * (S * ((r / 1024 : ℝ) : EReal))) = x i * S * ((r * r * r / 2048 : ℝ) : EReal) + x i * S * ((r * r * r / 2048 : ℝ) : EReal) := by
      rw [← EReal.left_distrib_of_nonneg (by exact_mod_cast hk) (by exact_mod_cast hk), ← EReal.coe_add]
      have : (r * r * r / 2048 + r * r * r / 2048 : ℝ) = r * r * (r / 1024) := by ring
      rw [this, EReal.coe_mul, EReal.coe_mul]
      ac_rfl
    rw [e3]
    generalize x i * S * ((r * r * r / 2048 : ℝ) : EReal) = p
    induction p with
    | bot => rfl
    | top => rfl
    | coe q => norm_cast; ring

end Cert.Rms

end
-- ==== Proof.Kit.lean ====
/- Reading back a buffer filled whole by one transfer. -/
module

public import Idealize.ShloMosaic.Lib.Pipeline.ValueKit

@[expose] public section

noncomputable section

namespace Cert.Kit

open Idealize.ShloMosaic Idealize.ShloMosaic.View

variable {S : Shape} {e : EltTy} {Val : EltTy → Type}

theorem canon_whole [∀ e, Nonempty (Val e)] (w : S.Idx → Val e) (L : List (Piece Val S e)) :
    View.canon ((⟨Rect.whole S, w⟩ : Piece Val S e) :: L) = w :=
  View.canon_cons_unit_lit (S := S) (off := fun _ => 0) _ w L fun _ => rfl

theorem readCov_whole [∀ e, Nonempty (Val e)] {sig : RefSig} {κ : Kind} {sp : Space} (v : View sig κ sp S e) (w : S.Idx → Val e)
    (L : List (Piece Val S e)) (r : Rect S) : v.readCov ((⟨Rect.whole S, w⟩ : Piece Val S e) :: L) r.toLoadRect = View.ld w r := by
  rw [View.readCov_eq_canon', canon_whole]

theorem read_unread {sig : RefSig} {κ : Kind} (b : Ref sig κ) (h : (Memref.whole b).IsWhole) (X : b.ty.shape.Idx → Val b.ty.elt) :
    View.read Val (View.whole b) (h.unread X) = X := Memref.IsWhole.read_unread _ _

end Cert.Kit

end
-- ==== Proof.In.Body.lean ====
/- The input projections' backward call: what a point computes. -/
module

public import proofs.«01_k».proof.Proof.Gen.InBwdIdeal.Value
public import proofs.«01_k».proof.Proof.Rms
public import proofs.«01_k».proof.Proof.Kit
public import Idealize.ShloMosaic.Lib.ValueIdx
public import Idealize.ShloMosaic.Lib.Pipeline.ValueKit
public import Idealize.ShloMosaic.Lib.Pointwise

@[expose] public section

noncomputable section

namespace Cert.InBwdIdeal.Hand

open Idealize.ShloMosaic Idealize.ShloMosaic.TcCoe Idealize.SL.Sem Finset Idealize.ShloMosaic.StableHlo
open Cert.InBwdIdeal Cert.InBwdIdeal.Gen Cert.Kit

variable (m : (ℓ : Loc nD τ sig) → Buf (Elt Ideal) ℓ) (c : Dev nD)

/-- The cotangent of the normalised rows, from the four cotangents and the weights. -/
def dhW (q k v : Vec Ideal S512x512 .bf16) (r : Vec Ideal S512x3584 .bf16) (W : Vec Ideal S1024x5120 .bf16) : FVec Ideal S512x1024 .f32 :=
  k0_pay6 q (View.ld W (Rect.unit ![0, 0] ![1024, 512] inb_S1024x5120_S1024x512_0_0))
    k (View.ld W (Rect.unit ![0, 512] ![1024, 512] inb_S1024x5120_S1024x512_0_512))
    v (View.ld W (Rect.unit ![0, 1024] ![1024, 512] inb_S1024x5120_S1024x512_0_1024))
    r (View.ld W (Rect.unit ![0, 1536] ![1024, 3584] inb_S1024x5120_S1024x3584_0_1536))

/-- A row's cotangent, block by block of the contraction. -/
def dhAt (q k v : Fin 512 → EReal) (r : Fin 3584 → EReal) (W : Fin 5120 → EReal) : EReal :=
  (∑ l : Fin 512, q l * W ⟨l.val, by omega⟩) + (∑ l : Fin 512, k l * W ⟨512 + l.val, by omega⟩) + (∑ l : Fin 512, v l * W ⟨1024 + l.val, by omega⟩)
    + ∑ l : Fin 3584, r l * W ⟨1536 + l.val, by omega⟩

theorem dhW_apply (q k v : Vec Ideal S512x512 .bf16) (r : Vec Ideal S512x3584 .bf16) (W : Vec Ideal S1024x5120 .bf16) (a : Fin 512) (j : Fin 1024) :
    dhW q k v r W (ix2 a j) = dhAt (fun l => q (ix2 a l)) (fun l => k (ix2 a l)) (fun l => v (ix2 a l)) (fun l => r (ix2 a l)) (fun l => W (ix2 j l)) := by
  unfold dhW dhAt
  pointwise [k0_pay6]

/-- A point's rows of the input's cotangent. -/
theorem pay4_apply (D x dx1 : Vec Ideal S512x1024 .f32) (g : Vec Ideal S1x1024 .f32) (a : Fin 512) (j : Fin 1024) :
    k0_pay4 D x (k0_pay7 x) k0_pay8 dx1 g (ix2 a j) =
      dx1 (ix2 a j) + Rms.bwd (fun j => x (ix2 a j)) (fun j => D (ix2 a j) * g (ix2 0 j)) j := by
  unfold Rms.bwd Rms.rr Rms.ms Rms.mean
  pointwise [k0_pay4, k0_pay2, k0_pay1, k0_pay7, k0_pay8]

theorem pay3_apply (D x : Vec Ideal S512x1024 .f32) (acc : Vec Ideal S1x1024 .f32) (j : Fin 1024) :
    k0_pay3 D x (k0_pay7 x) k0_pay8 acc (ix2 0 j) = acc (ix2 0 j) + ∑ a : Fin 512, D (ix2 a j) * (x (ix2 a j) * Rms.rr (fun j => x (ix2 a j))) := by
  unfold Rms.rr Rms.ms Rms.mean
  pointwise [k0_pay3, k0_pay2, k0_pay1, k0_pay7, k0_pay8]

theorem w_A (t : Fin cfg0.N) (h0 : t.val % 16 = 0) : (outsAt0 m c t.val t.isLt).2.2 = V m c main_arg7 := by
  rw [outsAt0_A m c t h0 h0]
  frame_out
  rw [canon_whole]
  rfl

theorem w_B (t : Fin cfg0.N) (h0 : ¬ t.val % 16 = 0) :
    (outsAt0 m c t.val t.isLt).2.2 = (outsAt0 m c (t.val - 1) (Nat.lt_of_le_of_lt (Nat.sub_le _ _) t.isLt)).2.2 := by
  rw [outsAt0_B m c t h0 h0]
  rfl

theorem w_eq (n : ℕ) (h : n < cfg0.N) : (outsAt0 m c n h).2.2 = V m c main_arg7 := by
  induction n with
  | zero => exact w_A m c ⟨0, h⟩ rfl
  | succ n ih =>
      have hN : n + 1 < 16 := lt_of_lt_of_eq h N_0
      exact (w_B m c ⟨n + 1, h⟩ (by show ¬ (n + 1) % 16 = 0; omega)).trans (ih (by omega))

theorem o7_eq (t : Fin cfg0.N) : (outsAt0 m c t.val t.isLt).1 =
    k0_pay4 (dhW (iblk m c 2 t) (iblk m c 3 t) (iblk m c 4 t) (iblk m c 5 t) (V m c main_arg7)) (iblk m c 0 t) (k0_pay7 (iblk m c 0 t)) k0_pay8 (iblk m c 1 t) (iblk m c 6 t) := by
  by_cases h0 : t.val % 16 = 0
  · rw [outsAt0_A m c t h0 h0]
    frame_out
    simp only [readCov_whole]
    rfl
  · rw [outsAt0_B m c t h0 h0]
    frame_out
    rw [read_unread, w_eq m c]
    rfl

theorem o8_A (t : Fin cfg0.N) (h0 : t.val % 16 = 0) : (outsAt0 m c t.val t.isLt).2.1 =
    k0_pay3 (dhW (iblk m c 2 t) (iblk m c 3 t) (iblk m c 4 t) (iblk m c 5 t) (V m c main_arg7)) (iblk m c 0 t) (k0_pay7 (iblk m c 0 t)) k0_pay8 (k0_pay5 (F := Ideal)) := by
  rw [outsAt0_A m c t h0 h0]
  frame_out
  simp only [readCov_whole]
  rfl

theorem o8_B (t : Fin cfg0.N) (h0 : ¬ t.val % 16 = 0) : (outsAt0 m c t.val t.isLt).2.1 =
    k0_pay3 (dhW (iblk m c 2 t) (iblk m c 3 t) (iblk m c 4 t) (iblk m c 5 t) (V m c main_arg7)) (iblk m c 0 t) (k0_pay7 (iblk m c 0 t)) k0_pay8
      (outsAt0 m c (t.val - 1) (Nat.lt_of_le_of_lt (Nat.sub_le _ _) t.isLt)).2.1 := by
  rw [outsAt0_B m c t h0 h0]
  frame_out
  rw [read_unread, w_eq m c]
  rfl

end Cert.InBwdIdeal.Hand

end
-- ==== Proof.In.Arr.lean ====
/- The input projections' backward call: the arrays the grid leaves. -/
module

public import proofs.«01_k».proof.Proof.In.Body

@[expose] public section

noncomputable section

namespace Cert.InBwdIdeal.Hand

open Idealize.ShloMosaic Idealize.ShloMosaic.TcCoe Idealize.SL.Sem Finset Idealize.ShloMosaic.StableHlo
open Cert.InBwdIdeal Cert.InBwdIdeal.Gen Cert.Kit

variable (m : (ℓ : Loc nD τ sig) → Buf (Elt Ideal) ℓ) (c : Dev nD)

/-- The cotangent of the normalised rows. -/
def dh (q k v : Vec Ideal S8192x512 .bf16) (r : Vec Ideal S8192x3584 .bf16) (W : Vec Ideal S1024x5120 .bf16) (t : Fin 8192) (j : Fin 1024) : EReal :=
  dhAt (fun l => q (ix2 t l)) (fun l => k (ix2 t l)) (fun l => v (ix2 t l)) (fun l => r (ix2 t l)) (fun l => W (ix2 j l))

/-- The input's cotangent. -/
def outX (x dx1 : Vec Ideal S8192x1024 .f32) (q k v : Vec Ideal S8192x512 .bf16) (r : Vec Ideal S8192x3584 .bf16) (g : Vec Ideal S1x1024 .f32)
    (W : Vec Ideal S1024x5120 .bf16) : Vec Ideal S8192x1024 .f32 := fun i =>
  dx1 (ix2 (i 0) (i 1)) + Rms.bwd (fun j => x (ix2 (i 0) j)) (fun j => dh q k v r W (i 0) j * g (ix2 0 j)) (i 1)

/-- A token's part of the gain's cotangent. -/
def dgRow (x : Vec Ideal S8192x1024 .f32) (q k v : Vec Ideal S8192x512 .bf16) (r : Vec Ideal S8192x3584 .bf16)
    (W : Vec Ideal S1024x5120 .bf16) (t : Fin 8192) (j : Fin 1024) : EReal :=
  dh q k v r W t j * (x (ix2 t j) * Rms.rr (fun j => x (ix2 t j)))

/-- The gain's cotangent. -/
def outG (x : Vec Ideal S8192x1024 .f32) (q k v : Vec Ideal S8192x512 .bf16) (r : Vec Ideal S8192x3584 .bf16)
    (W : Vec Ideal S1024x5120 .bf16) : Vec Ideal S1x1024 .f32 := fun i =>
  ∑ t : Fin 8192, dgRow x q k v r W t (i 1)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel
theorem idx7 : ∀ t : Fin grid0.N, win0_7.index t = ![t.val, 0] := by decide +kernel
theorem idx8 : ∀ t : Fin grid0.N, win0_8.index t = ![0, 0] := by decide +kernel

/-- The token a point's row is. -/
def tok (t : Fin cfg0.N) (a : Fin 512) : Fin 8192 := ⟨512 * t.val + a.val, by have h : t.val < 16 := t.isLt; have := a.isLt; omega⟩

theorem blk0 (t : Fin cfg0.N) (a : Fin 512) (j : Fin 1024) : iblk m c 0 t (ix2 a j) = m ((c : Thread nD τ).loc main_arg0) (ix2 (tok t a) j) := by
  blk_ext [iblk, tok, idx0 t]
theorem blk1 (t : Fin cfg0.N) (a : Fin 512) (j : Fin 1024) : iblk m c 1 t (ix2 a j) = m ((c : Thread nD τ).loc main_arg1) (ix2 (tok t a) j) := by
  blk_ext [iblk, tok, idx1 t]
theorem blk2 (t : Fin cfg0.N) (a : Fin 512) (j : Fin 512) : iblk m c 2 t (ix2 a j) = m ((c : Thread nD τ).loc main_arg2) (ix2 (tok t a) j) := by
  blk_ext [iblk, tok, idx2 t]
theorem blk3 (t : Fin cfg0.N) (a : Fin 512) (j : Fin 512) : iblk m c 3 t (ix2 a j) = m ((c : Thread nD τ).loc main_arg3) (ix2 (tok t a) j) := by
  blk_ext [iblk, tok, idx3 t]
theorem blk4 (t : Fin cfg0.N) (a : Fin 512) (j : Fin 512) : iblk m c 4 t (ix2 a j) = m ((c : Thread nD τ).loc main_arg4) (ix2 (tok t a) j) := by
  blk_ext [iblk, tok, idx4 t]
theorem blk5 (t : Fin cfg0.N) (a : Fin 512) (j : Fin 3584) : iblk m c 5 t (ix2 a j) = m ((c : Thread nD τ).loc main_arg5) (ix2 (tok t a) j) := by
  blk_ext [iblk, tok, idx5 t]
theorem blk6 (t : Fin cfg0.N) (a : Fin 1) (j : Fin 1024) : iblk m c 6 t (ix2 a j) = m ((c : Thread nD τ).loc main_arg6) (ix2 a j) := by
  blk_ext [iblk, idx6 t]

theorem dh_blk (t : Fin cfg0.N) (a : Fin 512) (j : Fin 1024) :
    dhW (iblk m c 2 t) (iblk m c 3 t) (iblk m c 4 t) (iblk m c 5 t) (V m c main_arg7) (ix2 a j) =
      dh (m ((c : Thread nD τ).loc main_arg2)) (m ((c : Thread nD τ).loc main_arg3)) (m ((c : Thread nD τ).loc main_arg4)) (m ((c : Thread nD τ).loc main_arg5))
        (m ((c : Thread nD τ).loc main_arg7)) (tok t a) j := by
  rw [dhW_apply, dh]
  simp only [blk2, blk3, blk4, blk5, V_main_arg7]

theorem arr7 : (dats m 0 c).arrAt 7 cfg0.N = outX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) := by
  refine (dats m 0 c).arrAt_eq_of_covers 7 _ (by decide +kernel) fun t hf y => ?_
  blk_simp
  rw [after0_7, o7_eq]
  idx_vars y
  rw [pay4_apply]
  simp only [dh_blk, blk0, blk1, blk6]
  rw [show ((View.whole main_v0_0).slice (win0_7.rect t)).emb (ix2 y0 y1) = ix2 (tok t y0) y1 from by blk_ext [tok, idx7 t]]
  rfl

theorem acc8 (t : Fin cfg0.N) (ht : t.val + 1 = cfg0.N) (i : Fin 1024) : (outsAt0 m c t.val t.isLt).2.1 (ix2 0 i) =
    0 + ∑ t : Fin cfg0.N, ∑ a : Fin 512, dgRow (m ((c : Thread nD τ).loc main_arg0)) (m ((c : Thread nD τ).loc main_arg2)) (m ((c : Thread nD τ).loc main_arg3)) (m ((c : Thread nD τ).loc main_arg4)) (m ((c : Thread nD τ).loc main_arg5))
        (m ((c : Thread nD τ).loc main_arg7)) (tok t a) i :=
  Pipeline.eq_sum_fin_of_reset_step_apply_last (fun n h (i : Fin 1024) => (outsAt0 m c n h).2.1 (ix2 0 i)) 16 (fun _ => (0 : EReal))
    (fun t i => ∑ a : Fin 512, dgRow (m ((c : Thread nD τ).loc main_arg0)) (m ((c : Thread nD τ).loc main_arg2)) (m ((c : Thread nD τ).loc main_arg3)) (m ((c : Thread nD τ).loc main_arg4)) (m ((c : Thread nD τ).loc main_arg5))
        (m ((c : Thread nD τ).loc main_arg7)) (tok t a) i)
    (fun t h i => by
      beta_reduce
      rw [o8_A m c t h, pay3_apply]
      simp only [dh_blk, blk0, dgRow]
      congr 1
      pointwise [k0_pay5])
    (fun t h i => by
      beta_reduce
      rw [o8_B m c t h, pay3_apply]
      simp only [dh_blk, blk0, dgRow]) (le_of_eq N_0) t ht i

theorem arr8 : (dats m 0 c).arrAt 8 cfg0.N = outG (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg7)) := by
  refine (dats m 0 c).arrAt_eq_of_covers 8 _ (by decide +kernel) fun t hf y => ?_
  have hf' := (flush0_8 t).mp hf
  have hN : t.val < 16 := t.isLt
  blk_simp
  rw [after0_8]
  idx_vars y
  obtain rfl : y0 = 0 := Subsingleton.elim _ _
  rw [acc8 m c t (by show t.val + 1 = 16; omega), zero_add]
  rw [show ((View.whole main_v0_1).slice (win0_8.rect t)).emb (ix2 0 y1) = ix2 0 y1 from by blk_ext [idx8 t]]
  show _ = ∑ t : Fin 8192, dgRow _ _ _ _ _ _ t y1
  refine Fin.sum_mul_add_congr (L := 8192) (fun s k hl => ?_)
  congr 1
  exact Fin.ext (by show 512 * s.val + k.val = s.val * 512 + k.val; omega)

end Cert.InBwdIdeal.Hand

end
-- ==== Proof.In.Ref.lean ====
/- The input projections' backward call: the reference's results. -/
module

public import proofs.«01_k».proof.Proof.In.Arr
public import proofs.«01_k».proof.Proof.Gen.InBwdRefIdeal.Run

@[expose] public section

noncomputable section

namespace Cert.InBwdRefIdeal.Hand

open Idealize.ShloMosaic Idealize.ShloMosaic.TcCoe Idealize.SL.Sem Finset Idealize.ShloMosaic.StableHlo

variable (m : (ℓ : Loc Cert.InBwdRefIdeal.nD Cert.InBwdRefIdeal.τ Cert.InBwdRefIdeal.sig) → Buf (Elt Ideal) ℓ) (c : Dev Cert.InBwdRefIdeal.nD)

open Cert.InBwdIdeal in
theorem outX_apply (x dx1 : Vec Ideal S8192x1024 .f32) (q k v : Vec Ideal S8192x512 .bf16) (r : Vec Ideal S8192x3584 .bf16) (g : Vec Ideal S1x1024 .f32)
    (W : Vec Ideal S1024x5120 .bf16) (t : Fin 8192) (j : Fin 1024) : Cert.InBwdIdeal.Hand.outX x dx1 q k v r g W (ix2 t j) =
      dx1 (ix2 t j) + Cert.InBwdIdeal.Hand.dh q k v r W t j * g (ix2 0 j) * Rms.rr (fun j => x (ix2 t j))
        + x (ix2 t j) * Rms.corr (fun j => x (ix2 t j)) (fun j => Cert.InBwdIdeal.Hand.dh q k v r W t j * g (ix2 0 j))
        + Rms.corr (fun j => x (ix2 t j)) (fun j => Cert.InBwdIdeal.Hand.dh q k v r W t j * g (ix2 0 j)) * x (ix2 t j) := by
  refine Eq.trans (congrArg (dx1 (ix2 t j) + ·) (Rms.bwd_eq (fun j => x (ix2 t j)) (fun j => Cert.InBwdIdeal.Hand.dh q k v r W t j * g (ix2 0 j)) j)) ?_
  simp only [← add_assoc]

theorem split (f : Fin 5120 → EReal) : ∑ x, f x = (∑ l : Fin 512, f ⟨l.val, by omega⟩) + (∑ l : Fin 512, f ⟨512 + l.val, by omega⟩)
    + (∑ l : Fin 512, f ⟨1024 + l.val, by omega⟩) + ∑ l : Fin 3584, f ⟨1536 + l.val, by omega⟩ :=
  (Fin.sum_univ_add (a := 1536) (b := 3584) f).trans (congrArg (· + _)
    ((Fin.sum_univ_add (a := 1024) (b := 512) fun i : Fin 1536 => f (Fin.castAdd 3584 i)).trans (congrArg (· + _)
      (Fin.sum_univ_add (a := 512) (b := 512) fun i : Fin 1024 => f (Fin.castAdd 3584 (Fin.castAdd 512 i))))))

open Cert.InBwdIdeal in
theorem cat_sum (q k v : Vec Ideal S8192x512 .bf16) (r : Vec Ideal S8192x3584 .bf16) (W : Vec Ideal S1024x5120 .bf16) (t : Fin 8192) (j : Fin 1024) :
    (∑ x : Fin 5120, (if h : x.val < 512 then q (ix2 t ⟨x.val, h⟩) else if h' : x.val - 512 < 512 then k (ix2 t ⟨x.val - 512, h'⟩) else
      if h'' : x.val - 512 - 512 < 512 then v (ix2 t ⟨x.val - 512 - 512, h''⟩) else r (ix2 t ⟨x.val - 512 - 512 - 512, by omega⟩)) * W (ix2 j x))
      = Cert.InBwdIdeal.Hand.dh q k v r W t j := by
  unfold Cert.InBwdIdeal.Hand.dh Cert.InBwdIdeal.Hand.dhAt
  rw [split]
  refine congrArg₂ (· + ·) (congrArg₂ (· + ·) (congrArg₂ (· + ·) ?_ ?_) ?_) ?_ <;> refine Finset.sum_congr rfl fun l _ => ?_ <;> have hl := l.isLt
  · rw [dif_pos hl]
  · rw [dif_neg (by show ¬ 512 + l.val < 512; omega), dif_pos (by show 512 + l.val - 512 < 512; omega)]
    exact congrArg (· * _) (congrArg (fun z => k (ix2 t z)) (Fin.ext (by show 512 + l.val - 512 = l.val; omega)))
  · rw [dif_neg (by show ¬ 1024 + l.val < 512; omega), dif_neg (by show ¬ 1024 + l.val - 512 < 512; omega), dif_pos (by show 1024 + l.val - 512 - 512 < 512; omega)]
    exact congrArg (· * _) (congrArg (fun z => v (ix2 t z)) (Fin.ext (by show 1024 + l.val - 512 - 512 = l.val; omega)))
  · rw [dif_neg (by show ¬ 1536 + l.val < 512; omega), dif_neg (by show ¬ 1536 + l.val - 512 < 512; omega), dif_neg (by show ¬ 1536 + l.val - 512 - 512 < 512; omega)]
    exact congrArg (· * _) (congrArg (fun z => r (ix2 t z)) (Fin.ext (by show 1536 + l.val - 512 - 512 - 512 = l.val; omega)))

open Cert.InBwdIdeal.Hand in
theorem ref0 : Cert.InBwdRefIdeal.Value.res_out0 m c = outX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) := by
  funext i
  idx_vars i
  rw [outX_apply]
  unfold Rms.corr Rms.rr Rms.ms Rms.mean
  pointwise [Cert.InBwdRefIdeal.Value.res_main_v39]
  simp only [← cat_sum, Fin.sum_univ_one, Finset.univ_unique, Finset.sum_singleton]

open Cert.InBwdIdeal.Hand in
theorem run (ρ : Dev nD → PrngReg) :
    θ_run defs (onTc (τ := τ) (main (F := Ideal))) ⟨m, fun _ => 0, ρ⟩ fun r => ∀ c : Dev nD,
      r.2.mem ((c.tc : Thread nD τ).loc main_v39) = outX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))
      ∧ r.2.mem ((c.tc : Thread nD τ).loc main_v22) = outG (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (Cert.InBwdRefIdeal.Value.run (F := Ideal) m ρ)
  refine ⟨(h c).1.trans (ref0 m c), (h c).2.1.trans ?_, (h c).2.2⟩
  funext i
  idx_vars i
  obtain rfl : i0 = 0 := Subsingleton.elim _ _
  show _ = ∑ t : Fin 8192, dgRow _ _ _ _ _ _ t i1
  unfold dgRow Rms.rr Rms.ms Rms.mean
  pointwise
  simp only [← cat_sum]
  exact Finset.sum_congr rfl fun l _ => mul_comm _ _

end Cert.InBwdRefIdeal.Hand

end
-- ==== Proof.In.Claims.lean ====
/- The claims of the input projection's backward pass. -/
module

public import proofs.«01_k».proof.Defs
public import proofs.«01_k».proof.Proof.In.Arr
public import proofs.«01_k».proof.Proof.In.Ref
public import proofs.«01_k».proof.Proof.Gen.InBwd.Frame
public import proofs.«01_k».proof.Proof.Gen.InBwdIdeal.Frame
public import Idealize.ShloMosaic.Adequacy
public import Idealize.ShloMosaic.Init

@[expose] public section

noncomputable section

namespace Cert.Proof

open Idealize.ShloMosaic Idealize.SL.Sem

theorem frame_InBwd : Cert.quiescent_InBwd (hInBwd := Cert.InBwd.Gen.facts) := fun m ρ _ => Cert.InBwd.Gen.frame m ρ

theorem frame_InBwdIdeal : Cert.quiescent_InBwdIdeal (hInBwdIdeal := Cert.InBwdIdeal.Gen.facts) := fun m ρ _ => Cert.InBwdIdeal.Gen.frame m ρ

theorem frame_InBwdRefIdeal : Cert.quiescent_InBwdRefIdeal (hInBwdRefIdeal := Cert.InBwdRefIdeal.Gen.facts) :=
  fun m ρ _ => (θ_run Cert.InBwdRefIdeal.defs _ _).mono
    (fun r h => ⟨fun c => (h c).2.2, Idealize.ShloMosaic.sem_eq_zero_of_no_sems (by decide) r.2⟩)
    (Cert.InBwdRefIdeal.Value.run (F := Ideal) m ρ)

theorem value_InBwd : Cert.algebraic_InBwdIdeal_InBwdRefIdeal (hInBwdIdeal := Cert.InBwdIdeal.Gen.facts) (hInBwdRefIdeal := Cert.InBwdRefIdeal.Gen.facts) := by
  intro m g m' g' _ hA
  refine ⟨fun c => Cert.InBwdIdeal.Hand.outX (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)),
    fun c => Cert.InBwdIdeal.Hand.outG (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg7)), ?_, ?_⟩
  · refine (θ_run Cert.InBwdIdeal.defs _ _).mono (fun r h c => ?_) (Cert.InBwdIdeal.Value.run_blocks (F := Ideal) m g)
    exact ⟨(h c).1.trans (Cert.InBwdIdeal.Hand.arr7 m c), (h c).2.1.trans (Cert.InBwdIdeal.Hand.arr8 m c), (h c).2.2⟩
  · refine (θ_run Cert.InBwdRefIdeal.defs _ _).mono (fun r h c => ?_) (Cert.InBwdRefIdeal.Hand.run m' g')
    obtain ⟨h0, h1, h2, h3, h4, h5, h6, h7⟩ := hA c
    refine ⟨(h c).1.trans ?_, (h c).2.1.trans ?_, (h c).2.2⟩
    · rw [h0, h1, h2, h3, h4, h5, h6, h7]
    · rw [h0, h2, h3, h4, h5, h7]

end Cert.Proof
-- ==== Proof.Mlp.RunBits.lean ====
/- The mixer's call at the machine's formats: its run on the grid. What a point leaves in its buffers, the loop's invariant,
   the body at any point, and what the launch ends with. -/
module

public import proofs.«01_k».proof.Proof.Gen.Mlp.Frame.RunB
public import Idealize.ShloMosaic.Lib.Claim
public import Idealize.ShloMosaic.Lib.Pipeline.Value

@[expose] public section

set_option maxRecDepth 16384

noncomputable section

namespace Cert.Mlp.Hand

open Cert.Mlp Cert.Mlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The contents of the twelve result buffers and of the four weights' buffers. -/
abbrev St (F : FTy → Type) : Type := Vec F S256x1024 .f32 × Vec F S256x1024 .bf16 × Vec F S256x4096 .bf16 × Vec F S256x4096 .bf16 × Vec F S256x1024 .bf16 × Vec F S256x1024 .bf16 × Vec F S256x1024 .bf16 × Vec F S256x1024 .bf16 × Vec F S1x1 .f32 × Vec F S1x1024 .f32 × Vec F S1x1024 .f32 × Vec F S1x1024 .f32 × Vec F S1024x4096 .bf16 × Vec F S4096x1024 .bf16 × Vec F S1024x1024 .bf16 × Vec F S256x1024 .bf16

/-- The body's run at a first point. -/
abbrev runA (c : Dev nD) (t : Fin cfg0.N) (h : t.val % 32 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) ((hcond0_0 t).mpr h) ((hcond0_1 t).mpr h) (iblk m c 0 t) (iblk m c 1 t) (iblk m c 2 t) (iblk m c 3 t) (iblk m c 4 t) (iblk m c 5 t) (V m c main_arg6) (V m c main_arg7) (V m c main_arg8) (V m c main_arg9)

/-- The body's run at a later point, over what the point before left. -/
abbrev runB (c : Dev nD) (t : Fin cfg0.N) (h : ¬t.val % 32 = 0) (p : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (fun e => h ((hcond0_0 t).mp e)) (fun e => h ((hcond0_1 t).mp e)) (iblk m c 0 t) (iblk m c 1 t) (iblk m c 2 t) (iblk m c 3 t) (iblk m c 4 t) (iblk m c 5 t) p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2.1 p.2.2.2.2.2.2.2.2.2.2.2.2.2.2.2 (V m c main_arg6) (V m c main_arg7) (V m c main_arg8) (V m c main_arg9)

theorem coverA_0 (c : Dev nD) (t : Fin cfg0.N) (h : t.val % 32 = 0) (y : S256x1024.Idx) : ∃ pc ∈ (runA m c t h).1, y ∈ pc.1.set :=
  View.cover_of_tiledL (runA m c t h).1 S256x1024.size (by sl_kernel_rfl) y
theorem coverA_1 (c : Dev nD) (t : Fin cfg0.N) (h : t.val % 32 = 0) (y : S256x1024.Idx) : ∃ pc ∈ (runA m c t h).2.1, y ∈ pc.1.set :=
  View.cover_of_tiledL (runA m c t h).2.1 S256x1024.size (by sl_kernel_rfl) y
theorem coverA_2 (c : Dev nD) (t : Fin cfg0.N) (h : t.val % 32 = 0) (y : S256x4096.Idx) : ∃ pc ∈ (runA m c t h).2.2.1, y ∈ pc.1.set :=
  View.cover_of_tiledL (runA m c t h).2.2.1 S256x1024.size (by sl_kernel_rfl) y
theorem coverA_3 (c : Dev nD) (t : Fin cfg0.N) (h : t.val % 32 = 0) (y : S256x4096.Idx) : ∃ pc ∈ (runA m c t h).2.2.2.1, y ∈ pc.1.set :=
  View.cover_of_tiledL (runA m c t h).2.2.2.1 S256x1024.size (by sl_kernel_rfl) y
theorem coverA_4 (c : Dev nD) (t : Fin cfg0.N) (h : t.val % 32 = 0) (y : S256x1024.Idx) : ∃ pc ∈ (runA m c t h).2.2.2.2.1, y ∈ pc.1.set :=
  View.cover_of_tiledL (runA m c t h).2.2.2.2.1 S256x1024.size (by sl_kernel_rfl) y
theorem coverA_5 (c : Dev nD) (t : Fin cfg0.N) (h : t.val % 32 = 0) (y : S256x1024.Idx) : ∃ pc ∈ (runA m c t h).2.2.2.2.2.1, y ∈ pc.1.set :=
  View.cover_of_tiledL (runA m c t h).2.2.2.2.2.1 S256x1024.size (by sl_kernel_rfl) y
theorem coverA_6 (c : Dev nD) (t : Fin cfg0.N) (h : t.val % 32 = 0) (y : S256x1024.Idx) : ∃ pc ∈ (runA m c t h).2.2.2.2.2.2.1, y ∈ pc.1.set :=
  View.cover_of_tiledL (runA m c t h).2.2.2.2.2.2.1 S256x1024.size (by sl_kernel_rfl) y
theorem coverA_7 (c : Dev nD) (t : Fin cfg0.N) (h : t.val % 32 = 0) (y : S256x1024.Idx) : ∃ pc ∈ (runA m c t h).2.2.2.2.2.2.2.1, y ∈ pc.1.set :=
  View.cover_of_tiledL (runA m c t h).2.2.2.2.2.2.2.1 S256x1024.size (by sl_kernel_rfl) y
theorem coverA_8 (c : Dev nD) (t : Fin cfg0.N) (h : t.val % 32 = 0) (y : S1x1.Idx) : ∃ pc ∈ (runA m c t h).2.2.2.2.2.2.2.2.1, y ∈ pc.1.set :=
  View.cover_of_tiledL (runA m c t h).2.2.2.2.2.2.2.2.1 S1x1.size (by sl_kernel_rfl) y
theorem coverA_9 (c : Dev nD) (t : Fin cfg0.N) (h : t.val % 32 = 0) (y : S1x1024.Idx) : ∃ pc ∈ (runA m c t h).2.2.2.2.2.2.2.2.2.1, y ∈ pc.1.set :=
  View.cover_of_tiledL (runA m c t h).2.2.2.2.2.2.2.2.2.1 S1x1024.size (by sl_kernel_rfl) y
theorem coverA_10 (c : Dev nD) (t : Fin cfg0.N) (h : t.val % 32 = 0) (y : S1x1024.Idx) : ∃ pc ∈ (runA m c t h).2.2.2.2.2.2.2.2.2.2.1, y ∈ pc.1.set :=
  View.cover_of_tiledL (runA m c t h).2.2.2.2.2.2.2.2.2.2.1 S1x1024.size (by sl_kernel_rfl) y
theorem coverA_11 (c : Dev nD) (t : Fin cfg0.N) (h : t.val % 32 = 0) (y : S1x1024.Idx) : ∃ pc ∈ (runA m c t h).2.2.2.2.2.2.2.2.2.2.2.1, y ∈ pc.1.set :=
  View.cover_of_tiledL (runA m c t h).2.2.2.2.2.2.2.2.2.2.2.1 S1x1024.size (by sl_kernel_rfl) y
theorem coverA_12 (c : Dev nD) (t : Fin cfg0.N) (h : t.val % 32 = 0) (y : S1024x4096.Idx) : ∃ pc ∈ (runA m c t h).2.2.2.2.2.2.2.2.2.2.2.2.1, y ∈ pc.1.set :=
  View.cover_of_tiledL (runA m c t h).2.2.2.2.2.2.2.2.2.2.2.2.1 S1024x4096.size (by sl_kernel_rfl) y
theorem coverA_13 (c : Dev nD) (t : Fin cfg0.N) (h : t.val % 32 = 0) (y : S4096x1024.Idx) : ∃ pc ∈ (runA m c t h).2.2.2.2.2.2.2.2.2.2.2.2.2.1, y ∈ pc.1.set :=
  View.cover_of_tiledL (runA m c t h).2.2.2.2.2.2.2.2.2.2.2.2.2.1 S4096x1024.size (by sl_kernel_rfl) y
theorem coverA_14 (c : Dev nD) (t : Fin cfg0.N) (h : t.val % 32 = 0) (y : S1024x1024.Idx) : ∃ pc ∈ (runA m c t h).2.2.2.2.2.2.2.2.2.2.2.2.2.2.1, y ∈ pc.1.set :=
  View.cover_of_tiledL (runA m c t h).2.2.2.2.2.2.2.2.2.2.2.2.2.2.1 S1024x1024.size (by sl_kernel_rfl) y
theorem coverA_15 (c : Dev nD) (t : Fin cfg0.N) (h : t.val % 32 = 0) (y : S256x1024.Idx) : ∃ pc ∈ (runA m c t h).2.2.2.2.2.2.2.2.2.2.2.2.2.2.2.1, y ∈ pc.1.set :=
  View.cover_of_tiledL (runA m c t h).2.2.2.2.2.2.2.2.2.2.2.2.2.2.2.1 S256x1024.size (by sl_kernel_rfl) y

theorem coverB_0 (c : Dev nD) (t : Fin cfg0.N) (h : ¬t.val % 32 = 0) (p : St F) (y : S256x1024.Idx) : ∃ pc ∈ (runB m c t h p).1, y ∈ pc.1.set :=
  View.cover_of_tiledL (runB m c t h p).1 S256x1024.size (by sl_kernel_rfl) y
theorem coverB_1 (c : Dev nD) (t : Fin cfg0.N) (h : ¬t.val % 32 = 0) (p : St F) (y : S256x1024.Idx) : ∃ pc ∈ (runB m c t h p).2.1, y ∈ pc.1.set :=
  View.cover_of_tiledL (runB m c t h p).2.1 S256x1024.size (by sl_kernel_rfl) y
theorem coverB_2 (c : Dev nD) (t : Fin cfg0.N) (h : ¬t.val % 32 = 0) (p : St F) (y : S256x4096.Idx) : ∃ pc ∈ (runB m c t h p).2.2.1, y ∈ pc.1.set :=
  View.cover_of_tiledL (runB m c t h p).2.2.1 S256x1024.size (by sl_kernel_rfl) y
theorem coverB_3 (c : Dev nD) (t : Fin cfg0.N) (h : ¬t.val % 32 = 0) (p : St F) (y : S256x4096.Idx) : ∃ pc ∈ (runB m c t h p).2.2.2.1, y ∈ pc.1.set :=
  View.cover_of_tiledL (runB m c t h p).2.2.2.1 S256x1024.size (by sl_kernel_rfl) y
theorem coverB_4 (c : Dev nD) (t : Fin cfg0.N) (h : ¬t.val % 32 = 0) (p : St F) (y : S256x1024.Idx) : ∃ pc ∈ (runB m c t h p).2.2.2.2.1, y ∈ pc.1.set :=
  View.cover_of_tiledL (runB m c t h p).2.2.2.2.1 S256x1024.size (by sl_kernel_rfl) y
theorem coverB_5 (c : Dev nD) (t : Fin cfg0.N) (h : ¬t.val % 32 = 0) (p : St F) (y : S256x1024.Idx) : ∃ pc ∈ (runB m c t h p).2.2.2.2.2.1, y ∈ pc.1.set :=
  View.cover_of_tiledL (runB m c t h p).2.2.2.2.2.1 S256x1024.size (by sl_kernel_rfl) y
theorem coverB_6 (c : Dev nD) (t : Fin cfg0.N) (h : ¬t.val % 32 = 0) (p : St F) (y : S256x1024.Idx) : ∃ pc ∈ (runB m c t h p).2.2.2.2.2.2.1, y ∈ pc.1.set :=
  View.cover_of_tiledL (runB m c t h p).2.2.2.2.2.2.1 S256x1024.size (by sl_kernel_rfl) y
theorem coverB_7 (c : Dev nD) (t : Fin cfg0.N) (h : ¬t.val % 32 = 0) (p : St F) (y : S256x1024.Idx) : ∃ pc ∈ (runB m c t h p).2.2.2.2.2.2.2.1, y ∈ pc.1.set :=
  View.cover_of_tiledL (runB m c t h p).2.2.2.2.2.2.2.1 S256x1024.size (by sl_kernel_rfl) y
theorem coverB_8 (c : Dev nD) (t : Fin cfg0.N) (h : ¬t.val % 32 = 0) (p : St F) (y : S1x1.Idx) : ∃ pc ∈ (runB m c t h p).2.2.2.2.2.2.2.2.1, y ∈ pc.1.set :=
  View.cover_of_tiledL (runB m c t h p).2.2.2.2.2.2.2.2.1 S1x1.size (by sl_kernel_rfl) y
theorem coverB_9 (c : Dev nD) (t : Fin cfg0.N) (h : ¬t.val % 32 = 0) (p : St F) (y : S1x1024.Idx) : ∃ pc ∈ (runB m c t h p).2.2.2.2.2.2.2.2.2.1, y ∈ pc.1.set :=
  View.cover_of_tiledL (runB m c t h p).2.2.2.2.2.2.2.2.2.1 S1x1024.size (by sl_kernel_rfl) y
theorem coverB_10 (c : Dev nD) (t : Fin cfg0.N) (h : ¬t.val % 32 = 0) (p : St F) (y : S1x1024.Idx) : ∃ pc ∈ (runB m c t h p).2.2.2.2.2.2.2.2.2.2.1, y ∈ pc.1.set :=
  View.cover_of_tiledL (runB m c t h p).2.2.2.2.2.2.2.2.2.2.1 S1x1024.size (by sl_kernel_rfl) y
theorem coverB_11 (c : Dev nD) (t : Fin cfg0.N) (h : ¬t.val % 32 = 0) (p : St F) (y : S1x1024.Idx) : ∃ pc ∈ (runB m c t h p).2.2.2.2.2.2.2.2.2.2.2.1, y ∈ pc.1.set :=
  View.cover_of_tiledL (runB m c t h p).2.2.2.2.2.2.2.2.2.2.2.1 S1x1024.size (by sl_kernel_rfl) y

/-- What a first point leaves. -/
def stA (c : Dev nD) (t : Fin cfg0.N) (h : t.val % 32 = 0) : St F :=
  (VO0_6.read (Elt F) (VO0_6.writes (Elt F) VO0_6.junk (runA m c t h).1),
   VO0_7.read (Elt F) (VO0_7.writes (Elt F) VO0_7.junk (runA m c t h).2.1),
   VO0_8.read (Elt F) (VO0_8.writes (Elt F) VO0_8.junk (runA m c t h).2.2.1),
   VO0_9.read (Elt F) (VO0_9.writes (Elt F) VO0_9.junk (runA m c t h).2.2.2.1),
   VO0_10.read (Elt F) (VO0_10.writes (Elt F) VO0_10.junk (runA m c t h).2.2.2.2.1),
   VO0_11.read (Elt F) (VO0_11.writes (Elt F) VO0_11.junk (runA m c t h).2.2.2.2.2.1),
   VO0_12.read (Elt F) (VO0_12.writes (Elt F) VO0_12.junk (runA m c t h).2.2.2.2.2.2.1),
   VO0_13.read (Elt F) (VO0_13.writes (Elt F) VO0_13.junk (runA m c t h).2.2.2.2.2.2.2.1),
   VO0_14.read (Elt F) (VO0_14.writes (Elt F) VO0_14.junk (runA m c t h).2.2.2.2.2.2.2.2.1),
   VO0_15.read (Elt F) (VO0_15.writes (Elt F) VO0_15.junk (runA m c t h).2.2.2.2.2.2.2.2.2.1),
   VO0_16.read (Elt F) (VO0_16.writes (Elt F) VO0_16.junk (runA m c t h).2.2.2.2.2.2.2.2.2.2.1),
   VO0_17.read (Elt F) (VO0_17.writes (Elt F) VO0_17.junk (runA m c t h).2.2.2.2.2.2.2.2.2.2.2.1),
   VS0_0.read (Elt F) (VS0_0.writes (Elt F) VS0_0.junk (runA m c t h).2.2.2.2.2.2.2.2.2.2.2.2.1),
   VS0_1.read (Elt F) (VS0_1.writes (Elt F) VS0_1.junk (runA m c t h).2.2.2.2.2.2.2.2.2.2.2.2.2.1),
   VS0_2.read (Elt F) (VS0_2.writes (Elt F) VS0_2.junk (runA m c t h).2.2.2.2.2.2.2.2.2.2.2.2.2.2.1),
   VS0_3.read (Elt F) (VS0_3.writes (Elt F) VS0_3.junk (runA m c t h).2.2.2.2.2.2.2.2.2.2.2.2.2.2.2.1))

/-- What a later point leaves. -/
def stB (c : Dev nD) (t : Fin cfg0.N) (h : ¬t.val % 32 = 0) (p : St F) : St F :=
  (VO0_6.read (Elt F) (VO0_6.writes (Elt F) VO0_6.junk (runB m c t h p).1),
   VO0_7.read (Elt F) (VO0_7.writes (Elt F) VO0_7.junk (runB m c t h p).2.1),
   VO0_8.read (Elt F) (VO0_8.writes (Elt F) VO0_8.junk (runB m c t h p).2.2.1),
   VO0_9.read (Elt F) (VO0_9.writes (Elt F) VO0_9.junk (runB m c t h p).2.2.2.1),
   VO0_10.read (Elt F) (VO0_10.writes (Elt F) VO0_10.junk (runB m c t h p).2.2.2.2.1),
   VO0_11.read (Elt F) (VO0_11.writes (Elt F) VO0_11.junk (runB m c t h p).2.2.2.2.2.1),
   VO0_12.read (Elt F) (VO0_12.writes (Elt F) VO0_12.junk (runB m c t h p).2.2.2.2.2.2.1),
   VO0_13.read (Elt F) (VO0_13.writes (Elt F) VO0_13.junk (runB m c t h p).2.2.2.2.2.2.2.1),
   VO0_14.read (Elt F) (VO0_14.writes (Elt F) VO0_14.junk (runB m c t h p).2.2.2.2.2.2.2.2.1),
   VO0_15.read (Elt F) (VO0_15.writes (Elt F) VO0_15.junk (runB m c t h p).2.2.2.2.2.2.2.2.2.1),
   VO0_16.read (Elt F) (VO0_16.writes (Elt F) VO0_16.junk (runB m c t h p).2.2.2.2.2.2.2.2.2.2.1),
   VO0_17.read (Elt F) (VO0_17.writes (Elt F) VO0_17.junk (runB m c t h p).2.2.2.2.2.2.2.2.2.2.2.1),
   p.2.2.2.2.2.2.2.2.2.2.2.2.1,
   p.2.2.2.2.2.2.2.2.2.2.2.2.2.1,
   p.2.2.2.2.2.2.2.2.2.2.2.2.2.2.1,
   p.2.2.2.2.2.2.2.2.2.2.2.2.2.2.2)

/-- What the buffers hold after each point. -/
def outsAt0 (c : Dev nD) : (n : ℕ) → n < cfg0.N → St F
  | 0, hn => stA m c ⟨0, hn⟩ (Nat.zero_mod _)
  | n + 1, hn => if h : (n + 1) % 32 = 0 then stA m c ⟨n + 1, hn⟩ h else stB m c ⟨n + 1, hn⟩ h (outsAt0 c n (Nat.lt_of_succ_lt hn))

theorem outsAt0_A (c : Dev nD) (t : Fin cfg0.N) (h : t.val % 32 = 0) : outsAt0 m c t.val t.isLt = stA m c t h := by
  obtain ⟨n, hn⟩ := t
  cases n with
  | zero => rfl
  | succ n => exact dif_pos h

theorem outsAt0_B (c : Dev nD) (t : Fin cfg0.N) (h : ¬t.val % 32 = 0) :
    outsAt0 m c t.val t.isLt = stB m c t h (outsAt0 m c (t.val - 1) (Nat.lt_of_le_of_lt (Nat.sub_le _ _) t.isLt)) := by
  obtain ⟨n, hn⟩ := t
  cases n with
  | zero => exact absurd (Nat.zero_mod _) h
  | succ n => exact dif_neg h

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.2.2.2.2.1) ∗ owns (c : Thread nD τ) scM0_1 fullShare ((outsAt0 m c n hn).2.2.2.2.2.2.2.2.2.2.2.2.2.1) ∗ owns (c : Thread nD τ) scM0_2 fullShare ((outsAt0 m c n hn).2.2.2.2.2.2.2.2.2.2.2.2.2.2.1) ∗ owns (c : Thread nD τ) scM0_3 fullShare ((outsAt0 m c n hn).2.2.2.2.2.2.2.2.2.2.2.2.2.2.2) ∗ (∃ d, owns (c : Thread nD τ) scM0_4 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_arg6) ∗ hbPt0 c hbM0_1 (V m c main_arg7) ∗ hbPt0 c hbM0_2 (V m c main_arg8) ∗ hbPt0 c hbM0_3 (V m c main_arg9)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2.1) ∗ owns (c : Thread nD τ) scM0_1 fullShare ((outsAt0 m c n hn).2.2.2.2.2.2.2.2.2.2.2.2.2.1) ∗ owns (c : Thread nD τ) scM0_2 fullShare ((outsAt0 m c n hn).2.2.2.2.2.2.2.2.2.2.2.2.2.2.1) ∗ owns (c : Thread nD τ) scM0_3 fullShare ((outsAt0 m c n hn).2.2.2.2.2.2.2.2.2.2.2.2.2.2.2) ∗ (∃ d, owns (c : Thread nD τ) scM0_4 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_arg6) ∗ hbPt0 c hbM0_1 (V m c main_arg7) ∗ hbPt0 c hbM0_2 (V m c main_arg8) ∗ hbPt0 c hbM0_3 (V m c main_arg9))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2.1) ∗ owns (c : Thread nD τ) scM0_1 fullShare ((outsAt0 m c (n - 1) (by omega)).2.2.2.2.2.2.2.2.2.2.2.2.2.1) ∗ owns (c : Thread nD τ) scM0_2 fullShare ((outsAt0 m c (n - 1) (by omega)).2.2.2.2.2.2.2.2.2.2.2.2.2.2.1) ∗ owns (c : Thread nD τ) scM0_3 fullShare ((outsAt0 m c (n - 1) (by omega)).2.2.2.2.2.2.2.2.2.2.2.2.2.2.2) ∗ (∃ d, owns (c : Thread nD τ) scM0_4 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_arg6) ∗ hbPt0 c hbM0_1 (V m c main_arg7) ∗ hbPt0 c hbM0_2 (V m c main_arg8) ∗ hbPt0 c hbM0_3 (V m c main_arg9))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
    | ⟨11, _⟩ => (outsAt0 m c t.val t.isLt).2.2.2.2.2.1
    | ⟨12, _⟩ => (outsAt0 m c t.val t.isLt).2.2.2.2.2.2.1
    | ⟨13, _⟩ => (outsAt0 m c t.val t.isLt).2.2.2.2.2.2.2.1
    | ⟨14, _⟩ => (outsAt0 m c t.val t.isLt).2.2.2.2.2.2.2.2.1
    | ⟨15, _⟩ => (outsAt0 m c t.val t.isLt).2.2.2.2.2.2.2.2.2.1
    | ⟨16, _⟩ => (outsAt0 m c t.val t.isLt).2.2.2.2.2.2.2.2.2.2.1
    | ⟨17, _⟩ => (outsAt0 m c t.val t.isLt).2.2.2.2.2.2.2.2.2.2.2.1
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]
theorem after0_11 (c : Dev nD) (t : Fin cfg0.N) : (dats m 0 c).after 11 t = (outsAt0 m c t.val t.isLt).2.2.2.2.2.1 := by dsimp only [dats]
theorem after0_12 (c : Dev nD) (t : Fin cfg0.N) : (dats m 0 c).after 12 t = (outsAt0 m c t.val t.isLt).2.2.2.2.2.2.1 := by dsimp only [dats]
theorem after0_13 (c : Dev nD) (t : Fin cfg0.N) : (dats m 0 c).after 13 t = (outsAt0 m c t.val t.isLt).2.2.2.2.2.2.2.1 := by dsimp only [dats]
theorem after0_14 (c : Dev nD) (t : Fin cfg0.N) : (dats m 0 c).after 14 t = (outsAt0 m c t.val t.isLt).2.2.2.2.2.2.2.2.1 := by dsimp only [dats]
theorem after0_15 (c : Dev nD) (t : Fin cfg0.N) : (dats m 0 c).after 15 t = (outsAt0 m c t.val t.isLt).2.2.2.2.2.2.2.2.2.1 := by dsimp only [dats]
theorem after0_16 (c : Dev nD) (t : Fin cfg0.N) : (dats m 0 c).after 16 t = (outsAt0 m c t.val t.isLt).2.2.2.2.2.2.2.2.2.2.1 := by dsimp only [dats]
theorem after0_17 (c : Dev nD) (t : Fin cfg0.N) : (dats m 0 c).after 17 t = (outsAt0 m c t.val t.isLt).2.2.2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_14_B (c : Dev nD) (t : Fin cfg0.N) (h0 : ¬t.val % 32 = 0) (d) :
    (dats m 0 c).before 14 t d = (outsAt0 m c (t.val - 1) (Nat.lt_of_le_of_lt (Nat.sub_le _ _) t.isLt)).2.2.2.2.2.2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 32 = 0) (d) :
    (dats m 0 c).before 15 t d = (outsAt0 m c (t.val - 1) (Nat.lt_of_le_of_lt (Nat.sub_le _ _) t.isLt)).2.2.2.2.2.2.2.2.2.1 := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 32 = 0) (d) :
    (dats m 0 c).before 16 t d = (outsAt0 m c (t.val - 1) (Nat.lt_of_le_of_lt (Nat.sub_le _ _) t.isLt)).2.2.2.2.2.2.2.2.2.2.1 := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 32 = 0) (d) :
    (dats m 0 c).before 17 t d = (outsAt0 m c (t.val - 1) (Nat.lt_of_le_of_lt (Nat.sub_le _ _) t.isLt)).2.2.2.2.2.2.2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16, after0_17]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 0
    · by_cases hz : t.val = 0
      · rw [PhiS_castSucc m c t, PhiS_zero m c _ _ hz, PhiD0_eq]
        rw [outsAt0_A m c t h0]
        unfold stA; dsimp only
        iintro ⟨⟨⟨HS0, HS1, HS2, HS3, HS4⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((runA m c t h0).2.2.2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%es0, HS0⟩, ⟨%es1, HS1⟩, ⟨%es2, HS2⟩, ⟨%es3, HS3⟩, ⟨%fT4, HS4⟩, Hq0, Hq1, Hq2, Hq3, Hh0, Hh1, Hh2, Hh3, ⟨%W', HW'⟩⟩
        isplitl [HS0 HS1 HS2 HS3 HS4 Hg Hq0 Hq1 Hq2 Hq3 Hh0 Hh1 Hh2 Hh3]
        · isplitl [HS0 HS1 HS2 HS3 HS4]
          · isplitl [HS0]
            · unfold owns; iexists _; isplitr
              swap; · iexact HS0
              ipureintro; exact View.read_writes_of_cover _ _ _ _ _ (coverA_12 m c t h0)
            isplitl [HS1]
            · unfold owns; iexists _; isplitr
              swap; · iexact HS1
              ipureintro; exact View.read_writes_of_cover _ _ _ _ _ (coverA_13 m c t h0)
            isplitl [HS2]
            · unfold owns; iexists _; isplitr
              swap; · iexact HS2
              ipureintro; exact View.read_writes_of_cover _ _ _ _ _ (coverA_14 m c t h0)
            isplitl [HS3]
            · unfold owns; iexists _; isplitr
              swap; · iexact HS3
              ipureintro; exact View.read_writes_of_cover _ _ _ _ _ (coverA_15 m c t h0)
            iexists _; unfold owns; iexists _; isplitr
            swap; · iexact HS4
            ipureintro; rfl
          isplitl [Hg]
          · iexact Hg
          isplitl [Hq0 Hq1 Hq2 Hq3]
          · isplitl [Hq0]; · iexact Hq0
            isplitl [Hq1]; · iexact Hq1
            isplitl [Hq2]; · iexact Hq2
            iexact Hq3
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverA_0 m c t h0)
        isplitl [H7]
        · unfold owns; iexists _; isplitr
          swap; · iexact H7
          ipureintro; exact View.read_writes_of_cover _ _ _ _ _ (coverA_1 m c t h0)
        isplitl [H8]
        · unfold owns; iexists _; isplitr
          swap; · iexact H8
          ipureintro; exact View.read_writes_of_cover _ _ _ _ _ (coverA_2 m c t h0)
        isplitl [H9]
        · unfold owns; iexists _; isplitr
          swap; · iexact H9
          ipureintro; exact View.read_writes_of_cover _ _ _ _ _ (coverA_3 m c t h0)
        isplitl [H10]
        · unfold owns; iexists _; isplitr
          swap; · iexact H10
          ipureintro; exact View.read_writes_of_cover _ _ _ _ _ (coverA_4 m c t h0)
        isplitl [H11]
        · unfold owns; iexists _; isplitr
          swap; · iexact H11
          ipureintro; exact View.read_writes_of_cover _ _ _ _ _ (coverA_5 m c t h0)
        isplitl [H12]
        · unfold owns; iexists _; isplitr
          swap; · iexact H12
          ipureintro; exact View.read_writes_of_cover _ _ _ _ _ (coverA_6 m c t h0)
        isplitl [H13]
        · unfold owns; iexists _; isplitr
          swap; · iexact H13
          ipureintro; exact View.read_writes_of_cover _ _ _ _ _ (coverA_7 m c t h0)
        isplitl [H14]
        · unfold owns; iexists _; isplitr
          swap; · iexact H14
          ipureintro; exact View.read_writes_of_cover _ _ _ _ _ (coverA_8 m c t h0)
        isplitl [H15]
        · unfold owns; iexists _; isplitr
          swap; · iexact H15
          ipureintro; exact View.read_writes_of_cover _ _ _ _ _ (coverA_9 m c t h0)
        isplitl [H16]
        · unfold owns; iexists _; isplitr
          swap; · iexact H16
          ipureintro; exact View.read_writes_of_cover _ _ _ _ _ (coverA_10 m c t h0)
        unfold owns; iexists _; isplitr
        swap; · iexact H17
        ipureintro; exact View.read_writes_of_cover _ _ _ _ _ (coverA_11 m c t h0)
      · exfalso; have hN : t.val < 32 := lt_of_lt_of_eq t.isLt (show cfg0.N = 32 from N_0); omega
    · exfalso; omega
  · by_cases h1 : t.val % 32 = 0
    · exfalso; omega
    · by_cases hz : t.val = 0
      · exfalso; have hN : t.val < 32 := lt_of_lt_of_eq t.isLt (show cfg0.N = 32 from N_0); omega
      · rw [PhiS_castSucc m c t, PhiS_pos m c _ _ hz]
        rw [outsAt0_B m c t h0]
        simp only [before0_14_B m c t h0, before0_15_B m c t h0, before0_16_B m c t h0, before0_17_B m c t h0]
        unfold stB; dsimp only
        iintro ⟨⟨⟨HS0, HS1, HS2, HS3, HS4⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((runB m c t h0 (outsAt0 m c (t.val - 1) (Nat.lt_of_le_of_lt (Nat.sub_le _ _) t.isLt))).2.2.2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexact H14
        isplitl [H15]; · iexact H15
        isplitl [H16]; · iexact H16
        isplitl [H17]; · iexact H17
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, HS0, HS1, HS2, HS3, ⟨%fT4, HS4⟩, Hq0, Hq1, Hq2, Hq3, Hh0, Hh1, Hh2, Hh3, ⟨%W', HW'⟩⟩
        isplitl [HS0 HS1 HS2 HS3 HS4 Hg Hq0 Hq1 Hq2 Hq3 Hh0 Hh1 Hh2 Hh3]
        · isplitl [HS0 HS1 HS2 HS3 HS4]
          · isplitl [HS0]; · iexact HS0
            isplitl [HS1]; · iexact HS1
            isplitl [HS2]; · iexact HS2
            isplitl [HS3]; · iexact HS3
            iexists _; unfold owns; iexists _; isplitr
            swap; · iexact HS4
            ipureintro; rfl
          isplitl [Hg]
          · iexact Hg
          isplitl [Hq0 Hq1 Hq2 Hq3]
          · isplitl [Hq0]; · iexact Hq0
            isplitl [Hq1]; · iexact Hq1
            isplitl [Hq2]; · iexact Hq2
            iexact Hq3
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverB_0 m c t h0 _)
        isplitl [H7]
        · unfold owns; iexists _; isplitr
          swap; · iexact H7
          ipureintro; exact View.read_writes_of_cover _ _ _ _ _ (coverB_1 m c t h0 _)
        isplitl [H8]
        · unfold owns; iexists _; isplitr
          swap; · iexact H8
          ipureintro; exact View.read_writes_of_cover _ _ _ _ _ (coverB_2 m c t h0 _)
        isplitl [H9]
        · unfold owns; iexists _; isplitr
          swap; · iexact H9
          ipureintro; exact View.read_writes_of_cover _ _ _ _ _ (coverB_3 m c t h0 _)
        isplitl [H10]
        · unfold owns; iexists _; isplitr
          swap; · iexact H10
          ipureintro; exact View.read_writes_of_cover _ _ _ _ _ (coverB_4 m c t h0 _)
        isplitl [H11]
        · unfold owns; iexists _; isplitr
          swap; · iexact H11
          ipureintro; exact View.read_writes_of_cover _ _ _ _ _ (coverB_5 m c t h0 _)
        isplitl [H12]
        · unfold owns; iexists _; isplitr
          swap; · iexact H12
          ipureintro; exact View.read_writes_of_cover _ _ _ _ _ (coverB_6 m c t h0 _)
        isplitl [H13]
        · unfold owns; iexists _; isplitr
          swap; · iexact H13
          ipureintro; exact View.read_writes_of_cover _ _ _ _ _ (coverB_7 m c t h0 _)
        isplitl [H14]
        · unfold owns; iexists _; isplitr
          swap; · iexact H14
          ipureintro; exact View.read_writes_of_cover _ _ _ _ _ (coverB_8 m c t h0 _)
        isplitl [H15]
        · unfold owns; iexists _; isplitr
          swap; · iexact H15
          ipureintro; exact View.read_writes_of_cover _ _ _ _ _ (coverB_9 m c t h0 _)
        isplitl [H16]
        · unfold owns; iexists _; isplitr
          swap; · iexact H16
          ipureintro; exact View.read_writes_of_cover _ _ _ _ _ (coverB_10 m c t h0 _)
        unfold owns; iexists _; isplitr
        swap; · iexact H17
        ipureintro; exact View.read_writes_of_cover _ _ _ _ _ (coverB_11 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4⟩, Hg, ⟨Hq0, Hq1, Hq2, Hq3⟩, ⟨Hh0, Hh1, Hh2, Hh3⟩⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  isplitl [Hh1]; · iexact Hh1
  isplitl [Hh2]; · iexact Hh2
  iexact Hh3

theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Mlp.Hand

end
-- ==== Proof.Mlp.Run.lean ====
/- The mixer's call: its run on the grid, over any float values. What a point leaves in its buffers, the loop's invariant,
   the body at any point, and what the launch ends with. -/
module

public import proofs.«01_k».proof.Proof.Gen.MlpIdeal.Frame.RunB
public import Idealize.ShloMosaic.Lib.Claim
public import Idealize.ShloMosaic.Lib.Pipeline.Value

@[expose] public section

set_option maxRecDepth 16384

noncomputable section

namespace Cert.MlpIdeal.Hand

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The contents of the twelve result buffers and of the four weights' buffers. -/
abbrev St (F : FTy → Type) : Type := Vec F S256x1024 .f32 × Vec F S256x1024 .bf16 × Vec F S256x4096 .bf16 × Vec F S256x4096 .bf16 × Vec F S256x1024 .bf16 × Vec F S256x1024 .bf16 × Vec F S256x1024 .bf16 × Vec F S256x1024 .bf16 × Vec F S1x1 .f32 × Vec F S1x1024 .f32 × Vec F S1x1024 .f32 × Vec F S1x1024 .f32 × Vec F S1024x4096 .bf16 × Vec F S4096x1024 .bf16 × Vec F S1024x1024 .bf16 × Vec F S256x1024 .bf16

/-- The body's run at a first point. -/
abbrev runA (c : Dev nD) (t : Fin cfg0.N) (h : t.val % 32 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) ((hcond0_0 t).mpr h) ((hcond0_1 t).mpr h) (iblk m c 0 t) (iblk m c 1 t) (iblk m c 2 t) (iblk m c 3 t) (iblk m c 4 t) (iblk m c 5 t) (V m c main_arg6) (V m c main_arg7) (V m c main_arg8) (V m c main_arg9)

/-- The body's run at a later point, over what the point before left. -/
abbrev runB (c : Dev nD) (t : Fin cfg0.N) (h : ¬t.val % 32 = 0) (p : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (fun e => h ((hcond0_0 t).mp e)) (fun e => h ((hcond0_1 t).mp e)) (iblk m c 0 t) (iblk m c 1 t) (iblk m c 2 t) (iblk m c 3 t) (iblk m c 4 t) (iblk m c 5 t) p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2.1 p.2.2.2.2.2.2.2.2.2.2.2.2.2.2.2 (V m c main_arg6) (V m c main_arg7) (V m c main_arg8) (V m c main_arg9)

theorem coverA_0 (c : Dev nD) (t : Fin cfg0.N) (h : t.val % 32 = 0) (y : S256x1024.Idx) : ∃ pc ∈ (runA m c t h).1, y ∈ pc.1.set :=
  View.cover_of_tiledL (runA m c t h).1 S256x1024.size (by sl_kernel_rfl) y
theorem coverA_1 (c : Dev nD) (t : Fin cfg0.N) (h : t.val % 32 = 0) (y : S256x1024.Idx) : ∃ pc ∈ (runA m c t h).2.1, y ∈ pc.1.set :=
  View.cover_of_tiledL (runA m c t h).2.1 S256x1024.size (by sl_kernel_rfl) y
theorem coverA_2 (c : Dev nD) (t : Fin cfg0.N) (h : t.val % 32 = 0) (y : S256x4096.Idx) : ∃ pc ∈ (runA m c t h).2.2.1, y ∈ pc.1.set :=
  View.cover_of_tiledL (runA m c t h).2.2.1 S256x1024.size (by sl_kernel_rfl) y
theorem coverA_3 (c : Dev nD) (t : Fin cfg0.N) (h : t.val % 32 = 0) (y : S256x4096.Idx) : ∃ pc ∈ (runA m c t h).2.2.2.1, y ∈ pc.1.set :=
  View.cover_of_tiledL (runA m c t h).2.2.2.1 S256x1024.size (by sl_kernel_rfl) y
theorem coverA_4 (c : Dev nD) (t : Fin cfg0.N) (h : t.val % 32 = 0) (y : S256x1024.Idx) : ∃ pc ∈ (runA m c t h).2.2.2.2.1, y ∈ pc.1.set :=
  View.cover_of_tiledL (runA m c t h).2.2.2.2.1 S256x1024.size (by sl_kernel_rfl) y
theorem coverA_5 (c : Dev nD) (t : Fin cfg0.N) (h : t.val % 32 = 0) (y : S256x1024.Idx) : ∃ pc ∈ (runA m c t h).2.2.2.2.2.1, y ∈ pc.1.set :=
  View.cover_of_tiledL (runA m c t h).2.2.2.2.2.1 S256x1024.size (by sl_kernel_rfl) y
theorem coverA_6 (c : Dev nD) (t : Fin cfg0.N) (h : t.val % 32 = 0) (y : S256x1024.Idx) : ∃ pc ∈ (runA m c t h).2.2.2.2.2.2.1, y ∈ pc.1.set :=
  View.cover_of_tiledL (runA m c t h).2.2.2.2.2.2.1 S256x1024.size (by sl_kernel_rfl) y
theorem coverA_7 (c : Dev nD) (t : Fin cfg0.N) (h : t.val % 32 = 0) (y : S256x1024.Idx) : ∃ pc ∈ (runA m c t h).2.2.2.2.2.2.2.1, y ∈ pc.1.set :=
  View.cover_of_tiledL (runA m c t h).2.2.2.2.2.2.2.1 S256x1024.size (by sl_kernel_rfl) y
theorem coverA_8 (c : Dev nD) (t : Fin cfg0.N) (h : t.val % 32 = 0) (y : S1x1.Idx) : ∃ pc ∈ (runA m c t h).2.2.2.2.2.2.2.2.1, y ∈ pc.1.set :=
  View.cover_of_tiledL (runA m c t h).2.2.2.2.2.2.2.2.1 S1x1.size (by sl_kernel_rfl) y
theorem coverA_9 (c : Dev nD) (t : Fin cfg0.N) (h : t.val % 32 = 0) (y : S1x1024.Idx) : ∃ pc ∈ (runA m c t h).2.2.2.2.2.2.2.2.2.1, y ∈ pc.1.set :=
  View.cover_of_tiledL (runA m c t h).2.2.2.2.2.2.2.2.2.1 S1x1024.size (by sl_kernel_rfl) y
theorem coverA_10 (c : Dev nD) (t : Fin cfg0.N) (h : t.val % 32 = 0) (y : S1x1024.Idx) : ∃ pc ∈ (runA m c t h).2.2.2.2.2.2.2.2.2.2.1, y ∈ pc.1.set :=
  View.cover_of_tiledL (runA m c t h).2.2.2.2.2.2.2.2.2.2.1 S1x1024.size (by sl_kernel_rfl) y
theorem coverA_11 (c : Dev nD) (t : Fin cfg0.N) (h : t.val % 32 = 0) (y : S1x1024.Idx) : ∃ pc ∈ (runA m c t h).2.2.2.2.2.2.2.2.2.2.2.1, y ∈ pc.1.set :=
  View.cover_of_tiledL (runA m c t h).2.2.2.2.2.2.2.2.2.2.2.1 S1x1024.size (by sl_kernel_rfl) y
theorem coverA_12 (c : Dev nD) (t : Fin cfg0.N) (h : t.val % 32 = 0) (y : S1024x4096.Idx) : ∃ pc ∈ (runA m c t h).2.2.2.2.2.2.2.2.2.2.2.2.1, y ∈ pc.1.set :=
  View.cover_of_tiledL (runA m c t h).2.2.2.2.2.2.2.2.2.2.2.2.1 S1024x4096.size (by sl_kernel_rfl) y
theorem coverA_13 (c : Dev nD) (t : Fin cfg0.N) (h : t.val % 32 = 0) (y : S4096x1024.Idx) : ∃ pc ∈ (runA m c t h).2.2.2.2.2.2.2.2.2.2.2.2.2.1, y ∈ pc.1.set :=
  View.cover_of_tiledL (runA m c t h).2.2.2.2.2.2.2.2.2.2.2.2.2.1 S4096x1024.size (by sl_kernel_rfl) y
theorem coverA_14 (c : Dev nD) (t : Fin cfg0.N) (h : t.val % 32 = 0) (y : S1024x1024.Idx) : ∃ pc ∈ (runA m c t h).2.2.2.2.2.2.2.2.2.2.2.2.2.2.1, y ∈ pc.1.set :=
  View.cover_of_tiledL (runA m c t h).2.2.2.2.2.2.2.2.2.2.2.2.2.2.1 S1024x1024.size (by sl_kernel_rfl) y
theorem coverA_15 (c : Dev nD) (t : Fin cfg0.N) (h : t.val % 32 = 0) (y : S256x1024.Idx) : ∃ pc ∈ (runA m c t h).2.2.2.2.2.2.2.2.2.2.2.2.2.2.2.1, y ∈ pc.1.set :=
  View.cover_of_tiledL (runA m c t h).2.2.2.2.2.2.2.2.2.2.2.2.2.2.2.1 S256x1024.size (by sl_kernel_rfl) y

theorem coverB_0 (c : Dev nD) (t : Fin cfg0.N) (h : ¬t.val % 32 = 0) (p : St F) (y : S256x1024.Idx) : ∃ pc ∈ (runB m c t h p).1, y ∈ pc.1.set :=
  View.cover_of_tiledL (runB m c t h p).1 S256x1024.size (by sl_kernel_rfl) y
theorem coverB_1 (c : Dev nD) (t : Fin cfg0.N) (h : ¬t.val % 32 = 0) (p : St F) (y : S256x1024.Idx) : ∃ pc ∈ (runB m c t h p).2.1, y ∈ pc.1.set :=
  View.cover_of_tiledL (runB m c t h p).2.1 S256x1024.size (by sl_kernel_rfl) y
theorem coverB_2 (c : Dev nD) (t : Fin cfg0.N) (h : ¬t.val % 32 = 0) (p : St F) (y : S256x4096.Idx) : ∃ pc ∈ (runB m c t h p).2.2.1, y ∈ pc.1.set :=
  View.cover_of_tiledL (runB m c t h p).2.2.1 S256x1024.size (by sl_kernel_rfl) y
theorem coverB_3 (c : Dev nD) (t : Fin cfg0.N) (h : ¬t.val % 32 = 0) (p : St F) (y : S256x4096.Idx) : ∃ pc ∈ (runB m c t h p).2.2.2.1, y ∈ pc.1.set :=
  View.cover_of_tiledL (runB m c t h p).2.2.2.1 S256x1024.size (by sl_kernel_rfl) y
theorem coverB_4 (c : Dev nD) (t : Fin cfg0.N) (h : ¬t.val % 32 = 0) (p : St F) (y : S256x1024.Idx) : ∃ pc ∈ (runB m c t h p).2.2.2.2.1, y ∈ pc.1.set :=
  View.cover_of_tiledL (runB m c t h p).2.2.2.2.1 S256x1024.size (by sl_kernel_rfl) y
theorem coverB_5 (c : Dev nD) (t : Fin cfg0.N) (h : ¬t.val % 32 = 0) (p : St F) (y : S256x1024.Idx) : ∃ pc ∈ (runB m c t h p).2.2.2.2.2.1, y ∈ pc.1.set :=
  View.cover_of_tiledL (runB m c t h p).2.2.2.2.2.1 S256x1024.size (by sl_kernel_rfl) y
theorem coverB_6 (c : Dev nD) (t : Fin cfg0.N) (h : ¬t.val % 32 = 0) (p : St F) (y : S256x1024.Idx) : ∃ pc ∈ (runB m c t h p).2.2.2.2.2.2.1, y ∈ pc.1.set :=
  View.cover_of_tiledL (runB m c t h p).2.2.2.2.2.2.1 S256x1024.size (by sl_kernel_rfl) y
theorem coverB_7 (c : Dev nD) (t : Fin cfg0.N) (h : ¬t.val % 32 = 0) (p : St F) (y : S256x1024.Idx) : ∃ pc ∈ (runB m c t h p).2.2.2.2.2.2.2.1, y ∈ pc.1.set :=
  View.cover_of_tiledL (runB m c t h p).2.2.2.2.2.2.2.1 S256x1024.size (by sl_kernel_rfl) y
theorem coverB_8 (c : Dev nD) (t : Fin cfg0.N) (h : ¬t.val % 32 = 0) (p : St F) (y : S1x1.Idx) : ∃ pc ∈ (runB m c t h p).2.2.2.2.2.2.2.2.1, y ∈ pc.1.set :=
  View.cover_of_tiledL (runB m c t h p).2.2.2.2.2.2.2.2.1 S1x1.size (by sl_kernel_rfl) y
theorem coverB_9 (c : Dev nD) (t : Fin cfg0.N) (h : ¬t.val % 32 = 0) (p : St F) (y : S1x1024.Idx) : ∃ pc ∈ (runB m c t h p).2.2.2.2.2.2.2.2.2.1, y ∈ pc.1.set :=
  View.cover_of_tiledL (runB m c t h p).2.2.2.2.2.2.2.2.2.1 S1x1024.size (by sl_kernel_rfl) y
theorem coverB_10 (c : Dev nD) (t : Fin cfg0.N) (h : ¬t.val % 32 = 0) (p : St F) (y : S1x1024.Idx) : ∃ pc ∈ (runB m c t h p).2.2.2.2.2.2.2.2.2.2.1, y ∈ pc.1.set :=
  View.cover_of_tiledL (runB m c t h p).2.2.2.2.2.2.2.2.2.2.1 S1x1024.size (by sl_kernel_rfl) y
theorem coverB_11 (c : Dev nD) (t : Fin cfg0.N) (h : ¬t.val % 32 = 0) (p : St F) (y : S1x1024.Idx) : ∃ pc ∈ (runB m c t h p).2.2.2.2.2.2.2.2.2.2.2.1, y ∈ pc.1.set :=
  View.cover_of_tiledL (runB m c t h p).2.2.2.2.2.2.2.2.2.2.2.1 S1x1024.size (by sl_kernel_rfl) y

/-- What a first point leaves. -/
def stA (c : Dev nD) (t : Fin cfg0.N) (h : t.val % 32 = 0) : St F :=
  (VO0_6.read (Elt F) (VO0_6.writes (Elt F) VO0_6.junk (runA m c t h).1),
   VO0_7.read (Elt F) (VO0_7.writes (Elt F) VO0_7.junk (runA m c t h).2.1),
   VO0_8.read (Elt F) (VO0_8.writes (Elt F) VO0_8.junk (runA m c t h).2.2.1),
   VO0_9.read (Elt F) (VO0_9.writes (Elt F) VO0_9.junk (runA m c t h).2.2.2.1),
   VO0_10.read (Elt F) (VO0_10.writes (Elt F) VO0_10.junk (runA m c t h).2.2.2.2.1),
   VO0_11.read (Elt F) (VO0_11.writes (Elt F) VO0_11.junk (runA m c t h).2.2.2.2.2.1),
   VO0_12.read (Elt F) (VO0_12.writes (Elt F) VO0_12.junk (runA m c t h).2.2.2.2.2.2.1),
   VO0_13.read (Elt F) (VO0_13.writes (Elt F) VO0_13.junk (runA m c t h).2.2.2.2.2.2.2.1),
   VO0_14.read (Elt F) (VO0_14.writes (Elt F) VO0_14.junk (runA m c t h).2.2.2.2.2.2.2.2.1),
   VO0_15.read (Elt F) (VO0_15.writes (Elt F) VO0_15.junk (runA m c t h).2.2.2.2.2.2.2.2.2.1),
   VO0_16.read (Elt F) (VO0_16.writes (Elt F) VO0_16.junk (runA m c t h).2.2.2.2.2.2.2.2.2.2.1),
   VO0_17.read (Elt F) (VO0_17.writes (Elt F) VO0_17.junk (runA m c t h).2.2.2.2.2.2.2.2.2.2.2.1),
   VS0_0.read (Elt F) (VS0_0.writes (Elt F) VS0_0.junk (runA m c t h).2.2.2.2.2.2.2.2.2.2.2.2.1),
   VS0_1.read (Elt F) (VS0_1.writes (Elt F) VS0_1.junk (runA m c t h).2.2.2.2.2.2.2.2.2.2.2.2.2.1),
   VS0_2.read (Elt F) (VS0_2.writes (Elt F) VS0_2.junk (runA m c t h).2.2.2.2.2.2.2.2.2.2.2.2.2.2.1),
   VS0_3.read (Elt F) (VS0_3.writes (Elt F) VS0_3.junk (runA m c t h).2.2.2.2.2.2.2.2.2.2.2.2.2.2.2.1))

/-- What a later point leaves. -/
def stB (c : Dev nD) (t : Fin cfg0.N) (h : ¬t.val % 32 = 0) (p : St F) : St F :=
  (VO0_6.read (Elt F) (VO0_6.writes (Elt F) VO0_6.junk (runB m c t h p).1),
   VO0_7.read (Elt F) (VO0_7.writes (Elt F) VO0_7.junk (runB m c t h p).2.1),
   VO0_8.read (Elt F) (VO0_8.writes (Elt F) VO0_8.junk (runB m c t h p).2.2.1),
   VO0_9.read (Elt F) (VO0_9.writes (Elt F) VO0_9.junk (runB m c t h p).2.2.2.1),
   VO0_10.read (Elt F) (VO0_10.writes (Elt F) VO0_10.junk (runB m c t h p).2.2.2.2.1),
   VO0_11.read (Elt F) (VO0_11.writes (Elt F) VO0_11.junk (runB m c t h p).2.2.2.2.2.1),
   VO0_12.read (Elt F) (VO0_12.writes (Elt F) VO0_12.junk (runB m c t h p).2.2.2.2.2.2.1),
   VO0_13.read (Elt F) (VO0_13.writes (Elt F) VO0_13.junk (runB m c t h p).2.2.2.2.2.2.2.1),
   VO0_14.read (Elt F) (VO0_14.writes (Elt F) VO0_14.junk (runB m c t h p).2.2.2.2.2.2.2.2.1),
   VO0_15.read (Elt F) (VO0_15.writes (Elt F) VO0_15.junk (runB m c t h p).2.2.2.2.2.2.2.2.2.1),
   VO0_16.read (Elt F) (VO0_16.writes (Elt F) VO0_16.junk (runB m c t h p).2.2.2.2.2.2.2.2.2.2.1),
   VO0_17.read (Elt F) (VO0_17.writes (Elt F) VO0_17.junk (runB m c t h p).2.2.2.2.2.2.2.2.2.2.2.1),
   p.2.2.2.2.2.2.2.2.2.2.2.2.1,
   p.2.2.2.2.2.2.2.2.2.2.2.2.2.1,
   p.2.2.2.2.2.2.2.2.2.2.2.2.2.2.1,
   p.2.2.2.2.2.2.2.2.2.2.2.2.2.2.2)

/-- What the buffers hold after each point. -/
def outsAt0 (c : Dev nD) : (n : ℕ) → n < cfg0.N → St F
  | 0, hn => stA m c ⟨0, hn⟩ (Nat.zero_mod _)
  | n + 1, hn => if h : (n + 1) % 32 = 0 then stA m c ⟨n + 1, hn⟩ h else stB m c ⟨n + 1, hn⟩ h (outsAt0 c n (Nat.lt_of_succ_lt hn))

theorem outsAt0_A (c : Dev nD) (t : Fin cfg0.N) (h : t.val % 32 = 0) : outsAt0 m c t.val t.isLt = stA m c t h := by
  obtain ⟨n, hn⟩ := t
  cases n with
  | zero => rfl
  | succ n => exact dif_pos h

theorem outsAt0_B (c : Dev nD) (t : Fin cfg0.N) (h : ¬t.val % 32 = 0) :
    outsAt0 m c t.val t.isLt = stB m c t h (outsAt0 m c (t.val - 1) (Nat.lt_of_le_of_lt (Nat.sub_le _ _) t.isLt)) := by
  obtain ⟨n, hn⟩ := t
  cases n with
  | zero => exact absurd (Nat.zero_mod _) h
  | succ n => exact dif_neg h

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.2.2.2.2.1) ∗ owns (c : Thread nD τ) scM0_1 fullShare ((outsAt0 m c n hn).2.2.2.2.2.2.2.2.2.2.2.2.2.1) ∗ owns (c : Thread nD τ) scM0_2 fullShare ((outsAt0 m c n hn).2.2.2.2.2.2.2.2.2.2.2.2.2.2.1) ∗ owns (c : Thread nD τ) scM0_3 fullShare ((outsAt0 m c n hn).2.2.2.2.2.2.2.2.2.2.2.2.2.2.2) ∗ (∃ d, owns (c : Thread nD τ) scM0_4 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_arg6) ∗ hbPt0 c hbM0_1 (V m c main_arg7) ∗ hbPt0 c hbM0_2 (V m c main_arg8) ∗ hbPt0 c hbM0_3 (V m c main_arg9)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2.1) ∗ owns (c : Thread nD τ) scM0_1 fullShare ((outsAt0 m c n hn).2.2.2.2.2.2.2.2.2.2.2.2.2.1) ∗ owns (c : Thread nD τ) scM0_2 fullShare ((outsAt0 m c n hn).2.2.2.2.2.2.2.2.2.2.2.2.2.2.1) ∗ owns (c : Thread nD τ) scM0_3 fullShare ((outsAt0 m c n hn).2.2.2.2.2.2.2.2.2.2.2.2.2.2.2) ∗ (∃ d, owns (c : Thread nD τ) scM0_4 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_arg6) ∗ hbPt0 c hbM0_1 (V m c main_arg7) ∗ hbPt0 c hbM0_2 (V m c main_arg8) ∗ hbPt0 c hbM0_3 (V m c main_arg9))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2.1) ∗ owns (c : Thread nD τ) scM0_1 fullShare ((outsAt0 m c (n - 1) (by omega)).2.2.2.2.2.2.2.2.2.2.2.2.2.1) ∗ owns (c : Thread nD τ) scM0_2 fullShare ((outsAt0 m c (n - 1) (by omega)).2.2.2.2.2.2.2.2.2.2.2.2.2.2.1) ∗ owns (c : Thread nD τ) scM0_3 fullShare ((outsAt0 m c (n - 1) (by omega)).2.2.2.2.2.2.2.2.2.2.2.2.2.2.2) ∗ (∃ d, owns (c : Thread nD τ) scM0_4 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_arg6) ∗ hbPt0 c hbM0_1 (V m c main_arg7) ∗ hbPt0 c hbM0_2 (V m c main_arg8) ∗ hbPt0 c hbM0_3 (V m c main_arg9))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
    | ⟨11, _⟩ => (outsAt0 m c t.val t.isLt).2.2.2.2.2.1
    | ⟨12, _⟩ => (outsAt0 m c t.val t.isLt).2.2.2.2.2.2.1
    | ⟨13, _⟩ => (outsAt0 m c t.val t.isLt).2.2.2.2.2.2.2.1
    | ⟨14, _⟩ => (outsAt0 m c t.val t.isLt).2.2.2.2.2.2.2.2.1
    | ⟨15, _⟩ => (outsAt0 m c t.val t.isLt).2.2.2.2.2.2.2.2.2.1
    | ⟨16, _⟩ => (outsAt0 m c t.val t.isLt).2.2.2.2.2.2.2.2.2.2.1
    | ⟨17, _⟩ => (outsAt0 m c t.val t.isLt).2.2.2.2.2.2.2.2.2.2.2.1
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]
theorem after0_11 (c : Dev nD) (t : Fin cfg0.N) : (dats m 0 c).after 11 t = (outsAt0 m c t.val t.isLt).2.2.2.2.2.1 := by dsimp only [dats]
theorem after0_12 (c : Dev nD) (t : Fin cfg0.N) : (dats m 0 c).after 12 t = (outsAt0 m c t.val t.isLt).2.2.2.2.2.2.1 := by dsimp only [dats]
theorem after0_13 (c : Dev nD) (t : Fin cfg0.N) : (dats m 0 c).after 13 t = (outsAt0 m c t.val t.isLt).2.2.2.2.2.2.2.1 := by dsimp only [dats]
theorem after0_14 (c : Dev nD) (t : Fin cfg0.N) : (dats m 0 c).after 14 t = (outsAt0 m c t.val t.isLt).2.2.2.2.2.2.2.2.1 := by dsimp only [dats]
theorem after0_15 (c : Dev nD) (t : Fin cfg0.N) : (dats m 0 c).after 15 t = (outsAt0 m c t.val t.isLt).2.2.2.2.2.2.2.2.2.1 := by dsimp only [dats]
theorem after0_16 (c : Dev nD) (t : Fin cfg0.N) : (dats m 0 c).after 16 t = (outsAt0 m c t.val t.isLt).2.2.2.2.2.2.2.2.2.2.1 := by dsimp only [dats]
theorem after0_17 (c : Dev nD) (t : Fin cfg0.N) : (dats m 0 c).after 17 t = (outsAt0 m c t.val t.isLt).2.2.2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_14_B (c : Dev nD) (t : Fin cfg0.N) (h0 : ¬t.val % 32 = 0) (d) :
    (dats m 0 c).before 14 t d = (outsAt0 m c (t.val - 1) (Nat.lt_of_le_of_lt (Nat.sub_le _ _) t.isLt)).2.2.2.2.2.2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 32 = 0) (d) :
    (dats m 0 c).before 15 t d = (outsAt0 m c (t.val - 1) (Nat.lt_of_le_of_lt (Nat.sub_le _ _) t.isLt)).2.2.2.2.2.2.2.2.2.1 := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 32 = 0) (d) :
    (dats m 0 c).before 16 t d = (outsAt0 m c (t.val - 1) (Nat.lt_of_le_of_lt (Nat.sub_le _ _) t.isLt)).2.2.2.2.2.2.2.2.2.2.1 := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 32 = 0) (d) :
    (dats m 0 c).before 17 t d = (outsAt0 m c (t.val - 1) (Nat.lt_of_le_of_lt (Nat.sub_le _ _) t.isLt)).2.2.2.2.2.2.2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16, after0_17]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 0
    · by_cases hz : t.val = 0
      · rw [PhiS_castSucc m c t, PhiS_zero m c _ _ hz, PhiD0_eq]
        rw [outsAt0_A m c t h0]
        unfold stA; dsimp only
        iintro ⟨⟨⟨HS0, HS1, HS2, HS3, HS4⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((runA m c t h0).2.2.2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%es0, HS0⟩, ⟨%es1, HS1⟩, ⟨%es2, HS2⟩, ⟨%es3, HS3⟩, ⟨%fT4, HS4⟩, Hq0, Hq1, Hq2, Hq3, Hh0, Hh1, Hh2, Hh3, ⟨%W', HW'⟩⟩
        isplitl [HS0 HS1 HS2 HS3 HS4 Hg Hq0 Hq1 Hq2 Hq3 Hh0 Hh1 Hh2 Hh3]
        · isplitl [HS0 HS1 HS2 HS3 HS4]
          · isplitl [HS0]
            · unfold owns; iexists _; isplitr
              swap; · iexact HS0
              ipureintro; exact View.read_writes_of_cover _ _ _ _ _ (coverA_12 m c t h0)
            isplitl [HS1]
            · unfold owns; iexists _; isplitr
              swap; · iexact HS1
              ipureintro; exact View.read_writes_of_cover _ _ _ _ _ (coverA_13 m c t h0)
            isplitl [HS2]
            · unfold owns; iexists _; isplitr
              swap; · iexact HS2
              ipureintro; exact View.read_writes_of_cover _ _ _ _ _ (coverA_14 m c t h0)
            isplitl [HS3]
            · unfold owns; iexists _; isplitr
              swap; · iexact HS3
              ipureintro; exact View.read_writes_of_cover _ _ _ _ _ (coverA_15 m c t h0)
            iexists _; unfold owns; iexists _; isplitr
            swap; · iexact HS4
            ipureintro; rfl
          isplitl [Hg]
          · iexact Hg
          isplitl [Hq0 Hq1 Hq2 Hq3]
          · isplitl [Hq0]; · iexact Hq0
            isplitl [Hq1]; · iexact Hq1
            isplitl [Hq2]; · iexact Hq2
            iexact Hq3
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverA_0 m c t h0)
        isplitl [H7]
        · unfold owns; iexists _; isplitr
          swap; · iexact H7
          ipureintro; exact View.read_writes_of_cover _ _ _ _ _ (coverA_1 m c t h0)
        isplitl [H8]
        · unfold owns; iexists _; isplitr
          swap; · iexact H8
          ipureintro; exact View.read_writes_of_cover _ _ _ _ _ (coverA_2 m c t h0)
        isplitl [H9]
        · unfold owns; iexists _; isplitr
          swap; · iexact H9
          ipureintro; exact View.read_writes_of_cover _ _ _ _ _ (coverA_3 m c t h0)
        isplitl [H10]
        · unfold owns; iexists _; isplitr
          swap; · iexact H10
          ipureintro; exact View.read_writes_of_cover _ _ _ _ _ (coverA_4 m c t h0)
        isplitl [H11]
        · unfold owns; iexists _; isplitr
          swap; · iexact H11
          ipureintro; exact View.read_writes_of_cover _ _ _ _ _ (coverA_5 m c t h0)
        isplitl [H12]
        · unfold owns; iexists _; isplitr
          swap; · iexact H12
          ipureintro; exact View.read_writes_of_cover _ _ _ _ _ (coverA_6 m c t h0)
        isplitl [H13]
        · unfold owns; iexists _; isplitr
          swap; · iexact H13
          ipureintro; exact View.read_writes_of_cover _ _ _ _ _ (coverA_7 m c t h0)
        isplitl [H14]
        · unfold owns; iexists _; isplitr
          swap; · iexact H14
          ipureintro; exact View.read_writes_of_cover _ _ _ _ _ (coverA_8 m c t h0)
        isplitl [H15]
        · unfold owns; iexists _; isplitr
          swap; · iexact H15
          ipureintro; exact View.read_writes_of_cover _ _ _ _ _ (coverA_9 m c t h0)
        isplitl [H16]
        · unfold owns; iexists _; isplitr
          swap; · iexact H16
          ipureintro; exact View.read_writes_of_cover _ _ _ _ _ (coverA_10 m c t h0)
        unfold owns; iexists _; isplitr
        swap; · iexact H17
        ipureintro; exact View.read_writes_of_cover _ _ _ _ _ (coverA_11 m c t h0)
      · exfalso; have hN : t.val < 32 := lt_of_lt_of_eq t.isLt (show cfg0.N = 32 from N_0); omega
    · exfalso; omega
  · by_cases h1 : t.val % 32 = 0
    · exfalso; omega
    · by_cases hz : t.val = 0
      · exfalso; have hN : t.val < 32 := lt_of_lt_of_eq t.isLt (show cfg0.N = 32 from N_0); omega
      · rw [PhiS_castSucc m c t, PhiS_pos m c _ _ hz]
        rw [outsAt0_B m c t h0]
        simp only [before0_14_B m c t h0, before0_15_B m c t h0, before0_16_B m c t h0, before0_17_B m c t h0]
        unfold stB; dsimp only
        iintro ⟨⟨⟨HS0, HS1, HS2, HS3, HS4⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((runB m c t h0 (outsAt0 m c (t.val - 1) (Nat.lt_of_le_of_lt (Nat.sub_le _ _) t.isLt))).2.2.2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexact H14
        isplitl [H15]; · iexact H15
        isplitl [H16]; · iexact H16
        isplitl [H17]; · iexact H17
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, HS0, HS1, HS2, HS3, ⟨%fT4, HS4⟩, Hq0, Hq1, Hq2, Hq3, Hh0, Hh1, Hh2, Hh3, ⟨%W', HW'⟩⟩
        isplitl [HS0 HS1 HS2 HS3 HS4 Hg Hq0 Hq1 Hq2 Hq3 Hh0 Hh1 Hh2 Hh3]
        · isplitl [HS0 HS1 HS2 HS3 HS4]
          · isplitl [HS0]; · iexact HS0
            isplitl [HS1]; · iexact HS1
            isplitl [HS2]; · iexact HS2
            isplitl [HS3]; · iexact HS3
            iexists _; unfold owns; iexists _; isplitr
            swap; · iexact HS4
            ipureintro; rfl
          isplitl [Hg]
          · iexact Hg
          isplitl [Hq0 Hq1 Hq2 Hq3]
          · isplitl [Hq0]; · iexact Hq0
            isplitl [Hq1]; · iexact Hq1
            isplitl [Hq2]; · iexact Hq2
            iexact Hq3
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverB_0 m c t h0 _)
        isplitl [H7]
        · unfold owns; iexists _; isplitr
          swap; · iexact H7
          ipureintro; exact View.read_writes_of_cover _ _ _ _ _ (coverB_1 m c t h0 _)
        isplitl [H8]
        · unfold owns; iexists _; isplitr
          swap; · iexact H8
          ipureintro; exact View.read_writes_of_cover _ _ _ _ _ (coverB_2 m c t h0 _)
        isplitl [H9]
        · unfold owns; iexists _; isplitr
          swap; · iexact H9
          ipureintro; exact View.read_writes_of_cover _ _ _ _ _ (coverB_3 m c t h0 _)
        isplitl [H10]
        · unfold owns; iexists _; isplitr
          swap; · iexact H10
          ipureintro; exact View.read_writes_of_cover _ _ _ _ _ (coverB_4 m c t h0 _)
        isplitl [H11]
        · unfold owns; iexists _; isplitr
          swap; · iexact H11
          ipureintro; exact View.read_writes_of_cover _ _ _ _ _ (coverB_5 m c t h0 _)
        isplitl [H12]
        · unfold owns; iexists _; isplitr
          swap; · iexact H12
          ipureintro; exact View.read_writes_of_cover _ _ _ _ _ (coverB_6 m c t h0 _)
        isplitl [H13]
        · unfold owns; iexists _; isplitr
          swap; · iexact H13
          ipureintro; exact View.read_writes_of_cover _ _ _ _ _ (coverB_7 m c t h0 _)
        isplitl [H14]
        · unfold owns; iexists _; isplitr
          swap; · iexact H14
          ipureintro; exact View.read_writes_of_cover _ _ _ _ _ (coverB_8 m c t h0 _)
        isplitl [H15]
        · unfold owns; iexists _; isplitr
          swap; · iexact H15
          ipureintro; exact View.read_writes_of_cover _ _ _ _ _ (coverB_9 m c t h0 _)
        isplitl [H16]
        · unfold owns; iexists _; isplitr
          swap; · iexact H16
          ipureintro; exact View.read_writes_of_cover _ _ _ _ _ (coverB_10 m c t h0 _)
        unfold owns; iexists _; isplitr
        swap; · iexact H17
        ipureintro; exact View.read_writes_of_cover _ _ _ _ _ (coverB_11 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4⟩, Hg, ⟨Hq0, Hq1, Hq2, Hq3⟩, ⟨Hh0, Hh1, Hh2, Hh3⟩⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  isplitl [Hh1]; · iexact Hh1
  isplitl [Hh2]; · iexact Hh2
  iexact Hh3

theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v0_4) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v0_5) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v0_6) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v0_7) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v0_8) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v0_9) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v0_10) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v0_11) = (dats m 0 c).arrAt 17 cfg0.N :=
  (h c).1 17

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_v0_4) = (dats m 0 c).arrAt 10 cfg0.N
      ∧ r.2.mem ((c : Thread nD τ).loc main_v0_5) = (dats m 0 c).arrAt 11 cfg0.N
      ∧ r.2.mem ((c : Thread nD τ).loc main_v0_6) = (dats m 0 c).arrAt 12 cfg0.N
      ∧ r.2.mem ((c : Thread nD τ).loc main_v0_7) = (dats m 0 c).arrAt 13 cfg0.N
      ∧ r.2.mem ((c : Thread nD τ).loc main_v0_8) = (dats m 0 c).arrAt 14 cfg0.N
      ∧ r.2.mem ((c : Thread nD τ).loc main_v0_9) = (dats m 0 c).arrAt 15 cfg0.N
      ∧ r.2.mem ((c : Thread nD τ).loc main_v0_10) = (dats m 0 c).arrAt 16 cfg0.N
      ∧ r.2.mem ((c : Thread nD τ).loc main_v0_11) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post6 m r h c,
      post7 m r h c,
      post8 m r h c,
      post9 m r h c,
      post10 m r h c,
      post11 m r h c,
      post12 m r h c,
      post13 m r h c,
      post14 m r h c,
      post15 m r h c,
      post16 m r h c,
      post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.MlpIdeal.Hand

end
-- ==== Proof.Mlp.Spec.lean ====
/- The squared-ReLU mixer, the per-layer embedding and the loss at one token, forward and backward. -/
module

public import proofs.«01_k».proof.Proof.Rms

@[expose] public section

noncomputable section

namespace Cert.Mlp

open Idealize.ShloMosaic

/-- The gains and the weights. -/
structure Wts where
  gpre : Fin 1024 → EReal
  gpost : Fin 1024 → EReal
  gple : Fin 1024 → EReal
  up : Fin 1024 → Fin 4096 → EReal
  dn : Fin 4096 → Fin 1024 → EReal
  pg : Fin 1024 → Fin 1024 → EReal
  pp : Fin 256 → Fin 1024 → EReal

/-- A token's row of the residual stream, its embedding and its target. -/
structure Row where
  x : Fin 1024 → EReal
  p : Fin 256 → EReal
  tg : Fin 1024 → EReal

variable (W : Wts) (R : Row)

def h2 (j : Fin 1024) : EReal := R.x j * Rms.rr R.x * W.gpre j
def u (k : Fin 4096) : EReal := ∑ j, h2 W R j * W.up j k
def a (k : Fin 4096) : EReal := max (u W R k) 0 * max (u W R k) 0
def f (i : Fin 1024) : EReal := ∑ k, a W R k * W.dn k i
def x2 (i : Fin 1024) : EReal := R.x i + f W R i * Rms.rr (f W R) * W.gpost i
def h3 (i : Fin 1024) : EReal := x2 W R i * Rms.rr (x2 W R) * W.gple i
def pg (i : Fin 1024) : EReal := Ideal.logistic (∑ j, h3 W R j * W.pg j i)
def pp (i : Fin 1024) : EReal := ∑ l, R.p l * W.pp l i
def diff (i : Fin 1024) : EReal := x2 W R i + pg W R i * pp W R i - R.tg i
/-- The token's loss, twice. -/
def loss : EReal := Rms.mean fun i => diff W R i * diff W R i
def dy (i : Fin 1024) : EReal := diff W R i * Ideal.ofBits .f32 0x3A800000#32
def dpp (i : Fin 1024) : EReal := dy W R i * pg W R i
def ds3 (i : Fin 1024) : EReal := dy W R i * pp W R i * pg W R i * (1 - pg W R i)
def dh3 (j : Fin 1024) : EReal := ∑ i, ds3 W R i * W.pg j i
def dgple (j : Fin 1024) : EReal := dh3 W R j * (x2 W R j * Rms.rr (x2 W R))
def dx2 (i : Fin 1024) : EReal := dy W R i + Rms.bwd (x2 W R) (fun j => dh3 W R j * W.gple j) i
def dgpost (i : Fin 1024) : EReal := dx2 W R i * (f W R i * Rms.rr (f W R))
def df (i : Fin 1024) : EReal := Rms.bwd (f W R) (fun j => dx2 W R j * W.gpost j) i
def da (k : Fin 4096) : EReal := ∑ i, df W R i * W.dn k i
def du (k : Fin 4096) : EReal := da W R k * (Ideal.ofBits .f32 0x40000000#32 * max (u W R k) 0)
def dh2 (j : Fin 1024) : EReal := ∑ k, du W R k * W.up j k
def dgpre (j : Fin 1024) : EReal := dh2 W R j * (R.x j * Rms.rr R.x)
def dx1 (i : Fin 1024) : EReal := dx2 W R i + Rms.bwd R.x (fun j => dh2 W R j * W.gpre j) i

/-- The columns in four parts. -/
def col (b : Fin 4) (k : Fin 1024) : Fin 4096 := ⟨1024 * b.val + k.val, by have := b.isLt; have := k.isLt; omega⟩

theorem split4 (g : Fin 4096 → EReal) : ∑ k, g k = 0 + (∑ k, g (col 0 k)) + (∑ k, g (col 1 k)) + (∑ k, g (col 2 k)) + ∑ k, g (col 3 k) := by
  rw [zero_add, ← Equiv.sum_comp (finProdFinEquiv (m := 4) (n := 1024)) g, Fintype.sum_prod_type, Fin.sum_univ_four]
  have h (b : Fin 4) (k : Fin 1024) : finProdFinEquiv (b, k) = col b k := Fin.ext (by show k.val + 1024 * b.val = 1024 * b.val + k.val; omega)
  simp only [h]

end Cert.Mlp

end
-- ==== Proof.Mlp.Pay.lean ====
/- The mixer's call: each stored or reused block of a point, at an entry. -/
module

public import proofs.«01_k».proof.Proof.Gen.MlpIdeal.Skeleton
public import proofs.«01_k».proof.Proof.Mlp.Spec
public import Idealize.ShloMosaic.Lib.ValueIdx
public import Idealize.ShloMosaic.Lib.Pointwise

@[expose] public section

noncomputable section

namespace Cert.MlpIdeal.Hand

open Idealize.ShloMosaic Cert.MlpIdeal Cert.MlpIdeal.Gen Cert.Mlp

theorem one_eq : Ideal.ofBits .f32 0x3F800000#32 = 1 := by
  simp [Ideal.ofBits, Ideal.ieee, -EReal.coe_mul]; norm_num

theorem p9 {D : Fin 256 → Row} (x : FVec Ideal S256x1024 .f32)(hx : ∀ a j, x (ix2 a j) = (D a).x j) (a : Fin 256) :
    k0_pay9 (F := Ideal) x (ix2 a 0) = Rms.rr (D a).x := by
  unfold Rms.rr Rms.ms Rms.mean
  pointwise [k0_pay9, hx]

theorem p10 {D : Fin 256 → Row} (x : FVec Ideal S256x1024 .f32)(hx : ∀ a j, x (ix2 a j) = (D a).x j) (a : Fin 256) (j : Fin 1024) :
    k0_pay10 (F := Ideal) x (ix2 a j) = (D a).x j * Rms.rr (D a).x := by
  pointwise [k0_pay10, hx, p9 x hx]

theorem p11 {W : Wts} {D : Fin 256 → Row} (x : FVec Ideal S256x1024 .f32)(g : FVec Ideal S1x1024 .f32)(hx : ∀ a j, x (ix2 a j) = (D a).x j) (hg : ∀ j, g (ix2 0 j) = W.gpre j) (a : Fin 256) (j : Fin 1024) :
    k0_pay11 (F := Ideal) x g (ix2 a j) = h2 W (D a) j := by
  unfold h2
  pointwise [k0_pay11, p10 x hx, hg]

theorem p13 {W : Wts} {D : Fin 256 → Row} (x : FVec Ideal S256x1024 .f32)(g : FVec Ideal S1x1024 .f32)(w : FVec Ideal S1024x1024 .bf16)(hx : ∀ a j, x (ix2 a j) = (D a).x j) (hg : ∀ j, g (ix2 0 j) = W.gpre j) (hw : ∀ j k, w (ix2 j k) = W.up j (col 0 k)) (a : Fin 256) (j : Fin 1024) :
    k0_pay13 (F := Ideal) x g w (ix2 a j) = u W (D a) (col 0 j) := by
  unfold u
  pointwise [k0_pay13, p11 x g hx hg, hw]

theorem p14 {W : Wts} {D : Fin 256 → Row} (x : FVec Ideal S256x1024 .f32)(g : FVec Ideal S1x1024 .f32)(w : FVec Ideal S1024x1024 .bf16)(hx : ∀ a j, x (ix2 a j) = (D a).x j) (hg : ∀ j, g (ix2 0 j) = W.gpre j) (hw : ∀ j k, w (ix2 j k) = W.up j (col 0 k)) (a : Fin 256) (j : Fin 1024) :
    k0_pay14 (F := Ideal) x g w (ix2 a j) = u W (D a) (col 0 j) := by
  pointwise [k0_pay14, p13 x g w hx hg hw]

theorem p15 {W : Wts} {D : Fin 256 → Row} (x : FVec Ideal S256x1024 .f32)(g : FVec Ideal S1x1024 .f32)(w : FVec Ideal S1024x1024 .bf16)(hx : ∀ a j, x (ix2 a j) = (D a).x j) (hg : ∀ j, g (ix2 0 j) = W.gpre j) (hw : ∀ j k, w (ix2 j k) = W.up j (col 0 k)) (a : Fin 256) (j : Fin 1024) :
    k0_pay15 (F := Ideal) x g w (ix2 a j) = Mlp.a W (D a) (col 0 j) := by
  unfold Mlp.a
  pointwise [k0_pay15, p13 x g w hx hg hw]

theorem p16 {W : Wts} {D : Fin 256 → Row} (v20 : FVec Ideal S256x1024 .bf16)(w : FVec Ideal S1024x1024 .bf16)(hv20 : ∀ a j, v20 (ix2 a j) = h2 W (D a) j) (hw : ∀ j k, w (ix2 j k) = W.up j (col 1 k)) (a : Fin 256) (j : Fin 1024) :
    k0_pay16 v20 w (ix2 a j) = u W (D a) (col 1 j) := by
  unfold u
  pointwise [k0_pay16, hv20, hw]

theorem p17 {W : Wts} {D : Fin 256 → Row} (v20 : FVec Ideal S256x1024 .bf16)(w : FVec Ideal S1024x1024 .bf16)(hv20 : ∀ a j, v20 (ix2 a j) = h2 W (D a) j) (hw : ∀ j k, w (ix2 j k) = W.up j (col 1 k)) (a : Fin 256) (j : Fin 1024) :
    k0_pay17 v20 w (ix2 a j) = u W (D a) (col 1 j) := by
  pointwise [k0_pay17, p16 v20 w hv20 hw]

theorem p18 {W : Wts} {D : Fin 256 → Row} (v20 : FVec Ideal S256x1024 .bf16)(w : FVec Ideal S1024x1024 .bf16)(hv20 : ∀ a j, v20 (ix2 a j) = h2 W (D a) j) (hw : ∀ j k, w (ix2 j k) = W.up j (col 1 k)) (a : Fin 256) (j : Fin 1024) :
    k0_pay18 v20 w (ix2 a j) = Mlp.a W (D a) (col 1 j) := by
  unfold Mlp.a
  pointwise [k0_pay18, p16 v20 w hv20 hw]

theorem p19 {W : Wts} {D : Fin 256 → Row} (v20 : FVec Ideal S256x1024 .bf16)(w : FVec Ideal S1024x1024 .bf16)(hv20 : ∀ a j, v20 (ix2 a j) = h2 W (D a) j) (hw : ∀ j k, w (ix2 j k) = W.up j (col 2 k)) (a : Fin 256) (j : Fin 1024) :
    k0_pay19 v20 w (ix2 a j) = u W (D a) (col 2 j) := by
  unfold u
  pointwise [k0_pay19, hv20, hw]

theorem p20 {W : Wts} {D : Fin 256 → Row} (v20 : FVec Ideal S256x1024 .bf16)(w : FVec Ideal S1024x1024 .bf16)(hv20 : ∀ a j, v20 (ix2 a j) = h2 W (D a) j) (hw : ∀ j k, w (ix2 j k) = W.up j (col 2 k)) (a : Fin 256) (j : Fin 1024) :
    k0_pay20 v20 w (ix2 a j) = u W (D a) (col 2 j) := by
  pointwise [k0_pay20, p19 v20 w hv20 hw]

theorem p21 {W : Wts} {D : Fin 256 → Row} (v20 : FVec Ideal S256x1024 .bf16)(w : FVec Ideal S1024x1024 .bf16)(hv20 : ∀ a j, v20 (ix2 a j) = h2 W (D a) j) (hw : ∀ j k, w (ix2 j k) = W.up j (col 2 k)) (a : Fin 256) (j : Fin 1024) :
    k0_pay21 v20 w (ix2 a j) = Mlp.a W (D a) (col 2 j) := by
  unfold Mlp.a
  pointwise [k0_pay21, p19 v20 w hv20 hw]

theorem p23 {W : Wts} {D : Fin 256 → Row} (v20 : FVec Ideal S256x1024 .bf16)(w : FVec Ideal S1024x1024 .bf16)(hv20 : ∀ a j, v20 (ix2 a j) = h2 W (D a) j) (hw : ∀ j k, w (ix2 j k) = W.up j (col 3 k)) (a : Fin 256) (j : Fin 1024) :
    k0_pay23 v20 w (ix2 a j) = u W (D a) (col 3 j) := by
  unfold u
  pointwise [k0_pay23, hv20, hw]

theorem p24 {W : Wts} {D : Fin 256 → Row} (v20 : FVec Ideal S256x1024 .bf16)(w : FVec Ideal S1024x1024 .bf16)(hv20 : ∀ a j, v20 (ix2 a j) = h2 W (D a) j) (hw : ∀ j k, w (ix2 j k) = W.up j (col 3 k)) (a : Fin 256) (j : Fin 1024) :
    k0_pay24 v20 w (ix2 a j) = u W (D a) (col 3 j) := by
  pointwise [k0_pay24, p23 v20 w hv20 hw]

theorem p25 {W : Wts} {D : Fin 256 → Row} (v20 : FVec Ideal S256x1024 .bf16)(w : FVec Ideal S1024x1024 .bf16)(hv20 : ∀ a j, v20 (ix2 a j) = h2 W (D a) j) (hw : ∀ j k, w (ix2 j k) = W.up j (col 3 k)) (a : Fin 256) (j : Fin 1024) :
    k0_pay25 v20 w (ix2 a j) = Mlp.a W (D a) (col 3 j) := by
  unfold Mlp.a
  pointwise [k0_pay25, p23 v20 w hv20 hw]

theorem p22 {W : Wts} {D : Fin 256 → Row} (v20 : FVec Ideal S256x1024 .bf16)(v31 : FVec Ideal S256x1024 .bf16)(w33 : FVec Ideal S1024x1024 .bf16)(w36 : FVec Ideal S1024x1024 .bf16)(w46 : FVec Ideal S1024x1024 .bf16)(w49 : FVec Ideal S1024x1024 .bf16)(w59 : FVec Ideal S1024x1024 .bf16)(hv20 : ∀ a j, v20 (ix2 a j) = h2 W (D a) j) (hv31 : ∀ a j, v31 (ix2 a j) = Mlp.a W (D a) (col 0 j)) (hw33 : ∀ k i, w33 (ix2 k i) = W.dn (col 0 k) i) (hw36 : ∀ j k, w36 (ix2 j k) = W.up j (col 1 k)) (hw46 : ∀ k i, w46 (ix2 k i) = W.dn (col 1 k) i) (hw49 : ∀ j k, w49 (ix2 j k) = W.up j (col 2 k)) (hw59 : ∀ k i, w59 (ix2 k i) = W.dn (col 2 k) i) (a : Fin 256) (j : Fin 1024) :
    k0_pay22 v20 k0_pay12 v31 w33 w36 w46 w49 w59 (ix2 a j) = 0 + (∑ k, Mlp.a W (D a) (col 0 k) * W.dn (col 0 k) j) + (∑ k, Mlp.a W (D a) (col 1 k) * W.dn (col 1 k) j) + (∑ k, Mlp.a W (D a) (col 2 k) * W.dn (col 2 k) j) := by
  pointwise [k0_pay22, k0_pay12, hv31, hw33, p18 v20 w36 hv20 hw36, hw46, p21 v20 w49 hv20 hw49, hw59]

theorem p26 {W : Wts} {D : Fin 256 → Row} (v20 : FVec Ideal S256x1024 .bf16)(v61 : FVec Ideal S256x1024 .f32)(w62 : FVec Ideal S1024x1024 .bf16)(w72 : FVec Ideal S1024x1024 .bf16)(hv20 : ∀ a j, v20 (ix2 a j) = h2 W (D a) j) (hv61 : ∀ a j, v61 (ix2 a j) = 0 + (∑ k, Mlp.a W (D a) (col 0 k) * W.dn (col 0 k) j) + (∑ k, Mlp.a W (D a) (col 1 k) * W.dn (col 1 k) j) + (∑ k, Mlp.a W (D a) (col 2 k) * W.dn (col 2 k) j)) (hw62 : ∀ j k, w62 (ix2 j k) = W.up j (col 3 k)) (hw72 : ∀ k i, w72 (ix2 k i) = W.dn (col 3 k) i) (a : Fin 256) (j : Fin 1024) :
    k0_pay26 v20 v61 w62 w72 (ix2 a j) = f W (D a) j := by
  unfold f
  rw [split4]
  pointwise [k0_pay26, hv61, p25 v20 w62 hv20 hw62, hw72]

theorem p27 {W : Wts} {D : Fin 256 → Row} (v20 : FVec Ideal S256x1024 .bf16)(v61 : FVec Ideal S256x1024 .f32)(w62 : FVec Ideal S1024x1024 .bf16)(w72 : FVec Ideal S1024x1024 .bf16)(hv20 : ∀ a j, v20 (ix2 a j) = h2 W (D a) j) (hv61 : ∀ a j, v61 (ix2 a j) = 0 + (∑ k, Mlp.a W (D a) (col 0 k) * W.dn (col 0 k) j) + (∑ k, Mlp.a W (D a) (col 1 k) * W.dn (col 1 k) j) + (∑ k, Mlp.a W (D a) (col 2 k) * W.dn (col 2 k) j)) (hw62 : ∀ j k, w62 (ix2 j k) = W.up j (col 3 k)) (hw72 : ∀ k i, w72 (ix2 k i) = W.dn (col 3 k) i) (a : Fin 256) :
    k0_pay27 v20 v61 w62 w72 (ix2 a 0) = Rms.rr (f W (D a)) := by
  unfold Rms.rr Rms.ms Rms.mean
  pointwise [k0_pay27, p26 v20 v61 w62 w72 hv20 hv61 hw62 hw72]

theorem p28 {W : Wts} {D : Fin 256 → Row} (v20 : FVec Ideal S256x1024 .bf16)(v61 : FVec Ideal S256x1024 .f32)(w62 : FVec Ideal S1024x1024 .bf16)(w72 : FVec Ideal S1024x1024 .bf16)(hv20 : ∀ a j, v20 (ix2 a j) = h2 W (D a) j) (hv61 : ∀ a j, v61 (ix2 a j) = 0 + (∑ k, Mlp.a W (D a) (col 0 k) * W.dn (col 0 k) j) + (∑ k, Mlp.a W (D a) (col 1 k) * W.dn (col 1 k) j) + (∑ k, Mlp.a W (D a) (col 2 k) * W.dn (col 2 k) j)) (hw62 : ∀ j k, w62 (ix2 j k) = W.up j (col 3 k)) (hw72 : ∀ k i, w72 (ix2 k i) = W.dn (col 3 k) i) (a : Fin 256) (j : Fin 1024) :
    k0_pay28 v20 v61 w62 w72 (ix2 a j) = f W (D a) j * Rms.rr (f W (D a)) := by
  pointwise [k0_pay28, p26 v20 v61 w62 w72 hv20 hv61 hw62 hw72, p27 v20 v61 w62 w72 hv20 hv61 hw62 hw72]

theorem p29 {W : Wts} {D : Fin 256 → Row} (x : FVec Ideal S256x1024 .f32)(hx : ∀ a j, x (ix2 a j) = (D a).x j) (v20 : FVec Ideal S256x1024 .bf16)(v61 : FVec Ideal S256x1024 .f32)(w62 : FVec Ideal S1024x1024 .bf16)(w72 : FVec Ideal S1024x1024 .bf16)(hv20 : ∀ a j, v20 (ix2 a j) = h2 W (D a) j) (hv61 : ∀ a j, v61 (ix2 a j) = 0 + (∑ k, Mlp.a W (D a) (col 0 k) * W.dn (col 0 k) j) + (∑ k, Mlp.a W (D a) (col 1 k) * W.dn (col 1 k) j) + (∑ k, Mlp.a W (D a) (col 2 k) * W.dn (col 2 k) j)) (hw62 : ∀ j k, w62 (ix2 j k) = W.up j (col 3 k)) (hw72 : ∀ k i, w72 (ix2 k i) = W.dn (col 3 k) i) (g : FVec Ideal S1x1024 .f32)(hg : ∀ j, g (ix2 0 j) = W.gpost j) (a : Fin 256) (j : Fin 1024) :
    k0_pay29 x v20 v61 w62 w72 g (ix2 a j) = x2 W (D a) j := by
  unfold x2
  pointwise [k0_pay29, hx, p28 v20 v61 w62 w72 hv20 hv61 hw62 hw72, hg]

theorem p30 {W : Wts} {D : Fin 256 → Row} (x : FVec Ideal S256x1024 .f32)(hx : ∀ a j, x (ix2 a j) = (D a).x j) (v20 : FVec Ideal S256x1024 .bf16)(v61 : FVec Ideal S256x1024 .f32)(w62 : FVec Ideal S1024x1024 .bf16)(w72 : FVec Ideal S1024x1024 .bf16)(hv20 : ∀ a j, v20 (ix2 a j) = h2 W (D a) j) (hv61 : ∀ a j, v61 (ix2 a j) = 0 + (∑ k, Mlp.a W (D a) (col 0 k) * W.dn (col 0 k) j) + (∑ k, Mlp.a W (D a) (col 1 k) * W.dn (col 1 k) j) + (∑ k, Mlp.a W (D a) (col 2 k) * W.dn (col 2 k) j)) (hw62 : ∀ j k, w62 (ix2 j k) = W.up j (col 3 k)) (hw72 : ∀ k i, w72 (ix2 k i) = W.dn (col 3 k) i) (g : FVec Ideal S1x1024 .f32)(hg : ∀ j, g (ix2 0 j) = W.gpost j) (a : Fin 256) :
    k0_pay30 x v20 v61 w62 w72 g (ix2 a 0) = Rms.rr (x2 W (D a)) := by
  unfold Rms.rr Rms.ms Rms.mean
  pointwise [k0_pay30, p29 x hx v20 v61 w62 w72 hv20 hv61 hw62 hw72 g hg]

theorem p31 {W : Wts} {D : Fin 256 → Row} (x : FVec Ideal S256x1024 .f32)(hx : ∀ a j, x (ix2 a j) = (D a).x j) (v20 : FVec Ideal S256x1024 .bf16)(v61 : FVec Ideal S256x1024 .f32)(w62 : FVec Ideal S1024x1024 .bf16)(w72 : FVec Ideal S1024x1024 .bf16)(hv20 : ∀ a j, v20 (ix2 a j) = h2 W (D a) j) (hv61 : ∀ a j, v61 (ix2 a j) = 0 + (∑ k, Mlp.a W (D a) (col 0 k) * W.dn (col 0 k) j) + (∑ k, Mlp.a W (D a) (col 1 k) * W.dn (col 1 k) j) + (∑ k, Mlp.a W (D a) (col 2 k) * W.dn (col 2 k) j)) (hw62 : ∀ j k, w62 (ix2 j k) = W.up j (col 3 k)) (hw72 : ∀ k i, w72 (ix2 k i) = W.dn (col 3 k) i) (g : FVec Ideal S1x1024 .f32)(hg : ∀ j, g (ix2 0 j) = W.gpost j) (a : Fin 256) (j : Fin 1024) :
    k0_pay31 x v20 v61 w62 w72 g (ix2 a j) = x2 W (D a) j * Rms.rr (x2 W (D a)) := by
  pointwise [k0_pay31, p29 x hx v20 v61 w62 w72 hv20 hv61 hw62 hw72 g hg, p30 x hx v20 v61 w62 w72 hv20 hv61 hw62 hw72 g hg]

theorem p32 {W : Wts} {D : Fin 256 → Row} (v98 : FVec Ideal S256x1024 .f32)(hv98 : ∀ a j, v98 (ix2 a j) = x2 W (D a) j * Rms.rr (x2 W (D a))) (g : FVec Ideal S1x1024 .f32)(hg : ∀ j, g (ix2 0 j) = W.gple j) (a : Fin 256) (j : Fin 1024) :
    k0_pay32 v98 g (ix2 a j) = h3 W (D a) j := by
  unfold h3
  pointwise [k0_pay32, hv98, hg]

theorem p33 {W : Wts} {D : Fin 256 → Row} (v98 : FVec Ideal S256x1024 .f32)(hv98 : ∀ a j, v98 (ix2 a j) = x2 W (D a) j * Rms.rr (x2 W (D a))) (g : FVec Ideal S1x1024 .f32)(hg : ∀ j, g (ix2 0 j) = W.gple j) (w : FVec Ideal S1024x1024 .bf16)(hw : ∀ j k, w (ix2 j k) = W.pg j k) (a : Fin 256) (j : Fin 1024) :
    k0_pay33 v98 g w (ix2 a j) = pg W (D a) j := by
  unfold pg Ideal.logistic
  pointwise [k0_pay33, p32 v98 hv98 g hg, hw, one_eq, zero_sub]

theorem p34 {W : Wts} {D : Fin 256 → Row} (p : FVec Ideal S256x256 .f32) (hp : ∀ a j, p (ix2 a j) = (D a).p j) (q : FVec Ideal S256x1024 .bf16) (hq : ∀ l i, q (ix2 l i) = W.pp l i) (a : Fin 256) (j : Fin 1024) :
    k0_pay34 (F := Ideal) p q (ix2 a j) = pp W (D a) j := by
  unfold pp
  pointwise [k0_pay34, hp, hq]

theorem p35 {W : Wts} {D : Fin 256 → Row} (v88 : FVec Ideal S256x1024 .f32)(hv88 : ∀ a j, v88 (ix2 a j) = x2 W (D a) j) (v98 : FVec Ideal S256x1024 .f32)(hv98 : ∀ a j, v98 (ix2 a j) = x2 W (D a) j * Rms.rr (x2 W (D a))) (g : FVec Ideal S1x1024 .f32)(hg : ∀ j, g (ix2 0 j) = W.gple j) (w : FVec Ideal S1024x1024 .bf16)(hw : ∀ j k, w (ix2 j k) = W.pg j k) (p : FVec Ideal S256x256 .f32) (hp : ∀ a j, p (ix2 a j) = (D a).p j) (q : FVec Ideal S256x1024 .bf16) (hq : ∀ l i, q (ix2 l i) = W.pp l i) (y : FVec Ideal S256x1024 .f32)(hy : ∀ a j, y (ix2 a j) = (D a).tg j) (a : Fin 256) (j : Fin 1024) :
    k0_pay35 v88 v98 g w p q y (ix2 a j) = diff W (D a) j := by
  unfold diff
  pointwise [k0_pay35, hv88, p33 v98 hv98 g hg w hw, p34 p hp q hq, hy]

theorem p36 {W : Wts} {D : Fin 256 → Row} (v88 : FVec Ideal S256x1024 .f32)(hv88 : ∀ a j, v88 (ix2 a j) = x2 W (D a) j) (v98 : FVec Ideal S256x1024 .f32)(hv98 : ∀ a j, v98 (ix2 a j) = x2 W (D a) j * Rms.rr (x2 W (D a))) (g : FVec Ideal S1x1024 .f32)(hg : ∀ j, g (ix2 0 j) = W.gple j) (w : FVec Ideal S1024x1024 .bf16)(hw : ∀ j k, w (ix2 j k) = W.pg j k) (p : FVec Ideal S256x256 .f32) (hp : ∀ a j, p (ix2 a j) = (D a).p j) (q : FVec Ideal S256x1024 .bf16) (hq : ∀ l i, q (ix2 l i) = W.pp l i) (y : FVec Ideal S256x1024 .f32)(hy : ∀ a j, y (ix2 a j) = (D a).tg j) (l : FVec Ideal S1x1 .f32) :
    k0_pay36 v88 v98 g w p q y l (ix2 0 0) = l (ix2 0 0) + Ideal.ofBits .f32 0x3F000000#32 * ∑ a, loss W (D a) := by
  unfold loss Rms.mean
  pointwise [k0_pay36, p35 v88 hv88 v98 hv98 g hg w hw p hp q hq y hy]

theorem p37 {W : Wts} {D : Fin 256 → Row} (kc : Ideal .f32) (hk : kc = Ideal.ofBits .f32 0x3A800000#32) (v120 : FVec Ideal S256x1024 .f32)(hv120 : ∀ a j, v120 (ix2 a j) = diff W (D a) j) (a : Fin 256) (j : Fin 1024) :
    k0_pay37 v120 kc (ix2 a j) = dy W (D a) j := by
  unfold dy
  pointwise [k0_pay37, hv120, hk]

theorem p38 {W : Wts} {D : Fin 256 → Row} (kc : Ideal .f32) (hk : kc = Ideal.ofBits .f32 0x3A800000#32) (v112 : FVec Ideal S256x1024 .f32)(hv112 : ∀ a j, v112 (ix2 a j) = pg W (D a) j) (v120 : FVec Ideal S256x1024 .f32)(hv120 : ∀ a j, v120 (ix2 a j) = diff W (D a) j) (a : Fin 256) (j : Fin 1024) :
    k0_pay38 v112 v120 kc (ix2 a j) = dpp W (D a) j := by
  unfold dpp
  pointwise [k0_pay38, p37 kc hk v120 hv120, hv112]

theorem p39 {W : Wts} {D : Fin 256 → Row} (kc : Ideal .f32) (hk : kc = Ideal.ofBits .f32 0x3A800000#32) (v112 : FVec Ideal S256x1024 .f32)(hv112 : ∀ a j, v112 (ix2 a j) = pg W (D a) j) (v116 : FVec Ideal S256x1024 .f32)(hv116 : ∀ a j, v116 (ix2 a j) = pp W (D a) j) (v120 : FVec Ideal S256x1024 .f32)(hv120 : ∀ a j, v120 (ix2 a j) = diff W (D a) j) (a : Fin 256) (j : Fin 1024) :
    k0_pay39 v112 v116 v120 kc (ix2 a j) = ds3 W (D a) j := by
  unfold ds3
  pointwise [k0_pay39, p37 kc hk v120 hv120, hv112, hv116, one_eq]

theorem p40 {W : Wts} {D : Fin 256 → Row} (kc : Ideal .f32) (hk : kc = Ideal.ofBits .f32 0x3A800000#32) (v112 : FVec Ideal S256x1024 .f32)(hv112 : ∀ a j, v112 (ix2 a j) = pg W (D a) j) (v116 : FVec Ideal S256x1024 .f32)(hv116 : ∀ a j, v116 (ix2 a j) = pp W (D a) j) (v120 : FVec Ideal S256x1024 .f32)(hv120 : ∀ a j, v120 (ix2 a j) = diff W (D a) j) (w : FVec Ideal S1024x1024 .bf16)(hw : ∀ j k, w (ix2 j k) = W.pg j k) (a : Fin 256) (j : Fin 1024) :
    k0_pay40 v112 v116 v120 kc w (ix2 a j) = dh3 W (D a) j := by
  unfold dh3
  pointwise [k0_pay40, p39 kc hk v112 hv112 v116 hv116 v120 hv120, hw]

theorem p41 {W : Wts} {D : Fin 256 → Row} (kc : Ideal .f32) (hk : kc = Ideal.ofBits .f32 0x3A800000#32) (v112 : FVec Ideal S256x1024 .f32)(hv112 : ∀ a j, v112 (ix2 a j) = pg W (D a) j) (v116 : FVec Ideal S256x1024 .f32)(hv116 : ∀ a j, v116 (ix2 a j) = pp W (D a) j) (v120 : FVec Ideal S256x1024 .f32)(hv120 : ∀ a j, v120 (ix2 a j) = diff W (D a) j) (w : FVec Ideal S1024x1024 .bf16)(hw : ∀ j k, w (ix2 j k) = W.pg j k) (v98 : FVec Ideal S256x1024 .f32)(hv98 : ∀ a j, v98 (ix2 a j) = x2 W (D a) j * Rms.rr (x2 W (D a))) (l : FVec Ideal S1x1024 .f32)(j : Fin 1024) :
    k0_pay41 v98 v112 v116 v120 kc w l (ix2 0 j) = l (ix2 0 j) + ∑ a, dgple W (D a) j := by
  unfold dgple
  pointwise [k0_pay41, p40 kc hk v112 hv112 v116 hv116 v120 hv120 w hw, hv98]

theorem p42 {W : Wts} {D : Fin 256 → Row} (kc : Ideal .f32) (hk : kc = Ideal.ofBits .f32 0x3A800000#32) (v112 : FVec Ideal S256x1024 .f32)(hv112 : ∀ a j, v112 (ix2 a j) = pg W (D a) j) (v116 : FVec Ideal S256x1024 .f32)(hv116 : ∀ a j, v116 (ix2 a j) = pp W (D a) j) (v120 : FVec Ideal S256x1024 .f32)(hv120 : ∀ a j, v120 (ix2 a j) = diff W (D a) j) (w : FVec Ideal S1024x1024 .bf16)(hw : ∀ j k, w (ix2 j k) = W.pg j k) (v98 : FVec Ideal S256x1024 .f32)(hv98 : ∀ a j, v98 (ix2 a j) = x2 W (D a) j * Rms.rr (x2 W (D a))) (v96 : FVec Ideal S256x1 .f32) (hv96 : ∀ a, v96 (ix2 a 0) = Rms.rr (x2 W (D a))) (g : FVec Ideal S1x1024 .f32)(hg : ∀ j, g (ix2 0 j) = W.gple j) (a : Fin 256) (j : Fin 1024) :
    k0_pay42 v96 v98 v112 v116 v120 kc w g (ix2 a j) = dx2 W (D a) j := by
  unfold dx2 Rms.bwd Rms.mean
  pointwise [k0_pay42, p40 kc hk v112 hv112 v116 hv116 v120 hv120 w hw, hv98, hv96, hg, p37 kc hk v120 hv120]

theorem p44 {W : Wts} {D : Fin 256 → Row} (kc : Ideal .f32) (hk : kc = Ideal.ofBits .f32 0x3A800000#32) (v112 : FVec Ideal S256x1024 .f32)(hv112 : ∀ a j, v112 (ix2 a j) = pg W (D a) j) (v116 : FVec Ideal S256x1024 .f32)(hv116 : ∀ a j, v116 (ix2 a j) = pp W (D a) j) (v120 : FVec Ideal S256x1024 .f32)(hv120 : ∀ a j, v120 (ix2 a j) = diff W (D a) j) (w : FVec Ideal S1024x1024 .bf16)(hw : ∀ j k, w (ix2 j k) = W.pg j k) (v98 : FVec Ideal S256x1024 .f32)(hv98 : ∀ a j, v98 (ix2 a j) = x2 W (D a) j * Rms.rr (x2 W (D a))) (v96 : FVec Ideal S256x1 .f32) (hv96 : ∀ a, v96 (ix2 a 0) = Rms.rr (x2 W (D a))) (g : FVec Ideal S1x1024 .f32)(hg : ∀ j, g (ix2 0 j) = W.gple j) (v84 : FVec Ideal S256x1024 .f32)(hv84 : ∀ a j, v84 (ix2 a j) = f W (D a) j * Rms.rr (f W (D a))) (a : Fin 256) (j : Fin 1024) :
    k0_pay44 v84 v96 v98 v112 v116 v120 kc w g (ix2 a j) = dgpost W (D a) j := by
  unfold dgpost
  pointwise [k0_pay44, p42 kc hk v112 hv112 v116 hv116 v120 hv120 w hw v98 hv98 v96 hv96 g hg, hv84]

theorem p45 {W : Wts} {D : Fin 256 → Row} (l : FVec Ideal S1x1024 .f32)(v171 : FVec Ideal S256x1024 .f32)(hv171 : ∀ a j, v171 (ix2 a j) = dgpost W (D a) j) (j : Fin 1024) :
    k0_pay45 (k0_pay43 l) v171 (ix2 0 j) = l (ix2 0 j) + ∑ a, dgpost W (D a) j := by
  pointwise [k0_pay45, k0_pay43, hv171]

theorem p46 {W : Wts} {D : Fin 256 → Row} (v82 : FVec Ideal S256x1 .f32) (hv82 : ∀ a, v82 (ix2 a 0) = Rms.rr (f W (D a))) (v84 : FVec Ideal S256x1024 .f32)(hv84 : ∀ a j, v84 (ix2 a j) = f W (D a) j * Rms.rr (f W (D a))) (v168 : FVec Ideal S256x1024 .f32)(hv168 : ∀ a j, v168 (ix2 a j) = dx2 W (D a) j) (g : FVec Ideal S1x1024 .f32)(hg : ∀ j, g (ix2 0 j) = W.gpost j) (a : Fin 256) (j : Fin 1024) :
    k0_pay46 v82 v84 v168 g (ix2 a j) = df W (D a) j := by
  unfold df Rms.bwd Rms.mean
  pointwise [k0_pay46, hv82, hv84, hv168, hg]

theorem p47 {W : Wts} {D : Fin 256 → Row} (v82 : FVec Ideal S256x1 .f32) (hv82 : ∀ a, v82 (ix2 a 0) = Rms.rr (f W (D a))) (v84 : FVec Ideal S256x1024 .f32)(hv84 : ∀ a j, v84 (ix2 a j) = f W (D a) j * Rms.rr (f W (D a))) (v168 : FVec Ideal S256x1024 .f32)(hv168 : ∀ a j, v168 (ix2 a j) = dx2 W (D a) j) (g : FVec Ideal S1x1024 .f32)(hg : ∀ j, g (ix2 0 j) = W.gpost j) (w : FVec Ideal S1024x1024 .bf16)(hw : ∀ k i, w (ix2 k i) = W.dn (col 0 k) i) (v : FVec Ideal S256x1024 .f32)(hv : ∀ a j, v (ix2 a j) = u W (D a) (col 0 j)) (a : Fin 256) (j : Fin 1024) :
    k0_pay47 v82 v84 v168 g w v (ix2 a j) = du W (D a) (col 0 j) := by
  unfold du da
  pointwise [k0_pay47, p46 v82 hv82 v84 hv84 v168 hv168 g hg, hw, hv]

theorem p48 {W : Wts} {D : Fin 256 → Row} (v82 : FVec Ideal S256x1 .f32) (hv82 : ∀ a, v82 (ix2 a 0) = Rms.rr (f W (D a))) (v84 : FVec Ideal S256x1024 .f32)(hv84 : ∀ a j, v84 (ix2 a j) = f W (D a) j * Rms.rr (f W (D a))) (v168 : FVec Ideal S256x1024 .f32)(hv168 : ∀ a j, v168 (ix2 a j) = dx2 W (D a) j) (g : FVec Ideal S1x1024 .f32)(hg : ∀ j, g (ix2 0 j) = W.gpost j) (w : FVec Ideal S1024x1024 .bf16)(hw : ∀ k i, w (ix2 k i) = W.dn (col 0 k) i) (v : FVec Ideal S256x1024 .f32)(hv : ∀ a j, v (ix2 a j) = u W (D a) (col 0 j)) (z : FVec Ideal S1024x1024 .bf16)(hz : ∀ j k, z (ix2 j k) = W.up j (col 0 k)) (a : Fin 256) (j : Fin 1024) :
    k0_pay48 v82 v84 v168 g w v z (ix2 a j) = 0 + (∑ k, du W (D a) (col 0 k) * W.up j (col 0 k)) := by
  pointwise [k0_pay48, p47 v82 hv82 v84 hv84 v168 hv168 g hg w hw v hv, hz]

theorem p49 {W : Wts} {D : Fin 256 → Row} (v189 : FVec Ideal S256x1024 .bf16)(hv189 : ∀ a j, v189 (ix2 a j) = df W (D a) j) (w : FVec Ideal S1024x1024 .bf16)(hw : ∀ k i, w (ix2 k i) = W.dn (col 1 k) i) (v : FVec Ideal S256x1024 .f32)(hv : ∀ a j, v (ix2 a j) = u W (D a) (col 1 j)) (a : Fin 256) (j : Fin 1024) :
    k0_pay49 v189 w v (ix2 a j) = du W (D a) (col 1 j) := by
  unfold du da
  pointwise [k0_pay49, hv189, hw, hv]

theorem p50 {W : Wts} {D : Fin 256 → Row} (v189 : FVec Ideal S256x1024 .bf16)(hv189 : ∀ a j, v189 (ix2 a j) = df W (D a) j) (w : FVec Ideal S1024x1024 .bf16)(hw : ∀ k i, w (ix2 k i) = W.dn (col 2 k) i) (v : FVec Ideal S256x1024 .f32)(hv : ∀ a j, v (ix2 a j) = u W (D a) (col 2 j)) (a : Fin 256) (j : Fin 1024) :
    k0_pay50 v189 w v (ix2 a j) = du W (D a) (col 2 j) := by
  unfold du da
  pointwise [k0_pay50, hv189, hw, hv]

theorem p51 {W : Wts} {D : Fin 256 → Row} (v189 : FVec Ideal S256x1024 .bf16)(hv189 : ∀ a j, v189 (ix2 a j) = df W (D a) j) (v204 : FVec Ideal S256x1024 .f32)(hv204 : ∀ a j, v204 (ix2 a j) = 0 + (∑ k, du W (D a) (col 0 k) * W.up j (col 0 k))) (w : FVec Ideal S1024x1024 .bf16)(hw : ∀ k i, w (ix2 k i) = W.dn (col 1 k) i) (v : FVec Ideal S256x1024 .f32)(hv : ∀ a j, v (ix2 a j) = u W (D a) (col 1 j)) (z : FVec Ideal S1024x1024 .bf16)(hz : ∀ j k, z (ix2 j k) = W.up j (col 1 k)) (w' : FVec Ideal S1024x1024 .bf16)(hw' : ∀ k i, w' (ix2 k i) = W.dn (col 2 k) i) (v' : FVec Ideal S256x1024 .f32)(hv' : ∀ a j, v' (ix2 a j) = u W (D a) (col 2 j)) (z' : FVec Ideal S1024x1024 .bf16)(hz' : ∀ j k, z' (ix2 j k) = W.up j (col 2 k)) (a : Fin 256) (j : Fin 1024) :
    k0_pay51 v189 v204 w v z w' v' z' (ix2 a j) = 0 + (∑ k, du W (D a) (col 0 k) * W.up j (col 0 k)) + (∑ k, du W (D a) (col 1 k) * W.up j (col 1 k)) + (∑ k, du W (D a) (col 2 k) * W.up j (col 2 k)) := by
  pointwise [k0_pay51, hv204, p49 v189 hv189 w hw v hv, hz, p50 v189 hv189 w' hw' v' hv', hz']

theorem p52 {W : Wts} {D : Fin 256 → Row} (v189 : FVec Ideal S256x1024 .bf16)(hv189 : ∀ a j, v189 (ix2 a j) = df W (D a) j) (w : FVec Ideal S1024x1024 .bf16)(hw : ∀ k i, w (ix2 k i) = W.dn (col 3 k) i) (a : Fin 256) (j : Fin 1024) :
    k0_pay52 v189 w (ix2 a j) = da W (D a) (col 3 j) := by
  unfold da
  pointwise [k0_pay52, hv189, hw]

theorem p1 {W : Wts} {D : Fin 256 → Row} (v232 : FVec Ideal S256x1024 .f32)(hv232 : ∀ a j, v232 (ix2 a j) = da W (D a) (col 3 j)) (v : FVec Ideal S256x1024 .f32)(hv : ∀ a j, v (ix2 a j) = u W (D a) (col 3 j)) (a : Fin 256) (j : Fin 1024) :
    k0_pay1 v232 v k0_pay53 (ix2 a j) = du W (D a) (col 3 j) := by
  unfold du
  pointwise [k0_pay1, k0_pay53, hv232, hv]

theorem p2 {W : Wts} {D : Fin 256 → Row} (v232 : FVec Ideal S256x1024 .f32)(hv232 : ∀ a j, v232 (ix2 a j) = da W (D a) (col 3 j)) (v : FVec Ideal S256x1024 .f32)(hv : ∀ a j, v (ix2 a j) = u W (D a) (col 3 j)) (v230 : FVec Ideal S256x1024 .f32)(hv230 : ∀ a j, v230 (ix2 a j) = 0 + (∑ k, du W (D a) (col 0 k) * W.up j (col 0 k)) + (∑ k, du W (D a) (col 1 k) * W.up j (col 1 k)) + (∑ k, du W (D a) (col 2 k) * W.up j (col 2 k))) (z : FVec Ideal S1024x1024 .bf16)(hz : ∀ j k, z (ix2 j k) = W.up j (col 3 k)) (a : Fin 256) (j : Fin 1024) :
    k0_pay2 v230 v232 v k0_pay53 z (ix2 a j) = dh2 W (D a) j := by
  unfold dh2
  rw [split4]
  pointwise [k0_pay2, hv230, p1 v232 hv232 v hv, hz]

theorem p3 {W : Wts} {D : Fin 256 → Row} (v232 : FVec Ideal S256x1024 .f32)(hv232 : ∀ a j, v232 (ix2 a j) = da W (D a) (col 3 j)) (v : FVec Ideal S256x1024 .f32)(hv : ∀ a j, v (ix2 a j) = u W (D a) (col 3 j)) (v230 : FVec Ideal S256x1024 .f32)(hv230 : ∀ a j, v230 (ix2 a j) = 0 + (∑ k, du W (D a) (col 0 k) * W.up j (col 0 k)) + (∑ k, du W (D a) (col 1 k) * W.up j (col 1 k)) + (∑ k, du W (D a) (col 2 k) * W.up j (col 2 k))) (z : FVec Ideal S1024x1024 .bf16)(hz : ∀ j k, z (ix2 j k) = W.up j (col 3 k)) (v16 : FVec Ideal S256x1024 .f32)(hv16 : ∀ a j, v16 (ix2 a j) = (D a).x j * Rms.rr (D a).x) (l : FVec Ideal S1x1024 .f32)(j : Fin 1024) :
    k0_pay3 v16 v230 v232 v k0_pay53 z l (ix2 0 j) = l (ix2 0 j) + ∑ a, dgpre W (D a) j := by
  unfold dgpre
  pointwise [k0_pay3, p2 v232 hv232 v hv v230 hv230 z hz, hv16]

theorem p4 {W : Wts} {D : Fin 256 → Row} (v232 : FVec Ideal S256x1024 .f32)(hv232 : ∀ a j, v232 (ix2 a j) = da W (D a) (col 3 j)) (v : FVec Ideal S256x1024 .f32)(hv : ∀ a j, v (ix2 a j) = u W (D a) (col 3 j)) (v230 : FVec Ideal S256x1024 .f32)(hv230 : ∀ a j, v230 (ix2 a j) = 0 + (∑ k, du W (D a) (col 0 k) * W.up j (col 0 k)) + (∑ k, du W (D a) (col 1 k) * W.up j (col 1 k)) + (∑ k, du W (D a) (col 2 k) * W.up j (col 2 k))) (z : FVec Ideal S1024x1024 .bf16)(hz : ∀ j k, z (ix2 j k) = W.up j (col 3 k)) (v16 : FVec Ideal S256x1024 .f32)(hv16 : ∀ a j, v16 (ix2 a j) = (D a).x j * Rms.rr (D a).x) (v14 : FVec Ideal S256x1 .f32) (hv14 : ∀ a, v14 (ix2 a 0) = Rms.rr (D a).x) (v168 : FVec Ideal S256x1024 .f32)(hv168 : ∀ a j, v168 (ix2 a j) = dx2 W (D a) j) (g : FVec Ideal S1x1024 .f32)(hg : ∀ j, g (ix2 0 j) = W.gpre j) (a : Fin 256) (j : Fin 1024) :
    k0_pay4 v14 v16 v168 v230 v232 v k0_pay53 z g (ix2 a j) = dx1 W (D a) j := by
  unfold dx1 Rms.bwd Rms.mean
  pointwise [k0_pay4, p2 v232 hv232 v hv v230 hv230 z hz, hv16, hv14, hv168, hg]

end Cert.MlpIdeal.Hand

end
-- ==== Proof.Mlp.Blk.lean ====
/- The mixer's call: a point's blocks, entry by entry. -/
module

public import proofs.«01_k».proof.Proof.Mlp.Pay
public import proofs.«01_k».proof.Proof.Kit
public import Idealize.ShloMosaic.Lib.ValueIdx
public import Idealize.ShloMosaic.Lib.Pipeline.ValueKit
public import Idealize.ShloMosaic.Lib.Pointwise

@[expose] public section

noncomputable section

namespace Cert.MlpIdeal.Hand

open Idealize.ShloMosaic Cert.MlpIdeal Cert.MlpIdeal.Gen Cert.Mlp

/-- One of the four stored parts of the wide block. -/
theorem tile (P : FVec Ideal S256x1024 .bf16) (g : Fin 256 → Fin 4096 → EReal) (b : Fin 4) (hP : ∀ a j, P (ix2 a j) = g a (col b j))
    (x : S256x1024.Idx) (a : Fin 256) (k : Fin 4096) (h0 : a.val = (x 0).val) (h1 : k.val = 1024 * b.val + (x 1).val) : P x = g a k := by
  idx_vars x
  rw [hP]
  congr 1
  · exact Fin.ext h0.symm
  · exact Fin.ext h1.symm

/-- What a point reads: its blocks, the gains and the weights. -/
structure Blk where
  x : Vec Ideal S256x1024 .f32
  p : Vec Ideal S256x256 .f32
  y : Vec Ideal S256x1024 .f32
  g3 : Vec Ideal S1x1024 .f32
  g4 : Vec Ideal S1x1024 .f32
  g5 : Vec Ideal S1x1024 .f32
  wu : Vec Ideal S1024x4096 .bf16
  wd : Vec Ideal S4096x1024 .bf16
  wg : Vec Ideal S1024x1024 .bf16
  wp : Vec Ideal S256x1024 .bf16

namespace Blk
variable (B : Blk)

def up0 : FVec Ideal S1024x1024 .bf16 := View.ld B.wu (Rect.unit (s := S1024x4096) ![0, 0] S1024x1024.size inb_S1024x4096_S1024x1024_0_0)
def dn0 : FVec Ideal S1024x1024 .bf16 := View.ld B.wd (Rect.unit (s := S4096x1024) ![0, 0] S1024x1024.size inb_S4096x1024_S1024x1024_0_0)
def up1 : FVec Ideal S1024x1024 .bf16 := View.ld B.wu (Rect.unit (s := S1024x4096) ![0, 1024] S1024x1024.size inb_S1024x4096_S1024x1024_0_1024)
def dn1 : FVec Ideal S1024x1024 .bf16 := View.ld B.wd (Rect.unit (s := S4096x1024) ![1024, 0] S1024x1024.size inb_S4096x1024_S1024x1024_1024_0)
def up2 : FVec Ideal S1024x1024 .bf16 := View.ld B.wu (Rect.unit (s := S1024x4096) ![0, 2048] S1024x1024.size inb_S1024x4096_S1024x1024_0_2048)
def dn2 : FVec Ideal S1024x1024 .bf16 := View.ld B.wd (Rect.unit (s := S4096x1024) ![2048, 0] S1024x1024.size inb_S4096x1024_S1024x1024_2048_0)
def up3 : FVec Ideal S1024x1024 .bf16 := View.ld B.wu (Rect.unit (s := S1024x4096) ![0, 3072] S1024x1024.size inb_S1024x4096_S1024x1024_0_3072)
def dn3 : FVec Ideal S1024x1024 .bf16 := View.ld B.wd (Rect.unit (s := S4096x1024) ![3072, 0] S1024x1024.size inb_S4096x1024_S1024x1024_3072_0)
def v14 : FVec Ideal S256x1 .f32 := k0_pay9 B.x
def v16 : FVec Ideal S256x1024 .f32 := k0_pay10 B.x
def v20 : FVec Ideal S256x1024 .bf16 := k0_pay11 B.x B.g3
def a0 : FVec Ideal S256x1024 .bf16 := k0_pay15 B.x B.g3 B.up0
def a1 : FVec Ideal S256x1024 .bf16 := k0_pay18 B.v20 B.up1
def a2 : FVec Ideal S256x1024 .bf16 := k0_pay21 B.v20 B.up2
def a3 : FVec Ideal S256x1024 .bf16 := k0_pay25 B.v20 B.up3
def u0 : FVec Ideal S256x1024 .f32 := k0_pay14 B.x B.g3 B.up0
def u1 : FVec Ideal S256x1024 .f32 := k0_pay17 B.v20 B.up1
def u2 : FVec Ideal S256x1024 .f32 := k0_pay20 B.v20 B.up2
def u3 : FVec Ideal S256x1024 .f32 := k0_pay24 B.v20 B.up3
def v61 : FVec Ideal S256x1024 .f32 := k0_pay22 B.v20 k0_pay12 B.a0 B.dn0 B.up1 B.dn1 B.up2 B.dn2
def v82 : FVec Ideal S256x1 .f32 := k0_pay27 B.v20 B.v61 B.up3 B.dn3
def v84 : FVec Ideal S256x1024 .f32 := k0_pay28 B.v20 B.v61 B.up3 B.dn3
def v88 : FVec Ideal S256x1024 .f32 := k0_pay29 B.x B.v20 B.v61 B.up3 B.dn3 B.g4
def v96 : FVec Ideal S256x1 .f32 := k0_pay30 B.x B.v20 B.v61 B.up3 B.dn3 B.g4
def v98 : FVec Ideal S256x1024 .f32 := k0_pay31 B.x B.v20 B.v61 B.up3 B.dn3 B.g4
def o11 : FVec Ideal S256x1024 .bf16 := k0_pay32 B.v98 B.g5
def v112 : FVec Ideal S256x1024 .f32 := k0_pay33 B.v98 B.g5 B.wg
def v116 : FVec Ideal S256x1024 .f32 := k0_pay34 B.p B.wp
def v120 : FVec Ideal S256x1024 .f32 := k0_pay35 B.v88 B.v98 B.g5 B.wg B.p B.wp B.y
def o13 : FVec Ideal S256x1024 .bf16 := k0_pay38 B.v112 B.v120 (Scalar.ofBits .f32 0x3A800000#32)
def o12 : FVec Ideal S256x1024 .bf16 := k0_pay39 B.v112 B.v116 B.v120 (Scalar.ofBits .f32 0x3A800000#32)
def v168 : FVec Ideal S256x1024 .f32 := k0_pay42 B.v96 B.v98 B.v112 B.v116 B.v120 (Scalar.ofBits .f32 0x3A800000#32) B.wg B.g5
def v171 : FVec Ideal S256x1024 .f32 := k0_pay44 B.v84 B.v96 B.v98 B.v112 B.v116 B.v120 (Scalar.ofBits .f32 0x3A800000#32) B.wg B.g5
def v189 : FVec Ideal S256x1024 .bf16 := k0_pay46 B.v82 B.v84 B.v168 B.g4
def d0 : FVec Ideal S256x1024 .bf16 := k0_pay47 B.v82 B.v84 B.v168 B.g4 B.dn0 B.u0
def v204 : FVec Ideal S256x1024 .f32 := k0_pay48 B.v82 B.v84 B.v168 B.g4 B.dn0 B.u0 B.up0
def d1 : FVec Ideal S256x1024 .bf16 := k0_pay49 B.v189 B.dn1 B.u1
def d2 : FVec Ideal S256x1024 .bf16 := k0_pay50 B.v189 B.dn2 B.u2
def v230 : FVec Ideal S256x1024 .f32 := k0_pay51 B.v189 B.v204 B.dn1 B.u1 B.up1 B.dn2 B.u2 B.up2
def v232 : FVec Ideal S256x1024 .f32 := k0_pay52 B.v189 B.dn3
def d3 : FVec Ideal S256x1024 .bf16 := k0_pay1 B.v232 B.u3 k0_pay53
def o6 : FVec Ideal S256x1024 .f32 := k0_pay4 B.v14 B.v16 B.v168 B.v230 B.v232 B.u3 k0_pay53 B.up3 B.g3
def o14 (l : FVec Ideal S1x1 .f32) : FVec Ideal S1x1 .f32 := k0_pay36 B.v88 B.v98 B.g5 B.wg B.p B.wp B.y l
def o15 (l : FVec Ideal S1x1024 .f32) : FVec Ideal S1x1024 .f32 := k0_pay3 B.v16 B.v230 B.v232 B.u3 k0_pay53 B.up3 l
def o16 (l : FVec Ideal S1x1024 .f32) : FVec Ideal S1x1024 .f32 := k0_pay45 (k0_pay43 l) B.v171
def o17 (l : FVec Ideal S1x1024 .f32) : FVec Ideal S1x1024 .f32 := k0_pay41 B.v98 B.v112 B.v116 B.v120 (Scalar.ofBits .f32 0x3A800000#32) B.wg l
def o8 : FVec Ideal S256x4096 .bf16 := View.canon [(⟨(Rect.unit (s := S256x4096) ![0, 3072] S256x1024.size inb_S256x4096_S256x1024_0_3072), B.d3⟩ : View.Piece (Elt Ideal) S256x4096 .bf16), ⟨(Rect.unit (s := S256x4096) ![0, 2048] S256x1024.size inb_S256x4096_S256x1024_0_2048), B.d2⟩, ⟨(Rect.unit (s := S256x4096) ![0, 1024] S256x1024.size inb_S256x4096_S256x1024_0_1024), B.d1⟩, ⟨(Rect.unit (s := S256x4096) ![0, 0] S256x1024.size inb_S256x4096_S256x1024_0_0), B.d0⟩]
def o9 : FVec Ideal S256x4096 .bf16 := View.canon [(⟨(Rect.unit (s := S256x4096) ![0, 3072] S256x1024.size inb_S256x4096_S256x1024_0_3072), B.a3⟩ : View.Piece (Elt Ideal) S256x4096 .bf16), ⟨(Rect.unit (s := S256x4096) ![0, 2048] S256x1024.size inb_S256x4096_S256x1024_0_2048), B.a2⟩, ⟨(Rect.unit (s := S256x4096) ![0, 1024] S256x1024.size inb_S256x4096_S256x1024_0_1024), B.a1⟩, ⟨(Rect.unit (s := S256x4096) ![0, 0] S256x1024.size inb_S256x4096_S256x1024_0_0), B.a0⟩]

/-- The blocks hold the weights `W` and the rows `D`. -/
structure Holds (W : Wts) (D : Fin 256 → Row) : Prop where
  x : ∀ a j, B.x (ix2 a j) = (D a).x j
  p : ∀ a j, B.p (ix2 a j) = (D a).p j
  y : ∀ a j, B.y (ix2 a j) = (D a).tg j
  g3 : ∀ j, B.g3 (ix2 0 j) = W.gpre j
  g4 : ∀ j, B.g4 (ix2 0 j) = W.gpost j
  g5 : ∀ j, B.g5 (ix2 0 j) = W.gple j
  wu : ∀ j k, B.wu (ix2 j k) = W.up j k
  wd : ∀ k i, B.wd (ix2 k i) = W.dn k i
  wg : ∀ j i, B.wg (ix2 j i) = W.pg j i
  wp : ∀ l i, B.wp (ix2 l i) = W.pp l i

namespace Holds
variable {B} {W : Wts} {D : Fin 256 → Row} (H : B.Holds W D)
include H

theorem up0 (j k : Fin 1024) : B.up0 (ix2 j k) = W.up j (col 0 k) :=
  (View.ld_unit_apply_of B.wu _ _ _ (ix2 j k) (ix2 j (col 0 k)) (by intro a; fin_cases a <;> simp [col])).trans (H.wu _ _)

theorem dn0 (k i : Fin 1024) : B.dn0 (ix2 k i) = W.dn (col 0 k) i :=
  (View.ld_unit_apply_of B.wd _ _ _ (ix2 k i) (ix2 (col 0 k) i) (by intro a; fin_cases a <;> simp [col])).trans (H.wd _ _)

theorem up1 (j k : Fin 1024) : B.up1 (ix2 j k) = W.up j (col 1 k) :=
  (View.ld_unit_apply_of B.wu _ _ _ (ix2 j k) (ix2 j (col 1 k)) (by intro a; fin_cases a <;> simp [col])).trans (H.wu _ _)

theorem dn1 (k i : Fin 1024) : B.dn1 (ix2 k i) = W.dn (col 1 k) i :=
  (View.ld_unit_apply_of B.wd _ _ _ (ix2 k i) (ix2 (col 1 k) i) (by intro a; fin_cases a <;> simp [col])).trans (H.wd _ _)

theorem up2 (j k : Fin 1024) : B.up2 (ix2 j k) = W.up j (col 2 k) :=
  (View.ld_unit_apply_of B.wu _ _ _ (ix2 j k) (ix2 j (col 2 k)) (by intro a; fin_cases a <;> simp [col])).trans (H.wu _ _)

theorem dn2 (k i : Fin 1024) : B.dn2 (ix2 k i) = W.dn (col 2 k) i :=
  (View.ld_unit_apply_of B.wd _ _ _ (ix2 k i) (ix2 (col 2 k) i) (by intro a; fin_cases a <;> simp [col])).trans (H.wd _ _)

theorem up3 (j k : Fin 1024) : B.up3 (ix2 j k) = W.up j (col 3 k) :=
  (View.ld_unit_apply_of B.wu _ _ _ (ix2 j k) (ix2 j (col 3 k)) (by intro a; fin_cases a <;> simp [col])).trans (H.wu _ _)

theorem dn3 (k i : Fin 1024) : B.dn3 (ix2 k i) = W.dn (col 3 k) i :=
  (View.ld_unit_apply_of B.wd _ _ _ (ix2 k i) (ix2 (col 3 k) i) (by intro a; fin_cases a <;> simp [col])).trans (H.wd _ _)

theorem v14 (a : Fin 256) : B.v14 (ix2 a 0) = Rms.rr (D a).x := by
  unfold Blk.v14
  exact p9 _ H.x a

theorem v16 (a : Fin 256) (j : Fin 1024) : B.v16 (ix2 a j) = (D a).x j * Rms.rr (D a).x := by
  unfold Blk.v16
  exact p10 _ H.x a j

theorem v20 (a : Fin 256) (j : Fin 1024) : B.v20 (ix2 a j) = h2 W (D a) j := by
  unfold Blk.v20
  exact p11 _ _ H.x H.g3 a j

theorem a0 (a : Fin 256) (j : Fin 1024) : B.a0 (ix2 a j) = Mlp.a W (D a) (col 0 j) := by
  unfold Blk.a0
  exact p15 _ _ _ H.x H.g3 H.up0 a j

theorem u0 (a : Fin 256) (j : Fin 1024) : B.u0 (ix2 a j) = u W (D a) (col 0 j) := by
  unfold Blk.u0
  exact p14 _ _ _ H.x H.g3 H.up0 a j

theorem a1 (a : Fin 256) (j : Fin 1024) : B.a1 (ix2 a j) = Mlp.a W (D a) (col 1 j) := by
  unfold Blk.a1
  exact p18 _ _ H.v20 H.up1 a j

theorem u1 (a : Fin 256) (j : Fin 1024) : B.u1 (ix2 a j) = u W (D a) (col 1 j) := by
  unfold Blk.u1
  exact p17 _ _ H.v20 H.up1 a j

theorem a2 (a : Fin 256) (j : Fin 1024) : B.a2 (ix2 a j) = Mlp.a W (D a) (col 2 j) := by
  unfold Blk.a2
  exact p21 _ _ H.v20 H.up2 a j

theorem u2 (a : Fin 256) (j : Fin 1024) : B.u2 (ix2 a j) = u W (D a) (col 2 j) := by
  unfold Blk.u2
  exact p20 _ _ H.v20 H.up2 a j

theorem a3 (a : Fin 256) (j : Fin 1024) : B.a3 (ix2 a j) = Mlp.a W (D a) (col 3 j) := by
  unfold Blk.a3
  exact p25 _ _ H.v20 H.up3 a j

theorem u3 (a : Fin 256) (j : Fin 1024) : B.u3 (ix2 a j) = u W (D a) (col 3 j) := by
  unfold Blk.u3
  exact p24 _ _ H.v20 H.up3 a j

theorem v61 (a : Fin 256) (j : Fin 1024) : B.v61 (ix2 a j) = 0 + (∑ k, Mlp.a W (D a) (col 0 k) * W.dn (col 0 k) j) + (∑ k, Mlp.a W (D a) (col 1 k) * W.dn (col 1 k) j) + (∑ k, Mlp.a W (D a) (col 2 k) * W.dn (col 2 k) j) := by
  unfold Blk.v61
  exact p22 _ _ _ _ _ _ _ H.v20 H.a0 H.dn0 H.up1 H.dn1 H.up2 H.dn2 a j

theorem v82 (a : Fin 256) : B.v82 (ix2 a 0) = Rms.rr (f W (D a)) := by
  unfold Blk.v82
  exact p27 _ _ _ _ H.v20 H.v61 H.up3 H.dn3 a

theorem v84 (a : Fin 256) (j : Fin 1024) : B.v84 (ix2 a j) = f W (D a) j * Rms.rr (f W (D a)) := by
  unfold Blk.v84
  exact p28 _ _ _ _ H.v20 H.v61 H.up3 H.dn3 a j

theorem v88 (a : Fin 256) (j : Fin 1024) : B.v88 (ix2 a j) = x2 W (D a) j := by
  unfold Blk.v88
  exact p29 _ H.x _ _ _ _ H.v20 H.v61 H.up3 H.dn3 _ H.g4 a j

theorem v96 (a : Fin 256) : B.v96 (ix2 a 0) = Rms.rr (x2 W (D a)) := by
  unfold Blk.v96
  exact p30 _ H.x _ _ _ _ H.v20 H.v61 H.up3 H.dn3 _ H.g4 a

theorem v98 (a : Fin 256) (j : Fin 1024) : B.v98 (ix2 a j) = x2 W (D a) j * Rms.rr (x2 W (D a)) := by
  unfold Blk.v98
  exact p31 _ H.x _ _ _ _ H.v20 H.v61 H.up3 H.dn3 _ H.g4 a j

theorem o11 (a : Fin 256) (j : Fin 1024) : B.o11 (ix2 a j) = h3 W (D a) j := by
  unfold Blk.o11
  exact p32 _ H.v98 _ H.g5 a j

theorem v112 (a : Fin 256) (j : Fin 1024) : B.v112 (ix2 a j) = pg W (D a) j := by
  unfold Blk.v112
  exact p33 _ H.v98 _ H.g5 _ H.wg a j

theorem v116 (a : Fin 256) (j : Fin 1024) : B.v116 (ix2 a j) = pp W (D a) j := by
  unfold Blk.v116
  exact p34 _ H.p _ H.wp a j

theorem v120 (a : Fin 256) (j : Fin 1024) : B.v120 (ix2 a j) = diff W (D a) j := by
  unfold Blk.v120
  exact p35 _ H.v88 _ H.v98 _ H.g5 _ H.wg _ H.p _ H.wp _ H.y a j

theorem o13 (a : Fin 256) (j : Fin 1024) : B.o13 (ix2 a j) = dpp W (D a) j := by
  unfold Blk.o13
  exact p38 _ rfl _ H.v112 _ H.v120 a j

theorem o12 (a : Fin 256) (j : Fin 1024) : B.o12 (ix2 a j) = ds3 W (D a) j := by
  unfold Blk.o12
  exact p39 _ rfl _ H.v112 _ H.v116 _ H.v120 a j

theorem v168 (a : Fin 256) (j : Fin 1024) : B.v168 (ix2 a j) = dx2 W (D a) j := by
  unfold Blk.v168
  exact p42 _ rfl _ H.v112 _ H.v116 _ H.v120 _ H.wg _ H.v98 _ H.v96 _ H.g5 a j

theorem v171 (a : Fin 256) (j : Fin 1024) : B.v171 (ix2 a j) = dgpost W (D a) j := by
  unfold Blk.v171
  exact p44 _ rfl _ H.v112 _ H.v116 _ H.v120 _ H.wg _ H.v98 _ H.v96 _ H.g5 _ H.v84 a j

theorem v189 (a : Fin 256) (j : Fin 1024) : B.v189 (ix2 a j) = df W (D a) j := by
  unfold Blk.v189
  exact p46 _ H.v82 _ H.v84 _ H.v168 _ H.g4 a j

theorem d0 (a : Fin 256) (j : Fin 1024) : B.d0 (ix2 a j) = du W (D a) (col 0 j) := by
  unfold Blk.d0
  exact p47 _ H.v82 _ H.v84 _ H.v168 _ H.g4 _ H.dn0 _ H.u0 a j

theorem v204 (a : Fin 256) (j : Fin 1024) : B.v204 (ix2 a j) = 0 + (∑ k, du W (D a) (col 0 k) * W.up j (col 0 k)) := by
  unfold Blk.v204
  exact p48 _ H.v82 _ H.v84 _ H.v168 _ H.g4 _ H.dn0 _ H.u0 _ H.up0 a j

theorem d1 (a : Fin 256) (j : Fin 1024) : B.d1 (ix2 a j) = du W (D a) (col 1 j) := by
  unfold Blk.d1
  exact p49 _ H.v189 _ H.dn1 _ H.u1 a j

theorem d2 (a : Fin 256) (j : Fin 1024) : B.d2 (ix2 a j) = du W (D a) (col 2 j) := by
  unfold Blk.d2
  exact p50 _ H.v189 _ H.dn2 _ H.u2 a j

theorem v230 (a : Fin 256) (j : Fin 1024) : B.v230 (ix2 a j) = 0 + (∑ k, du W (D a) (col 0 k) * W.up j (col 0 k)) + (∑ k, du W (D a) (col 1 k) * W.up j (col 1 k)) + (∑ k, du W (D a) (col 2 k) * W.up j (col 2 k)) := by
  unfold Blk.v230
  exact p51 _ H.v189 _ H.v204 _ H.dn1 _ H.u1 _ H.up1 _ H.dn2 _ H.u2 _ H.up2 a j

theorem v232 (a : Fin 256) (j : Fin 1024) : B.v232 (ix2 a j) = da W (D a) (col 3 j) := by
  unfold Blk.v232
  exact p52 _ H.v189 _ H.dn3 a j

theorem d3 (a : Fin 256) (j : Fin 1024) : B.d3 (ix2 a j) = du W (D a) (col 3 j) := by
  unfold Blk.d3
  exact p1 _ H.v232 _ H.u3 a j

theorem o6 (a : Fin 256) (j : Fin 1024) : B.o6 (ix2 a j) = dx1 W (D a) j := by
  unfold Blk.o6
  exact p4 _ H.v232 _ H.u3 _ H.v230 _ H.up3 _ H.v16 _ H.v14 _ H.v168 _ H.g3 a j

theorem o14 (l : FVec Ideal S1x1 .f32) : B.o14 l (ix2 0 0) = l (ix2 0 0) + Ideal.ofBits .f32 0x3F000000#32 * ∑ a, loss W (D a) := by
  unfold Blk.o14
  exact p36 _ H.v88 _ H.v98 _ H.g5 _ H.wg _ H.p _ H.wp _ H.y l

theorem o15 (l : FVec Ideal S1x1024 .f32) (j : Fin 1024) : B.o15 l (ix2 0 j) = l (ix2 0 j) + ∑ a, dgpre W (D a) j := by
  unfold Blk.o15
  exact p3 _ H.v232 _ H.u3 _ H.v230 _ H.up3 _ H.v16 l j

theorem o16 (l : FVec Ideal S1x1024 .f32) (j : Fin 1024) : B.o16 l (ix2 0 j) = l (ix2 0 j) + ∑ a, dgpost W (D a) j := by
  unfold Blk.o16
  exact p45 l _ H.v171 j

theorem o17 (l : FVec Ideal S1x1024 .f32) (j : Fin 1024) : B.o17 l (ix2 0 j) = l (ix2 0 j) + ∑ a, dgple W (D a) j := by
  unfold Blk.o17
  exact p41 _ rfl _ H.v112 _ H.v116 _ H.v120 _ H.wg _ H.v98 l j

theorem o8 (a : Fin 256) (k : Fin 4096) : B.o8 (ix2 a k) = du W (D a) k := by
  unfold Blk.o8
  canon_tiles x h
  · exact tile _ (fun a k => du W (D a) k) 3 H.d3 x a k (h0.trans (by simp)) h1
  · exact tile _ (fun a k => du W (D a) k) 2 H.d2 x a k (h0.trans (by simp)) h1
  · exact tile _ (fun a k => du W (D a) k) 1 H.d1 x a k (h0.trans (by simp)) h1
  · exact tile _ (fun a k => du W (D a) k) 0 H.d0 x a k (h0.trans (by simp)) (h1.trans (by simp))

theorem o9 (a : Fin 256) (k : Fin 4096) : B.o9 (ix2 a k) = Mlp.a W (D a) k := by
  unfold Blk.o9
  canon_tiles x h
  · exact tile _ (fun a k => Mlp.a W (D a) k) 3 H.a3 x a k (h0.trans (by simp)) h1
  · exact tile _ (fun a k => Mlp.a W (D a) k) 2 H.a2 x a k (h0.trans (by simp)) h1
  · exact tile _ (fun a k => Mlp.a W (D a) k) 1 H.a1 x a k (h0.trans (by simp)) h1
  · exact tile _ (fun a k => Mlp.a W (D a) k) 0 H.a0 x a k (h0.trans (by simp)) (h1.trans (by simp))

end Holds

end Blk

end Cert.MlpIdeal.Hand

end
-- ==== Proof.Mlp.Body.lean ====
/- The mixer's call: what a point computes. -/
module

public import proofs.«01_k».proof.Proof.Mlp.Run
public import proofs.«01_k».proof.Proof.Mlp.Blk
public import Idealize.ShloMosaic.Lib.ValueIdx
public import Idealize.ShloMosaic.Lib.Pipeline.ValueKit
public import Idealize.ShloMosaic.Lib.Pointwise

@[expose] public section

noncomputable section

namespace Cert.MlpIdeal.Hand

open Idealize.ShloMosaic Idealize.ShloMosaic.TcCoe Idealize.SL.Sem Finset Idealize.ShloMosaic.StableHlo
open Cert.MlpIdeal Cert.MlpIdeal.Gen Cert.Kit

variable (m : (ℓ : Loc nD τ sig) → Buf (Elt Ideal) ℓ) (c : Dev nD)

/-- What point `t` reads. -/
def blk (t : Fin cfg0.N) : Blk := ⟨iblk m c 0 t, iblk m c 1 t, iblk m c 2 t, iblk m c 3 t, iblk m c 4 t, iblk m c 5 t,
  V m c main_arg6, V m c main_arg7, V m c main_arg8, V m c main_arg9⟩

section
variable {sig : RefSig} {κ : Kind} {sp : Space} (v : View sig κ sp S256x4096 .f32) (p3 p2 p1 p0 : FVec Ideal S256x1024 .f32)
theorem readU0 : v.readCov [(⟨(Rect.unit (s := S256x4096) ![0, 3072] S256x1024.size inb_S256x4096_S256x1024_0_3072), p3⟩ : View.Piece (Elt Ideal) S256x4096 .f32), ⟨(Rect.unit (s := S256x4096) ![0, 2048] S256x1024.size inb_S256x4096_S256x1024_0_2048), p2⟩, ⟨(Rect.unit (s := S256x4096) ![0, 1024] S256x1024.size inb_S256x4096_S256x1024_0_1024), p1⟩, ⟨(Rect.unit (s := S256x4096) ![0, 0] S256x1024.size inb_S256x4096_S256x1024_0_0), p0⟩] (Rect.unit (s := S256x4096) ![0, 0] S256x1024.size inb_S256x4096_S256x1024_0_0).toLoadRect = p0 := by
  rw [View.readCov_eq_canon']
  funext y
  canon_tiles x h
  all_goals
    have e0 := (Rect.idx_unit_val _ _ _ y 0).symm.trans h0
    have e1 := (Rect.idx_unit_val _ _ _ y 1).symm.trans h1
    have b1 : (y 1 : ℕ) < 1024 := (y 1).isLt
    first
    | exact congrArg _ (funext fun a => Fin.ext (by fin_cases a <;> simp at e0 e1 ⊢ <;> omega))
    | (exfalso; simp at e1; omega)
theorem readU1 : v.readCov [(⟨(Rect.unit (s := S256x4096) ![0, 3072] S256x1024.size inb_S256x4096_S256x1024_0_3072), p3⟩ : View.Piece (Elt Ideal) S256x4096 .f32), ⟨(Rect.unit (s := S256x4096) ![0, 2048] S256x1024.size inb_S256x4096_S256x1024_0_2048), p2⟩, ⟨(Rect.unit (s := S256x4096) ![0, 1024] S256x1024.size inb_S256x4096_S256x1024_0_1024), p1⟩, ⟨(Rect.unit (s := S256x4096) ![0, 0] S256x1024.size inb_S256x4096_S256x1024_0_0), p0⟩] (Rect.unit (s := S256x4096) ![0, 1024] S256x1024.size inb_S256x4096_S256x1024_0_1024).toLoadRect = p1 := by
  rw [View.readCov_eq_canon']
  funext y
  canon_tiles x h
  all_goals
    have e0 := (Rect.idx_unit_val _ _ _ y 0).symm.trans h0
    have e1 := (Rect.idx_unit_val _ _ _ y 1).symm.trans h1
    have b1 : (y 1 : ℕ) < 1024 := (y 1).isLt
    first
    | exact congrArg _ (funext fun a => Fin.ext (by fin_cases a <;> simp at e0 e1 ⊢ <;> omega))
    | (exfalso; simp at e1; omega)
theorem readU2 : v.readCov [(⟨(Rect.unit (s := S256x4096) ![0, 3072] S256x1024.size inb_S256x4096_S256x1024_0_3072), p3⟩ : View.Piece (Elt Ideal) S256x4096 .f32), ⟨(Rect.unit (s := S256x4096) ![0, 2048] S256x1024.size inb_S256x4096_S256x1024_0_2048), p2⟩, ⟨(Rect.unit (s := S256x4096) ![0, 1024] S256x1024.size inb_S256x4096_S256x1024_0_1024), p1⟩, ⟨(Rect.unit (s := S256x4096) ![0, 0] S256x1024.size inb_S256x4096_S256x1024_0_0), p0⟩] (Rect.unit (s := S256x4096) ![0, 2048] S256x1024.size inb_S256x4096_S256x1024_0_2048).toLoadRect = p2 := by
  rw [View.readCov_eq_canon']
  funext y
  canon_tiles x h
  all_goals
    have e0 := (Rect.idx_unit_val _ _ _ y 0).symm.trans h0
    have e1 := (Rect.idx_unit_val _ _ _ y 1).symm.trans h1
    have b1 : (y 1 : ℕ) < 1024 := (y 1).isLt
    first
    | exact congrArg _ (funext fun a => Fin.ext (by fin_cases a <;> simp at e0 e1 ⊢ <;> omega))
    | (exfalso; simp at e1; omega)
theorem readU3 : v.readCov [(⟨(Rect.unit (s := S256x4096) ![0, 3072] S256x1024.size inb_S256x4096_S256x1024_0_3072), p3⟩ : View.Piece (Elt Ideal) S256x4096 .f32), ⟨(Rect.unit (s := S256x4096) ![0, 2048] S256x1024.size inb_S256x4096_S256x1024_0_2048), p2⟩, ⟨(Rect.unit (s := S256x4096) ![0, 1024] S256x1024.size inb_S256x4096_S256x1024_0_1024), p1⟩, ⟨(Rect.unit (s := S256x4096) ![0, 0] S256x1024.size inb_S256x4096_S256x1024_0_0), p0⟩] (Rect.unit (s := S256x4096) ![0, 3072] S256x1024.size inb_S256x4096_S256x1024_0_3072).toLoadRect = p3 := by
  rw [View.readCov_eq_canon']
  funext y
  canon_tiles x h
  all_goals
    have e0 := (Rect.idx_unit_val _ _ _ y 0).symm.trans h0
    have e1 := (Rect.idx_unit_val _ _ _ y 1).symm.trans h1
    have b1 : (y 1 : ℕ) < 1024 := (y 1).isLt
    first
    | exact congrArg _ (funext fun a => Fin.ext (by fin_cases a <;> simp at e0 e1 ⊢ <;> omega))
    | (exfalso; simp at e1; omega)
theorem readV0 : v.readCov [(⟨(Rect.unit (s := S256x4096) ![0, 3072] ![256, 1024] inb_S256x4096_S256x1024_0_3072), p3⟩ : View.Piece (Elt Ideal) S256x4096 .f32), ⟨(Rect.unit (s := S256x4096) ![0, 2048] ![256, 1024] inb_S256x4096_S256x1024_0_2048), p2⟩, ⟨(Rect.unit (s := S256x4096) ![0, 1024] ![256, 1024] inb_S256x4096_S256x1024_0_1024), p1⟩, ⟨(Rect.unit (s := S256x4096) ![0, 0] ![256, 1024] inb_S256x4096_S256x1024_0_0), p0⟩] (Rect.unit (s := S256x4096) ![0, 0] ![256, 1024] inb_S256x4096_S256x1024_0_0).toLoadRect = p0 := readU0 v p3 p2 p1 p0
theorem readV1 : v.readCov [(⟨(Rect.unit (s := S256x4096) ![0, 3072] ![256, 1024] inb_S256x4096_S256x1024_0_3072), p3⟩ : View.Piece (Elt Ideal) S256x4096 .f32), ⟨(Rect.unit (s := S256x4096) ![0, 2048] ![256, 1024] inb_S256x4096_S256x1024_0_2048), p2⟩, ⟨(Rect.unit (s := S256x4096) ![0, 1024] ![256, 1024] inb_S256x4096_S256x1024_0_1024), p1⟩, ⟨(Rect.unit (s := S256x4096) ![0, 0] ![256, 1024] inb_S256x4096_S256x1024_0_0), p0⟩] (Rect.unit (s := S256x4096) ![0, 1024] ![256, 1024] inb_S256x4096_S256x1024_0_1024).toLoadRect = p1 := readU1 v p3 p2 p1 p0
theorem readV2 : v.readCov [(⟨(Rect.unit (s := S256x4096) ![0, 3072] ![256, 1024] inb_S256x4096_S256x1024_0_3072), p3⟩ : View.Piece (Elt Ideal) S256x4096 .f32), ⟨(Rect.unit (s := S256x4096) ![0, 2048] ![256, 1024] inb_S256x4096_S256x1024_0_2048), p2⟩, ⟨(Rect.unit (s := S256x4096) ![0, 1024] ![256, 1024] inb_S256x4096_S256x1024_0_1024), p1⟩, ⟨(Rect.unit (s := S256x4096) ![0, 0] ![256, 1024] inb_S256x4096_S256x1024_0_0), p0⟩] (Rect.unit (s := S256x4096) ![0, 2048] ![256, 1024] inb_S256x4096_S256x1024_0_2048).toLoadRect = p2 := readU2 v p3 p2 p1 p0
theorem readV3 : v.readCov [(⟨(Rect.unit (s := S256x4096) ![0, 3072] ![256, 1024] inb_S256x4096_S256x1024_0_3072), p3⟩ : View.Piece (Elt Ideal) S256x4096 .f32), ⟨(Rect.unit (s := S256x4096) ![0, 2048] ![256, 1024] inb_S256x4096_S256x1024_0_2048), p2⟩, ⟨(Rect.unit (s := S256x4096) ![0, 1024] ![256, 1024] inb_S256x4096_S256x1024_0_1024), p1⟩, ⟨(Rect.unit (s := S256x4096) ![0, 0] ![256, 1024] inb_S256x4096_S256x1024_0_0), p0⟩] (Rect.unit (s := S256x4096) ![0, 3072] ![256, 1024] inb_S256x4096_S256x1024_0_3072).toLoadRect = p3 := readU3 v p3 p2 p1 p0
end

theorem src6 (X) : ReadAs.same.apply (View.read (Elt Ideal) (View.whole main_arg6) X) = X := rfl
theorem src7 (X) : ReadAs.same.apply (View.read (Elt Ideal) (View.whole main_arg7) X) = X := rfl
theorem src8 (X) : ReadAs.same.apply (View.read (Elt Ideal) (View.whole main_arg8) X) = X := rfl
theorem src9 (X) : ReadAs.same.apply (View.read (Elt Ideal) (View.whole main_arg9) X) = X := rfl

theorem ld8 (X : FVec Ideal S1024x1024 .bf16) : View.ld (Val := Elt Ideal) (S := S1024x1024) (e' := .bf16) X (Rect.unit (s := S1024x1024) ![0, 0] ![1024, 1024] inb_S1024x1024_S1024x1024_0_0) = X :=
  View.ld_unit_lit (Val := Elt Ideal) (S := S1024x1024) (e := .bf16) (off := ![0, 0]) inb_S1024x1024_S1024x1024_0_0 X (by intro a; fin_cases a <;> rfl)
theorem ld9 (X : FVec Ideal S256x1024 .bf16) : View.ld (Val := Elt Ideal) (S := S256x1024) (e' := .bf16) X (Rect.unit (s := S256x1024) ![0, 0] ![256, 1024] inb_S256x1024_S256x1024_0_0) = X :=
  View.ld_unit_lit (Val := Elt Ideal) (S := S256x1024) (e := .bf16) (off := ![0, 0]) inb_S256x1024_S256x1024_0_0 X (by intro a; fin_cases a <;> rfl)

theorem wu_A (t : Fin cfg0.N) (h0 : t.val % 32 = 0) : (outsAt0 m c t.val t.isLt).2.2.2.2.2.2.2.2.2.2.2.2.1 = V m c main_arg6 := by
  rw [outsAt0_A m c t h0]
  unfold stA runA
  dsimp only
  frame_out
  rw [canon_whole]
  rfl

theorem wu_B (t : Fin cfg0.N) (h0 : ¬ t.val % 32 = 0) : (outsAt0 m c t.val t.isLt).2.2.2.2.2.2.2.2.2.2.2.2.1 = (outsAt0 m c (t.val - 1) (Nat.lt_of_le_of_lt (Nat.sub_le _ _) t.isLt)).2.2.2.2.2.2.2.2.2.2.2.2.1 := by
  rw [outsAt0_B m c t h0]
  unfold stB
  rfl

theorem wu_eq (n : ℕ) (h : n < cfg0.N) : (outsAt0 m c n h).2.2.2.2.2.2.2.2.2.2.2.2.1 = V m c main_arg6 := by
  induction n with
  | zero => exact wu_A m c ⟨0, h⟩ rfl
  | succ n ih =>
      have hN : n + 1 < 32 := lt_of_lt_of_eq h N_0
      exact (wu_B m c ⟨n + 1, h⟩ (by show ¬ (n + 1) % 32 = 0; omega)).trans (ih (by omega))

theorem wd_A (t : Fin cfg0.N) (h0 : t.val % 32 = 0) : (outsAt0 m c t.val t.isLt).2.2.2.2.2.2.2.2.2.2.2.2.2.1 = V m c main_arg7 := by
  rw [outsAt0_A m c t h0]
  unfold stA runA
  dsimp only
  frame_out
  rw [canon_whole]
  rfl

theorem wd_B (t : Fin cfg0.N) (h0 : ¬ t.val % 32 = 0) : (outsAt0 m c t.val t.isLt).2.2.2.2.2.2.2.2.2.2.2.2.2.1 = (outsAt0 m c (t.val - 1) (Nat.lt_of_le_of_lt (Nat.sub_le _ _) t.isLt)).2.2.2.2.2.2.2.2.2.2.2.2.2.1 := by
  rw [outsAt0_B m c t h0]
  unfold stB
  rfl

theorem wd_eq (n : ℕ) (h : n < cfg0.N) : (outsAt0 m c n h).2.2.2.2.2.2.2.2.2.2.2.2.2.1 = V m c main_arg7 := by
  induction n with
  | zero => exact wd_A m c ⟨0, h⟩ rfl
  | succ n ih =>
      have hN : n + 1 < 32 := lt_of_lt_of_eq h N_0
      exact (wd_B m c ⟨n + 1, h⟩ (by show ¬ (n + 1) % 32 = 0; omega)).trans (ih (by omega))

theorem wg_A (t : Fin cfg0.N) (h0 : t.val % 32 = 0) : (outsAt0 m c t.val t.isLt).2.2.2.2.2.2.2.2.2.2.2.2.2.2.1 = V m c main_arg8 := by
  rw [outsAt0_A m c t h0]
  unfold stA runA
  dsimp only
  frame_out
  rw [canon_whole]
  rfl

theorem wg_B (t : Fin cfg0.N) (h0 : ¬ t.val % 32 = 0) : (outsAt0 m c t.val t.isLt).2.2.2.2.2.2.2.2.2.2.2.2.2.2.1 = (outsAt0 m c (t.val - 1) (Nat.lt_of_le_of_lt (Nat.sub_le _ _) t.isLt)).2.2.2.2.2.2.2.2.2.2.2.2.2.2.1 := by
  rw [outsAt0_B m c t h0]
  unfold stB
  rfl

theorem wg_eq (n : ℕ) (h : n < cfg0.N) : (outsAt0 m c n h).2.2.2.2.2.2.2.2.2.2.2.2.2.2.1 = V m c main_arg8 := by
  induction n with
  | zero => exact wg_A m c ⟨0, h⟩ rfl
  | succ n ih =>
      have hN : n + 1 < 32 := lt_of_lt_of_eq h N_0
      exact (wg_B m c ⟨n + 1, h⟩ (by show ¬ (n + 1) % 32 = 0; omega)).trans (ih (by omega))

theorem wp_A (t : Fin cfg0.N) (h0 : t.val % 32 = 0) : (outsAt0 m c t.val t.isLt).2.2.2.2.2.2.2.2.2.2.2.2.2.2.2 = V m c main_arg9 := by
  rw [outsAt0_A m c t h0]
  unfold stA runA
  dsimp only
  frame_out
  rw [canon_whole]
  rfl

theorem wp_B (t : Fin cfg0.N) (h0 : ¬ t.val % 32 = 0) : (outsAt0 m c t.val t.isLt).2.2.2.2.2.2.2.2.2.2.2.2.2.2.2 = (outsAt0 m c (t.val - 1) (Nat.lt_of_le_of_lt (Nat.sub_le _ _) t.isLt)).2.2.2.2.2.2.2.2.2.2.2.2.2.2.2 := by
  rw [outsAt0_B m c t h0]
  unfold stB
  rfl

theorem wp_eq (n : ℕ) (h : n < cfg0.N) : (outsAt0 m c n h).2.2.2.2.2.2.2.2.2.2.2.2.2.2.2 = V m c main_arg9 := by
  induction n with
  | zero => exact wp_A m c ⟨0, h⟩ rfl
  | succ n ih =>
      have hN : n + 1 < 32 := lt_of_lt_of_eq h N_0
      exact (wp_B m c ⟨n + 1, h⟩ (by show ¬ (n + 1) % 32 = 0; omega)).trans (ih (by omega))

end Cert.MlpIdeal.Hand

end
-- ==== Proof.Mlp.Out0.lean ====
/- The mixer's call: what a point computes. -/
module

public import proofs.«01_k».proof.Proof.Mlp.Body
public import Idealize.ShloMosaic.Lib.ValueIdx
public import Idealize.ShloMosaic.Lib.Pipeline.ValueKit
public import Idealize.ShloMosaic.Lib.Pointwise

@[expose] public section

set_option maxHeartbeats 1000000

noncomputable section

namespace Cert.MlpIdeal.Hand

open Idealize.ShloMosaic Idealize.ShloMosaic.TcCoe Idealize.SL.Sem Finset Idealize.ShloMosaic.StableHlo
open Cert.MlpIdeal Cert.MlpIdeal.Gen Cert.Kit

variable (m : (ℓ : Loc nD τ sig) → Buf (Elt Ideal) ℓ) (c : Dev nD)

theorem o6_eq (t : Fin cfg0.N) : (outsAt0 m c t.val t.isLt).1 = (blk m c t).o6 := by
  by_cases h0 : t.val % 32 = 0
  · rw [outsAt0_A m c t h0]
    unfold stA runA
    dsimp only
    frame_out
    try erw [src6 (V m c main_arg6)]
    try erw [src7 (V m c main_arg7)]
    try erw [src8 (V m c main_arg8)]
    try erw [src9 (V m c main_arg9)]
    try simp only [readCov_whole, readV0, readV1, readV2, readV3]
    unfold blk
    generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
    try erw [ld8 W8]
    try erw [ld9 W9]
    rfl
  · rw [outsAt0_B m c t h0]
    unfold stB runB
    dsimp only
    frame_out
    try simp only [read_unread, wu_eq m c, wd_eq m c, wg_eq m c, wp_eq m c, readV0, readV1, readV2, readV3]
    rfl

theorem o7_eq (t : Fin cfg0.N) : (outsAt0 m c t.val t.isLt).2.1 = (blk m c t).v20 := by
  by_cases h0 : t.val % 32 = 0
  · rw [outsAt0_A m c t h0]
    unfold stA runA
    dsimp only
    frame_out
    try erw [src6 (V m c main_arg6)]
    try erw [src7 (V m c main_arg7)]
    try erw [src8 (V m c main_arg8)]
    try erw [src9 (V m c main_arg9)]
    try simp only [readCov_whole, readV0, readV1, readV2, readV3]
    unfold blk
    generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
    try erw [ld8 W8]
    try erw [ld9 W9]
    rfl
  · rw [outsAt0_B m c t h0]
    unfold stB runB
    dsimp only
    frame_out
    try simp only [read_unread, wu_eq m c, wd_eq m c, wg_eq m c, wp_eq m c, readV0, readV1, readV2, readV3]
    rfl

end Cert.MlpIdeal.Hand

end
-- ==== Proof.Mlp.Out1.lean ====
/- The mixer's call: what a point computes. -/
module

public import proofs.«01_k».proof.Proof.Mlp.Body
public import Idealize.ShloMosaic.Lib.ValueIdx
public import Idealize.ShloMosaic.Lib.Pipeline.ValueKit
public import Idealize.ShloMosaic.Lib.Pointwise

@[expose] public section

set_option maxHeartbeats 1000000

noncomputable section

namespace Cert.MlpIdeal.Hand

open Idealize.ShloMosaic Idealize.ShloMosaic.TcCoe Idealize.SL.Sem Finset Idealize.ShloMosaic.StableHlo
open Cert.MlpIdeal Cert.MlpIdeal.Gen Cert.Kit

variable (m : (ℓ : Loc nD τ sig) → Buf (Elt Ideal) ℓ) (c : Dev nD)

theorem o8_eq (t : Fin cfg0.N) : (outsAt0 m c t.val t.isLt).2.2.1 = (blk m c t).o8 := by
  by_cases h0 : t.val % 32 = 0
  · rw [outsAt0_A m c t h0]
    unfold stA runA
    dsimp only
    frame_out
    try erw [src6 (V m c main_arg6)]
    try erw [src7 (V m c main_arg7)]
    try erw [src8 (V m c main_arg8)]
    try erw [src9 (V m c main_arg9)]
    try simp only [readCov_whole, readV0, readV1, readV2, readV3]
    unfold blk
    generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
    try erw [ld8 W8]
    try erw [ld9 W9]
    rfl
  · rw [outsAt0_B m c t h0]
    unfold stB runB
    dsimp only
    frame_out
    try simp only [read_unread, wu_eq m c, wd_eq m c, wg_eq m c, wp_eq m c, readV0, readV1, readV2, readV3]
    rfl

theorem o9_eq (t : Fin cfg0.N) : (outsAt0 m c t.val t.isLt).2.2.2.1 = (blk m c t).o9 := by
  by_cases h0 : t.val % 32 = 0
  · rw [outsAt0_A m c t h0]
    unfold stA runA
    dsimp only
    frame_out
    try erw [src6 (V m c main_arg6)]
    try erw [src7 (V m c main_arg7)]
    try erw [src8 (V m c main_arg8)]
    try erw [src9 (V m c main_arg9)]
    try simp only [readCov_whole, readV0, readV1, readV2, readV3]
    unfold blk
    generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
    try erw [ld8 W8]
    try erw [ld9 W9]
    rfl
  · rw [outsAt0_B m c t h0]
    unfold stB runB
    dsimp only
    frame_out
    try simp only [read_unread, wu_eq m c, wd_eq m c, wg_eq m c, wp_eq m c, readV0, readV1, readV2, readV3]
    rfl

end Cert.MlpIdeal.Hand

end
-- ==== Proof.Mlp.Out2.lean ====
/- The mixer's call: what a point computes. -/
module

public import proofs.«01_k».proof.Proof.Mlp.Body
public import Idealize.ShloMosaic.Lib.ValueIdx
public import Idealize.ShloMosaic.Lib.Pipeline.ValueKit
public import Idealize.ShloMosaic.Lib.Pointwise

@[expose] public section

set_option maxHeartbeats 1000000

noncomputable section

namespace Cert.MlpIdeal.Hand

open Idealize.ShloMosaic Idealize.ShloMosaic.TcCoe Idealize.SL.Sem Finset Idealize.ShloMosaic.StableHlo
open Cert.MlpIdeal Cert.MlpIdeal.Gen Cert.Kit

variable (m : (ℓ : Loc nD τ sig) → Buf (Elt Ideal) ℓ) (c : Dev nD)

theorem o10_eq (t : Fin cfg0.N) : (outsAt0 m c t.val t.isLt).2.2.2.2.1 = (blk m c t).v189 := by
  by_cases h0 : t.val % 32 = 0
  · rw [outsAt0_A m c t h0]
    unfold stA runA
    dsimp only
    frame_out
    try erw [src6 (V m c main_arg6)]
    try erw [src7 (V m c main_arg7)]
    try erw [src8 (V m c main_arg8)]
    try erw [src9 (V m c main_arg9)]
    try simp only [readCov_whole, readV0, readV1, readV2, readV3]
    unfold blk
    generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
    try erw [ld8 W8]
    try erw [ld9 W9]
    rfl
  · rw [outsAt0_B m c t h0]
    unfold stB runB
    dsimp only
    frame_out
    try simp only [read_unread, wu_eq m c, wd_eq m c, wg_eq m c, wp_eq m c, readV0, readV1, readV2, readV3]
    rfl

theorem o11_eq (t : Fin cfg0.N) : (outsAt0 m c t.val t.isLt).2.2.2.2.2.1 = (blk m c t).o11 := by
  by_cases h0 : t.val % 32 = 0
  · rw [outsAt0_A m c t h0]
    unfold stA runA
    dsimp only
    frame_out
    try erw [src6 (V m c main_arg6)]
    try erw [src7 (V m c main_arg7)]
    try erw [src8 (V m c main_arg8)]
    try erw [src9 (V m c main_arg9)]
    try simp only [readCov_whole, readV0, readV1, readV2, readV3]
    unfold blk
    generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
    try erw [ld8 W8]
    try erw [ld9 W9]
    rfl
  · rw [outsAt0_B m c t h0]
    unfold stB runB
    dsimp only
    frame_out
    try simp only [read_unread, wu_eq m c, wd_eq m c, wg_eq m c, wp_eq m c, readV0, readV1, readV2, readV3]
    rfl

end Cert.MlpIdeal.Hand

end
-- ==== Proof.Mlp.Out3.lean ====
/- The mixer's call: what a point computes. -/
module

public import proofs.«01_k».proof.Proof.Mlp.Body
public import Idealize.ShloMosaic.Lib.ValueIdx
public import Idealize.ShloMosaic.Lib.Pipeline.ValueKit
public import Idealize.ShloMosaic.Lib.Pointwise

@[expose] public section

set_option maxHeartbeats 1000000

noncomputable section

namespace Cert.MlpIdeal.Hand

open Idealize.ShloMosaic Idealize.ShloMosaic.TcCoe Idealize.SL.Sem Finset Idealize.ShloMosaic.StableHlo
open Cert.MlpIdeal Cert.MlpIdeal.Gen Cert.Kit

variable (m : (ℓ : Loc nD τ sig) → Buf (Elt Ideal) ℓ) (c : Dev nD)

theorem o12_eq (t : Fin cfg0.N) : (outsAt0 m c t.val t.isLt).2.2.2.2.2.2.1 = (blk m c t).o12 := by
  by_cases h0 : t.val % 32 = 0
  · rw [outsAt0_A m c t h0]
    unfold stA runA
    dsimp only
    frame_out
    try erw [src6 (V m c main_arg6)]
    try erw [src7 (V m c main_arg7)]
    try erw [src8 (V m c main_arg8)]
    try erw [src9 (V m c main_arg9)]
    try simp only [readCov_whole, readV0, readV1, readV2, readV3]
    unfold blk
    generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
    try erw [ld8 W8]
    try erw [ld9 W9]
    rfl
  · rw [outsAt0_B m c t h0]
    unfold stB runB
    dsimp only
    frame_out
    try simp only [read_unread, wu_eq m c, wd_eq m c, wg_eq m c, wp_eq m c, readV0, readV1, readV2, readV3]
    rfl

theorem o13_eq (t : Fin cfg0.N) : (outsAt0 m c t.val t.isLt).2.2.2.2.2.2.2.1 = (blk m c t).o13 := by
  by_cases h0 : t.val % 32 = 0
  · rw [outsAt0_A m c t h0]
    unfold stA runA
    dsimp only
    frame_out
    try erw [src6 (V m c main_arg6)]
    try erw [src7 (V m c main_arg7)]
    try erw [src8 (V m c main_arg8)]
    try erw [src9 (V m c main_arg9)]
    try simp only [readCov_whole, readV0, readV1, readV2, readV3]
    unfold blk
    generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
    try erw [ld8 W8]
    try erw [ld9 W9]
    rfl
  · rw [outsAt0_B m c t h0]
    unfold stB runB
    dsimp only
    frame_out
    try simp only [read_unread, wu_eq m c, wd_eq m c, wg_eq m c, wp_eq m c, readV0, readV1, readV2, readV3]
    rfl

end Cert.MlpIdeal.Hand

end
-- ==== Proof.Mlp.Out4.lean ====
/- The mixer's call: what a point computes. -/
module

public import proofs.«01_k».proof.Proof.Mlp.Body
public import Idealize.ShloMosaic.Lib.ValueIdx
public import Idealize.ShloMosaic.Lib.Pipeline.ValueKit
public import Idealize.ShloMosaic.Lib.Pointwise

@[expose] public section

set_option maxHeartbeats 1000000

noncomputable section

namespace Cert.MlpIdeal.Hand

open Idealize.ShloMosaic Idealize.ShloMosaic.TcCoe Idealize.SL.Sem Finset Idealize.ShloMosaic.StableHlo
open Cert.MlpIdeal Cert.MlpIdeal.Gen Cert.Kit

variable (m : (ℓ : Loc nD τ sig) → Buf (Elt Ideal) ℓ) (c : Dev nD)

theorem o14_A (t : Fin cfg0.N) (h0 : t.val % 32 = 0) : (outsAt0 m c t.val t.isLt).2.2.2.2.2.2.2.2.1 = (blk m c t).o14 (k0_pay5 (F := Ideal)) := by
  rw [outsAt0_A m c t h0]
  unfold stA runA
  dsimp only
  frame_out
  try erw [src6 (V m c main_arg6)]
  try erw [src7 (V m c main_arg7)]
  try erw [src8 (V m c main_arg8)]
  try erw [src9 (V m c main_arg9)]
  try simp only [readCov_whole, readV0, readV1, readV2, readV3]
  unfold blk
  generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
  try erw [ld8 W8]
  try erw [ld9 W9]
  rfl

theorem o14_B (t : Fin cfg0.N) (h0 : ¬ t.val % 32 = 0) : (outsAt0 m c t.val t.isLt).2.2.2.2.2.2.2.2.1 = (blk m c t).o14 (outsAt0 m c (t.val - 1) (Nat.lt_of_le_of_lt (Nat.sub_le _ _) t.isLt)).2.2.2.2.2.2.2.2.1 := by
  rw [outsAt0_B m c t h0]
  unfold stB runB
  dsimp only
  frame_out
  try simp only [read_unread, wu_eq m c, wd_eq m c, wg_eq m c, wp_eq m c, readV0, readV1, readV2, readV3]
  rfl

end Cert.MlpIdeal.Hand

end
-- ==== Proof.Mlp.Out5.lean ====
/- The mixer's call: what a point computes. -/
module

public import proofs.«01_k».proof.Proof.Mlp.Body
public import Idealize.ShloMosaic.Lib.ValueIdx
public import Idealize.ShloMosaic.Lib.Pipeline.ValueKit
public import Idealize.ShloMosaic.Lib.Pointwise

@[expose] public section

set_option maxHeartbeats 1000000

noncomputable section

namespace Cert.MlpIdeal.Hand

open Idealize.ShloMosaic Idealize.ShloMosaic.TcCoe Idealize.SL.Sem Finset Idealize.ShloMosaic.StableHlo
open Cert.MlpIdeal Cert.MlpIdeal.Gen Cert.Kit

variable (m : (ℓ : Loc nD τ sig) → Buf (Elt Ideal) ℓ) (c : Dev nD)

theorem o15_A (t : Fin cfg0.N) (h0 : t.val % 32 = 0) : (outsAt0 m c t.val t.isLt).2.2.2.2.2.2.2.2.2.1 = (blk m c t).o15 (k0_pay6 (F := Ideal)) := by
  rw [outsAt0_A m c t h0]
  unfold stA runA
  dsimp only
  frame_out
  try erw [src6 (V m c main_arg6)]
  try erw [src7 (V m c main_arg7)]
  try erw [src8 (V m c main_arg8)]
  try erw [src9 (V m c main_arg9)]
  try simp only [readCov_whole, readV0, readV1, readV2, readV3]
  unfold blk
  generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
  try erw [ld8 W8]
  try erw [ld9 W9]
  rfl

theorem o15_B (t : Fin cfg0.N) (h0 : ¬ t.val % 32 = 0) : (outsAt0 m c t.val t.isLt).2.2.2.2.2.2.2.2.2.1 = (blk m c t).o15 (outsAt0 m c (t.val - 1) (Nat.lt_of_le_of_lt (Nat.sub_le _ _) t.isLt)).2.2.2.2.2.2.2.2.2.1 := by
  rw [outsAt0_B m c t h0]
  unfold stB runB
  dsimp only
  frame_out
  try simp only [read_unread, wu_eq m c, wd_eq m c, wg_eq m c, wp_eq m c, readV0, readV1, readV2, readV3]
  rfl

end Cert.MlpIdeal.Hand

end
-- ==== Proof.Mlp.Out6.lean ====
/- The mixer's call: what a point computes. -/
module

public import proofs.«01_k».proof.Proof.Mlp.Body
public import Idealize.ShloMosaic.Lib.ValueIdx
public import Idealize.ShloMosaic.Lib.Pipeline.ValueKit
public import Idealize.ShloMosaic.Lib.Pointwise

@[expose] public section

set_option maxHeartbeats 1000000

noncomputable section

namespace Cert.MlpIdeal.Hand

open Idealize.ShloMosaic Idealize.ShloMosaic.TcCoe Idealize.SL.Sem Finset Idealize.ShloMosaic.StableHlo
open Cert.MlpIdeal Cert.MlpIdeal.Gen Cert.Kit

variable (m : (ℓ : Loc nD τ sig) → Buf (Elt Ideal) ℓ) (c : Dev nD)

theorem o16_A (t : Fin cfg0.N) (h0 : t.val % 32 = 0) : (outsAt0 m c t.val t.isLt).2.2.2.2.2.2.2.2.2.2.1 = (blk m c t).o16 (k0_pay7 (F := Ideal)) := by
  rw [outsAt0_A m c t h0]
  unfold stA runA
  dsimp only
  frame_out
  try erw [src6 (V m c main_arg6)]
  try erw [src7 (V m c main_arg7)]
  try erw [src8 (V m c main_arg8)]
  try erw [src9 (V m c main_arg9)]
  try simp only [readCov_whole, readV0, readV1, readV2, readV3]
  unfold blk
  generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
  try erw [ld8 W8]
  try erw [ld9 W9]
  rfl

theorem o16_B (t : Fin cfg0.N) (h0 : ¬ t.val % 32 = 0) : (outsAt0 m c t.val t.isLt).2.2.2.2.2.2.2.2.2.2.1 = (blk m c t).o16 (outsAt0 m c (t.val - 1) (Nat.lt_of_le_of_lt (Nat.sub_le _ _) t.isLt)).2.2.2.2.2.2.2.2.2.2.1 := by
  rw [outsAt0_B m c t h0]
  unfold stB runB
  dsimp only
  frame_out
  try simp only [read_unread, wu_eq m c, wd_eq m c, wg_eq m c, wp_eq m c, readV0, readV1, readV2, readV3]
  rfl

end Cert.MlpIdeal.Hand

end
-- ==== Proof.Mlp.Out7.lean ====
/- The mixer's call: what a point computes. -/
module

public import proofs.«01_k».proof.Proof.Mlp.Body
public import Idealize.ShloMosaic.Lib.ValueIdx
public import Idealize.ShloMosaic.Lib.Pipeline.ValueKit
public import Idealize.ShloMosaic.Lib.Pointwise

@[expose] public section

set_option maxHeartbeats 1000000

noncomputable section

namespace Cert.MlpIdeal.Hand

open Idealize.ShloMosaic Idealize.ShloMosaic.TcCoe Idealize.SL.Sem Finset Idealize.ShloMosaic.StableHlo
open Cert.MlpIdeal Cert.MlpIdeal.Gen Cert.Kit

variable (m : (ℓ : Loc nD τ sig) → Buf (Elt Ideal) ℓ) (c : Dev nD)

theorem o17_A (t : Fin cfg0.N) (h0 : t.val % 32 = 0) : (outsAt0 m c t.val t.isLt).2.2.2.2.2.2.2.2.2.2.2.1 = (blk m c t).o17 (k0_pay8 (F := Ideal)) := by
  rw [outsAt0_A m c t h0]
  unfold stA runA
  dsimp only
  frame_out
  try erw [src6 (V m c main_arg6)]
  try erw [src7 (V m c main_arg7)]
  try erw [src8 (V m c main_arg8)]
  try erw [src9 (V m c main_arg9)]
  try simp only [readCov_whole, readV0, readV1, readV2, readV3]
  unfold blk
  generalize V m c main_arg6 = W6, V m c main_arg7 = W7, V m c main_arg8 = W8, V m c main_arg9 = W9, iblk m c 0 t = i0, iblk m c 1 t = i1, iblk m c 2 t = i2, iblk m c 3 t = i3, iblk m c 4 t = i4, iblk m c 5 t = i5
  try erw [ld8 W8]
  try erw [ld9 W9]
  rfl

theorem o17_B (t : Fin cfg0.N) (h0 : ¬ t.val % 32 = 0) : (outsAt0 m c t.val t.isLt).2.2.2.2.2.2.2.2.2.2.2.1 = (blk m c t).o17 (outsAt0 m c (t.val - 1) (Nat.lt_of_le_of_lt (Nat.sub_le _ _) t.isLt)).2.2.2.2.2.2.2.2.2.2.2.1 := by
  rw [outsAt0_B m c t h0]
  unfold stB runB
  dsimp only
  frame_out
  try simp only [read_unread, wu_eq m c, wd_eq m c, wg_eq m c, wp_eq m c, readV0, readV1, readV2, readV3]
  rfl

end Cert.MlpIdeal.Hand

end
-- ==== Proof.Mlp.Out.lean ====
/- The mixer's call: the result arrays. -/
module

public import proofs.«01_k».proof.MlpIdeal
public import proofs.«01_k».proof.Proof.Mlp.Spec
public import Idealize.ShloMosaic.Lib.ValueIdx

@[expose] public section

noncomputable section

namespace Cert.Mlp

open Idealize.ShloMosaic Cert.MlpIdeal

/-- The gains and the weights, from the operands. -/
def wts (g3 g4 g5 : Vec Ideal S1x1024 .f32) (wu : Vec Ideal S1024x4096 .bf16) (wd : Vec Ideal S4096x1024 .bf16) (wg : Vec Ideal S1024x1024 .bf16)
    (wp : Vec Ideal S256x1024 .bf16) : Wts where
  gpre j := g3 (ix2 0 j)
  gpost j := g4 (ix2 0 j)
  gple j := g5 (ix2 0 j)
  up j k := wu (ix2 j k)
  dn k i := wd (ix2 k i)
  pg j i := wg (ix2 j i)
  pp l i := wp (ix2 l i)

/-- The tokens' rows, from the operands. -/
def rows (x : Vec Ideal S8192x1024 .f32) (p : Vec Ideal S8192x256 .f32) (y : Vec Ideal S8192x1024 .f32) (t : Fin 8192) : Row where
  x j := x (ix2 t j)
  p l := p (ix2 t l)
  tg j := y (ix2 t j)

variable (W : Wts) (D : Fin 8192 → Row)

def outDx : Vec Ideal S8192x1024 .f32 := fun i => dx1 W (D (i 0)) (i 1)
def outH2 : Vec Ideal S8192x1024 .bf16 := fun i => h2 W (D (i 0)) (i 1)
def outDu : Vec Ideal S8192x4096 .bf16 := fun i => du W (D (i 0)) (i 1)
def outA : Vec Ideal S8192x4096 .bf16 := fun i => a W (D (i 0)) (i 1)
def outDf : Vec Ideal S8192x1024 .bf16 := fun i => df W (D (i 0)) (i 1)
def outH3 : Vec Ideal S8192x1024 .bf16 := fun i => h3 W (D (i 0)) (i 1)
def outDs : Vec Ideal S8192x1024 .bf16 := fun i => ds3 W (D (i 0)) (i 1)
def outDp : Vec Ideal S8192x1024 .bf16 := fun i => dpp W (D (i 0)) (i 1)
def outL : Vec Ideal S1x1 .f32 := fun _ => Ideal.ofBits .f32 0x3F000000#32 * ∑ t, loss W (D t)
def outGpre : Vec Ideal S1x1024 .f32 := fun i => ∑ t, dgpre W (D t) (i 1)
def outGpost : Vec Ideal S1x1024 .f32 := fun i => ∑ t, dgpost W (D t) (i 1)
def outGple : Vec Ideal S1x1024 .f32 := fun i => ∑ t, dgple W (D t) (i 1)

theorem one_eq : Ideal.ofBits .f32 0x3F800000#32 = 1 := by
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem n_inv_eq : Ideal.ofBits .f32 0x3A800000#32 = ((1 / 1024 : ℝ) : EReal) := by
  simp [Ideal.ofBits, Ideal.ieee, -EReal.coe_mul]; norm_num

/-- The halves of a sum add up to half the sum. -/
theorem half_sum {ι : Type} [Fintype ι] (f : ι → EReal) : ∑ j, Ideal.ofBits .f32 0x3F000000#32 * f j = Ideal.ofBits .f32 0x3F000000#32 * ∑ j, f j := by
  rw [half_eq, mul_comm _ (∑ j, f j), ← Rms.sum_mul_real _ _ _ (by norm_num)]
  exact Finset.sum_congr rfl fun j _ => mul_comm _ _

end Cert.Mlp

end
-- ==== Proof.Mlp.Arr.lean ====
/- The mixer's call: the arrays the grid leaves. -/
module

public import proofs.«01_k».proof.Proof.Mlp.Out0
public import proofs.«01_k».proof.Proof.Mlp.Out1
public import proofs.«01_k».proof.Proof.Mlp.Out2
public import proofs.«01_k».proof.Proof.Mlp.Out3
public import proofs.«01_k».proof.Proof.Mlp.Out4
public import proofs.«01_k».proof.Proof.Mlp.Out5
public import proofs.«01_k».proof.Proof.Mlp.Out6
public import proofs.«01_k».proof.Proof.Mlp.Out7
public import proofs.«01_k».proof.Proof.Mlp.Out

@[expose] public section

noncomputable section

namespace Cert.MlpIdeal.Hand

open Idealize.ShloMosaic Idealize.ShloMosaic.TcCoe Idealize.SL.Sem Finset Idealize.ShloMosaic.StableHlo
open Cert.MlpIdeal Cert.MlpIdeal.Gen Cert.Mlp

variable (m : (ℓ : Loc nD τ sig) → Buf (Elt Ideal) ℓ) (c : Dev nD)

/-- The operands a device is launched with. -/
abbrev Wm : Wts := wts (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
abbrev Dm : Fin 8192 → Row := rows (m ((c.tc : Thread nD τ).loc main_arg0)) (m ((c.tc : Thread nD τ).loc main_arg1)) (m ((c.tc : Thread nD τ).loc main_arg2))

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![t.val, 0] := by decide +kernel
theorem idx12 : ∀ t : Fin grid0.N, win0_12.index t = ![t.val, 0] := by decide +kernel
theorem idx13 : ∀ t : Fin grid0.N, win0_13.index t = ![t.val, 0] := by decide +kernel
theorem idx14 : ∀ t : Fin grid0.N, win0_14.index t = ![0, 0] := by decide +kernel
theorem idx15 : ∀ t : Fin grid0.N, win0_15.index t = ![0, 0] := by decide +kernel
theorem idx16 : ∀ t : Fin grid0.N, win0_16.index t = ![0, 0] := by decide +kernel
theorem idx17 : ∀ t : Fin grid0.N, win0_17.index t = ![0, 0] := by decide +kernel

/-- The token a point's row is. -/
def tok (t : Fin cfg0.N) (a : Fin 256) : Fin 8192 := ⟨256 * t.val + a.val, by have h : t.val < 32 := t.isLt; have := a.isLt; omega⟩

theorem blk0 (t : Fin cfg0.N) (a : Fin 256) (j : Fin 1024) : iblk m c 0 t (ix2 a j) = m ((c : Thread nD τ).loc main_arg0) (ix2 (tok t a) j) := by
  blk_ext [iblk, tok, idx0 t]

theorem blk1 (t : Fin cfg0.N) (a : Fin 256) (j : Fin 256) : iblk m c 1 t (ix2 a j) = m ((c : Thread nD τ).loc main_arg1) (ix2 (tok t a) j) := by
  blk_ext [iblk, tok, idx1 t]

theorem blk2 (t : Fin cfg0.N) (a : Fin 256) (j : Fin 1024) : iblk m c 2 t (ix2 a j) = m ((c : Thread nD τ).loc main_arg2) (ix2 (tok t a) j) := by
  blk_ext [iblk, tok, idx2 t]

theorem blk3 (t : Fin cfg0.N) (a : Fin 1) (j : Fin 1024) : iblk m c 3 t (ix2 a j) = m ((c : Thread nD τ).loc main_arg3) (ix2 a j) := by
  blk_ext [iblk, idx3 t]

theorem blk4 (t : Fin cfg0.N) (a : Fin 1) (j : Fin 1024) : iblk m c 4 t (ix2 a j) = m ((c : Thread nD τ).loc main_arg4) (ix2 a j) := by
  blk_ext [iblk, idx4 t]

theorem blk5 (t : Fin cfg0.N) (a : Fin 1) (j : Fin 1024) : iblk m c 5 t (ix2 a j) = m ((c : Thread nD τ).loc main_arg5) (ix2 a j) := by
  blk_ext [iblk, idx5 t]

theorem holds (t : Fin cfg0.N) : (blk m c t).Holds (Wm m c) (fun a => Dm m c (tok t a)) where
  x := blk0 m c t
  p := blk1 m c t
  y := blk2 m c t
  g3 := blk3 m c t 0
  g4 := blk4 m c t 0
  g5 := blk5 m c t 0
  wu j k := congrFun (V_main_arg6 m c) (ix2 j k)
  wd k i := congrFun (V_main_arg7 m c) (ix2 k i)
  wg j i := congrFun (V_main_arg8 m c) (ix2 j i)
  wp l i := congrFun (V_main_arg9 m c) (ix2 l i)

theorem arr6 : (dats m 0 c).arrAt 6 cfg0.N = outDx (Wm m c) (Dm m c) := by
  refine (dats m 0 c).arrAt_eq_of_covers 6 _ (by decide +kernel) fun t hf y => ?_
  blk_simp
  rw [after0_6, o6_eq]
  idx_vars y
  rw [(holds m c t).o6]
  rw [show ((View.whole main_v0_0).slice (win0_6.rect t)).emb (ix2 y0 y1) = ix2 (tok t y0) y1 from by blk_ext [tok, idx6 t]]
  rfl

theorem arr7 : (dats m 0 c).arrAt 7 cfg0.N = outH2 (Wm m c) (Dm m c) := by
  refine (dats m 0 c).arrAt_eq_of_covers 7 _ (by decide +kernel) fun t hf y => ?_
  blk_simp
  rw [after0_7, o7_eq]
  idx_vars y
  rw [(holds m c t).v20]
  rw [show ((View.whole main_v0_1).slice (win0_7.rect t)).emb (ix2 y0 y1) = ix2 (tok t y0) y1 from by blk_ext [tok, idx7 t]]
  rfl

theorem arr8 : (dats m 0 c).arrAt 8 cfg0.N = outDu (Wm m c) (Dm m c) := by
  refine (dats m 0 c).arrAt_eq_of_covers 8 _ (by decide +kernel) fun t hf y => ?_
  blk_simp
  rw [after0_8, o8_eq]
  idx_vars y
  rw [(holds m c t).o8]
  rw [show ((View.whole main_v0_2).slice (win0_8.rect t)).emb (ix2 y0 y1) = ix2 (tok t y0) y1 from by blk_ext [tok, idx8 t]]
  rfl

theorem arr9 : (dats m 0 c).arrAt 9 cfg0.N = outA (Wm m c) (Dm m c) := by
  refine (dats m 0 c).arrAt_eq_of_covers 9 _ (by decide +kernel) fun t hf y => ?_
  blk_simp
  rw [after0_9, o9_eq]
  idx_vars y
  rw [(holds m c t).o9]
  rw [show ((View.whole main_v0_3).slice (win0_9.rect t)).emb (ix2 y0 y1) = ix2 (tok t y0) y1 from by blk_ext [tok, idx9 t]]
  rfl

theorem arr10 : (dats m 0 c).arrAt 10 cfg0.N = outDf (Wm m c) (Dm m c) := by
  refine (dats m 0 c).arrAt_eq_of_covers 10 _ (by decide +kernel) fun t hf y => ?_
  blk_simp
  rw [after0_10, o10_eq]
  idx_vars y
  rw [(holds m c t).v189]
  rw [show ((View.whole main_v0_4).slice (win0_10.rect t)).emb (ix2 y0 y1) = ix2 (tok t y0) y1 from by blk_ext [tok, idx10 t]]
  rfl

theorem arr11 : (dats m 0 c).arrAt 11 cfg0.N = outH3 (Wm m c) (Dm m c) := by
  refine (dats m 0 c).arrAt_eq_of_covers 11 _ (by decide +kernel) fun t hf y => ?_
  blk_simp
  rw [after0_11, o11_eq]
  idx_vars y
  rw [(holds m c t).o11]
  rw [show ((View.whole main_v0_5).slice (win0_11.rect t)).emb (ix2 y0 y1) = ix2 (tok t y0) y1 from by blk_ext [tok, idx11 t]]
  rfl

theorem arr12 : (dats m 0 c).arrAt 12 cfg0.N = outDs (Wm m c) (Dm m c) := by
  refine (dats m 0 c).arrAt_eq_of_covers 12 _ (by decide +kernel) fun t hf y => ?_
  blk_simp
  rw [after0_12, o12_eq]
  idx_vars y
  rw [(holds m c t).o12]
  rw [show ((View.whole main_v0_6).slice (win0_12.rect t)).emb (ix2 y0 y1) = ix2 (tok t y0) y1 from by blk_ext [tok, idx12 t]]
  rfl

theorem arr13 : (dats m 0 c).arrAt 13 cfg0.N = outDp (Wm m c) (Dm m c) := by
  refine (dats m 0 c).arrAt_eq_of_covers 13 _ (by decide +kernel) fun t hf y => ?_
  blk_simp
  rw [after0_13, o13_eq]
  idx_vars y
  rw [(holds m c t).o13]
  rw [show ((View.whole main_v0_7).slice (win0_13.rect t)).emb (ix2 y0 y1) = ix2 (tok t y0) y1 from by blk_ext [tok, idx13 t]]
  rfl

theorem acc14 (t : Fin cfg0.N) (ht : t.val + 1 = cfg0.N) : (outsAt0 m c t.val t.isLt).2.2.2.2.2.2.2.2.1 (ix2 0 0) =
    0 + ∑ t : Fin cfg0.N, Ideal.ofBits .f32 0x3F000000#32 * ∑ a : Fin 256, loss (Wm m c) (Dm m c (tok t a)) :=
  Pipeline.eq_sum_fin_of_reset_step_apply_last (fun n h (_ : Fin 1) => (outsAt0 m c n h).2.2.2.2.2.2.2.2.1 (ix2 0 0)) 32 (fun _ => (0 : EReal))
    (fun t _ => Ideal.ofBits .f32 0x3F000000#32 * ∑ a : Fin 256, loss (Wm m c) (Dm m c (tok t a)))
    (fun t h i => by
      beta_reduce
      rw [o14_A m c t h, (holds m c t).o14]
      congr 1
      pointwise [k0_pay5])
    (fun t h i => by
      beta_reduce
      rw [o14_B m c t h, (holds m c t).o14]) (le_of_eq N_0) t ht 0

theorem arr14 : (dats m 0 c).arrAt 14 cfg0.N = outL (Wm m c) (Dm m c) := by
  refine (dats m 0 c).arrAt_eq_of_covers 14 _ (by decide +kernel) fun t hf y => ?_
  have hf' := (flush0_14 t).mp hf
  have hN : t.val < 32 := t.isLt
  blk_simp
  rw [after0_14]
  idx_vars y
  obtain rfl : y0 = 0 := Subsingleton.elim _ _
  obtain rfl : y1 = 0 := Subsingleton.elim _ _
  rw [acc14 m c t (by show t.val + 1 = 32; omega), zero_add, half_sum]
  show _ = Ideal.ofBits .f32 0x3F000000#32 * ∑ t : Fin 8192, loss _ (Dm m c t)
  refine congrArg (fun x : EReal => Ideal.ofBits .f32 0x3F000000#32 * x) (?_ : (∑ t : Fin cfg0.N, ∑ a : Fin 256, loss (Wm m c) (Dm m c (tok t a))) = ∑ t : Fin 8192, loss (Wm m c) (Dm m c t))
  refine Fin.sum_mul_add_congr (L := 8192) (fun s k hl => ?_)
  congr 2
  exact Fin.ext (by show 256 * s.val + k.val = s.val * 256 + k.val; omega)

theorem acc15 (t : Fin cfg0.N) (ht : t.val + 1 = cfg0.N) (i : Fin 1024) : (outsAt0 m c t.val t.isLt).2.2.2.2.2.2.2.2.2.1 (ix2 0 i) =
    0 + ∑ t : Fin cfg0.N, ∑ a : Fin 256, dgpre (Wm m c) (Dm m c (tok t a)) i :=
  Pipeline.eq_sum_fin_of_reset_step_apply_last (fun n h (i : Fin 1024) => (outsAt0 m c n h).2.2.2.2.2.2.2.2.2.1 (ix2 0 i)) 32 (fun _ => (0 : EReal))
    (fun t i => ∑ a : Fin 256, dgpre (Wm m c) (Dm m c (tok t a)) i)
    (fun t h i => by
      beta_reduce
      rw [o15_A m c t h, (holds m c t).o15]
      congr 1
      pointwise [k0_pay6])
    (fun t h i => by
      beta_reduce
      rw [o15_B m c t h, (holds m c t).o15]) (le_of_eq N_0) t ht i

theorem arr15 : (dats m 0 c).arrAt 15 cfg0.N = outGpre (Wm m c) (Dm m c) := by
  refine (dats m 0 c).arrAt_eq_of_covers 15 _ (by decide +kernel) fun t hf y => ?_
  have hf' := (flush0_15 t).mp hf
  have hN : t.val < 32 := t.isLt
  blk_simp
  rw [after0_15]
  idx_vars y
  obtain rfl : y0 = 0 := Subsingleton.elim _ _
  rw [acc15 m c t (by show t.val + 1 = 32; omega), zero_add]
  rw [show ((View.whole main_v0_9).slice (win0_15.rect t)).emb (ix2 0 y1) = ix2 0 y1 from by blk_ext [idx15 t]]
  show _ = ∑ t : Fin 8192, dgpre _ (Dm m c t) y1
  refine Fin.sum_mul_add_congr (L := 8192) (fun s k hl => ?_)
  congr 2
  exact Fin.ext (by show 256 * s.val + k.val = s.val * 256 + k.val; omega)

theorem acc16 (t : Fin cfg0.N) (ht : t.val + 1 = cfg0.N) (i : Fin 1024) : (outsAt0 m c t.val t.isLt).2.2.2.2.2.2.2.2.2.2.1 (ix2 0 i) =
    0 + ∑ t : Fin cfg0.N, ∑ a : Fin 256, dgpost (Wm m c) (Dm m c (tok t a)) i :=
  Pipeline.eq_sum_fin_of_reset_step_apply_last (fun n h (i : Fin 1024) => (outsAt0 m c n h).2.2.2.2.2.2.2.2.2.2.1 (ix2 0 i)) 32 (fun _ => (0 : EReal))
    (fun t i => ∑ a : Fin 256, dgpost (Wm m c) (Dm m c (tok t a)) i)
    (fun t h i => by
      beta_reduce
      rw [o16_A m c t h, (holds m c t).o16]
      congr 1
      pointwise [k0_pay7])
    (fun t h i => by
      beta_reduce
      rw [o16_B m c t h, (holds m c t).o16]) (le_of_eq N_0) t ht i

theorem arr16 : (dats m 0 c).arrAt 16 cfg0.N = outGpost (Wm m c) (Dm m c) := by
  refine (dats m 0 c).arrAt_eq_of_covers 16 _ (by decide +kernel) fun t hf y => ?_
  have hf' := (flush0_16 t).mp hf
  have hN : t.val < 32 := t.isLt
  blk_simp
  rw [after0_16]
  idx_vars y
  obtain rfl : y0 = 0 := Subsingleton.elim _ _
  rw [acc16 m c t (by show t.val + 1 = 32; omega), zero_add]
  rw [show ((View.whole main_v0_10).slice (win0_16.rect t)).emb (ix2 0 y1) = ix2 0 y1 from by blk_ext [idx16 t]]
  show _ = ∑ t : Fin 8192, dgpost _ (Dm m c t) y1
  refine Fin.sum_mul_add_congr (L := 8192) (fun s k hl => ?_)
  congr 2
  exact Fin.ext (by show 256 * s.val + k.val = s.val * 256 + k.val; omega)

theorem acc17 (t : Fin cfg0.N) (ht : t.val + 1 = cfg0.N) (i : Fin 1024) : (outsAt0 m c t.val t.isLt).2.2.2.2.2.2.2.2.2.2.2.1 (ix2 0 i) =
    0 + ∑ t : Fin cfg0.N, ∑ a : Fin 256, dgple (Wm m c) (Dm m c (tok t a)) i :=
  Pipeline.eq_sum_fin_of_reset_step_apply_last (fun n h (i : Fin 1024) => (outsAt0 m c n h).2.2.2.2.2.2.2.2.2.2.2.1 (ix2 0 i)) 32 (fun _ => (0 : EReal))
    (fun t i => ∑ a : Fin 256, dgple (Wm m c) (Dm m c (tok t a)) i)
    (fun t h i => by
      beta_reduce
      rw [o17_A m c t h, (holds m c t).o17]
      congr 1
      pointwise [k0_pay8])
    (fun t h i => by
      beta_reduce
      rw [o17_B m c t h, (holds m c t).o17]) (le_of_eq N_0) t ht i

theorem arr17 : (dats m 0 c).arrAt 17 cfg0.N = outGple (Wm m c) (Dm m c) := by
  refine (dats m 0 c).arrAt_eq_of_covers 17 _ (by decide +kernel) fun t hf y => ?_
  have hf' := (flush0_17 t).mp hf
  have hN : t.val < 32 := t.isLt
  blk_simp
  rw [after0_17]
  idx_vars y
  obtain rfl : y0 = 0 := Subsingleton.elim _ _
  rw [acc17 m c t (by show t.val + 1 = 32; omega), zero_add]
  rw [show ((View.whole main_v0_11).slice (win0_17.rect t)).emb (ix2 0 y1) = ix2 0 y1 from by blk_ext [idx17 t]]
  show _ = ∑ t : Fin 8192, dgple _ (Dm m c t) y1
  refine Fin.sum_mul_add_congr (L := 8192) (fun s k hl => ?_)
  congr 2
  exact Fin.ext (by show 256 * s.val + k.val = s.val * 256 + k.val; omega)

end Cert.MlpIdeal.Hand

end
-- ==== Proof.Mlp.Ref.lean ====
/- The mixer's call: the reference's results. -/
module

public import proofs.«01_k».proof.Proof.Mlp.Out
public import proofs.«01_k».proof.Proof.Gen.MlpRefIdeal.Run
public import Idealize.ShloMosaic.Lib.Pointwise

@[expose] public section

noncomputable section

namespace Cert.MlpRefIdeal.Hand

open Idealize.ShloMosaic Idealize.ShloMosaic.TcCoe Idealize.SL.Sem Finset Idealize.ShloMosaic.StableHlo
open Cert.MlpRefIdeal Cert.Mlp

variable (V : Valuation τ sig (Elt Ideal))

/-- The operands as the weights and the rows. -/
def W : Wts := wts (V (Proc.devRef .tc main_arg3)) (V (Proc.devRef .tc main_arg4)) (V (Proc.devRef .tc main_arg5)) (V (Proc.devRef .tc main_arg6))
  (V (Proc.devRef .tc main_arg7)) (V (Proc.devRef .tc main_arg8)) (V (Proc.devRef .tc main_arg9))
def D : Fin 8192 → Row := rows (V (Proc.devRef .tc main_arg0)) (V (Proc.devRef .tc main_arg1)) (V (Proc.devRef .tc main_arg2))

theorem hx (t : Fin 8192) (j : Fin 1024) : (V (Proc.devRef .tc main_arg0) : Vec Ideal S8192x1024 .f32) (ix2 t j) = (D V t).x j := rfl
theorem hp (t : Fin 8192) (j : Fin 256) : (V (Proc.devRef .tc main_arg1) : Vec Ideal S8192x256 .f32) (ix2 t j) = (D V t).p j := rfl
theorem hy (t : Fin 8192) (j : Fin 1024) : (V (Proc.devRef .tc main_arg2) : Vec Ideal S8192x1024 .f32) (ix2 t j) = (D V t).tg j := rfl
theorem hg3 (j : Fin 1024) : (V (Proc.devRef .tc main_arg3) : Vec Ideal S1x1024 .f32) (ix2 0 j) = (W V).gpre j := rfl
theorem hg4 (j : Fin 1024) : (V (Proc.devRef .tc main_arg4) : Vec Ideal S1x1024 .f32) (ix2 0 j) = (W V).gpost j := rfl
theorem hg5 (j : Fin 1024) : (V (Proc.devRef .tc main_arg5) : Vec Ideal S1x1024 .f32) (ix2 0 j) = (W V).gple j := rfl
theorem hwu (j : Fin 1024) (k : Fin 4096) : (V (Proc.devRef .tc main_arg6) : Vec Ideal S1024x4096 .bf16) (ix2 j k) = (W V).up j k := rfl
theorem hwd (k : Fin 4096) (i : Fin 1024) : (V (Proc.devRef .tc main_arg7) : Vec Ideal S4096x1024 .bf16) (ix2 k i) = (W V).dn k i := rfl
theorem hwg (j i : Fin 1024) : (V (Proc.devRef .tc main_arg8) : Vec Ideal S1024x1024 .bf16) (ix2 j i) = (W V).pg j i := rfl
theorem hwp (l : Fin 256) (i : Fin 1024) : (V (Proc.devRef .tc main_arg9) : Vec Ideal S256x1024 .bf16) (ix2 l i) = (W V).pp l i := rfl

theorem dy_eq (d : EReal) : Ideal.div (Ideal.ofBits .f32 0x3F000000#32 * Ideal.ofBits .f32 0x3F800000#32) (Ideal.ofBits .f32 0x44800000#32)
    * (Ideal.ofBits .f32 0x40000000#32 * d) = d * Ideal.ofBits .f32 0x3A800000#32 := by
  rw [Rms.div_n, one_eq, half_eq, two_eq, n_inv_eq, mul_one, ← mul_assoc, mul_comm d]
  congr 1
  norm_cast
  norm_num

theorem r10 (t : Fin 8192) :
    Value.res_main_v10 (F := Ideal) V (ix2 t 0) = Rms.ms (D V t).x := by
  unfold Rms.ms Rms.mean
  pointwise [Value.res_main_v10, hx V]

theorem r11 (t : Fin 8192) :
    Value.res_main_v11 (F := Ideal) V (ix2 t 0) = Rms.rr (D V t).x := by
  unfold Rms.rr
  pointwise [Value.res_main_v11, r10 V]

theorem r16 (t : Fin 8192) (j : Fin 1024) :
    Value.res_main_v16 (F := Ideal) V (ix2 t j) = (D V t).x j * Rms.rr (D V t).x := by
  pointwise [Value.res_main_v16, hx V, r11 V]

theorem r18 (t : Fin 8192) (j : Fin 1024) :
    Value.res_main_v18 (F := Ideal) V (ix2 t j) = h2 (W V) (D V t) j := by
  unfold h2
  pointwise [Value.res_main_v18, r16 V, hg3 V]

theorem r21 (t : Fin 8192) (k : Fin 4096) :
    Value.res_main_v21 (F := Ideal) V (ix2 t k) = u (W V) (D V t) k := by
  unfold u
  pointwise [Value.res_main_v21, Value.res_main_v19, r18 V, hwu V]

theorem r22 (t : Fin 8192) (k : Fin 4096) :
    Value.res_main_v22 (F := Ideal) V (ix2 t k) = max (u (W V) (D V t) k) 0 := by
  pointwise [Value.res_main_v22, r21 V]

theorem r26 (t : Fin 8192) (k : Fin 4096) :
    Value.res_main_v26 (F := Ideal) V (ix2 t k) = a (W V) (D V t) k := by
  unfold a
  pointwise [Value.res_main_v26, r22 V]

theorem r31 (t : Fin 8192) (j : Fin 1024) :
    Value.res_main_v31 (F := Ideal) V (ix2 t j) = f (W V) (D V t) j := by
  unfold f
  pointwise [Value.res_main_v31, Value.res_main_v29, r26 V, hwd V]

theorem r38 (t : Fin 8192) :
    Value.res_main_v38 (F := Ideal) V (ix2 t 0) = Rms.ms (f (W V) (D V t)) := by
  unfold Rms.ms Rms.mean
  pointwise [Value.res_main_v38, r31 V]

theorem r39 (t : Fin 8192) :
    Value.res_main_v39 (F := Ideal) V (ix2 t 0) = Rms.rr (f (W V) (D V t)) := by
  unfold Rms.rr
  pointwise [Value.res_main_v39, r38 V]

theorem r44 (t : Fin 8192) (j : Fin 1024) :
    Value.res_main_v44 (F := Ideal) V (ix2 t j) = f (W V) (D V t) j * Rms.rr (f (W V) (D V t)) := by
  pointwise [Value.res_main_v44, r31 V, r39 V]

theorem r47 (t : Fin 8192) (j : Fin 1024) :
    Value.res_main_v47 (F := Ideal) V (ix2 t j) = x2 (W V) (D V t) j := by
  unfold x2
  pointwise [Value.res_main_v47, hx V, r44 V, hg4 V]

theorem r54 (t : Fin 8192) :
    Value.res_main_v54 (F := Ideal) V (ix2 t 0) = Rms.ms (x2 (W V) (D V t)) := by
  unfold Rms.ms Rms.mean
  pointwise [Value.res_main_v54, r47 V]

theorem r55 (t : Fin 8192) :
    Value.res_main_v55 (F := Ideal) V (ix2 t 0) = Rms.rr (x2 (W V) (D V t)) := by
  unfold Rms.rr
  pointwise [Value.res_main_v55, r54 V]

theorem r60 (t : Fin 8192) (j : Fin 1024) :
    Value.res_main_v60 (F := Ideal) V (ix2 t j) = x2 (W V) (D V t) j * Rms.rr (x2 (W V) (D V t)) := by
  pointwise [Value.res_main_v60, r47 V, r55 V]

theorem r62 (t : Fin 8192) (j : Fin 1024) :
    Value.res_main_v62 (F := Ideal) V (ix2 t j) = h3 (W V) (D V t) j := by
  unfold h3
  pointwise [Value.res_main_v62, r60 V, hg5 V]

theorem r71 (t : Fin 8192) (j : Fin 1024) :
    Value.res_main_v71 (F := Ideal) V (ix2 t j) = pg (W V) (D V t) j := by
  unfold pg Ideal.logistic
  pointwise [Value.res_main_v71, Value.res_main_v63, one_eq, r62 V, hwg V]

theorem r77 (t : Fin 8192) (j : Fin 1024) :
    Value.res_main_v77 (F := Ideal) V (ix2 t j) = pp (W V) (D V t) j := by
  unfold pp
  pointwise [Value.res_main_v77, hp V, hwp V]

theorem r80 (t : Fin 8192) (j : Fin 1024) :
    Value.res_main_v80 (F := Ideal) V (ix2 t j) = diff (W V) (D V t) j := by
  unfold diff
  pointwise [Value.res_main_v80, r47 V, r71 V, r77 V, hy V]

theorem r94 (t : Fin 8192) (j : Fin 1024) :
    Value.res_main_v94 (F := Ideal) V (ix2 t j) = dy (W V) (D V t) j := by
  unfold dy
  rw [← dy_eq]
  pointwise [Value.res_main_v94, r80 V]

theorem r97 (t : Fin 8192) (j : Fin 1024) :
    Value.res_main_v97 (F := Ideal) V (ix2 t j) = ds3 (W V) (D V t) j := by
  unfold ds3
  pointwise [Value.res_main_v97, one_eq, r94 V, r77 V, r71 V]
  exact (mul_assoc (G := EReal) _ _ _).symm

theorem r98 (t : Fin 8192) (j : Fin 1024) :
    Value.res_main_v98 (F := Ideal) V (ix2 t j) = dh3 (W V) (D V t) j := by
  unfold dh3
  pointwise [Value.res_main_v98, Value.res_main_v63, r97 V, hwg V]

theorem r103 (t : Fin 8192) (j : Fin 1024) :
    Value.res_main_v103 (F := Ideal) V (ix2 t j) = dh3 (W V) (D V t) j * (W V).gple j := by
  pointwise [Value.res_main_v103, r98 V, hg5 V]

theorem r114 (t : Fin 8192) (j : Fin 1024) :
    Value.res_main_v114 (F := Ideal) V (ix2 t j) = Rms.corr (x2 (W V) (D V t)) fun j => dh3 (W V) (D V t) j * (W V).gple j := by
  unfold Rms.corr
  pointwise [Value.res_main_v114, r47 V, r103 V, r55 V, r54 V]
  simp only [Fin.sum_univ_one, Finset.univ_unique, Finset.sum_singleton, Fin.default_eq_zero, r55 V, r54 V]

theorem r118 (t : Fin 8192) (j : Fin 1024) :
    Value.res_main_v118 (F := Ideal) V (ix2 t j) = dx2 (W V) (D V t) j := by
  unfold dx2
  rw [Rms.bwd_eq]
  pointwise [Value.res_main_v118, r94 V, r103 V, r55 V, r47 V, r114 V]
  simp only [← add_assoc]

theorem r123 (t : Fin 8192) (j : Fin 1024) :
    Value.res_main_v123 (F := Ideal) V (ix2 t j) = dx2 (W V) (D V t) j * (W V).gpost j := by
  pointwise [Value.res_main_v123, r118 V, hg4 V]

theorem r133 (t : Fin 8192) (j : Fin 1024) :
    Value.res_main_v133 (F := Ideal) V (ix2 t j) = Rms.corr (f (W V) (D V t)) fun j => dx2 (W V) (D V t) j * (W V).gpost j := by
  unfold Rms.corr
  pointwise [Value.res_main_v133, r31 V, r123 V, r39 V, r38 V]
  simp only [Fin.sum_univ_one, Finset.univ_unique, Finset.sum_singleton, Fin.default_eq_zero, r39 V, r38 V]

theorem r137 (t : Fin 8192) (j : Fin 1024) :
    Value.res_main_v137 (F := Ideal) V (ix2 t j) = df (W V) (D V t) j := by
  unfold df
  rw [Rms.bwd_eq]
  pointwise [Value.res_main_v137, r123 V, r39 V, r31 V, r133 V]

theorem r141 (t : Fin 8192) (k : Fin 4096) :
    Value.res_main_v141 (F := Ideal) V (ix2 t k) = du (W V) (D V t) k := by
  unfold du da
  pointwise [Value.res_main_v141, Value.res_main_v29, r21 V, r22 V, r137 V, hwd V]
  split_ifs with h
  · rfl
  · rw [max_eq_right (not_lt.mp h)]; simp

theorem r142 (t : Fin 8192) (j : Fin 1024) :
    Value.res_main_v142 (F := Ideal) V (ix2 t j) = dh2 (W V) (D V t) j := by
  unfold dh2
  pointwise [Value.res_main_v142, Value.res_main_v19, r141 V, hwu V]

theorem r147 (t : Fin 8192) (j : Fin 1024) :
    Value.res_main_v147 (F := Ideal) V (ix2 t j) = dh2 (W V) (D V t) j * (W V).gpre j := by
  pointwise [Value.res_main_v147, r142 V, hg3 V]

theorem r158 (t : Fin 8192) (j : Fin 1024) :
    Value.res_main_v158 (F := Ideal) V (ix2 t j) = Rms.corr (D V t).x fun j => dh2 (W V) (D V t) j * (W V).gpre j := by
  unfold Rms.corr
  pointwise [Value.res_main_v158, hx V, r147 V, r11 V, r10 V]
  simp only [Fin.sum_univ_one, Finset.univ_unique, Finset.sum_singleton, Fin.default_eq_zero, r11 V, r10 V]

theorem eq0 : addf (addf (addf (Value.res_main_v118 (F := Ideal) V) (mulf (Value.res_main_v147 V) (broadcastInDim S8192x1024 ![0, 1] Gen.bcast_S8192x1_S8192x1024_0_1 (Value.res_main_v11 V)))) (mulf (V (Proc.devRef .tc main_arg0)) (Value.res_main_v158 V))) (mulf (Value.res_main_v158 V) (V (Proc.devRef .tc main_arg0)))
    = outDx (W V) (D V) := by
  funext i
  idx_vars i
  refine Eq.trans ?_ (show dx1 (W V) (D V i0) i1 = outDx (W V) (D V) (ix2 i0 i1) from rfl)
  unfold dx1
  rw [Rms.bwd_eq]
  pointwise [r118 V, r147 V, r11 V, hx V, r158 V]
  simp only [← add_assoc]

theorem eq1 : truncf (F := Ideal) .bf16 (Value.res_main_v18 (F := Ideal) V) Gen.bitsLt_bf16_f32 = (outH2 (W V) (D V) : Vec Ideal _ .bf16) := by
  funext i
  idx_vars i
  refine Eq.trans ?_ (show h2 (W V) (D V i0) i1 = outH2 (W V) (D V) (ix2 i0 i1) from rfl)
  pointwise [r18 V]

theorem eq2 : truncf (F := Ideal) .bf16 (Value.res_main_v141 (F := Ideal) V) Gen.bitsLt_bf16_f32 = (outDu (W V) (D V) : Vec Ideal _ .bf16) := by
  funext i
  idx_vars i
  refine Eq.trans ?_ (show du (W V) (D V i0) i1 = outDu (W V) (D V) (ix2 i0 i1) from rfl)
  pointwise [r141 V]

theorem eq3 : truncf (F := Ideal) .bf16 (Value.res_main_v26 (F := Ideal) V) Gen.bitsLt_bf16_f32 = (outA (W V) (D V) : Vec Ideal _ .bf16) := by
  funext i
  idx_vars i
  refine Eq.trans ?_ (show a (W V) (D V i0) i1 = outA (W V) (D V) (ix2 i0 i1) from rfl)
  pointwise [r26 V]

theorem eq4 : truncf (F := Ideal) .bf16 (Value.res_main_v137 (F := Ideal) V) Gen.bitsLt_bf16_f32 = (outDf (W V) (D V) : Vec Ideal _ .bf16) := by
  funext i
  idx_vars i
  refine Eq.trans ?_ (show df (W V) (D V i0) i1 = outDf (W V) (D V) (ix2 i0 i1) from rfl)
  pointwise [r137 V]

theorem eq5 : truncf (F := Ideal) .bf16 (Value.res_main_v62 (F := Ideal) V) Gen.bitsLt_bf16_f32 = (outH3 (W V) (D V) : Vec Ideal _ .bf16) := by
  funext i
  idx_vars i
  refine Eq.trans ?_ (show h3 (W V) (D V i0) i1 = outH3 (W V) (D V) (ix2 i0 i1) from rfl)
  pointwise [r62 V]

theorem eq6 : truncf (F := Ideal) .bf16 (Value.res_main_v97 (F := Ideal) V) Gen.bitsLt_bf16_f32 = (outDs (W V) (D V) : Vec Ideal _ .bf16) := by
  funext i
  idx_vars i
  refine Eq.trans ?_ (show ds3 (W V) (D V i0) i1 = outDs (W V) (D V) (ix2 i0 i1) from rfl)
  pointwise [r97 V]

theorem eq7 : truncf .bf16 (mulf (Value.res_main_v71 (F := Ideal) V) (Value.res_main_v94 V)) Gen.bitsLt_bf16_f32 = outDp (W V) (D V) := by
  funext i
  idx_vars i
  refine Eq.trans ?_ (show dpp (W V) (D V i0) i1 = outDp (W V) (D V) (ix2 i0 i1) from rfl)
  pointwise [r71 V, r94 V]
  exact mul_comm (G := EReal) _ _

theorem eq8 : shapeCast _ (mulf (constant S_ .f32 0x3F000000#32) (Host.reduceAdd (Host.divf (Host.reduceAdd (mulf (Value.res_main_v80 (F := Ideal) V) (Value.res_main_v80 V)) (constant S_ .f32 0x00000000#32) Gen.reducesTo_S8192x1024_S8192_d1 Gen.h_S_) (broadcastInDim S8192 ![] Gen.bcast_S_S8192 (constant S_ .f32 0x44800000#32))) (constant S_ .f32 0x00000000#32) Gen.reducesTo_S8192_S_d0 Gen.h_S_)) Gen.shapeCasts_S_S1x1
    = outL (W V) (D V) := by
  funext i
  idx_vars i
  refine Eq.trans ?_ (show Ideal.ofBits .f32 0x3F000000#32 * ∑ t, loss (W V) (D V t) = outL (W V) (D V) (ix2 i0 i1) from rfl)
  unfold loss Rms.mean
  pointwise [r80 V]

theorem eq9 : shapeCast _ (Host.reduceAdd (mulf (Value.res_main_v16 (F := Ideal) V) (Value.res_main_v142 V)) (constant S_ .f32 0x00000000#32) Gen.reducesTo_S8192x1024_S1024_d0 Gen.h_S_) Gen.shapeCasts_S1024_S1x1024
    = outGpre (W V) (D V) := by
  funext i
  idx_vars i
  refine Eq.trans ?_ (show ∑ t, dgpre (W V) (D V t) i1 = outGpre (W V) (D V) (ix2 i0 i1) from rfl)
  unfold dgpre
  pointwise [r16 V, r142 V]
  exact Finset.sum_congr rfl fun l _ => mul_comm (G := EReal) _ _

theorem eq10 : shapeCast _ (Host.reduceAdd (mulf (Value.res_main_v44 (F := Ideal) V) (Value.res_main_v118 V)) (constant S_ .f32 0x00000000#32) Gen.reducesTo_S8192x1024_S1024_d0 Gen.h_S_) Gen.shapeCasts_S1024_S1x1024
    = outGpost (W V) (D V) := by
  funext i
  idx_vars i
  refine Eq.trans ?_ (show ∑ t, dgpost (W V) (D V t) i1 = outGpost (W V) (D V) (ix2 i0 i1) from rfl)
  unfold dgpost
  pointwise [r44 V, r118 V]
  exact Finset.sum_congr rfl fun l _ => mul_comm (G := EReal) _ _

theorem eq11 : shapeCast _ (Host.reduceAdd (mulf (Value.res_main_v60 (F := Ideal) V) (Value.res_main_v98 V)) (constant S_ .f32 0x00000000#32) Gen.reducesTo_S8192x1024_S1024_d0 Gen.h_S_) Gen.shapeCasts_S1024_S1x1024
    = outGple (W V) (D V) := by
  funext i
  idx_vars i
  refine Eq.trans ?_ (show ∑ t, dgple (W V) (D V t) i1 = outGple (W V) (D V) (ix2 i0 i1) from rfl)
  unfold dgple
  pointwise [r60 V, r98 V]
  exact Finset.sum_congr rfl fun l _ => mul_comm (G := EReal) _ _

variable (m : (ℓ : Loc nD τ sig) → Buf (Elt Ideal) ℓ)

/-- The operands a device is launched with. -/
abbrev Wm (c : Dev nD) : Wts := wts (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
abbrev Dm (c : Dev nD) : Fin 8192 → Row := rows (m ((c.tc : Thread nD τ).loc main_arg0)) (m ((c.tc : Thread nD τ).loc main_arg1)) (m ((c.tc : Thread nD τ).loc main_arg2))

theorem run (ρ : Dev nD → PrngReg) :
    θ_run defs (onTc (τ := τ) (main (F := Ideal))) ⟨m, fun _ => 0, ρ⟩ fun r => ∀ c : Dev nD,
      r.2.mem ((c.tc : Thread nD τ).loc main_v162) = outDx (Wm m c) (Dm m c)
      ∧ r.2.mem ((c.tc : Thread nD τ).loc main_v163) = outH2 (Wm m c) (Dm m c)
      ∧ r.2.mem ((c.tc : Thread nD τ).loc main_v164) = outDu (Wm m c) (Dm m c)
      ∧ r.2.mem ((c.tc : Thread nD τ).loc main_v165) = outA (Wm m c) (Dm m c)
      ∧ r.2.mem ((c.tc : Thread nD τ).loc main_v166) = outDf (Wm m c) (Dm m c)
      ∧ r.2.mem ((c.tc : Thread nD τ).loc main_v167) = outH3 (Wm m c) (Dm m c)
      ∧ r.2.mem ((c.tc : Thread nD τ).loc main_v168) = outDs (Wm m c) (Dm m c)
      ∧ r.2.mem ((c.tc : Thread nD τ).loc main_v169) = outDp (Wm m c) (Dm m c)
      ∧ r.2.mem ((c.tc : Thread nD τ).loc main_v170) = outL (Wm m c) (Dm m c)
      ∧ r.2.mem ((c.tc : Thread nD τ).loc main_v145) = outGpre (Wm m c) (Dm m c)
      ∧ r.2.mem ((c.tc : Thread nD τ).loc main_v121) = outGpost (Wm m c) (Dm m c)
      ∧ r.2.mem ((c.tc : Thread nD τ).loc main_v101) = outGple (Wm m c) (Dm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨(h c).1.trans (eq0 (launchContents m c)),
    (h c).2.1.trans (eq1 (launchContents m c)),
    (h c).2.2.1.trans (eq2 (launchContents m c)),
    (h c).2.2.2.1.trans (eq3 (launchContents m c)),
    (h c).2.2.2.2.1.trans (eq4 (launchContents m c)),
    (h c).2.2.2.2.2.1.trans (eq5 (launchContents m c)),
    (h c).2.2.2.2.2.2.1.trans (eq6 (launchContents m c)),
    (h c).2.2.2.2.2.2.2.1.trans (eq7 (launchContents m c)),
    (h c).2.2.2.2.2.2.2.2.1.trans (eq8 (launchContents m c)),
    (h c).2.2.2.2.2.2.2.2.2.1.trans (eq9 (launchContents m c)),
    (h c).2.2.2.2.2.2.2.2.2.2.1.trans (eq10 (launchContents m c)),
    (h c).2.2.2.2.2.2.2.2.2.2.2.1.trans (eq11 (launchContents m c)),
    (h c).2.2.2.2.2.2.2.2.2.2.2.2⟩)
    (Cert.MlpRefIdeal.Value.run (F := Ideal) m ρ)

end Cert.MlpRefIdeal.Hand

end
-- ==== Proof.Mlp.Claims.lean ====
/- The claims of the mixer's call. -/
module

public import proofs.«01_k».proof.Defs
public import proofs.«01_k».proof.Proof.Mlp.RunBits
public import proofs.«01_k».proof.Proof.Mlp.Arr
public import proofs.«01_k».proof.Proof.Mlp.Ref
public import Idealize.ShloMosaic.Adequacy
public import Idealize.ShloMosaic.Init

@[expose] public section

noncomputable section

namespace Cert.Proof

open Idealize.ShloMosaic Idealize.SL.Sem

theorem frame_MlpIdeal : Cert.quiescent_MlpIdeal (hMlpIdeal := Cert.MlpIdeal.Gen.facts) := fun m ρ _ => Cert.MlpIdeal.Hand.frame m ρ

theorem frame_Mlp : Cert.quiescent_Mlp (hMlp := Cert.Mlp.Gen.facts) := fun m ρ _ => Cert.Mlp.Hand.frame m ρ

theorem frame_MlpRefIdeal : Cert.quiescent_MlpRefIdeal (hMlpRefIdeal := Cert.MlpRefIdeal.Gen.facts) :=
  fun m ρ _ => (θ_run Cert.MlpRefIdeal.defs _ _).mono
    (fun r h => ⟨fun c => (h c).2.2.2.2.2.2.2.2.2.2.2.2, Idealize.ShloMosaic.sem_eq_zero_of_no_sems (by decide) r.2⟩)
    (Cert.MlpRefIdeal.Hand.run m ρ)

theorem value_Mlp : Cert.algebraic_MlpIdeal_MlpRefIdeal (hMlpIdeal := Cert.MlpIdeal.Gen.facts) (hMlpRefIdeal := Cert.MlpRefIdeal.Gen.facts) := by
  intro m g m' g' _ hA
  have hW (c) : Cert.MlpRefIdeal.Hand.Wm m' c = Cert.MlpIdeal.Hand.Wm m c := by
    obtain ⟨h0, h1, h2, h3, h4, h5, h6, h7, h8, h9⟩ := hA c
    show Cert.Mlp.wts _ _ _ _ _ _ _ = _
    rw [h3, h4, h5, h6, h7, h8, h9]
  have hD (c) : Cert.MlpRefIdeal.Hand.Dm m' c = Cert.MlpIdeal.Hand.Dm m c := by
    obtain ⟨h0, h1, h2, h3, h4, h5, h6, h7, h8, h9⟩ := hA c
    show Cert.Mlp.rows _ _ _ = _
    rw [h0, h1, h2]
  refine ⟨fun c => Cert.Mlp.outDx (Cert.MlpIdeal.Hand.Wm m c) (Cert.MlpIdeal.Hand.Dm m c),
    fun c => Cert.Mlp.outH2 (Cert.MlpIdeal.Hand.Wm m c) (Cert.MlpIdeal.Hand.Dm m c),
    fun c => Cert.Mlp.outDu (Cert.MlpIdeal.Hand.Wm m c) (Cert.MlpIdeal.Hand.Dm m c),
    fun c => Cert.Mlp.outA (Cert.MlpIdeal.Hand.Wm m c) (Cert.MlpIdeal.Hand.Dm m c),
    fun c => Cert.Mlp.outDf (Cert.MlpIdeal.Hand.Wm m c) (Cert.MlpIdeal.Hand.Dm m c),
    fun c => Cert.Mlp.outH3 (Cert.MlpIdeal.Hand.Wm m c) (Cert.MlpIdeal.Hand.Dm m c),
    fun c => Cert.Mlp.outDs (Cert.MlpIdeal.Hand.Wm m c) (Cert.MlpIdeal.Hand.Dm m c),
    fun c => Cert.Mlp.outDp (Cert.MlpIdeal.Hand.Wm m c) (Cert.MlpIdeal.Hand.Dm m c),
    fun c => Cert.Mlp.outL (Cert.MlpIdeal.Hand.Wm m c) (Cert.MlpIdeal.Hand.Dm m c),
    fun c => Cert.Mlp.outGpre (Cert.MlpIdeal.Hand.Wm m c) (Cert.MlpIdeal.Hand.Dm m c),
    fun c => Cert.Mlp.outGpost (Cert.MlpIdeal.Hand.Wm m c) (Cert.MlpIdeal.Hand.Dm m c),
    fun c => Cert.Mlp.outGple (Cert.MlpIdeal.Hand.Wm m c) (Cert.MlpIdeal.Hand.Dm m c), ?_, ?_⟩
  · refine (θ_run Cert.MlpIdeal.defs _ _).mono (fun r h c => ?_) (Cert.MlpIdeal.Hand.run_blocks (F := Ideal) m g)
    exact ⟨(h c).1.trans (Cert.MlpIdeal.Hand.arr6 m c),
      (h c).2.1.trans (Cert.MlpIdeal.Hand.arr7 m c),
      (h c).2.2.1.trans (Cert.MlpIdeal.Hand.arr8 m c),
      (h c).2.2.2.1.trans (Cert.MlpIdeal.Hand.arr9 m c),
      (h c).2.2.2.2.1.trans (Cert.MlpIdeal.Hand.arr10 m c),
      (h c).2.2.2.2.2.1.trans (Cert.MlpIdeal.Hand.arr11 m c),
      (h c).2.2.2.2.2.2.1.trans (Cert.MlpIdeal.Hand.arr12 m c),
      (h c).2.2.2.2.2.2.2.1.trans (Cert.MlpIdeal.Hand.arr13 m c),
      (h c).2.2.2.2.2.2.2.2.1.trans (Cert.MlpIdeal.Hand.arr14 m c),
      (h c).2.2.2.2.2.2.2.2.2.1.trans (Cert.MlpIdeal.Hand.arr15 m c),
      (h c).2.2.2.2.2.2.2.2.2.2.1.trans (Cert.MlpIdeal.Hand.arr16 m c),
      (h c).2.2.2.2.2.2.2.2.2.2.2.1.trans (Cert.MlpIdeal.Hand.arr17 m c),
      (h c).2.2.2.2.2.2.2.2.2.2.2.2⟩
  · refine (θ_run Cert.MlpRefIdeal.defs _ _).mono (fun r h c => ?_) (Cert.MlpRefIdeal.Hand.run m' g')
    have h := h c
    rw [hW c, hD c] at h
    exact h

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Pre_finite
public import proofs.«01_k».proof.Proof.K.Run
public import proofs.«01_k».proof.Proof.KI.Out
public import proofs.«01_k».proof.Proof.Finite
public import proofs.«01_k».proof.Proof.Dw.Claims
public import proofs.«01_k».proof.Proof.In.Claims
public import proofs.«01_k».proof.Proof.Mlp.Claims
public import Idealize.ShloMosaic.Adequacy
public import Idealize.ShloMosaic.Init

@[expose] public section

noncomputable section

namespace Cert.Proof

open Idealize.ShloMosaic Idealize.SL.Sem

/-- The kernel as printed terminates, its arguments as they were and every semaphore at zero. -/
theorem frame_kernel : Cert.quiescent_Kernel (hKernel := Cert.Kernel.Gen.facts) :=
  fun m ρ _ => Cert.Kernel.Hand.frame m ρ

/-- The same of the idealized kernel. -/
theorem frame_kernelIdeal : Cert.quiescent_KernelIdeal (hKernelIdeal := Cert.KernelIdeal.Gen.facts) :=
  fun m ρ _ => Cert.KernelIdeal.Hand.frame m ρ

/-- The same of the reference, which has no semaphores. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The two named constants stand for the words they replace. -/
theorem preserves_kernel : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "exp2_zero" .f32 0xC3160000#32 ⊥ rfl⟩

/-- From finite arguments the kernel and the reference leave the same gradients. -/
theorem gradients : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hP hA
  refine ⟨fun c => Cert.ReferenceIdeal.Hand.rdq (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Hand.rdk (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Hand.rdv (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ?_) (θ_run_and (Cert.KernelIdeal.Hand.run (F := Ideal) m g) (Cert.KernelIdeal.Hand.unchanged (F := Ideal) m g))
    obtain ⟨hx, hy⟩ := Cert.Finite.reals (hP c)
    exact ⟨((h.1 c).1 8).trans (Cert.KernelIdeal.Hand.arr8 hx hy), ((h.1 c).1 9).trans (Cert.KernelIdeal.Hand.arr9 hx hy),
      ((h.1 c).1 10).trans (Cert.KernelIdeal.Hand.arr10 hx hy), h.2 c⟩
  · refine (θ_run Cert.ReferenceIdeal.defs _ _).mono (fun r h c => ?_) (Cert.ReferenceIdeal.Value.run (F := Ideal) m' g')
    obtain ⟨h0, h1, h2, h3⟩ := h c
    refine ⟨h0.trans ?_, h1.trans ?_, h2.trans ?_, h3⟩
    · rw [Cert.ReferenceIdeal.Hand.res_dq, (hA c).1, (hA c).2]
    · rw [Cert.ReferenceIdeal.Hand.res_dk, (hA c).1, (hA c).2]
    · rw [Cert.ReferenceIdeal.Hand.res_dv, (hA c).1, (hA c).2]

theorem claim : Cert.Claim :=
  ⟨Cert.Kernel.Gen.facts, Cert.KernelIdeal.Gen.facts, Cert.ReferenceIdeal.Gen.facts, Cert.DwUp.Gen.facts,
    Cert.DwUpIdeal.Gen.facts, Cert.DwUpRefIdeal.Gen.facts, Cert.DwDown.Gen.facts, Cert.DwDownIdeal.Gen.facts,
    Cert.DwDownRefIdeal.Gen.facts, Cert.DwSquare.Gen.facts, Cert.DwSquareIdeal.Gen.facts, Cert.DwSquareRefIdeal.Gen.facts,
    Cert.DwEmbed.Gen.facts, Cert.DwEmbedIdeal.Gen.facts, Cert.DwEmbedRefIdeal.Gen.facts, Cert.DwOut.Gen.facts,
    Cert.DwOutIdeal.Gen.facts, Cert.DwOutRefIdeal.Gen.facts, Cert.InBwd.Gen.facts, Cert.InBwdIdeal.Gen.facts,
    Cert.InBwdRefIdeal.Gen.facts, Cert.Mlp.Gen.facts, Cert.MlpIdeal.Gen.facts, Cert.MlpRefIdeal.Gen.facts,
    Cert.Pre_finite.Gen.facts, frame_kernel, frame_kernelIdeal, fun m ρ _ => frame_kernelIdeal m ρ trivial, frame_referenceIdeal,
    fun m ρ _ => frame_referenceIdeal m ρ trivial, frame_DwUp, frame_DwUpIdeal, frame_DwUpRefIdeal, frame_DwDown,
    frame_DwDownIdeal, frame_DwDownRefIdeal, frame_DwSquare, frame_DwSquareIdeal, frame_DwSquareRefIdeal, frame_DwEmbed,
    frame_DwEmbedIdeal, frame_DwEmbedRefIdeal, frame_DwOut, frame_DwOutIdeal, frame_DwOutRefIdeal, frame_InBwd, frame_InBwdIdeal,
    frame_InBwdRefIdeal, frame_Mlp, frame_MlpIdeal, frame_MlpRefIdeal, preserves_kernel, gradients, trivial, value_DwUp, trivial,
    value_DwDown, trivial, value_DwSquare, trivial, value_DwEmbed, trivial, value_DwOut, trivial, value_InBwd, trivial, value_Mlp⟩

end Cert.Proof

end
